-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v39_2)) (v1 : (c : Dev Cert.Kernel4Ideal.nD) → Buf (Elt Ideal) ((c.tc : Thread Cert.Kernel4Ideal.nD Cert.Kernel4Ideal.τ).loc Cert.Kernel4Ideal.main_v39_3)) (v2 : (c : Dev Cert.Kernel4Ideal.nD) → Buf (Elt Ideal) ((c.tc : Thread Cert.Kernel4Ideal.nD Cert.Kernel4Ideal.τ).loc Cert.Kernel4Ideal.main_v39_4)) (v3 : (c : Dev Cert.Kernel4Ideal.nD) → Buf (Elt Ideal) ((c.tc : Thread Cert.Kernel4Ideal.nD Cert.Kernel4Ideal.τ).loc Cert.Kernel4Ideal.main_v39_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_2) = v0 c
          ∧ r.2.mem ((c.tc : Thread Cert.Kernel4Ideal.nD Cert.Kernel4Ideal.τ).loc Cert.Kernel4Ideal.main_v39_3) = v1 c
          ∧ r.2.mem ((c.tc : Thread Cert.Kernel4Ideal.nD Cert.Kernel4Ideal.τ).loc Cert.Kernel4Ideal.main_v39_4) = v2 c
          ∧ r.2.mem ((c.tc : Thread Cert.Kernel4Ideal.nD Cert.Kernel4Ideal.τ).loc Cert.Kernel4Ideal.main_v39_5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v136) = v0 c
          ∧ r.2.mem ((c.tc : Thread Cert.Reference4Ideal.nD Cert.Reference4Ideal.τ).loc Cert.Reference4Ideal.main_v140) = v1 c
          ∧ r.2.mem ((c.tc : Thread Cert.Reference4Ideal.nD Cert.Reference4Ideal.τ).loc Cert.Reference4Ideal.main_v141) = v2 c
          ∧ r.2.mem ((c.tc : Thread Cert.Reference4Ideal.nD Cert.Reference4Ideal.τ).loc Cert.Reference4Ideal.main_v143) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16896x1024 : Shape := ⟨2, ![16896, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S1024x16 : S_.BroadcastsInDim S1024x16 (![] : Fin 0 → Fin S1024x16.rank)

variable [Facts]

def fn {F : FTy → Type} [FloatOps F] (main_arg0 : FVec F S16896x1024 .f32) (main_arg1 : FVec F S1024x16 .f32) (main_arg2 : FVec F S16 .f32) (main_arg3 : FVec F S16x1024x256 .f32) (main_arg4 : FVec F S16x1024x256 .f32) (main_arg5 : FVec F S16x256x1024 .f32) (main_arg6 : FVec F S1024 .f32) (main_arg7 : FVec F S1024 .f32) : IVec S1024x16 1 :=
  let main_v0 : FVec F S1024x16 .f32 := Host.absf main_arg1
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  main_v2
-- ==== Kernel.lean ====
abbrev S16896x1024 : Shape := ⟨2, ![16896, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S16x1024 : Shape := ⟨2, ![16, 1024]⟩
abbrev S_ : Shape := ⟨0, ![]⟩
abbrev S128x1024 : Shape := ⟨2, ![128, 1024]⟩
abbrev S128 : Shape := ⟨1, ![128]⟩
abbrev S128x1 : Shape := ⟨2, ![128, 1]⟩
abbrev S4x1024x1024 : Shape := ⟨3, ![4, 1024, 1024]⟩
abbrev S1x1024 : Shape := ⟨2, ![1, 1024]⟩
abbrev S768x1024 : Shape := ⟨2, ![768, 1024]⟩
abbrev S4x1024x256 : Shape := ⟨3, ![4, 1024, 256]⟩
abbrev S1x1024x1024 : Shape := ⟨3, ![1, 1024, 1024]⟩
abbrev S768x128 : Shape := ⟨2, ![768, 128]⟩
abbrev S128x768 : Shape := ⟨2, ![128, 768]⟩
abbrev S1x768 : Shape := ⟨2, ![1, 768]⟩
abbrev S112x768 : Shape := ⟨2, ![112, 768]⟩
abbrev S1x128 : Shape := ⟨2, ![1, 128]⟩
abbrev S768 : Shape := ⟨1, ![768]⟩
abbrev S768x1 : Shape := ⟨2, ![768, 1]⟩
abbrev S1x1024x256 : Shape := ⟨3, ![1, 1024, 256]⟩
abbrev S1024x256 : Shape := ⟨2, ![1024, 256]⟩
abbrev S768x256 : Shape := ⟨2, ![768, 256]⟩
abbrev S1024x1024 : Shape := ⟨2, ![1024, 1024]⟩

abbrev nBuf : Space → Nat
  | .hbm => 21
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S1024x16, .f32⟩
  | .hbm, ⟨2, _⟩ => ⟨S16, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S1024, .f32⟩
  | .hbm, ⟨8, _⟩ => ⟨S16x1024, .f32⟩
  | .hbm, ⟨9, _⟩ => ⟨S_, .i32⟩
  | .hbm, ⟨10, _⟩ => ⟨S_, .f32⟩
  | .hbm, ⟨11, _⟩ => ⟨S128x1024, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S128x1024, .bf16⟩
  | .hbm, ⟨17, _⟩ => ⟨S4x1024x1024, .f32⟩
  | .hbm, ⟨18, _⟩ => ⟨S1x1024, .f32⟩
  | .hbm, ⟨19, _⟩ => ⟨S1x1024, .f32⟩
  | .hbm, ⟨20, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S128x1024, .bf16⟩
  | .local _ .vmem, ⟨3, _⟩ => ⟨S128x1, .f32⟩
  | .local _ .vmem, ⟨4, _⟩ => ⟨S4x1024x256, .f32⟩
  | .local _ .vmem, ⟨5, _⟩ => ⟨S4x1024x256, .f32⟩
  | .local _ .vmem, ⟨6, _⟩ => ⟨S4x1024x256, .f32⟩
  | .local _ .vmem, ⟨7, _⟩ => ⟨S4x1024x256, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024, .f32⟩
  | .local _ .vmem, ⟨11, _⟩ => ⟨S1x1024, .f32⟩
  | .local _ .vmem, ⟨12, _⟩ => ⟨S768x1024, .f32⟩
  | .local _ .vmem, ⟨13, _⟩ => ⟨S768x1024, .f32⟩
  | .local _ .vmem, ⟨14, _⟩ => ⟨S768x1024, .f32⟩
  | .local _ .vmem, ⟨15, _⟩ => ⟨S768x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![22, 4], ![false, false]⟩

def k0_cond2 (i : grid0.Coords) : BitVec 1 :=
  let arg1 : BitVec 32 := BitVec.ofNat 32 (i 1).val
  let c3_i32_64 : BitVec 32 := 3#32
  let v134 : BitVec 1 := Scalar.cmpi .eq arg1 c3_i32_64
  let v135 : BitVec 32 := Scalar.extui v134
  let c0_i32_65 : BitVec 32 := 0#32
  let v136 : BitVec 1 := Scalar.cmpi .ne v135 c0_i32_65
  v136

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16896x1024 : Shape := ⟨2, ![16896, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S16896x16 : Shape := ⟨2, ![16896, 16]⟩
abbrev S1x16 : Shape := ⟨2, ![1, 16]⟩
abbrev S16896x4x4 : Shape := ⟨3, ![16896, 4, 4]⟩
abbrev S16896x4x2 : Shape := ⟨3, ![16896, 4, 2]⟩
abbrev S16896x4 : Shape := ⟨2, ![16896, 4]⟩
abbrev S16896x1 : Shape := ⟨2, ![16896, 1]⟩
abbrev S16896x1x1 : Shape := ⟨3, ![16896, 1, 1]⟩
abbrev S1x1x4 : Shape := ⟨3, ![1, 1, 4]⟩
abbrev S16896x1x4 : Shape := ⟨3, ![16896, 1, 4]⟩
abbrev S16896x2 : Shape := ⟨2, ![16896, 2]⟩
abbrev S16896x2x1 : Shape := ⟨3, ![16896, 2, 1]⟩
abbrev S1 : Shape := ⟨1, ![1]⟩
abbrev S1x1x1 : Shape := ⟨3, ![1, 1, 1]⟩
abbrev S16896 : Shape := ⟨1, ![16896]⟩
abbrev S1x1x16 : Shape := ⟨3, ![1, 1, 16]⟩
abbrev S16896x2x16 : Shape := ⟨3, ![16896, 2, 16]⟩
abbrev S1x1024x256 : Shape := ⟨3, ![1, 1024, 256]⟩
abbrev S1024x256 : Shape := ⟨2, ![1024, 256]⟩
abbrev S16896x256 : Shape := ⟨2, ![16896, 256]⟩
abbrev S1x256x1024 : Shape := ⟨3, ![1, 256, 1024]⟩
abbrev S256x1024 : Shape := ⟨2, ![256, 1024]⟩
abbrev S1x1024 : Shape := ⟨2, ![1, 1024]⟩

abbrev nBuf : Space → Nat
  | .hbm => 483
  | .vmem => 0
  | .smem => 0
  | _ => 0

abbrev hbmTy0_0 (i : Nat) : BufTy := match i % 128 with
  | 0 => ⟨S16896x1024, .f32⟩
  | 1 => ⟨S1024x16, .f32⟩
  | 2 => ⟨S16, .f32⟩
  | 3 => ⟨S16x1024x256, .f32⟩
  | 4 => ⟨S16x1024x256, .f32⟩
  | 5 => ⟨S16x256x1024, .f32⟩
  | 6 => ⟨S1024, .f32⟩
  | 7 => ⟨S1024, .f32⟩
  | 8 => ⟨S_, .f32⟩
  | 9 => ⟨S16896x1024, .f32⟩
  | 10 => ⟨S16896x1024, .f32⟩
  | 11 => ⟨S16896x16, .f32⟩
  | 12 => ⟨S16896x16, .f32⟩
  | 13 => ⟨S16896x16, .f32⟩
  | 14 => ⟨S_, .f32⟩
  | 15 => ⟨S16896x16, .f32⟩
  | 16 => ⟨S16896x16, .f32⟩
  | 17 => ⟨S_, .f32⟩
  | 18 => ⟨S16896x16, .f32⟩
  | 19 => ⟨S16896x16, .f32⟩
  | 20 => ⟨S1x16, .f32⟩
  | 21 => ⟨S16896x16, .f32⟩
  | 22 => ⟨S16896x16, .f32⟩
  | 23 => ⟨S16896x4x4, .f32⟩
  | 24 => ⟨S16896x4x2, .f32⟩
  | 25 => ⟨S16896x4x2, .i32⟩
  | 26 => ⟨S_, .f32⟩
  | 27 => ⟨S16896x4, .f32⟩
  | 28 => ⟨S16896x1, .f32⟩
  | 29 => ⟨S16896x1, .i32⟩
  | 30 => ⟨S16896x1x1, .i32⟩
  | 31 => ⟨S1x1x4, .i32⟩
  | 32 => ⟨S16896x1x4, .i32⟩
  | 33 => ⟨S16896x1x4, .i32⟩
  | 34 => ⟨S16896x1x4, .i1⟩
  | 35 => ⟨S16896x1x4, .f32⟩
  | 36 => ⟨S_, .f32⟩
  | 37 => ⟨S16896x4, .f32⟩
  | 38 => ⟨S_, .f32⟩
  | 39 => ⟨S16896x4, .f32⟩
  | 40 => ⟨S16896x4, .i1⟩
  | 41 => ⟨S16896x4x4, .i1⟩
  | 42 => ⟨S16896x16, .i1⟩
  | 43 => ⟨S_, .f32⟩
  | 44 => ⟨S_, .f32⟩
  | 45 => ⟨S16896x16, .f32⟩
  | 46 => ⟨S16896x16, .f32⟩
  | 47 => ⟨S16896x2, .f32⟩
  | 48 => ⟨S16896x2, .i32⟩
  | 49 => ⟨S_, .i32⟩
  | 50 => ⟨S16896x2, .i32⟩
  | 51 => ⟨S16896x2, .i1⟩
  | 52 => ⟨S_, .i32⟩
  | 53 => ⟨S16896x2, .i32⟩
  | 54 => ⟨S16896x2, .i32⟩
  | 55 => ⟨S16896x2, .i32⟩
  | 56 => ⟨S16896x2x1, .i32⟩
  | 57 => ⟨S1, .i32⟩
  | 58 => ⟨S_, .i32⟩
  | 59 => ⟨S16896x2x1, .i32⟩
  | 60 => ⟨S16896x2x1, .i1⟩
  | 61 => ⟨S1x1x1, .i32⟩
  | 62 => ⟨S16896x2x1, .i32⟩
  | 63 => ⟨S16896x2x1, .i1⟩
  | 64 => ⟨S16896x2x1, .i1⟩
  | 65 => ⟨S_, .i1⟩
  | 66 => ⟨S16896x2, .i1⟩
  | 67 => ⟨S16896x2, .f32⟩
  | 68 => ⟨S_, .f32⟩
  | 69 => ⟨S16896x2, .f32⟩
  | 70 => ⟨S16896x2, .f32⟩
  | 71 => ⟨S_, .f32⟩
  | 72 => ⟨S16896, .f32⟩
  | 73 => ⟨S16896x1, .f32⟩
  | 74 => ⟨S16896x2, .f32⟩
  | 75 => ⟨S16896x2, .f32⟩
  | 76 => ⟨S16896x2x1, .i32⟩
  | 77 => ⟨S1x1x16, .i32⟩
  | 78 => ⟨S16896x2x16, .i32⟩
  | 79 => ⟨S16896x2x16, .i32⟩
  | 80 => ⟨S16896x2x16, .i1⟩
  | 81 => ⟨S16896x2x16, .f32⟩
  | 82 => ⟨S16896x16, .f32⟩
  | 83 => ⟨S_, .f32⟩
  | 84 => ⟨S16896x1024, .f32⟩
  | 85 => ⟨S1x1024x256, .f32⟩
  | 86 => ⟨S1024x256, .f32⟩
  | 87 => ⟨S16896x256, .f32⟩
  | 88 => ⟨S16896x256, .f32⟩
  | 89 => ⟨S16896x256, .f32⟩
  | 90 => ⟨S_, .f32⟩
  | 91 => ⟨S16896x256, .f32⟩
  | 92 => ⟨S16896x256, .f32⟩
  | 93 => ⟨S_, .f32⟩
  | 94 => ⟨S16896x256, .f32⟩
  | 95 => ⟨S16896x256, .f32⟩
  | 96 => ⟨S16896x256, .f32⟩
  | 97 => ⟨S1x1024x256, .f32⟩
  | 98 => ⟨S1024x256, .f32⟩
  | 99 => ⟨S16896x256, .f32⟩
  | 100 => ⟨S16896x256, .f32⟩
  | 101 => ⟨S16896x1, .f32⟩
  | 102 => ⟨S1x256x1024, .f32⟩
  | 103 => ⟨S256x1024, .f32⟩
  | 104 => ⟨S16896x1024, .f32⟩
  | 105 => ⟨S16896x1024, .f32⟩
  | 106 => ⟨S16896x1024, .f32⟩
  | 107 => ⟨S16896x1024, .f32⟩
  | 108 => ⟨S1x1024x256, .f32⟩
  | 109 => ⟨S1024x256, .f32⟩
  | 110 => ⟨S16896x256, .f32⟩
  | 111 => ⟨S16896x256, .f32⟩
  | 112 => ⟨S16896x256, .f32⟩
  | 113 => ⟨S_, .f32⟩
  | 114 => ⟨S16896x256, .f32⟩
  | 115 => ⟨S16896x256, .f32⟩
  | 116 => ⟨S_, .f32⟩
  | 117 => ⟨S16896x256, .f32⟩
  | 118 => ⟨S16896x256, .f32⟩
  | 119 => ⟨S16896x256, .f32⟩
  | 120 => ⟨S1x1024x256, .f32⟩
  | 121 => ⟨S1024x256, .f32⟩
  | 122 => ⟨S16896x256, .f32⟩
  | 123 => ⟨S16896x256, .f32⟩
  | 124 => ⟨S16896x1, .f32⟩
  | 125 => ⟨S1x256x1024, .f32⟩
  | 126 => ⟨S256x1024, .f32⟩
  | 127 => ⟨S16896x1024, .f32⟩
  | _ => ⟨S16896x1024, .f32⟩

abbrev hbmTy0_1 (i : Nat) : BufTy := match i % 128 with
  | 0 => ⟨S16896x1024, .f32⟩
  | 1 => ⟨S16896x1024, .f32⟩
  | 2 => ⟨S16896x1024, .f32⟩
  | 3 => ⟨S1x1024x256, .f32⟩
  | 4 => ⟨S1024x256, .f32⟩
  | 5 => ⟨S16896x256, .f32⟩
  | 6 => ⟨S16896x256, .f32⟩
  | 7 => ⟨S16896x256, .f32⟩
  | 8 => ⟨S_, .f32⟩
  | 9 => ⟨S16896x256, .f32⟩
  | 10 => ⟨S16896x256, .f32⟩
  | 11 => ⟨S_, .f32⟩
  | 12 => ⟨S16896x256, .f32⟩
  | 13 => ⟨S16896x256, .f32⟩
  | 14 => ⟨S16896x256, .f32⟩
  | 15 => ⟨S1x1024x256, .f32⟩
  | 16 => ⟨S1024x256, .f32⟩
  | 17 => ⟨S16896x256, .f32⟩
  | 18 => ⟨S16896x256, .f32⟩
  | 19 => ⟨S16896x1, .f32⟩
  | 20 => ⟨S1x256x1024, .f32⟩
  | 21 => ⟨S256x1024, .f32⟩
  | 22 => ⟨S16896x1024, .f32⟩
  | 23 => ⟨S16896x1024, .f32⟩
  | 24 => ⟨S16896x1024, .f32⟩
  | 25 => ⟨S16896x1024, .f32⟩
  | 26 => ⟨S1x1024x256, .f32⟩
  | 27 => ⟨S1024x256, .f32⟩
  | 28 => ⟨S16896x256, .f32⟩
  | 29 => ⟨S16896x256, .f32⟩
  | 30 => ⟨S16896x256, .f32⟩
  | 31 => ⟨S_, .f32⟩
  | 32 => ⟨S16896x256, .f32⟩
  | 33 => ⟨S16896x256, .f32⟩
  | 34 => ⟨S_, .f32⟩
  | 35 => ⟨S16896x256, .f32⟩
  | 36 => ⟨S16896x256, .f32⟩
  | 37 => ⟨S16896x256, .f32⟩
  | 38 => ⟨S1x1024x256, .f32⟩
  | 39 => ⟨S1024x256, .f32⟩
  | 40 => ⟨S16896x256, .f32⟩
  | 41 => ⟨S16896x256, .f32⟩
  | 42 => ⟨S16896x1, .f32⟩
  | 43 => ⟨S1x256x1024, .f32⟩
  | 44 => ⟨S256x1024, .f32⟩
  | 45 => ⟨S16896x1024, .f32⟩
  | 46 => ⟨S16896x1024, .f32⟩
  | 47 => ⟨S16896x1024, .f32⟩
  | 48 => ⟨S16896x1024, .f32⟩
  | 49 => ⟨S1x1024x256, .f32⟩
  | 50 => ⟨S1024x256, .f32⟩
  | 51 => ⟨S16896x256, .f32⟩
  | 52 => ⟨S16896x256, .f32⟩
  | 53 => ⟨S16896x256, .f32⟩
  | 54 => ⟨S_, .f32⟩
  | 55 => ⟨S16896x256, .f32⟩
  | 56 => ⟨S16896x256, .f32⟩
  | 57 => ⟨S_, .f32⟩
  | 58 => ⟨S16896x256, .f32⟩
  | 59 => ⟨S16896x256, .f32⟩
  | 60 => ⟨S16896x256, .f32⟩
  | 61 => ⟨S1x1024x256, .f32⟩
  | 62 => ⟨S1024x256, .f32⟩
  | 63 => ⟨S16896x256, .f32⟩
  | 64 => ⟨S16896x256, .f32⟩
  | 65 => ⟨S16896x1, .f32⟩
  | 66 => ⟨S1x256x1024, .f32⟩
  | 67 => ⟨S256x1024, .f32⟩
  | 68 => ⟨S16896x1024, .f32⟩
  | 69 => ⟨S16896x1024, .f32⟩
  | 70 => ⟨S16896x1024, .f32⟩
  | 71 => ⟨S16896x1024, .f32⟩
  | 72 => ⟨S1x1024x256, .f32⟩
  | 73 => ⟨S1024x256, .f32⟩
  | 74 => ⟨S16896x256, .f32⟩
  | 75 => ⟨S16896x256, .f32⟩
  | 76 => ⟨S16896x256, .f32⟩
  | 77 => ⟨S_, .f32⟩
  | 78 => ⟨S16896x256, .f32⟩
  | 79 => ⟨S16896x256, .f32⟩
  | 80 => ⟨S_, .f32⟩
  | 81 => ⟨S16896x256, .f32⟩
  | 82 => ⟨S16896x256, .f32⟩
  | 83 => ⟨S16896x256, .f32⟩
  | 84 => ⟨S1x1024x256, .f32⟩
  | 85 => ⟨S1024x256, .f32⟩
  | 86 => ⟨S16896x256, .f32⟩
  | 87 => ⟨S16896x256, .f32⟩
  | 88 => ⟨S16896x1, .f32⟩
  | 89 => ⟨S1x256x1024, .f32⟩
  | 90 => ⟨S256x1024, .f32⟩
  | 91 => ⟨S16896x1024, .f32⟩
  | 92 => ⟨S16896x1024, .f32⟩
  | 93 => ⟨S16896x1024, .f32⟩
  | 94 => ⟨S16896x1024, .f32⟩
  | 95 => ⟨S1x1024x256, .f32⟩
  | 96 => ⟨S1024x256, .f32⟩
  | 97 => ⟨S16896x256, .f32⟩
  | 98 => ⟨S16896x256, .f32⟩
  | 99 => ⟨S16896x256, .f32⟩
  | 100 => ⟨S_, .f32⟩
  | 101 => ⟨S16896x256, .f32⟩
  | 102 => ⟨S16896x256, .f32⟩
  | 103 => ⟨S_, .f32⟩
  | 104 => ⟨S16896x256, .f32⟩
  | 105 => ⟨S16896x256, .f32⟩
  | 106 => ⟨S16896x256, .f32⟩
  | 107 => ⟨S1x1024x256, .f32⟩
  | 108 => ⟨S1024x256, .f32⟩
  | 109 => ⟨S16896x256, .f32⟩
  | 110 => ⟨S16896x256, .f32⟩
  | 111 => ⟨S16896x1, .f32⟩
  | 112 => ⟨S1x256x1024, .f32⟩
  | 113 => ⟨S256x1024, .f32⟩
  | 114 => ⟨S16896x1024, .f32⟩
  | 115 => ⟨S16896x1024, .f32⟩
  | 116 => ⟨S16896x1024, .f32⟩
  | 117 => ⟨S16896x1024, .f32⟩
  | 118 => ⟨S1x1024x256, .f32⟩
  | 119 => ⟨S1024x256, .f32⟩
  | 120 => ⟨S16896x256, .f32⟩
  | 121 => ⟨S16896x256, .f32⟩
  | 122 => ⟨S16896x256, .f32⟩
  | 123 => ⟨S_, .f32⟩
  | 124 => ⟨S16896x256, .f32⟩
  | 125 => ⟨S16896x256, .f32⟩
  | 126 => ⟨S_, .f32⟩
  | 127 => ⟨S16896x256, .f32⟩
  | _ => ⟨S16896x1024, .f32⟩

abbrev hbmTy0_2 (i : Nat) : BufTy := match i % 128 with
  | 0 => ⟨S16896x256, .f32⟩
  | 1 => ⟨S16896x256, .f32⟩
  | 2 => ⟨S1x1024x256, .f32⟩
  | 3 => ⟨S1024x256, .f32⟩
  | 4 => ⟨S16896x256, .f32⟩
  | 5 => ⟨S16896x256, .f32⟩
  | 6 => ⟨S16896x1, .f32⟩
  | 7 => ⟨S1x256x1024, .f32⟩
  | 8 => ⟨S256x1024, .f32⟩
  | 9 => ⟨S16896x1024, .f32⟩
  | 10 => ⟨S16896x1024, .f32⟩
  | 11 => ⟨S16896x1024, .f32⟩
  | 12 => ⟨S16896x1024, .f32⟩
  | 13 => ⟨S1x1024x256, .f32⟩
  | 14 => ⟨S1024x256, .f32⟩
  | 15 => ⟨S16896x256, .f32⟩
  | 16 => ⟨S16896x256, .f32⟩
  | 17 => ⟨S16896x256, .f32⟩
  | 18 => ⟨S_, .f32⟩
  | 19 => ⟨S16896x256, .f32⟩
  | 20 => ⟨S16896x256, .f32⟩
  | 21 => ⟨S_, .f32⟩
  | 22 => ⟨S16896x256, .f32⟩
  | 23 => ⟨S16896x256, .f32⟩
  | 24 => ⟨S16896x256, .f32⟩
  | 25 => ⟨S1x1024x256, .f32⟩
  | 26 => ⟨S1024x256, .f32⟩
  | 27 => ⟨S16896x256, .f32⟩
  | 28 => ⟨S16896x256, .f32⟩
  | 29 => ⟨S16896x1, .f32⟩
  | 30 => ⟨S1x256x1024, .f32⟩
  | 31 => ⟨S256x1024, .f32⟩
  | 32 => ⟨S16896x1024, .f32⟩
  | 33 => ⟨S16896x1024, .f32⟩
  | 34 => ⟨S16896x1024, .f32⟩
  | 35 => ⟨S16896x1024, .f32⟩
  | 36 => ⟨S1x1024x256, .f32⟩
  | 37 => ⟨S1024x256, .f32⟩
  | 38 => ⟨S16896x256, .f32⟩
  | 39 => ⟨S16896x256, .f32⟩
  | 40 => ⟨S16896x256, .f32⟩
  | 41 => ⟨S_, .f32⟩
  | 42 => ⟨S16896x256, .f32⟩
  | 43 => ⟨S16896x256, .f32⟩
  | 44 => ⟨S_, .f32⟩
  | 45 => ⟨S16896x256, .f32⟩
  | 46 => ⟨S16896x256, .f32⟩
  | 47 => ⟨S16896x256, .f32⟩
  | 48 => ⟨S1x1024x256, .f32⟩
  | 49 => ⟨S1024x256, .f32⟩
  | 50 => ⟨S16896x256, .f32⟩
  | 51 => ⟨S16896x256, .f32⟩
  | 52 => ⟨S16896x1, .f32⟩
  | 53 => ⟨S1x256x1024, .f32⟩
  | 54 => ⟨S256x1024, .f32⟩
  | 55 => ⟨S16896x1024, .f32⟩
  | 56 => ⟨S16896x1024, .f32⟩
  | 57 => ⟨S16896x1024, .f32⟩
  | 58 => ⟨S16896x1024, .f32⟩
  | 59 => ⟨S1x1024x256, .f32⟩
  | 60 => ⟨S1024x256, .f32⟩
  | 61 => ⟨S16896x256, .f32⟩
  | 62 => ⟨S16896x256, .f32⟩
  | 63 => ⟨S16896x256, .f32⟩
  | 64 => ⟨S_, .f32⟩
  | 65 => ⟨S16896x256, .f32⟩
  | 66 => ⟨S16896x256, .f32⟩
  | 67 => ⟨S_, .f32⟩
  | 68 => ⟨S16896x256, .f32⟩
  | 69 => ⟨S16896x256, .f32⟩
  | 70 => ⟨S16896x256, .f32⟩
  | 71 => ⟨S1x1024x256, .f32⟩
  | 72 => ⟨S1024x256, .f32⟩
  | 73 => ⟨S16896x256, .f32⟩
  | 74 => ⟨S16896x256, .f32⟩
  | 75 => ⟨S16896x1, .f32⟩
  | 76 => ⟨S1x256x1024, .f32⟩
  | 77 => ⟨S256x1024, .f32⟩
  | 78 => ⟨S16896x1024, .f32⟩
  | 79 => ⟨S16896x1024, .f32⟩
  | 80 => ⟨S16896x1024, .f32⟩
  | 81 => ⟨S16896x1024, .f32⟩
  | 82 => ⟨S1x1024x256, .f32⟩
  | 83 => ⟨S1024x256, .f32⟩
  | 84 => ⟨S16896x256, .f32⟩
  | 85 => ⟨S16896x256, .f32⟩
  | 86 => ⟨S16896x256, .f32⟩
  | 87 => ⟨S_, .f32⟩
  | 88 => ⟨S16896x256, .f32⟩
  | 89 => ⟨S16896x256, .f32⟩
  | 90 => ⟨S_, .f32⟩
  | 91 => ⟨S16896x256, .f32⟩
  | 92 => ⟨S16896x256, .f32⟩
  | 93 => ⟨S16896x256, .f32⟩
  | 94 => ⟨S1x1024x256, .f32⟩
  | 95 => ⟨S1024x256, .f32⟩
  | 96 => ⟨S16896x256, .f32⟩
  | 97 => ⟨S16896x256, .f32⟩
  | 98 => ⟨S16896x1, .f32⟩
  | 99 => ⟨S1x256x1024, .f32⟩
  | 100 => ⟨S256x1024, .f32⟩
  | 101 => ⟨S16896x1024, .f32⟩
  | 102 => ⟨S16896x1024, .f32⟩
  | 103 => ⟨S16896x1024, .f32⟩
  | 104 => ⟨S16896x1024, .f32⟩
  | 105 => ⟨S1x1024x256, .f32⟩
  | 106 => ⟨S1024x256, .f32⟩
  | 107 => ⟨S16896x256, .f32⟩
  | 108 => ⟨S16896x256, .f32⟩
  | 109 => ⟨S16896x256, .f32⟩
  | 110 => ⟨S_, .f32⟩
  | 111 => ⟨S16896x256, .f32⟩
  | 112 => ⟨S16896x256, .f32⟩
  | 113 => ⟨S_, .f32⟩
  | 114 => ⟨S16896x256, .f32⟩
  | 115 => ⟨S16896x256, .f32⟩
  | 116 => ⟨S16896x256, .f32⟩
  | 117 => ⟨S1x1024x256, .f32⟩
  | 118 => ⟨S1024x256, .f32⟩
  | 119 => ⟨S16896x256, .f32⟩
  | 120 => ⟨S16896x256, .f32⟩
  | 121 => ⟨S16896x1, .f32⟩
  | 122 => ⟨S1x256x1024, .f32⟩
  | 123 => ⟨S256x1024, .f32⟩
  | 124 => ⟨S16896x1024, .f32⟩
  | 125 => ⟨S16896x1024, .f32⟩
  | 126 => ⟨S16896x1024, .f32⟩
  | 127 => ⟨S16896x1024, .f32⟩
  | _ => ⟨S16896x1024, .f32⟩

abbrev hbmTy0_3 (i : Nat) : BufTy := match i % 128 with
  | 0 => ⟨S1x1024x256, .f32⟩
  | 1 => ⟨S1024x256, .f32⟩
  | 2 => ⟨S16896x256, .f32⟩
  | 3 => ⟨S16896x256, .f32⟩
  | 4 => ⟨S16896x256, .f32⟩
  | 5 => ⟨S_, .f32⟩
  | 6 => ⟨S16896x256, .f32⟩
  | 7 => ⟨S16896x256, .f32⟩
  | 8 => ⟨S_, .f32⟩
  | 9 => ⟨S16896x256, .f32⟩
  | 10 => ⟨S16896x256, .f32⟩
  | 11 => ⟨S16896x256, .f32⟩
  | 12 => ⟨S1x1024x256, .f32⟩
  | 13 => ⟨S1024x256, .f32⟩
  | 14 => ⟨S16896x256, .f32⟩
  | 15 => ⟨S16896x256, .f32⟩
  | 16 => ⟨S16896x1, .f32⟩
  | 17 => ⟨S1x256x1024, .f32⟩
  | 18 => ⟨S256x1024, .f32⟩
  | 19 => ⟨S16896x1024, .f32⟩
  | 20 => ⟨S16896x1024, .f32⟩
  | 21 => ⟨S16896x1024, .f32⟩
  | 22 => ⟨S16896x1024, .f32⟩
  | 23 => ⟨S1x1024x256, .f32⟩
  | 24 => ⟨S1024x256, .f32⟩
  | 25 => ⟨S16896x256, .f32⟩
  | 26 => ⟨S16896x256, .f32⟩
  | 27 => ⟨S16896x256, .f32⟩
  | 28 => ⟨S_, .f32⟩
  | 29 => ⟨S16896x256, .f32⟩
  | 30 => ⟨S16896x256, .f32⟩
  | 31 => ⟨S_, .f32⟩
  | 32 => ⟨S16896x256, .f32⟩
  | 33 => ⟨S16896x256, .f32⟩
  | 34 => ⟨S16896x256, .f32⟩
  | 35 => ⟨S1x1024x256, .f32⟩
  | 36 => ⟨S1024x256, .f32⟩
  | 37 => ⟨S16896x256, .f32⟩
  | 38 => ⟨S16896x256, .f32⟩
  | 39 => ⟨S16896x1, .f32⟩
  | 40 => ⟨S1x256x1024, .f32⟩
  | 41 => ⟨S256x1024, .f32⟩
  | 42 => ⟨S16896x1024, .f32⟩
  | 43 => ⟨S16896x1024, .f32⟩
  | 44 => ⟨S16896x1024, .f32⟩
  | 45 => ⟨S16896x1024, .f32⟩
  | 46 => ⟨S1x1024x256, .f32⟩
  | 47 => ⟨S1024x256, .f32⟩
  | 48 => ⟨S16896x256, .f32⟩
  | 49 => ⟨S16896x256, .f32⟩
  | 50 => ⟨S16896x256, .f32⟩
  | 51 => ⟨S_, .f32⟩
  | 52 => ⟨S16896x256, .f32⟩
  | 53 => ⟨S16896x256, .f32⟩
  | 54 => ⟨S_, .f32⟩
  | 55 => ⟨S16896x256, .f32⟩
  | 56 => ⟨S16896x256, .f32⟩
  | 57 => ⟨S16896x256, .f32⟩
  | 58 => ⟨S1x1024x256, .f32⟩
  | 59 => ⟨S1024x256, .f32⟩
  | 60 => ⟨S16896x256, .f32⟩
  | 61 => ⟨S16896x256, .f32⟩
  | 62 => ⟨S16896x1, .f32⟩
  | 63 => ⟨S1x256x1024, .f32⟩
  | 64 => ⟨S256x1024, .f32⟩
  | 65 => ⟨S16896x1024, .f32⟩
  | 66 => ⟨S16896x1024, .f32⟩
  | 67 => ⟨S16896x1024, .f32⟩
  | 68 => ⟨S16896x1024, .f32⟩
  | 69 => ⟨S16896x1024, .f32⟩
  | 70 => ⟨S_, .f32⟩
  | 71 => ⟨S16896, .f32⟩
  | 72 => ⟨S16896x1, .f32⟩
  | 73 => ⟨S_, .f32⟩
  | 74 => ⟨S16896x1, .f32⟩
  | 75 => ⟨S16896x1, .f32⟩
  | 76 => ⟨S16896x1024, .f32⟩
  | 77 => ⟨S16896x1024, .f32⟩
  | 78 => ⟨S16896x1024, .f32⟩
  | 79 => ⟨S_, .f32⟩
  | 80 => ⟨S16896, .f32⟩
  | 81 => ⟨S16896x1, .f32⟩
  | 82 => ⟨S_, .f32⟩
  | 83 => ⟨S16896x1, .f32⟩
  | 84 => ⟨S16896x1, .f32⟩
  | 85 => ⟨S16896x1024, .f32⟩
  | 86 => ⟨S16896x1024, .f32⟩
  | 87 => ⟨S_, .f32⟩
  | 88 => ⟨S16896x1, .f32⟩
  | 89 => ⟨S16896x1, .f32⟩
  | 90 => ⟨S16896x1, .f32⟩
  | 91 => ⟨S16896x1024, .f32⟩
  | 92 => ⟨S16896x1024, .f32⟩
  | 93 => ⟨S1x1024, .f32⟩
  | 94 => ⟨S16896x1024, .f32⟩
  | 95 => ⟨S16896x1024, .f32⟩
  | 96 => ⟨S1x1024, .f32⟩
  | 97 => ⟨S16896x1024, .f32⟩
  | 98 => ⟨S16896x1024, .f32⟩
  | _ => ⟨S16896x1024, .f32⟩

abbrev hbmTy (i : Nat) : BufTy := match i / 128 with
  | 0 => hbmTy0_0 i
  | 1 => hbmTy0_1 i
  | 2 => hbmTy0_2 i
  | 3 => hbmTy0_3 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v13 : Ref sig .tc := ⟨.hbm, 27, rfl⟩
abbrev main_values_3 : Ref sig .tc := ⟨.hbm, 28, rfl⟩
abbrev main_indices_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_cst_6 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v20 : Ref sig .tc := ⟨.hbm, 46, rfl⟩
abbrev main_values_8 : Ref sig .tc := ⟨.hbm, 47, rfl⟩
abbrev main_indices_9 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_cst : Ref sig .tc := ⟨.hbm, 68, rfl⟩
abbrev main_call2_v14 : Ref sig .tc := ⟨.hbm, 69, rfl⟩
abbrev main_v21 : Ref sig .tc := ⟨.hbm, 70, rfl⟩
abbrev main_cst_10 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v26 : Ref sig .tc := ⟨.hbm, 81, rfl⟩
abbrev main_v27 : Ref sig .tc := ⟨.hbm, 82, rfl⟩
abbrev main_cst_11 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_call6_v0 : Ref sig .tc := ⟨.hbm, 134, rfl⟩
abbrev main_call6_v1 : Ref sig .tc := ⟨.hbm, 135, rfl⟩
abbrev main_call6_cst : Ref sig .tc := ⟨.hbm, 136, rfl⟩
abbrev main_call6_v2 : Ref sig .tc := ⟨.hbm, 137, rfl⟩
abbrev main_call6_v3 : Ref sig .tc := ⟨.hbm, 138, rfl⟩
abbrev main_call6_cst_0 : Ref sig .tc := ⟨.hbm, 139, rfl⟩
abbrev main_call6_v4 : Ref sig .tc := ⟨.hbm, 140, rfl⟩
abbrev main_call6_v5 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_call7_v0 : Ref sig .tc := ⟨.hbm, 157, rfl⟩
abbrev main_call7_v1 : Ref sig .tc := ⟨.hbm, 158, rfl⟩
abbrev main_call7_cst : Ref sig .tc := ⟨.hbm, 159, rfl⟩
abbrev main_call7_v2 : Ref sig .tc := ⟨.hbm, 160, rfl⟩
abbrev main_call7_v3 : Ref sig .tc := ⟨.hbm, 161, rfl⟩
abbrev main_call7_cst_0 : Ref sig .tc := ⟨.hbm, 162, rfl⟩
abbrev main_call7_v4 : Ref sig .tc := ⟨.hbm, 163, rfl⟩
abbrev main_call7_v5 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_call8_v0 : Ref sig .tc := ⟨.hbm, 180, rfl⟩
abbrev main_call8_v1 : Ref sig .tc := ⟨.hbm, 181, rfl⟩
abbrev main_call8_cst : Ref sig .tc := ⟨.hbm, 182, rfl⟩
abbrev main_call8_v2 : Ref sig .tc := ⟨.hbm, 183, rfl⟩
abbrev main_call8_v3 : Ref sig .tc := ⟨.hbm, 184, rfl⟩
abbrev main_call8_cst_0 : Ref sig .tc := ⟨.hbm, 185, rfl⟩
abbrev main_call8_v4 : Ref sig .tc := ⟨.hbm, 186, rfl⟩
abbrev main_call8_v5 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_call9_v0 : Ref sig .tc := ⟨.hbm, 203, rfl⟩
abbrev main_call9_v1 : Ref sig .tc := ⟨.hbm, 204, rfl⟩
abbrev main_call9_cst : Ref sig .tc := ⟨.hbm, 205, rfl⟩
abbrev main_call9_v2 : Ref sig .tc := ⟨.hbm, 206, rfl⟩
abbrev main_call9_v3 : Ref sig .tc := ⟨.hbm, 207, rfl⟩
abbrev main_call9_cst_0 : Ref sig .tc := ⟨.hbm, 208, rfl⟩
abbrev main_call9_v4 : Ref sig .tc := ⟨.hbm, 209, rfl⟩
abbrev main_call9_v5 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_call10_v0 : Ref sig .tc := ⟨.hbm, 226, rfl⟩
abbrev main_call10_v1 : Ref sig .tc := ⟨.hbm, 227, rfl⟩
abbrev main_call10_cst : Ref sig .tc := ⟨.hbm, 228, rfl⟩
abbrev main_call10_v2 : Ref sig .tc := ⟨.hbm, 229, rfl⟩
abbrev main_call10_v3 : Ref sig .tc := ⟨.hbm, 230, rfl⟩
abbrev main_call10_cst_0 : Ref sig .tc := ⟨.hbm, 231, rfl⟩
abbrev main_call10_v4 : Ref sig .tc := ⟨.hbm, 232, rfl⟩
abbrev main_call10_v5 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_call11_v0 : Ref sig .tc := ⟨.hbm, 249, rfl⟩
abbrev main_call11_v1 : Ref sig .tc := ⟨.hbm, 250, rfl⟩
abbrev main_call11_cst : Ref sig .tc := ⟨.hbm, 251, rfl⟩
abbrev main_call11_v2 : Ref sig .tc := ⟨.hbm, 252, rfl⟩
abbrev main_call11_v3 : Ref sig .tc := ⟨.hbm, 253, rfl⟩
abbrev main_call11_cst_0 : Ref sig .tc := ⟨.hbm, 254, rfl⟩
abbrev main_call11_v4 : Ref sig .tc := ⟨.hbm, 255, rfl⟩
abbrev main_call11_v5 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_call12_v0 : Ref sig .tc := ⟨.hbm, 272, rfl⟩
abbrev main_call12_v1 : Ref sig .tc := ⟨.hbm, 273, rfl⟩
abbrev main_call12_cst : Ref sig .tc := ⟨.hbm, 274, rfl⟩
abbrev main_call12_v2 : Ref sig .tc := ⟨.hbm, 275, rfl⟩
abbrev main_call12_v3 : Ref sig .tc := ⟨.hbm, 276, rfl⟩
abbrev main_call12_cst_0 : Ref sig .tc := ⟨.hbm, 277, rfl⟩
abbrev main_call12_v4 : Ref sig .tc := ⟨.hbm, 278, rfl⟩
abbrev main_call12_v5 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_v156 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_call13_v0 : Ref sig .tc := ⟨.hbm, 295, rfl⟩
abbrev main_call13_v1 : Ref sig .tc := ⟨.hbm, 296, rfl⟩
abbrev main_call13_cst : Ref sig .tc := ⟨.hbm, 297, rfl⟩
abbrev main_call13_v2 : Ref sig .tc := ⟨.hbm, 298, rfl⟩
abbrev main_call13_v3 : Ref sig .tc := ⟨.hbm, 299, rfl⟩
abbrev main_call13_cst_0 : Ref sig .tc := ⟨.hbm, 300, rfl⟩
abbrev main_call13_v4 : Ref sig .tc := ⟨.hbm, 301, rfl⟩
abbrev main_call13_v5 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_v181 : Ref sig .tc := ⟨.hbm, 317, rfl⟩
abbrev main_call14_v0 : Ref sig .tc := ⟨.hbm, 318, rfl⟩
abbrev main_call14_v1 : Ref sig .tc := ⟨.hbm, 319, rfl⟩
abbrev main_call14_cst : Ref sig .tc := ⟨.hbm, 320, rfl⟩
abbrev main_call14_v2 : Ref sig .tc := ⟨.hbm, 321, rfl⟩
abbrev main_call14_v3 : Ref sig .tc := ⟨.hbm, 322, rfl⟩
abbrev main_call14_cst_0 : Ref sig .tc := ⟨.hbm, 323, rfl⟩
abbrev main_call14_v4 : Ref sig .tc := ⟨.hbm, 324, rfl⟩
abbrev main_call14_v5 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_v192 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_call15_v0 : Ref sig .tc := ⟨.hbm, 341, rfl⟩
abbrev main_call15_v1 : Ref sig .tc := ⟨.hbm, 342, rfl⟩
abbrev main_call15_cst : Ref sig .tc := ⟨.hbm, 343, rfl⟩
abbrev main_call15_v2 : Ref sig .tc := ⟨.hbm, 344, rfl⟩
abbrev main_call15_v3 : Ref sig .tc := ⟨.hbm, 345, rfl⟩
abbrev main_call15_cst_0 : Ref sig .tc := ⟨.hbm, 346, rfl⟩
abbrev main_call15_v4 : Ref sig .tc := ⟨.hbm, 347, rfl⟩
abbrev main_call15_v5 : Ref sig .tc := ⟨.hbm, 348, rfl⟩
abbrev main_v197 : Ref sig .tc := ⟨.hbm, 349, rfl⟩
abbrev main_v198 : Ref sig .tc := ⟨.hbm, 350, rfl⟩
abbrev main_v199 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_v205 : Ref sig .tc := ⟨.hbm, 357, rfl⟩
abbrev main_v206 : Ref sig .tc := ⟨.hbm, 358, rfl⟩
abbrev main_v207 : Ref sig .tc := ⟨.hbm, 359, rfl⟩
abbrev main_v208 : Ref sig .tc := ⟨.hbm, 360, rfl⟩
abbrev main_v209 : Ref sig .tc := ⟨.hbm, 361, rfl⟩
abbrev main_v210 : Ref sig .tc := ⟨.hbm, 362, rfl⟩
abbrev main_v211 : Ref sig .tc := ⟨.hbm, 363, rfl⟩
abbrev main_call16_v0 : Ref sig .tc := ⟨.hbm, 364, rfl⟩
abbrev main_call16_v1 : Ref sig .tc := ⟨.hbm, 365, rfl⟩
abbrev main_call16_cst : Ref sig .tc := ⟨.hbm, 366, rfl⟩
abbrev main_call16_v2 : Ref sig .tc := ⟨.hbm, 367, rfl⟩
abbrev main_call16_v3 : Ref sig .tc := ⟨.hbm, 368, rfl⟩
abbrev main_call16_cst_0 : Ref sig .tc := ⟨.hbm, 369, rfl⟩
abbrev main_call16_v4 : Ref sig .tc := ⟨.hbm, 370, rfl⟩
abbrev main_call16_v5 : Ref sig .tc := ⟨.hbm, 371, rfl⟩
abbrev main_v212 : Ref sig .tc := ⟨.hbm, 372, rfl⟩
abbrev main_v213 : Ref sig .tc := ⟨.hbm, 373, rfl⟩
abbrev main_v214 : Ref sig .tc := ⟨.hbm, 374, rfl⟩
abbrev main_v215 : Ref sig .tc := ⟨.hbm, 375, rfl⟩
abbrev main_v216 : Ref sig .tc := ⟨.hbm, 376, rfl⟩
abbrev main_v217 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_v224 : Ref sig .tc := ⟨.hbm, 384, rfl⟩
abbrev main_v225 : Ref sig .tc := ⟨.hbm, 385, rfl⟩
abbrev main_v226 : Ref sig .tc := ⟨.hbm, 386, rfl⟩
abbrev main_call17_v0 : Ref sig .tc := ⟨.hbm, 387, rfl⟩
abbrev main_call17_v1 : Ref sig .tc := ⟨.hbm, 388, rfl⟩
abbrev main_call17_cst : Ref sig .tc := ⟨.hbm, 389, rfl⟩
abbrev main_call17_v2 : Ref sig .tc := ⟨.hbm, 390, rfl⟩
abbrev main_call17_v3 : Ref sig .tc := ⟨.hbm, 391, rfl⟩
abbrev main_call17_cst_0 : Ref sig .tc := ⟨.hbm, 392, rfl⟩
abbrev main_call17_v4 : Ref sig .tc := ⟨.hbm, 393, rfl⟩
abbrev main_call17_v5 : Ref sig .tc := ⟨.hbm, 394, rfl⟩
abbrev main_v227 : Ref sig .tc := ⟨.hbm, 395, rfl⟩
abbrev main_v228 : Ref sig .tc := ⟨.hbm, 396, rfl⟩
abbrev main_v229 : Ref sig .tc := ⟨.hbm, 397, rfl⟩
abbrev main_v230 : Ref sig .tc := ⟨.hbm, 398, rfl⟩
abbrev main_v231 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_call18_v0 : Ref sig .tc := ⟨.hbm, 410, rfl⟩
abbrev main_call18_v1 : Ref sig .tc := ⟨.hbm, 411, rfl⟩
abbrev main_call18_cst : Ref sig .tc := ⟨.hbm, 412, rfl⟩
abbrev main_call18_v2 : Ref sig .tc := ⟨.hbm, 413, rfl⟩
abbrev main_call18_v3 : Ref sig .tc := ⟨.hbm, 414, rfl⟩
abbrev main_call18_cst_0 : Ref sig .tc := ⟨.hbm, 415, rfl⟩
abbrev main_call18_v4 : Ref sig .tc := ⟨.hbm, 416, rfl⟩
abbrev main_call18_v5 : Ref sig .tc := ⟨.hbm, 417, rfl⟩
abbrev main_v242 : Ref sig .tc := ⟨.hbm, 418, rfl⟩
abbrev main_v243 : Ref sig .tc := ⟨.hbm, 419, rfl⟩
abbrev main_v244 : Ref sig .tc := ⟨.hbm, 420, rfl⟩
abbrev main_v245 : Ref sig .tc := ⟨.hbm, 421, rfl⟩
abbrev main_v246 : Ref sig .tc := ⟨.hbm, 422, rfl⟩
abbrev main_v247 : Ref sig .tc := ⟨.hbm, 423, rfl⟩
abbrev main_v248 : Ref sig .tc := ⟨.hbm, 424, rfl⟩
abbrev main_v249 : Ref sig .tc := ⟨.hbm, 425, rfl⟩
abbrev main_v250 : Ref sig .tc := ⟨.hbm, 426, rfl⟩
abbrev main_v251 : Ref sig .tc := ⟨.hbm, 427, rfl⟩
abbrev main_v252 : Ref sig .tc := ⟨.hbm, 428, rfl⟩
abbrev main_v253 : Ref sig .tc := ⟨.hbm, 429, rfl⟩
abbrev main_v254 : Ref sig .tc := ⟨.hbm, 430, rfl⟩
abbrev main_v255 : Ref sig .tc := ⟨.hbm, 431, rfl⟩
abbrev main_v256 : Ref sig .tc := ⟨.hbm, 432, rfl⟩
abbrev main_call19_v0 : Ref sig .tc := ⟨.hbm, 433, rfl⟩
abbrev main_call19_v1 : Ref sig .tc := ⟨.hbm, 434, rfl⟩
abbrev main_call19_cst : Ref sig .tc := ⟨.hbm, 435, rfl⟩
abbrev main_call19_v2 : Ref sig .tc := ⟨.hbm, 436, rfl⟩
abbrev main_call19_v3 : Ref sig .tc := ⟨.hbm, 437, rfl⟩
abbrev main_call19_cst_0 : Ref sig .tc := ⟨.hbm, 438, rfl⟩
abbrev main_call19_v4 : Ref sig .tc := ⟨.hbm, 439, rfl⟩
abbrev main_call19_v5 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_v260 : Ref sig .tc := ⟨.hbm, 444, rfl⟩
abbrev main_v261 : Ref sig .tc := ⟨.hbm, 445, rfl⟩
abbrev main_v262 : Ref sig .tc := ⟨.hbm, 446, rfl⟩
abbrev main_v263 : Ref sig .tc := ⟨.hbm, 447, rfl⟩
abbrev main_v264 : Ref sig .tc := ⟨.hbm, 448, rfl⟩
abbrev main_v265 : Ref sig .tc := ⟨.hbm, 449, rfl⟩
abbrev main_v266 : Ref sig .tc := ⟨.hbm, 450, rfl⟩
abbrev main_v267 : Ref sig .tc := ⟨.hbm, 451, rfl⟩
abbrev main_v268 : Ref sig .tc := ⟨.hbm, 452, rfl⟩
abbrev main_v269 : Ref sig .tc := ⟨.hbm, 453, rfl⟩
abbrev main_cst_12 : Ref sig .tc := ⟨.hbm, 454, rfl⟩
abbrev main_v270 : Ref sig .tc := ⟨.hbm, 455, rfl⟩
abbrev main_v271 : Ref sig .tc := ⟨.hbm, 456, rfl⟩
abbrev main_cst_13 : Ref sig .tc := ⟨.hbm, 457, rfl⟩
abbrev main_v272 : Ref sig .tc := ⟨.hbm, 458, rfl⟩
abbrev main_v273 : Ref sig .tc := ⟨.hbm, 459, rfl⟩
abbrev main_v274 : Ref sig .tc := ⟨.hbm, 460, rfl⟩
abbrev main_v275 : Ref sig .tc := ⟨.hbm, 461, rfl⟩
abbrev main_v276 : Ref sig .tc := ⟨.hbm, 462, rfl⟩
abbrev main_cst_14 : Ref sig .tc := ⟨.hbm, 463, rfl⟩
abbrev main_v277 : Ref sig .tc := ⟨.hbm, 464, rfl⟩
abbrev main_v278 : Ref sig .tc := ⟨.hbm, 465, rfl⟩
abbrev main_cst_15 : Ref sig .tc := ⟨.hbm, 466, rfl⟩
abbrev main_v279 : Ref sig .tc := ⟨.hbm, 467, rfl⟩
abbrev main_v280 : Ref sig .tc := ⟨.hbm, 468, rfl⟩
abbrev main_v281 : Ref sig .tc := ⟨.hbm, 469, rfl⟩
abbrev main_v282 : Ref sig .tc := ⟨.hbm, 470, rfl⟩
abbrev main_cst_16 : Ref sig .tc := ⟨.hbm, 471, rfl⟩
abbrev main_v283 : Ref sig .tc := ⟨.hbm, 472, rfl⟩
abbrev main_v284 : Ref sig .tc := ⟨.hbm, 473, rfl⟩
abbrev main_v285 : Ref sig .tc := ⟨.hbm, 474, rfl⟩
abbrev main_v286 : Ref sig .tc := ⟨.hbm, 475, rfl⟩
abbrev main_v287 : Ref sig .tc := ⟨.hbm, 476, rfl⟩
abbrev main_v288 : Ref sig .tc := ⟨.hbm, 477, rfl⟩
abbrev main_v289 : Ref sig .tc := ⟨.hbm, 478, rfl⟩
abbrev main_v290 : Ref sig .tc := ⟨.hbm, 479, rfl⟩
abbrev main_v291 : Ref sig .tc := ⟨.hbm, 480, rfl⟩
abbrev main_v292 : Ref sig .tc := ⟨.hbm, 481, rfl⟩
abbrev main_v293 : Ref sig .tc := ⟨.hbm, 482, rfl⟩

abbrev nD : Nat := 1
abbrev τ : Topo := Topo.v7x

variable {F : FTy → Type} [FloatOps F]
-- ==== Kernel2.lean ====
abbrev S16896x256 : Shape := ⟨2, ![16896, 256]⟩
abbrev S16896x512 : Shape := ⟨2, ![16896, 512]⟩
abbrev S16896x1024 : Shape := ⟨2, ![16896, 1024]⟩
abbrev S1024x1024 : Shape := ⟨2, ![1024, 1024]⟩
abbrev S1024 : Shape := ⟨1, ![1024]⟩
abbrev S1x1024 : Shape := ⟨2, ![1, 1024]⟩
abbrev S768x256 : Shape := ⟨2, ![768, 256]⟩
abbrev S768x512 : Shape := ⟨2, ![768, 512]⟩
abbrev S768x1024 : Shape := ⟨2, ![768, 1024]⟩
abbrev S256x1024 : Shape := ⟨2, ![256, 1024]⟩
abbrev S512x1024 : Shape := ⟨2, ![512, 1024]⟩
abbrev S768 : Shape := ⟨1, ![768]⟩
abbrev S768x1 : Shape := ⟨2, ![768, 1]⟩

abbrev nBuf : Space → Nat
  | .hbm => 11
  | .vmem => 13
  | .smem => 0
  | _ => 0

abbrev bufTy : (tb : Table) → Fin (tcTables nBuf tb) → BufTy
  | .hbm, ⟨0, _⟩ => ⟨S16896x256, .f32⟩
  | .hbm, ⟨1, _⟩ => ⟨S16896x256, .f32⟩
  | .hbm, ⟨2, _⟩ => ⟨S16896x512, .f32⟩
  | .hbm, ⟨3, _⟩ => ⟨S16896x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16896x1024, .f32⟩
  | .local _ .vmem, ⟨0, _⟩ => ⟨S768x256, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S768x512, .f32⟩
  | .local _ .vmem, ⟨5, _⟩ => ⟨S768x512, .f32⟩
  | .local _ .vmem, ⟨6, _⟩ => ⟨S768x1024, .f32⟩
  | .local _ .vmem, ⟨7, _⟩ => ⟨S768x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S768x1024, .f32⟩
  | .local _ .vmem, ⟨12, _⟩ => ⟨S768x1024, .f32⟩
  | _, _ => ⟨S16896x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16896x256 : Shape := ⟨2, ![16896, 256]⟩
abbrev S16896x512 : Shape := ⟨2, ![16896, 512]⟩
abbrev S16896x1024 : Shape := ⟨2, ![16896, 1024]⟩
abbrev S1024x1024 : Shape := ⟨2, ![1024, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16896x256, .f32⟩
  | .hbm, ⟨1, _⟩ => ⟨S16896x256, .f32⟩
  | .hbm, ⟨2, _⟩ => ⟨S16896x512, .f32⟩
  | .hbm, ⟨3, _⟩ => ⟨S16896x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16896x1024, .f32⟩
  | .hbm, ⟨8, _⟩ => ⟨S16896x1024, .f32⟩
  | .hbm, ⟨9, _⟩ => ⟨S_, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S_, .f32⟩
  | .hbm, ⟨14, _⟩ => ⟨S16896, .f32⟩
  | .hbm, ⟨15, _⟩ => ⟨S16896x1, .f32⟩
  | .hbm, ⟨16, _⟩ => ⟨S_, .f32⟩
  | .hbm, ⟨17, _⟩ => ⟨S16896x1, .f32⟩
  | .hbm, ⟨18, _⟩ => ⟨S16896x1, .f32⟩
  | .hbm, ⟨19, _⟩ => ⟨S16896x1024, .f32⟩
  | .hbm, ⟨20, _⟩ => ⟨S16896x1024, .f32⟩
  | .hbm, ⟨21, _⟩ => ⟨S16896x1024, .f32⟩
  | .hbm, ⟨22, _⟩ => ⟨S_, .f32⟩
  | .hbm, ⟨23, _⟩ => ⟨S16896, .f32⟩
  | .hbm, ⟨24, _⟩ => ⟨S16896x1, .f32⟩
  | .hbm, ⟨25, _⟩ => ⟨S_, .f32⟩
  | .hbm, ⟨26, _⟩ => ⟨S16896x1, .f32⟩
  | .hbm, ⟨27, _⟩ => ⟨S16896x1, .f32⟩
  | .hbm, ⟨28, _⟩ => ⟨S16896x1024, .f32⟩
  | .hbm, ⟨29, _⟩ => ⟨S16896x1024, .f32⟩
  | .hbm, ⟨30, _⟩ => ⟨S_, .f32⟩
  | .hbm, ⟨31, _⟩ => ⟨S16896x1, .f32⟩
  | .hbm, ⟨32, _⟩ => ⟨S16896x1, .f32⟩
  | .hbm, ⟨33, _⟩ => ⟨S16896x1, .f32⟩
  | .hbm, ⟨34, _⟩ => ⟨S16896x1024, .f32⟩
  | .hbm, ⟨35, _⟩ => ⟨S16896x1024, .f32⟩
  | .hbm, ⟨36, _⟩ => ⟨S1x1024, .f32⟩
  | .hbm, ⟨37, _⟩ => ⟨S16896x1024, .f32⟩
  | .hbm, ⟨38, _⟩ => ⟨S16896x1024, .f32⟩
  | .hbm, ⟨39, _⟩ => ⟨S1x1024, .f32⟩
  | .hbm, ⟨40, _⟩ => ⟨S16896x1024, .f32⟩
  | .hbm, ⟨41, _⟩ => ⟨S16896x1024, .f32⟩
  | _, _ => ⟨S16896x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel3.lean ====
abbrev S16896x1024 : Shape := ⟨2, ![16896, 1024]⟩
abbrev S1024 : Shape := ⟨1, ![1024]⟩
abbrev S1024x2748 : Shape := ⟨2, ![1024, 2748]⟩
abbrev S2748 : Shape := ⟨1, ![2748]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S1024x16 : Shape := ⟨2, ![1024, 16]⟩
abbrev S16 : Shape := ⟨1, ![16]⟩
abbrev S_ : Shape := ⟨0, ![]⟩
abbrev S1024x112 : Shape := ⟨2, ![1024, 112]⟩
abbrev S112 : Shape := ⟨1, ![112]⟩
abbrev S1024x512 : Shape := ⟨2, ![1024, 512]⟩
abbrev S512 : Shape := ⟨1, ![512]⟩
abbrev S1024x4 : Shape := ⟨2, ![1024, 4]⟩
abbrev S4 : Shape := ⟨1, ![4]⟩
abbrev S1024x120 : Shape := ⟨2, ![1024, 120]⟩
abbrev S120 : Shape := ⟨1, ![120]⟩
abbrev S1024x32 : Shape := ⟨2, ![1024, 32]⟩
abbrev S32 : Shape := ⟨1, ![32]⟩
abbrev S1024x92 : Shape := ⟨2, ![1024, 92]⟩
abbrev S92 : Shape := ⟨1, ![92]⟩
abbrev S1024x2944 : Shape := ⟨2, ![1024, 2944]⟩
abbrev S1024x3072 : Shape := ⟨2, ![1024, 3072]⟩
abbrev S2944 : Shape := ⟨1, ![2944]⟩
abbrev S3072 : Shape := ⟨1, ![3072]⟩
abbrev S1x3072 : Shape := ⟨2, ![1, 3072]⟩
abbrev S1x1024 : Shape := ⟨2, ![1, 1024]⟩
abbrev S16896x896 : Shape := ⟨2, ![16896, 896]⟩
abbrev S16896x1152 : Shape := ⟨2, ![16896, 1152]⟩
abbrev S384x1024 : Shape := ⟨2, ![384, 1024]⟩
abbrev S384x896 : Shape := ⟨2, ![384, 896]⟩
abbrev S384x1152 : Shape := ⟨2, ![384, 1152]⟩
abbrev S384 : Shape := ⟨1, ![384]⟩
abbrev S384x1 : Shape := ⟨2, ![384, 1]⟩
abbrev S1024x896 : Shape := ⟨2, ![1024, 896]⟩
abbrev S1x896 : Shape := ⟨2, ![1, 896]⟩
abbrev S1024x1152 : Shape := ⟨2, ![1024, 1152]⟩
abbrev S1x1152 : Shape := ⟨2, ![1, 1152]⟩
abbrev S1024x1024 : Shape := ⟨2, ![1024, 1024]⟩

abbrev nBuf : Space → Nat
  | .hbm => 63
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024, .f32⟩
  | .hbm, ⟨3, _⟩ => ⟨S1024x2748, .f32⟩
  | .hbm, ⟨4, _⟩ => ⟨S2748, .f32⟩
  | .hbm, ⟨5, _⟩ => ⟨S1024x128, .f32⟩
  | .hbm, ⟨6, _⟩ => ⟨S128, .f32⟩
  | .hbm, ⟨7, _⟩ => ⟨S1024x128, .f32⟩
  | .hbm, ⟨8, _⟩ => ⟨S128, .f32⟩
  | .hbm, ⟨9, _⟩ => ⟨S1024x256, .f32⟩
  | .hbm, ⟨10, _⟩ => ⟨S256, .f32⟩
  | .hbm, ⟨11, _⟩ => ⟨S1024x256, .f32⟩
  | .hbm, ⟨12, _⟩ => ⟨S256, .f32⟩
  | .hbm, ⟨13, _⟩ => ⟨S1024x16, .f32⟩
  | .hbm, ⟨14, _⟩ => ⟨S16, .f32⟩
  | .hbm, ⟨15, _⟩ => ⟨S_, .f32⟩
  | .hbm, ⟨16, _⟩ => ⟨S1024x112, .f32⟩
  | .hbm, ⟨17, _⟩ => ⟨S_, .f32⟩
  | .hbm, ⟨18, _⟩ => ⟨S112, .f32⟩
  | .hbm, ⟨19, _⟩ => ⟨S1024x512, .f32⟩
  | .hbm, ⟨20, _⟩ => ⟨S512, .f32⟩
  | .hbm, ⟨21, _⟩ => ⟨S1024x256, .f32⟩
  | .hbm, ⟨22, _⟩ => ⟨S256, .f32⟩
  | .hbm, ⟨23, _⟩ => ⟨S1024x256, .f32⟩
  | .hbm, ⟨24, _⟩ => ⟨S256, .f32⟩
  | .hbm, ⟨25, _⟩ => ⟨S1024x4, .f32⟩
  | .hbm, ⟨26, _⟩ => ⟨S4, .f32⟩
  | .hbm, ⟨27, _⟩ => ⟨S1024x4, .f32⟩
  | .hbm, ⟨28, _⟩ => ⟨S4, .f32⟩
  | .hbm, ⟨29, _⟩ => ⟨S_, .f32⟩
  | .hbm, ⟨30, _⟩ => ⟨S1024x120, .f32⟩
  | .hbm, ⟨31, _⟩ => ⟨S_, .f32⟩
  | .hbm, ⟨32, _⟩ => ⟨S120, .f32⟩
  | .hbm, ⟨33, _⟩ => ⟨S1024x512, .f32⟩
  | .hbm, ⟨34, _⟩ => ⟨S512, .f32⟩
  | .hbm, ⟨35, _⟩ => ⟨S1024x128, .f32⟩
  | .hbm, ⟨36, _⟩ => ⟨S128, .f32⟩
  | .hbm, ⟨37, _⟩ => ⟨S1024x128, .f32⟩
  | .hbm, ⟨38, _⟩ => ⟨S128, .f32⟩
  | .hbm, ⟨39, _⟩ => ⟨S1024x128, .f32⟩
  | .hbm, ⟨40, _⟩ => ⟨S128, .f32⟩
  | .hbm, ⟨41, _⟩ => ⟨S1024x32, .f32⟩
  | .hbm, ⟨42, _⟩ => ⟨S32, .f32⟩
  | .hbm, ⟨43, _⟩ => ⟨S1024x4, .f32⟩
  | .hbm, ⟨44, _⟩ => ⟨S4, .f32⟩
  | .hbm, ⟨45, _⟩ => ⟨S_, .f32⟩
  | .hbm, ⟨46, _⟩ => ⟨S1024x92, .f32⟩
  | .hbm, ⟨47, _⟩ => ⟨S_, .f32⟩
  | .hbm, ⟨48, _⟩ => ⟨S92, .f32⟩
  | .hbm, ⟨49, _⟩ => ⟨S1024x2944, .f32⟩
  | .hbm, ⟨50, _⟩ => ⟨S1024x128, .f32⟩
  | .hbm, ⟨51, _⟩ => ⟨S1024x3072, .f32⟩
  | .hbm, ⟨52, _⟩ => ⟨S2944, .f32⟩
  | .hbm, ⟨53, _⟩ => ⟨S128, .f32⟩
  | .hbm, ⟨54, _⟩ => ⟨S3072, .f32⟩
  | .hbm, ⟨55, _⟩ => ⟨S1x3072, .f32⟩
  | .hbm, ⟨56, _⟩ => ⟨S1024x3072, .bf16⟩
  | .hbm, ⟨57, _⟩ => ⟨S1x1024, .f32⟩
  | .hbm, ⟨58, _⟩ => ⟨S1x1024, .f32⟩
  | .hbm, ⟨59, _⟩ => ⟨S16896x1024, .f32⟩
  | .hbm, ⟨60, _⟩ => ⟨S16896x896, .f32⟩
  | .hbm, ⟨61, _⟩ => ⟨S16896x1152, .f32⟩
  | .hbm, ⟨62, _⟩ => ⟨S16896x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1x3072, .f32⟩
  | .local _ .vmem, ⟨6, _⟩ => ⟨S384x1024, .f32⟩
  | .local _ .vmem, ⟨7, _⟩ => ⟨S384x1024, .f32⟩
  | .local _ .vmem, ⟨8, _⟩ => ⟨S384x896, .f32⟩
  | .local _ .vmem, ⟨9, _⟩ => ⟨S384x896, .f32⟩
  | .local _ .vmem, ⟨10, _⟩ => ⟨S384x1152, .f32⟩
  | .local _ .vmem, ⟨11, _⟩ => ⟨S384x1152, .f32⟩
  | .local _ .vmem, ⟨12, _⟩ => ⟨S384x1024, .f32⟩
  | .local _ .vmem, ⟨13, _⟩ => ⟨S384x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev main_v48_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16896x1024 : Shape := ⟨2, ![16896, 1024]⟩
abbrev S1024 : Shape := ⟨1, ![1024]⟩
abbrev S1024x2748 : Shape := ⟨2, ![1024, 2748]⟩
abbrev S2748 : Shape := ⟨1, ![2748]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2748 : Shape := ⟨2, ![16896, 2748]⟩
abbrev S1x2748 : Shape := ⟨2, ![1, 2748]⟩
abbrev S16896x128 : Shape := ⟨2, ![16896, 128]⟩
abbrev S16896x256 : Shape := ⟨2, ![16896, 256]⟩
abbrev S16896x16 : Shape := ⟨2, ![16896, 16]⟩
abbrev S16896x512 : Shape := ⟨2, ![16896, 512]⟩
abbrev S16896x4 : Shape := ⟨2, ![16896, 4]⟩
abbrev S16896x32 : Shape := ⟨2, ![16896, 32]⟩
abbrev S16896x112 : Shape := ⟨2, ![16896, 112]⟩
abbrev S16896x896 : Shape := ⟨2, ![16896, 896]⟩
abbrev S16896x120 : Shape := ⟨2, ![16896, 120]⟩
abbrev S16896x1152 : Shape := ⟨2, ![16896, 1152]⟩
abbrev S16896x92 : Shape := ⟨2, ![16896, 92]⟩

abbrev nBuf : Space → Nat
  | .hbm => 63
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024, .f32⟩
  | .hbm, ⟨3, _⟩ => ⟨S1024x2748, .f32⟩
  | .hbm, ⟨4, _⟩ => ⟨S2748, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S16896x1024, .f32⟩
  | .hbm, ⟨12, _⟩ => ⟨S16896x1024, .f32⟩
  | .hbm, ⟨13, _⟩ => ⟨S16896x1024, .f32⟩
  | .hbm, ⟨14, _⟩ => ⟨S_, .f32⟩
  | .hbm, ⟨15, _⟩ => ⟨S16896, .f32⟩
  | .hbm, ⟨16, _⟩ => ⟨S16896x1, .f32⟩
  | .hbm, ⟨17, _⟩ => ⟨S_, .f32⟩
  | .hbm, ⟨18, _⟩ => ⟨S16896x1, .f32⟩
  | .hbm, ⟨19, _⟩ => ⟨S16896x1, .f32⟩
  | .hbm, ⟨20, _⟩ => ⟨S16896x1024, .f32⟩
  | .hbm, ⟨21, _⟩ => ⟨S16896x1024, .f32⟩
  | .hbm, ⟨22, _⟩ => ⟨S_, .f32⟩
  | .hbm, ⟨23, _⟩ => ⟨S16896x1, .f32⟩
  | .hbm, ⟨24, _⟩ => ⟨S16896x1, .f32⟩
  | .hbm, ⟨25, _⟩ => ⟨S16896x1, .f32⟩
  | .hbm, ⟨26, _⟩ => ⟨S16896x1024, .f32⟩
  | .hbm, ⟨27, _⟩ => ⟨S16896x1024, .f32⟩
  | .hbm, ⟨28, _⟩ => ⟨S1x1024, .f32⟩
  | .hbm, ⟨29, _⟩ => ⟨S16896x1024, .f32⟩
  | .hbm, ⟨30, _⟩ => ⟨S16896x1024, .f32⟩
  | .hbm, ⟨31, _⟩ => ⟨S1x1024, .f32⟩
  | .hbm, ⟨32, _⟩ => ⟨S16896x1024, .f32⟩
  | .hbm, ⟨33, _⟩ => ⟨S16896x1024, .f32⟩
  | .hbm, ⟨34, _⟩ => ⟨S16896x2748, .f32⟩
  | .hbm, ⟨35, _⟩ => ⟨S1x2748, .f32⟩
  | .hbm, ⟨36, _⟩ => ⟨S16896x2748, .f32⟩
  | .hbm, ⟨37, _⟩ => ⟨S16896x2748, .f32⟩
  | .hbm, ⟨38, _⟩ => ⟨S16896x128, .f32⟩
  | .hbm, ⟨39, _⟩ => ⟨S16896x128, .f32⟩
  | .hbm, ⟨40, _⟩ => ⟨S16896x256, .f32⟩
  | .hbm, ⟨41, _⟩ => ⟨S16896x16, .f32⟩
  | .hbm, ⟨42, _⟩ => ⟨S16896x256, .f32⟩
  | .hbm, ⟨43, _⟩ => ⟨S16896x512, .f32⟩
  | .hbm, ⟨44, _⟩ => ⟨S16896x256, .f32⟩
  | .hbm, ⟨45, _⟩ => ⟨S16896x4, .f32⟩
  | .hbm, ⟨46, _⟩ => ⟨S16896x4, .f32⟩
  | .hbm, ⟨47, _⟩ => ⟨S16896x256, .f32⟩
  | .hbm, ⟨48, _⟩ => ⟨S16896x512, .f32⟩
  | .hbm, ⟨49, _⟩ => ⟨S16896x128, .f32⟩
  | .hbm, ⟨50, _⟩ => ⟨S16896x128, .f32⟩
  | .hbm, ⟨51, _⟩ => ⟨S16896x128, .f32⟩
  | .hbm, ⟨52, _⟩ => ⟨S16896x4, .f32⟩
  | .hbm, ⟨53, _⟩ => ⟨S16896x32, .f32⟩
  | .hbm, ⟨54, _⟩ => ⟨S_, .f32⟩
  | .hbm, ⟨55, _⟩ => ⟨S16896x112, .f32⟩
  | .hbm, ⟨56, _⟩ => ⟨S16896x896, .f32⟩
  | .hbm, ⟨57, _⟩ => ⟨S_, .f32⟩
  | .hbm, ⟨58, _⟩ => ⟨S16896x120, .f32⟩
  | .hbm, ⟨59, _⟩ => ⟨S16896x1152, .f32⟩
  | .hbm, ⟨60, _⟩ => ⟨S_, .f32⟩
  | .hbm, ⟨61, _⟩ => ⟨S16896x92, .f32⟩
  | .hbm, ⟨62, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel4.lean ====
abbrev S128x896 : Shape := ⟨2, ![128, 896]⟩
abbrev S128x1152 : Shape := ⟨2, ![128, 1152]⟩
abbrev S16x128 : Shape := ⟨2, ![16, 128]⟩
abbrev S128 : Shape := ⟨1, ![128]⟩
abbrev S256 : Shape := ⟨1, ![256]⟩
abbrev S4x512 : Shape := ⟨2, ![4, 512]⟩
abbrev S512 : Shape := ⟨1, ![512]⟩
abbrev S4 : Shape := ⟨1, ![4]⟩
abbrev S8x4x32x64 : Shape := ⟨4, ![8, 4, 32, 64]⟩
abbrev S8x4x64x64 : Shape := ⟨4, ![8, 4, 64, 64]⟩
abbrev S8x4x64 : Shape := ⟨3, ![8, 4, 64]⟩
abbrev S8x4 : Shape := ⟨2, ![8, 4]⟩
abbrev S8x3x512 : Shape := ⟨3, ![8, 3, 512]⟩
abbrev S_ : Shape := ⟨0, ![]⟩
abbrev S128x128 : Shape := ⟨2, ![128, 128]⟩
abbrev S1x128 : Shape := ⟨2, ![1, 128]⟩
abbrev S8x4x64x32 : Shape := ⟨4, ![8, 4, 64, 32]⟩
abbrev S4x4 : Shape := ⟨2, ![4, 4]⟩
abbrev S8x4x64x1x32 : Shape := ⟨5, ![8, 4, 64, 1, 32]⟩
abbrev S1x4x1x4x1 : Shape := ⟨5, ![1, 4, 1, 4, 1]⟩
abbrev S8x4x64x4x32 : Shape := ⟨5, ![8, 4, 64, 4, 32]⟩
abbrev S8x256x128 : Shape := ⟨3, ![8, 256, 128]⟩
abbrev S8x4x64x1x64 : Shape := ⟨5, ![8, 4, 64, 1, 64]⟩
abbrev S8x4x64x4x64 : Shape := ⟨5, ![8, 4, 64, 4, 64]⟩
abbrev S8x256x256 : Shape := ⟨3, ![8, 256, 256]⟩
abbrev S8x1x256 : Shape := ⟨3, ![8, 1, 256]⟩
abbrev S8x128 : Shape := ⟨2, ![8, 128]⟩
abbrev S8x1x128 : Shape := ⟨3, ![8, 1, 128]⟩
abbrev S8x8x512 : Shape := ⟨3, ![8, 8, 512]⟩
abbrev S1x256 : Shape := ⟨2, ![1, 256]⟩
abbrev S1x512 : Shape := ⟨2, ![1, 512]⟩
abbrev S8x16x896 : Shape := ⟨3, ![8, 16, 896]⟩
abbrev S8x16x1152 : Shape := ⟨3, ![8, 16, 1152]⟩
abbrev S8x16x256 : Shape := ⟨3, ![8, 16, 256]⟩
abbrev S2x16x896 : Shape := ⟨3, ![2, 16, 896]⟩
abbrev S2x16x1152 : Shape := ⟨3, ![2, 16, 1152]⟩
abbrev S2x256x128 : Shape := ⟨3, ![2, 256, 128]⟩
abbrev S2x256x256 : Shape := ⟨3, ![2, 256, 256]⟩
abbrev S2x1x256 : Shape := ⟨3, ![2, 1, 256]⟩
abbrev S2x1x128 : Shape := ⟨3, ![2, 1, 128]⟩
abbrev S2x8x512 : Shape := ⟨3, ![2, 8, 512]⟩
abbrev S2x16x256 : Shape := ⟨3, ![2, 16, 256]⟩
abbrev S2x24x512 : Shape := ⟨3, ![2, 24, 512]⟩
abbrev S1x16x896 : Shape := ⟨3, ![1, 16, 896]⟩
abbrev S16x896 : Shape := ⟨2, ![16, 896]⟩
abbrev S1x256x128 : Shape := ⟨3, ![1, 256, 128]⟩
abbrev S256x128 : Shape := ⟨2, ![256, 128]⟩
abbrev S16x256 : Shape := ⟨2, ![16, 256]⟩
abbrev S16x1 : Shape := ⟨2, ![16, 1]⟩
abbrev S16x16 : Shape := ⟨2, ![16, 16]⟩
abbrev S64x128 : Shape := ⟨2, ![64, 128]⟩
abbrev S64x16 : Shape := ⟨2, ![64, 16]⟩
abbrev S64x256 : Shape := ⟨2, ![64, 256]⟩
abbrev S64 : Shape := ⟨1, ![64]⟩
abbrev S64x1 : Shape := ⟨2, ![64, 1]⟩
abbrev S1x16x256 : Shape := ⟨3, ![1, 16, 256]⟩
abbrev S1x16x1152 : Shape := ⟨3, ![1, 16, 1152]⟩
abbrev S16x1152 : Shape := ⟨2, ![16, 1152]⟩
abbrev S1x256x256 : Shape := ⟨3, ![1, 256, 256]⟩
abbrev S256x256 : Shape := ⟨2, ![256, 256]⟩
abbrev S1x1x256 : Shape := ⟨3, ![1, 1, 256]⟩
abbrev S1x1x128 : Shape := ⟨3, ![1, 1, 128]⟩
abbrev S16x512 : Shape := ⟨2, ![16, 512]⟩
abbrev S1x24x512 : Shape := ⟨3, ![1, 24, 512]⟩
abbrev S24x512 : Shape := ⟨2, ![24, 512]⟩
abbrev S8x512 : Shape := ⟨2, ![8, 512]⟩
abbrev S112x128 : Shape := ⟨2, ![112, 128]⟩
abbrev S1x1 : Shape := ⟨2, ![1, 1]⟩
abbrev S1x16 : Shape := ⟨2, ![1, 16]⟩

abbrev nBuf : Space → Nat
  | .hbm => 69
  | .vmem => 38
  | .smem => 0
  | _ => 0

abbrev bufTy : (tb : Table) → Fin (tcTables nBuf tb) → BufTy
  | .hbm, ⟨0, _⟩ => ⟨S128x896, .f32⟩
  | .hbm, ⟨1, _⟩ => ⟨S128x1152, .f32⟩
  | .hbm, ⟨2, _⟩ => ⟨S16x128, .f32⟩
  | .hbm, ⟨3, _⟩ => ⟨S128, .f32⟩
  | .hbm, ⟨4, _⟩ => ⟨S256, .f32⟩
  | .hbm, ⟨5, _⟩ => ⟨S4x512, .f32⟩
  | .hbm, ⟨6, _⟩ => ⟨S512, .f32⟩
  | .hbm, ⟨7, _⟩ => ⟨S4, .f32⟩
  | .hbm, ⟨8, _⟩ => ⟨S256, .f32⟩
  | .hbm, ⟨9, _⟩ => ⟨S8x4x32x64, .f32⟩
  | .hbm, ⟨10, _⟩ => ⟨S8x4x64x64, .f32⟩
  | .hbm, ⟨11, _⟩ => ⟨S8x4x64, .f32⟩
  | .hbm, ⟨12, _⟩ => ⟨S8x4, .f32⟩
  | .hbm, ⟨13, _⟩ => ⟨S8x3x512, .f32⟩
  | .hbm, ⟨14, _⟩ => ⟨S_, .i32⟩
  | .hbm, ⟨15, _⟩ => ⟨S_, .f32⟩
  | .hbm, ⟨16, _⟩ => ⟨S128x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S8x4x64x32, .f32⟩
  | .hbm, ⟨22, _⟩ => ⟨S4x4, .i32⟩
  | .hbm, ⟨23, _⟩ => ⟨S4x4, .i32⟩
  | .hbm, ⟨24, _⟩ => ⟨S_, .i32⟩
  | .hbm, ⟨25, _⟩ => ⟨S4x4, .i32⟩
  | .hbm, ⟨26, _⟩ => ⟨S4x4, .i32⟩
  | .hbm, ⟨27, _⟩ => ⟨S4x4, .i1⟩
  | .hbm, ⟨28, _⟩ => ⟨S4x4, .f32⟩
  | .hbm, ⟨29, _⟩ => ⟨S8x4x64x1x32, .f32⟩
  | .hbm, ⟨30, _⟩ => ⟨S1x4x1x4x1, .f32⟩
  | .hbm, ⟨31, _⟩ => ⟨S8x4x64x4x32, .f32⟩
  | .hbm, ⟨32, _⟩ => ⟨S8x4x64x4x32, .f32⟩
  | .hbm, ⟨33, _⟩ => ⟨S8x4x64x4x32, .f32⟩
  | .hbm, ⟨34, _⟩ => ⟨S8x256x128, .f32⟩
  | .hbm, ⟨35, _⟩ => ⟨S8x4x64x64, .f32⟩
  | .hbm, ⟨36, _⟩ => ⟨S4x4, .i32⟩
  | .hbm, ⟨37, _⟩ => ⟨S4x4, .i32⟩
  | .hbm, ⟨38, _⟩ => ⟨S_, .i32⟩
  | .hbm, ⟨39, _⟩ => ⟨S4x4, .i32⟩
  | .hbm, ⟨40, _⟩ => ⟨S4x4, .i32⟩
  | .hbm, ⟨41, _⟩ => ⟨S4x4, .i1⟩
  | .hbm, ⟨42, _⟩ => ⟨S4x4, .f32⟩
  | .hbm, ⟨43, _⟩ => ⟨S8x4x64x1x64, .f32⟩
  | .hbm, ⟨44, _⟩ => ⟨S1x4x1x4x1, .f32⟩
  | .hbm, ⟨45, _⟩ => ⟨S8x4x64x4x64, .f32⟩
  | .hbm, ⟨46, _⟩ => ⟨S8x4x64x4x64, .f32⟩
  | .hbm, ⟨47, _⟩ => ⟨S8x4x64x4x64, .f32⟩
  | .hbm, ⟨48, _⟩ => ⟨S8x256x256, .f32⟩
  | .hbm, ⟨49, _⟩ => ⟨S8x1x256, .f32⟩
  | .hbm, ⟨50, _⟩ => ⟨S_, .i32⟩
  | .hbm, ⟨51, _⟩ => ⟨S_, .f32⟩
  | .hbm, ⟨52, _⟩ => ⟨S8x128, .f32⟩
  | .hbm, ⟨53, _⟩ => ⟨S8x1x128, .f32⟩
  | .hbm, ⟨54, _⟩ => ⟨S_, .i32⟩
  | .hbm, ⟨55, _⟩ => ⟨S_, .f32⟩
  | .hbm, ⟨56, _⟩ => ⟨S8x8x512, .f32⟩
  | .hbm, ⟨57, _⟩ => ⟨S1x128, .f32⟩
  | .hbm, ⟨58, _⟩ => ⟨S1x256, .f32⟩
  | .hbm, ⟨59, _⟩ => ⟨S1x512, .f32⟩
  | .hbm, ⟨60, _⟩ => ⟨S1x256, .f32⟩
  | .hbm, ⟨61, _⟩ => ⟨S8x16x896, .f32⟩
  | .hbm, ⟨62, _⟩ => ⟨S8x16x1152, .f32⟩
  | .hbm, ⟨63, _⟩ => ⟨S8x16x256, .f32⟩
  | .hbm, ⟨64, _⟩ => ⟨S8x16x256, .f32⟩
  | .hbm, ⟨65, _⟩ => ⟨S8x256x128, .f32⟩
  | .hbm, ⟨66, _⟩ => ⟨S8x256x256, .f32⟩
  | .hbm, ⟨67, _⟩ => ⟨S8x1x256, .f32⟩
  | .hbm, ⟨68, _⟩ => ⟨S8x1x128, .f32⟩
  | .local _ .vmem, ⟨0, _⟩ => ⟨S2x16x896, .f32⟩
  | .local _ .vmem, ⟨1, _⟩ => ⟨S2x16x896, .f32⟩
  | .local _ .vmem, ⟨2, _⟩ => ⟨S2x16x1152, .f32⟩
  | .local _ .vmem, ⟨3, _⟩ => ⟨S2x16x1152, .f32⟩
  | .local _ .vmem, ⟨4, _⟩ => ⟨S128x128, .f32⟩
  | .local _ .vmem, ⟨5, _⟩ => ⟨S1x128, .f32⟩
  | .local _ .vmem, ⟨6, _⟩ => ⟨S1x256, .f32⟩
  | .local _ .vmem, ⟨7, _⟩ => ⟨S4x512, .f32⟩
  | .local _ .vmem, ⟨8, _⟩ => ⟨S1x512, .f32⟩
  | .local _ .vmem, ⟨9, _⟩ => ⟨S1x128, .f32⟩
  | .local _ .vmem, ⟨10, _⟩ => ⟨S1x256, .f32⟩
  | .local _ .vmem, ⟨11, _⟩ => ⟨S2x256x128, .f32⟩
  | .local _ .vmem, ⟨12, _⟩ => ⟨S2x256x128, .f32⟩
  | .local _ .vmem, ⟨13, _⟩ => ⟨S2x256x256, .f32⟩
  | .local _ .vmem, ⟨14, _⟩ => ⟨S2x256x256, .f32⟩
  | .local _ .vmem, ⟨15, _⟩ => ⟨S2x1x256, .f32⟩
  | .local _ .vmem, ⟨16, _⟩ => ⟨S2x1x256, .f32⟩
  | .local _ .vmem, ⟨17, _⟩ => ⟨S2x1x128, .f32⟩
  | .local _ .vmem, ⟨18, _⟩ => ⟨S2x1x128, .f32⟩
  | .local _ .vmem, ⟨19, _⟩ => ⟨S2x8x512, .f32⟩
  | .local _ .vmem, ⟨20, _⟩ => ⟨S2x8x512, .f32⟩
  | .local _ .vmem, ⟨21, _⟩ => ⟨S2x16x256, .f32⟩
  | .local _ .vmem, ⟨22, _⟩ => ⟨S2x16x256, .f32⟩
  | .local _ .vmem, ⟨23, _⟩ => ⟨S2x16x256, .f32⟩
  | .local _ .vmem, ⟨24, _⟩ => ⟨S2x16x256, .f32⟩
  | .local _ .vmem, ⟨25, _⟩ => ⟨S2x256x128, .f32⟩
  | .local _ .vmem, ⟨26, _⟩ => ⟨S2x256x128, .f32⟩
  | .local _ .vmem, ⟨27, _⟩ => ⟨S2x256x256, .f32⟩
  | .local _ .vmem, ⟨28, _⟩ => ⟨S2x256x256, .f32⟩
  | .local _ .vmem, ⟨29, _⟩ => ⟨S2x1x256, .f32⟩
  | .local _ .vmem, ⟨30, _⟩ => ⟨S2x1x256, .f32⟩
  | .local _ .vmem, ⟨31, _⟩ => ⟨S2x1x128, .f32⟩
  | .local _ .vmem, ⟨32, _⟩ => ⟨S2x1x128, .f32⟩
  | .local _ .vmem, ⟨33, _⟩ => ⟨S2x256x128, .f32⟩
  | .local _ .vmem, ⟨34, _⟩ => ⟨S2x256x256, .f32⟩
  | .local _ .vmem, ⟨35, _⟩ => ⟨S2x1x256, .f32⟩
  | .local _ .vmem, ⟨36, _⟩ => ⟨S2x1x128, .f32⟩
  | .local _ .vmem, ⟨37, _⟩ => ⟨S2x24x512, .f32⟩
  | _, _ => ⟨S128x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_call2_v0 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev main_v39_2 : Ref sig .tc := ⟨.hbm, 65, rfl⟩
abbrev main_v39_3 : Ref sig .tc := ⟨.hbm, 66, rfl⟩
abbrev main_v39_4 : Ref sig .tc := ⟨.hbm, 67, rfl⟩
abbrev main_v39_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2x16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S2x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S2x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S2x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference4Ideal.lean ====
abbrev S128x896 : Shape := ⟨2, ![128, 896]⟩
abbrev S128x1152 : Shape := ⟨2, ![128, 1152]⟩
abbrev S16x128 : Shape := ⟨2, ![16, 128]⟩
abbrev S128 : Shape := ⟨1, ![128]⟩
abbrev S256 : Shape := ⟨1, ![256]⟩
abbrev S4x512 : Shape := ⟨2, ![4, 512]⟩
abbrev S512 : Shape := ⟨1, ![512]⟩
abbrev S4 : Shape := ⟨1, ![4]⟩
abbrev S8x4x32x64 : Shape := ⟨4, ![8, 4, 32, 64]⟩
abbrev S8x4x64x64 : Shape := ⟨4, ![8, 4, 64, 64]⟩
abbrev S8x4x64 : Shape := ⟨3, ![8, 4, 64]⟩
abbrev S8x4 : Shape := ⟨2, ![8, 4]⟩
abbrev S8x3x512 : Shape := ⟨3, ![8, 3, 512]⟩
abbrev S128x128 : Shape := ⟨2, ![128, 128]⟩
abbrev S128x256 : Shape := ⟨2, ![128, 256]⟩
abbrev S128x16 : Shape := ⟨2, ![128, 16]⟩
abbrev S128x512 : Shape := ⟨2, ![128, 512]⟩
abbrev S128x4 : Shape := ⟨2, ![128, 4]⟩
abbrev S1x128 : Shape := ⟨2, ![1, 128]⟩
abbrev S_ : Shape := ⟨0, ![]⟩
abbrev S8x16x4x32 : Shape := ⟨4, ![8, 16, 4, 32]⟩
abbrev S8x16x4x64 : Shape := ⟨4, ![8, 16, 4, 64]⟩
abbrev S8x1x4x32 : Shape := ⟨4, ![8, 1, 4, 32]⟩
abbrev S8x4x32 : Shape := ⟨3, ![8, 4, 32]⟩
abbrev S8x4x32x1 : Shape := ⟨4, ![8, 4, 32, 1]⟩
abbrev S8x16x512 : Shape := ⟨3, ![8, 16, 512]⟩
abbrev S8x19x512 : Shape := ⟨3, ![8, 19, 512]⟩
abbrev S1x512 : Shape := ⟨2, ![1, 512]⟩
abbrev S1x1x512 : Shape := ⟨3, ![1, 1, 512]⟩
abbrev S8x16x256 : Shape := ⟨3, ![8, 16, 256]⟩
abbrev S8x16x4 : Shape := ⟨3, ![8, 16, 4]⟩
abbrev S1x4 : Shape := ⟨2, ![1, 4]⟩
abbrev S16x16 : Shape := ⟨2, ![16, 16]⟩
abbrev S1x16x16x1 : Shape := ⟨4, ![1, 16, 16, 1]⟩
abbrev S8x16x1x4 : Shape := ⟨4, ![8, 16, 1, 4]⟩
abbrev S8x1x16x4 : Shape := ⟨4, ![8, 1, 16, 4]⟩
abbrev S8x16x16x4 : Shape := ⟨4, ![8, 16, 16, 4]⟩
abbrev S8x1x4 : Shape := ⟨3, ![8, 1, 4]⟩
abbrev S8x4x1x1 : Shape := ⟨4, ![8, 4, 1, 1]⟩
abbrev S8x16x4x1 : Shape := ⟨4, ![8, 16, 4, 1]⟩
abbrev S8x4x1 : Shape := ⟨3, ![8, 4, 1]⟩
abbrev S4x1 : Shape := ⟨2, ![4, 1]⟩
abbrev S4x4 : Shape := ⟨2, ![4, 4]⟩
abbrev S1x4x1x4x1 : Shape := ⟨5, ![1, 4, 1, 4, 1]⟩
abbrev S8x4x64x32 : Shape := ⟨4, ![8, 4, 64, 32]⟩
abbrev S8x4x64x1x32 : Shape := ⟨5, ![8, 4, 64, 1, 32]⟩
abbrev S8x4x64x4x32 : Shape := ⟨5, ![8, 4, 64, 4, 32]⟩
abbrev S8x256x128 : Shape := ⟨3, ![8, 256, 128]⟩
abbrev S8x4x64x1x64 : Shape := ⟨5, ![8, 4, 64, 1, 64]⟩
abbrev S8x4x64x4x64 : Shape := ⟨5, ![8, 4, 64, 4, 64]⟩
abbrev S8x256x256 : Shape := ⟨3, ![8, 256, 256]⟩
abbrev S8x1x256 : Shape := ⟨3, ![8, 1, 256]⟩
abbrev S8x128 : Shape := ⟨2, ![8, 128]⟩
abbrev S8x1x128 : Shape := ⟨3, ![8, 1, 128]⟩

abbrev nBuf : Space → Nat
  | .hbm => 230
  | .vmem => 0
  | .smem => 0
  | _ => 0

abbrev hbmTy0_0 (i : Nat) : BufTy := match i % 128 with
  | 0 => ⟨S128x896, .f32⟩
  | 1 => ⟨S128x1152, .f32⟩
  | 2 => ⟨S16x128, .f32⟩
  | 3 => ⟨S128, .f32⟩
  | 4 => ⟨S256, .f32⟩
  | 5 => ⟨S4x512, .f32⟩
  | 6 => ⟨S512, .f32⟩
  | 7 => ⟨S4, .f32⟩
  | 8 => ⟨S256, .f32⟩
  | 9 => ⟨S8x4x32x64, .f32⟩
  | 10 => ⟨S8x4x64x64, .f32⟩
  | 11 => ⟨S8x4x64, .f32⟩
  | 12 => ⟨S8x4, .f32⟩
  | 13 => ⟨S8x3x512, .f32⟩
  | 14 => ⟨S128x128, .f32⟩
  | 15 => ⟨S128x256, .f32⟩
  | 16 => ⟨S128x16, .f32⟩
  | 17 => ⟨S128x512, .f32⟩
  | 18 => ⟨S128x256, .f32⟩
  | 19 => ⟨S128x4, .f32⟩
  | 20 => ⟨S128x4, .f32⟩
  | 21 => ⟨S128x128, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .f32⟩
  | 29 => ⟨S128x128, .f32⟩
  | 30 => ⟨S128x128, .f32⟩
  | 31 => ⟨S128x128, .i1⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S128x128, .f32⟩
  | 41 => ⟨S8x16x4x32, .f32⟩
  | 42 => ⟨S_, .f32⟩
  | 43 => ⟨S8x16x4x32, .f32⟩
  | 44 => ⟨S8x16x4x32, .f32⟩
  | 45 => ⟨S8x16x4x32, .f32⟩
  | 46 => ⟨S8x16x4x64, .f32⟩
  | 47 => ⟨S_, .f32⟩
  | 48 => ⟨S_, .f32⟩
  | 49 => ⟨S8x16x4x32, .f32⟩
  | 50 => ⟨S8x1x4x32, .f32⟩
  | 51 => ⟨S8x4x32, .f32⟩
  | 52 => ⟨S8x4x32, .f32⟩
  | 53 => ⟨S8x4x32x1, .f32⟩
  | 54 => ⟨S8x4x32x64, .f32⟩
  | 55 => ⟨S8x4x32x64, .f32⟩
  | 56 => ⟨S8x1x4x32, .f32⟩
  | 57 => ⟨S8x16x4x32, .f32⟩
  | 58 => ⟨S8x16x4x32, .f32⟩
  | 59 => ⟨S8x16x4x32, .f32⟩
  | 60 => ⟨S8x16x4x32, .f32⟩
  | 61 => ⟨S8x4x32x64, .f32⟩
  | 62 => ⟨S8x4x32x64, .f32⟩
  | 63 => ⟨S8x16x512, .f32⟩
  | 64 => ⟨S8x19x512, .f32⟩
  | 65 => ⟨S8x16x512, .f32⟩
  | 66 => ⟨S1x512, .f32⟩
  | 67 => ⟨S512, .f32⟩
  | 68 => ⟨S1x1x512, .f32⟩
  | 69 => ⟨S8x16x512, .f32⟩
  | 70 => ⟨S8x16x512, .f32⟩
  | 71 => ⟨S_, .f32⟩
  | 72 => ⟨S8x16x512, .f32⟩
  | 73 => ⟨S8x16x512, .f32⟩
  | 74 => ⟨S8x16x512, .f32⟩
  | 75 => ⟨S1x512, .f32⟩
  | 76 => ⟨S512, .f32⟩
  | 77 => ⟨S1x1x512, .f32⟩
  | 78 => ⟨S8x16x512, .f32⟩
  | 79 => ⟨S8x16x512, .f32⟩
  | 80 => ⟨S8x16x512, .f32⟩
  | 81 => ⟨S8x16x512, .f32⟩
  | 82 => ⟨S1x512, .f32⟩
  | 83 => ⟨S512, .f32⟩
  | 84 => ⟨S1x1x512, .f32⟩
  | 85 => ⟨S8x16x512, .f32⟩
  | 86 => ⟨S8x16x512, .f32⟩
  | 87 => ⟨S8x16x512, .f32⟩
  | 88 => ⟨S8x16x512, .f32⟩
  | 89 => ⟨S1x512, .f32⟩
  | 90 => ⟨S512, .f32⟩
  | 91 => ⟨S1x1x512, .f32⟩
  | 92 => ⟨S8x16x512, .f32⟩
  | 93 => ⟨S8x16x512, .f32⟩
  | 94 => ⟨S8x16x512, .f32⟩
  | 95 => ⟨S1x1x512, .f32⟩
  | 96 => ⟨S8x16x512, .f32⟩
  | 97 => ⟨S8x16x512, .f32⟩
  | 98 => ⟨S8x16x512, .f32⟩
  | 99 => ⟨S8x16x512, .f32⟩
  | 100 => ⟨S_, .f32⟩
  | 101 => ⟨S8x16x512, .f32⟩
  | 102 => ⟨S8x16x512, .f32⟩
  | 103 => ⟨S_, .f32⟩
  | 104 => ⟨S8x16x512, .f32⟩
  | 105 => ⟨S8x16x512, .f32⟩
  | 106 => ⟨S8x16x512, .f32⟩
  | 107 => ⟨S8x16x256, .f32⟩
  | 108 => ⟨S8x16x4x64, .f32⟩
  | 109 => ⟨S_, .f32⟩
  | 110 => ⟨S8x16x4x64, .f32⟩
  | 111 => ⟨S8x16x4x64, .f32⟩
  | 112 => ⟨S8x16x4x64, .f32⟩
  | 113 => ⟨S8x16x4, .f32⟩
  | 114 => ⟨S1x4, .f32⟩
  | 115 => ⟨S128x4, .f32⟩
  | 116 => ⟨S128x4, .f32⟩
  | 117 => ⟨S128x4, .f32⟩
  | 118 => ⟨S_, .f32⟩
  | 119 => ⟨S128x4, .f32⟩
  | 120 => ⟨S128x4, .f32⟩
  | 121 => ⟨S128x4, .f32⟩
  | 122 => ⟨S128x4, .f32⟩
  | 123 => ⟨S128x4, .i1⟩
  | 124 => ⟨S128x4, .f32⟩
  | 125 => ⟨S128x4, .f32⟩
  | 126 => ⟨S128x4, .f32⟩
  | 127 => ⟨S128x4, .f32⟩
  | _ => ⟨S128x896, .f32⟩

abbrev hbmTy0_1 (i : Nat) : BufTy := match i % 128 with
  | 0 => ⟨S128x4, .f32⟩
  | 1 => ⟨S128x4, .f32⟩
  | 2 => ⟨S128x4, .f32⟩
  | 3 => ⟨S128x4, .f32⟩
  | 4 => ⟨S128x4, .f32⟩
  | 5 => ⟨S8x16x4, .f32⟩
  | 6 => ⟨S_, .f32⟩
  | 7 => ⟨S_, .f32⟩
  | 8 => ⟨S8x16x4, .f32⟩
  | 9 => ⟨S_, .i1⟩
  | 10 => ⟨S16x16, .i1⟩
  | 11 => ⟨S16x16, .i32⟩
  | 12 => ⟨S_, .i32⟩
  | 13 => ⟨S16x16, .i32⟩
  | 14 => ⟨S16x16, .i32⟩
  | 15 => ⟨S16x16, .i32⟩
  | 16 => ⟨S16x16, .i1⟩
  | 17 => ⟨S_, .i1⟩
  | 18 => ⟨S16x16, .i1⟩
  | 19 => ⟨S16x16, .i1⟩
  | 20 => ⟨S1x16x16x1, .i1⟩
  | 21 => ⟨S8x16x1x4, .f32⟩
  | 22 => ⟨S8x1x16x4, .f32⟩
  | 23 => ⟨S8x16x16x4, .f32⟩
  | 24 => ⟨S8x16x16x4, .f32⟩
  | 25 => ⟨S8x16x16x4, .f32⟩
  | 26 => ⟨S8x1x16x4, .f32⟩
  | 27 => ⟨S8x16x16x4, .f32⟩
  | 28 => ⟨S8x16x16x4, .f32⟩
  | 29 => ⟨S_, .f32⟩
  | 30 => ⟨S_, .f32⟩
  | 31 => ⟨S8x16x16x4, .i1⟩
  | 32 => ⟨S8x16x16x4, .f32⟩
  | 33 => ⟨S8x16x16x4, .f32⟩
  | 34 => ⟨S8x1x4, .f32⟩
  | 35 => ⟨S8x16x4, .f32⟩
  | 36 => ⟨S8x16x4, .f32⟩
  | 37 => ⟨S_, .f32⟩
  | 38 => ⟨S8x16x4, .f32⟩
  | 39 => ⟨S8x16x4, .f32⟩
  | 40 => ⟨S8x1x4, .f32⟩
  | 41 => ⟨S8x4, .f32⟩
  | 42 => ⟨S8x1x4, .f32⟩
  | 43 => ⟨S8x16x4, .f32⟩
  | 44 => ⟨S8x16x4, .f32⟩
  | 45 => ⟨S8x16x4, .f32⟩
  | 46 => ⟨S8x1x4, .f32⟩
  | 47 => ⟨S8x16x4, .f32⟩
  | 48 => ⟨S8x16x4, .f32⟩
  | 49 => ⟨S8x16x4, .f32⟩
  | 50 => ⟨S8x1x4, .f32⟩
  | 51 => ⟨S8x4, .f32⟩
  | 52 => ⟨S8x4, .f32⟩
  | 53 => ⟨S8x4, .f32⟩
  | 54 => ⟨S8x4, .f32⟩
  | 55 => ⟨S8x4x1x1, .f32⟩
  | 56 => ⟨S8x4x64x64, .f32⟩
  | 57 => ⟨S8x4x64x64, .f32⟩
  | 58 => ⟨S8x16x4x1, .f32⟩
  | 59 => ⟨S8x16x4x64, .f32⟩
  | 60 => ⟨S8x16x4x64, .f32⟩
  | 61 => ⟨S8x4x64x64, .f32⟩
  | 62 => ⟨S8x4x64x64, .f32⟩
  | 63 => ⟨S8x4x1, .f32⟩
  | 64 => ⟨S8x4x64, .f32⟩
  | 65 => ⟨S8x4x64, .f32⟩
  | 66 => ⟨S8x16x4x1, .f32⟩
  | 67 => ⟨S8x16x4x64, .f32⟩
  | 68 => ⟨S8x16x4x64, .f32⟩
  | 69 => ⟨S_, .f32⟩
  | 70 => ⟨S8x4x64, .f32⟩
  | 71 => ⟨S8x4x64, .f32⟩
  | 72 => ⟨S4, .i32⟩
  | 73 => ⟨S4x1, .i32⟩
  | 74 => ⟨S1x4, .i32⟩
  | 75 => ⟨S4x4, .i32⟩
  | 76 => ⟨S4x4, .i32⟩
  | 77 => ⟨S4x4, .i1⟩
  | 78 => ⟨S1x4x1x4x1, .i1⟩
  | 79 => ⟨S8x4x64x32, .f32⟩
  | 80 => ⟨S8x4x64x1x32, .f32⟩
  | 81 => ⟨S_, .f32⟩
  | 82 => ⟨S_, .f32⟩
  | 83 => ⟨S8x4x64x4x32, .i1⟩
  | 84 => ⟨S8x4x64x4x32, .f32⟩
  | 85 => ⟨S8x4x64x4x32, .f32⟩
  | 86 => ⟨S8x4x64x4x32, .f32⟩
  | 87 => ⟨S8x256x128, .f32⟩
  | 88 => ⟨S8x4x64x64, .f32⟩
  | 89 => ⟨S8x4x64x1x64, .f32⟩
  | 90 => ⟨S_, .f32⟩
  | 91 => ⟨S_, .f32⟩
  | 92 => ⟨S8x4x64x4x64, .i1⟩
  | 93 => ⟨S8x4x64x4x64, .f32⟩
  | 94 => ⟨S8x4x64x4x64, .f32⟩
  | 95 => ⟨S8x4x64x4x64, .f32⟩
  | 96 => ⟨S8x256x256, .f32⟩
  | 97 => ⟨S8x1x256, .f32⟩
  | 98 => ⟨S_, .i32⟩
  | 99 => ⟨S_, .f32⟩
  | 100 => ⟨S8x128, .f32⟩
  | 101 => ⟨S8x1x128, .f32⟩
  | _ => ⟨S128x896, .f32⟩

abbrev hbmTy (i : Nat) : BufTy := match i / 128 with
  | 0 => hbmTy0_0 i
  | 1 => hbmTy0_1 i
  | _ => ⟨S128x896, .f32⟩

abbrev bufTy : (tb : Table) → Fin (tcTables nBuf tb) → BufTy
  | .hbm, ⟨i, _⟩ => hbmTy i
  | _, _ => ⟨S128x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call1_call0_cst : Ref sig .tc := ⟨.hbm, 47, rfl⟩
abbrev main_call1_call0_v0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_1 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call3_v0 : Ref sig .tc := ⟨.hbm, 117, rfl⟩
abbrev main_call3_call0_cst : Ref sig .tc := ⟨.hbm, 118, rfl⟩
abbrev main_call3_call0_v0 : Ref sig .tc := ⟨.hbm, 119, rfl⟩
abbrev main_call3_call0_v1 : Ref sig .tc := ⟨.hbm, 120, rfl⟩
abbrev main_call3_call0_v2 : Ref sig .tc := ⟨.hbm, 121, rfl⟩
abbrev main_call3_call0_v3 : Ref sig .tc := ⟨.hbm, 122, rfl⟩
abbrev main_call3_call0_v4 : Ref sig .tc := ⟨.hbm, 123, rfl⟩
abbrev main_call3_call0_v5 : Ref sig .tc := ⟨.hbm, 124, rfl⟩
abbrev main_call3_call0_v6 : Ref sig .tc := ⟨.hbm, 125, rfl⟩
abbrev main_call3_call0_v7 : Ref sig .tc := ⟨.hbm, 126, rfl⟩
abbrev main_call3_call0_v8 : Ref sig .tc := ⟨.hbm, 127, rfl⟩
abbrev main_call3_call0_v9 : Ref sig .tc := ⟨.hbm, 128, rfl⟩
abbrev main_call3_call0_v10 : Ref sig .tc := ⟨.hbm, 129, rfl⟩
abbrev main_call3_call0_v11 : Ref sig .tc := ⟨.hbm, 130, rfl⟩
abbrev main_call3_v1 : Ref sig .tc := ⟨.hbm, 131, rfl⟩
abbrev main_v75 : Ref sig .tc := ⟨.hbm, 132, rfl⟩
abbrev main_v76 : Ref sig .tc := ⟨.hbm, 133, rfl⟩
abbrev main_call4_call0_cst : Ref sig .tc := ⟨.hbm, 134, rfl⟩
abbrev main_call4_call0_v0 : Ref sig .tc := ⟨.hbm, 135, rfl⟩
abbrev main_v77 : Ref sig .tc := ⟨.hbm, 136, rfl⟩
abbrev main_c : Ref sig .tc := ⟨.hbm, 137, rfl⟩
abbrev main_v78 : Ref sig .tc := ⟨.hbm, 138, rfl⟩
abbrev main_call5_v0 : Ref sig .tc := ⟨.hbm, 139, rfl⟩
abbrev main_call5_c : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_c_0 : Ref sig .tc := ⟨.hbm, 145, rfl⟩
abbrev main_call5_v5 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_2 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_3 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_4 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_5 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_6 : Ref sig .tc := ⟨.hbm, 218, rfl⟩
abbrev main_call8_v0 : Ref sig .tc := ⟨.hbm, 219, rfl⟩
abbrev main_call8_v1 : Ref sig .tc := ⟨.hbm, 220, rfl⟩
abbrev main_call8_v2 : Ref sig .tc := ⟨.hbm, 221, rfl⟩
abbrev main_call8_v3 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_c_7 : Ref sig .tc := ⟨.hbm, 226, rfl⟩
abbrev main_call9_v0 : Ref sig .tc := ⟨.hbm, 227, rfl⟩
abbrev main_v142 : Ref sig .tc := ⟨.hbm, 228, rfl⟩
abbrev main_v143 : Ref sig .tc := ⟨.hbm, 229, rfl⟩

abbrev nD : Nat := 1
abbrev τ : Topo := Topo.v7x

variable {F : FTy → Type} [FloatOps F]
-- ==== Proof.Routing.lean ====
/- The choice of experts, over plain functions into the extended reals: what a stable sort by decreasing value puts first,
   the score of a group of four experts, the group taken, and the two experts taken in it. -/
module

public import Idealize.ShloMosaic.PureOps.Ideal.Laws
public import Idealize.ShloMosaic.Lib.SortFacts

@[expose] public section

noncomputable section

namespace Cert.Moe

open Idealize.ShloMosaic

/-- `a` comes before `b`: it holds a larger value, or the same value at a lower position. -/
def Bef {n : Nat} (f : Fin n → EReal) (a b : Fin n) : Bool := decide (f b < f a ∨ (f a = f b ∧ a < b))

/-- The position whose value a stable sort by decreasing value puts at `k`. -/
def top {n : Nat} (f : Fin n → EReal) (k : Fin n) : Fin n := sortedFrom (fun a b => decide (f b < f a)) k

theorem bef_iff {n : Nat} {f : Fin n → EReal} {a b : Fin n} :
    Bef f a b = true ↔ f b < f a ∨ (f a = f b ∧ a < b) := by simp [Bef]

theorem bef_asymm {n : Nat} {f : Fin n → EReal} {a b : Fin n} (h : Bef f a b = true) : Bef f b a = false := by
  rw [Bool.eq_false_iff]
  intro h'
  rw [bef_iff] at h h'
  rcases h with h | ⟨h, hl⟩ <;> rcases h' with h' | ⟨h', hl'⟩
  · exact lt_asymm h h'
  · exact absurd h'.symm (ne_of_gt h)
  · exact absurd h (ne_of_lt h')
  · exact lt_asymm hl hl'

theorem bef_total {n : Nat} {f : Fin n → EReal} {a b : Fin n} (hab : a ≠ b) (h : ¬ Bef f b a = true) : Bef f a b = true := by
  rw [bef_iff] at h ⊢
  simp only [not_or, not_lt, not_and] at h
  rcases lt_or_eq_of_le h.1 with h1 | h1
  · exact .inl h1
  · exact .inr ⟨h1.symm, lt_of_le_of_ne (h.2 h1) hab⟩

/-- The stable insertion compares an element only with later ones: two comparisons that agree there sort alike. -/
theorem stableSort_later {n : Nat} (R R' : Fin n → Fin n → Bool) (h : ∀ a b, a < b → R b a = R' b a) :
    ∀ l : List (Fin n), l.Pairwise (· < ·) → stableSort R l = stableSort R' l
  | [], _ => rfl
  | a :: l, hl => by
      rw [List.pairwise_cons] at hl
      show insertBefore R a (stableSort R l) = insertBefore R' a (stableSort R' l)
      rw [stableSort_later R R' h l hl.2]
      exact insertBefore_congr R R' a _ fun b hb => h a b (hl.1 b ((perm_stableSort R' l).mem_iff.1 hb))

theorem top_eq_bef {n : Nat} (f : Fin n → EReal) (k : Fin n) : top f k = sortedFrom (Bef f) k := by
  have e : sortPositions n (fun a b => decide (f b < f a)) = sortPositions n (Bef f) := by
    refine stableSort_later _ _ (fun a b hab => ?_) _ (List.pairwise_lt_finRange n)
    simp only [Bef, decide_eq_decide]
    constructor
    · exact .inl
    · rintro (h | ⟨-, h⟩)
      · exact h
      · exact absurd h (lt_asymm hab)
  unfold top sortedFrom
  rw [List.get_of_eq e]
  rfl

theorem top_inj {n : Nat} (f : Fin n → EReal) : Function.Injective (top f) := sortedFrom_injective _

theorem top_surj {n : Nat} (f : Fin n → EReal) : Function.Surjective (top f) := sortedFrom_surjective _

theorem bef_neg_trans {n : Nat} {f : Fin n → EReal} (a b c : Fin n) (h : Bef f a b = false) (h' : Bef f b c = false) :
    Bef f a c = false := by
  rw [Bool.eq_false_iff, Ne, bef_iff, not_or, not_and, not_lt, not_lt] at h h' ⊢
  refine ⟨h.1.trans h'.1, fun e => ?_⟩
  have e1 : f a = f b := le_antisymm h.1 (e ▸ h'.1)
  exact (h'.2 (e1.symm.trans e)).trans (h.2 e1)

/-- Of two sorted positions the earlier comes before the later. -/
theorem top_lt {n : Nat} (f : Fin n → EReal) {i j : Fin n} (hij : i < j) : Bef f (top f i) (top f j) = true := by
  refine bef_total (fun h => ne_of_lt hij (top_inj f h)) ?_
  rw [top_eq_bef, top_eq_bef]
  have := sortedFrom_noInversion (Bef f) (Bef f) (fun a b h => bef_asymm h) (fun a b h => h)
    bef_neg_trans _ _ hij
  rw [this]
  exact Bool.false_ne_true

/-- The first of the order comes before every other. -/
theorem top_zero_bef {n : Nat} (f : Fin (n + 2) → EReal) {o : Fin (n + 2)} (h : o ≠ top f 0) : Bef f (top f 0) o = true := by
  obtain ⟨p, rfl⟩ := top_surj f o
  exact top_lt f (Fin.pos_of_ne_zero fun hp => h (by rw [hp]))

/-- The second comes before every other but the first. -/
theorem top_one_bef {n : Nat} (f : Fin (n + 2) → EReal) {o : Fin (n + 2)} (h : o ≠ top f 0) (h' : o ≠ top f 1) :
    Bef f (top f 1) o = true := by
  obtain ⟨p, rfl⟩ := top_surj f o
  refine top_lt f ?_
  have h0 : p ≠ 0 := fun hp => h (by rw [hp])
  have h1 : p ≠ 1 := fun hp => h' (by rw [hp])
  rw [Fin.lt_def]
  have e0 : p.val ≠ 0 := fun hp => h0 (Fin.ext hp)
  have e1 : p.val ≠ 1 := fun hp => h1 (Fin.ext (by simpa using hp))
  show ((1 : Fin (n + 2)).val) < p.val
  simp; omega

theorem top_ne {n : Nat} (f : Fin (n + 2) → EReal) : top f 0 ≠ top f 1 := fun h => by
  have := top_inj f h
  simp at this

/-- An element before all others is the first. -/
theorem top_zero_unique {n : Nat} (f : Fin (n + 2) → EReal) {a : Fin (n + 2)} (ha : ∀ o, o ≠ a → Bef f a o = true) :
    top f 0 = a := by
  by_contra h
  have h1 := ha _ h
  have h2 := top_zero_bef f (o := a) (fun e => h e.symm)
  rw [bef_asymm h1] at h2
  cases h2

/-- An element before all others but the first is the second. -/
theorem top_one_unique {n : Nat} (f : Fin (n + 2) → EReal) {a : Fin (n + 2)} (h0 : a ≠ top f 0)
    (ha : ∀ o, o ≠ top f 0 → o ≠ a → Bef f a o = true) : top f 1 = a := by
  by_contra h
  have h1 := ha _ (top_ne f).symm h
  have h2 := top_one_bef f h0 (fun e => h e.symm)
  rw [bef_asymm h1] at h2
  cases h2

theorem top_zero_ge {n : Nat} (f : Fin (n + 2) → EReal) (o : Fin (n + 2)) : f o ≤ f (top f 0) := by
  by_cases h : o = top f 0
  · rw [h]
  · rcases bef_iff.1 (top_zero_bef f h) with h | ⟨h, -⟩
    · exact h.le
    · exact h.ge

theorem top_one_ge {n : Nat} (f : Fin (n + 2) → EReal) {o : Fin (n + 2)} (h0 : o ≠ top f 0) : f o ≤ f (top f 1) := by
  by_cases h : o = top f 1
  · rw [h]
  · rcases bef_iff.1 (top_one_bef f h0 h) with h | ⟨h, -⟩
    · exact h.le
    · exact h.ge

/-- Two different elements come before `a` exactly when `a` is neither the first nor the second. -/
theorem two_before {n : Nat} (f : Fin (n + 2) → EReal) (a : Fin (n + 2)) :
    (∃ o o', o ≠ o' ∧ Bef f o a = true ∧ Bef f o' a = true) ↔ ¬ (a = top f 0 ∨ a = top f 1) := by
  constructor
  · rintro ⟨o, o', hne, h, h'⟩ (rfl | rfl)
    · by_cases e : o = top f 0
      · subst e; exact Bool.noConfusion ((bef_asymm h).symm.trans h)
      · exact Bool.noConfusion ((bef_asymm h).symm.trans (top_zero_bef f e))
    · have key : ∀ x, Bef f x (top f 1) = true → x = top f 0 := fun x hx => by
        by_contra e
        by_cases e1 : x = top f 1
        · subst e1; exact Bool.noConfusion ((bef_asymm hx).symm.trans hx)
        · exact Bool.noConfusion ((bef_asymm hx).symm.trans (top_one_bef f e e1))
      exact hne ((key o h).trans (key o' h').symm)
  · intro h
    rw [not_or] at h
    exact ⟨top f 0, top f 1, top_ne f, top_zero_bef f h.1, top_one_bef f h.1 h.2⟩

/-- The sum of any two different values is at most the sum of the first two. -/
theorem pair_le {n : Nat} (f : Fin (n + 2) → EReal) {i j : Fin (n + 2)} (hij : i ≠ j) :
    f i + f j ≤ f (top f 0) + f (top f 1) := by
  by_cases hi : i = top f 0
  · have hj : j ≠ top f 0 := fun e => hij (hi.trans e.symm)
    rw [hi]
    exact add_le_add le_rfl (top_one_ge f hj)
  · by_cases hj : j = top f 0
    · rw [hj, add_comm]
      exact add_le_add le_rfl (top_one_ge f hi)
    · exact add_le_add (top_zero_ge f i) (top_one_ge f hj)

/-- The largest of the six sums of two of four values is the sum of the first two. -/
theorem pair_max (f : Fin 4 → EReal) :
    max (max (max (max (max (f 0 + f 1) (f 0 + f 2)) (f 0 + f 3)) (f 1 + f 2)) (f 1 + f 3)) (f 2 + f 3)
      = f (top f 0) + f (top f 1) := by
  refine le_antisymm ?_ ?_
  · simp only [max_le_iff]
    exact ⟨⟨⟨⟨⟨pair_le f (by decide), pair_le f (by decide)⟩, pair_le f (by decide)⟩, pair_le f (by decide)⟩,
      pair_le f (by decide)⟩, pair_le f (by decide)⟩
  · have hne := top_ne f
    generalize top f 0 = i at hne
    generalize top f 1 = j at hne
    have hs : ∀ i j : Fin 4, i ≠ j → (i = 0 ∧ j = 1) ∨ (i = 0 ∧ j = 2) ∨ (i = 0 ∧ j = 3) ∨ (i = 1 ∧ j = 2) ∨ (i = 1 ∧ j = 3)
      ∨ (i = 2 ∧ j = 3) ∨ (j = 0 ∧ i = 1) ∨ (j = 0 ∧ i = 2) ∨ (j = 0 ∧ i = 3) ∨ (j = 1 ∧ i = 2) ∨ (j = 1 ∧ i = 3)
      ∨ (j = 2 ∧ i = 3) := by decide
    rcases hs i j hne with ⟨rfl, rfl⟩ | ⟨rfl, rfl⟩ | ⟨rfl, rfl⟩ | ⟨rfl, rfl⟩ | ⟨rfl, rfl⟩ | ⟨rfl, rfl⟩ | ⟨rfl, rfl⟩
      | ⟨rfl, rfl⟩ | ⟨rfl, rfl⟩ | ⟨rfl, rfl⟩ | ⟨rfl, rfl⟩ | ⟨rfl, rfl⟩ <;>
      simp [le_max_iff, add_comm]

/-- The values of group `g`. -/
def grp (sb : Fin 16 → EReal) (g : Fin 4) : Fin 4 → EReal := fun k => sb ⟨4 * g.val + k.val, by omega⟩

/-- A group's score: its two largest values together. -/
def gsc (sb : Fin 16 → EReal) (g : Fin 4) : EReal := grp sb g (top (grp sb g) 0) + grp sb g (top (grp sb g) 1)

/-- The group taken. -/
def G (sb : Fin 16 → EReal) : Fin 4 := top (gsc sb) 0

/-- The first and the second expert taken. -/
def T0 (sb : Fin 16 → EReal) : Fin 16 := ⟨4 * (G sb).val + (top (grp sb (G sb)) 0).val, by omega⟩
def T1 (sb : Fin 16 → EReal) : Fin 16 := ⟨4 * (G sb).val + (top (grp sb (G sb)) 1).val, by omega⟩

theorem T_ne (sb : Fin 16 → EReal) : T0 sb ≠ T1 sb := fun h => by
  have h1 := congrArg Fin.val h
  simp only [T0, T1] at h1
  exact top_ne (grp sb (G sb)) (Fin.ext (by omega))

/-- The values with those outside of group `g` at minus infinity. -/
def msk (sb : Fin 16 → EReal) (g : Fin 4) : Fin 16 → EReal := fun e => if e.val / 4 = g.val then sb e else ⊥

theorem msk_in (sb : Fin 16 → EReal) (g k : Fin 4) (h) : msk sb g ⟨4 * g.val + k.val, h⟩ = grp sb g k := by
  have : (4 * g.val + k.val) / 4 = g.val := by omega
  simp only [msk, grp, this, if_true]

/-- Unless the group taken is the first, its two largest values are above minus infinity. -/
theorem taken_pos (sb : Fin 16 → EReal) (h : G sb ≠ 0) (k : Fin 4) (hk : k = top (grp sb (G sb)) 0 ∨ k = top (grp sb (G sb)) 1) :
    ⊥ < grp sb (G sb) k := by
  have h1 := bef_iff.1 (top_zero_bef (gsc sb) (o := 0) (fun e => h e.symm))
  have h2 : ⊥ < gsc sb (G sb) := by
    rcases h1 with h1 | ⟨-, h1⟩
    · exact lt_of_le_of_lt bot_le h1
    · exact absurd h1 (by simp)
  unfold gsc at h2
  rw [bot_lt_iff_ne_bot, Ne, EReal.add_eq_bot_iff, not_or] at h2
  rw [bot_lt_iff_ne_bot]
  rcases hk with rfl | rfl
  · exact h2.1
  · exact h2.2

/-- An expert of the group taken, whose value is above minus infinity unless the group is the first, comes before every
    expert outside of the group. -/
theorem in_bef_out (sb : Fin 16 → EReal) (k : Fin 4) (h) (hk : G sb = 0 ∨ ⊥ < grp sb (G sb) k) (o : Fin 16)
    (ho : o.val / 4 ≠ (G sb).val) : Bef (msk sb (G sb)) ⟨4 * (G sb).val + k.val, h⟩ o = true := by
  rw [bef_iff, msk_in]
  have hm : msk sb (G sb) o = ⊥ := by simp only [msk, ho, if_false]
  rw [hm]
  rcases hk with hk | hk
  · by_cases hb : grp sb (G sb) k = ⊥
    · refine .inr ⟨hb, ?_⟩
      rw [Fin.lt_def]
      have : (G sb).val = 0 := by rw [hk]; rfl
      show 4 * (G sb).val + k.val < o.val
      omega
    · exact .inl (bot_lt_iff_ne_bot.2 hb)
  · exact .inl hk

theorem in_bef_in (sb : Fin 16 → EReal) (g k k' : Fin 4) (h h') (hb : Bef (grp sb g) k k' = true) :
    Bef (msk sb g) ⟨4 * g.val + k.val, h⟩ ⟨4 * g.val + k'.val, h'⟩ = true := by
  rw [bef_iff] at hb ⊢
  rw [msk_in, msk_in]
  rcases hb with hb | ⟨hb, hl⟩
  · exact .inl hb
  · refine .inr ⟨hb, ?_⟩
    rw [Fin.lt_def] at hl ⊢
    show 4 * g.val + k.val < 4 * g.val + k'.val
    omega

theorem pos_or (sb : Fin 16 → EReal) (k : Fin 4) (hk : k = top (grp sb (G sb)) 0 ∨ k = top (grp sb (G sb)) 1) :
    G sb = 0 ∨ ⊥ < grp sb (G sb) k := by
  by_cases h : G sb = 0
  · exact .inl h
  · exact .inr (taken_pos sb h k hk)

theorem exists_in (g : Fin 4) (o : Fin 16) (ho : o.val / 4 = g.val) : ∃ (k : Fin 4) (h : 4 * g.val + k.val < 16), o = ⟨4 * g.val + k.val, h⟩ := by
  have := o.isLt
  exact ⟨⟨o.val % 4, by omega⟩, by show 4 * g.val + o.val % 4 < 16; omega, Fin.ext (by show o.val = 4 * g.val + o.val % 4; omega)⟩

/-- The first of all sixteen, those outside of the group taken at minus infinity, is the group's first. -/
theorem top16_zero (sb : Fin 16 → EReal) : top (msk sb (G sb)) 0 = T0 sb := by
  refine top_zero_unique _ fun o ho => ?_
  by_cases hg : o.val / 4 = (G sb).val
  · obtain ⟨k, h, rfl⟩ := exists_in (G sb) o hg
    exact in_bef_in sb _ _ _ _ _ (top_zero_bef _ fun e => ho (by subst e; rfl))
  · exact in_bef_out sb _ _ (pos_or sb _ (.inl rfl)) o hg

/-- … and the second is the group's second. -/
theorem top16_one (sb : Fin 16 → EReal) : top (msk sb (G sb)) 1 = T1 sb := by
  refine top_one_unique _ (by rw [top16_zero]; exact (T_ne sb).symm) fun o h0 h1 => ?_
  rw [top16_zero] at h0
  by_cases hg : o.val / 4 = (G sb).val
  · obtain ⟨k, h, rfl⟩ := exists_in (G sb) o hg
    exact in_bef_in sb _ _ _ _ _ (top_one_bef _ (fun e => h0 (by subst e; rfl)) (fun e => h1 (by subst e; rfl)))
  · exact in_bef_out sb _ _ (pos_or sb _ (.inr rfl)) o hg

/-- The group taken is the first whose score is the largest. -/
theorem G_iff (gs : Fin 4 → EReal) (g : Fin 4) :
    ((∀ g' < g, gs g' ≠ max (max (max (gs 0) (gs 1)) (gs 2)) (gs 3)) ∧ gs g = max (max (max (gs 0) (gs 1)) (gs 2)) (gs 3))
      ↔ g = top gs 0 := by
  have hm : max (max (max (gs 0) (gs 1)) (gs 2)) (gs 3) = gs (top gs 0) := by
    refine le_antisymm ?_ ?_
    · simp only [max_le_iff]
      exact ⟨⟨⟨top_zero_ge gs 0, top_zero_ge gs 1⟩, top_zero_ge gs 2⟩, top_zero_ge gs 3⟩
    · generalize top gs 0 = i
      have hs : ∀ i : Fin 4, i = 0 ∨ i = 1 ∨ i = 2 ∨ i = 3 := by decide
      rcases hs i with rfl | rfl | rfl | rfl <;> simp [le_max_iff]
  rw [hm]
  constructor
  · rintro ⟨h1, h2⟩
    by_contra hne
    rcases bef_iff.1 (top_zero_bef gs hne) with h | ⟨-, h⟩
    · exact absurd h2 (ne_of_lt h)
    · exact h1 _ h rfl
  · rintro rfl
    refine ⟨fun g' hg e => ?_, rfl⟩
    rcases bef_iff.1 (top_zero_bef gs (ne_of_lt hg)) with h | ⟨-, h⟩
    · exact absurd e (ne_of_lt h)
    · exact absurd h (lt_asymm hg)

/-- Two different ones of four with a property, listed. -/
theorem two_of_four (P : Fin 4 → Prop) :
    (∃ o o', o ≠ o' ∧ P o ∧ P o') ↔ (P 0 ∧ P 1) ∨ (P 0 ∧ P 2) ∨ (P 0 ∧ P 3) ∨ (P 1 ∧ P 2) ∨ (P 1 ∧ P 3) ∨ (P 2 ∧ P 3) := by
  constructor
  · rintro ⟨o, o', hne, h, h'⟩
    have hs : ∀ i : Fin 4, i = 0 ∨ i = 1 ∨ i = 2 ∨ i = 3 := by decide
    rcases hs o with rfl | rfl | rfl | rfl <;> rcases hs o' with rfl | rfl | rfl | rfl <;>
      first | exact absurd rfl hne | simp [h, h']
  · rintro (⟨h, h'⟩ | ⟨h, h'⟩ | ⟨h, h'⟩ | ⟨h, h'⟩ | ⟨h, h'⟩ | ⟨h, h'⟩)
    · exact ⟨0, 1, by decide, h, h'⟩
    · exact ⟨0, 2, by decide, h, h'⟩
    · exact ⟨0, 3, by decide, h, h'⟩
    · exact ⟨1, 2, by decide, h, h'⟩
    · exact ⟨1, 3, by decide, h, h'⟩
    · exact ⟨2, 3, by decide, h, h'⟩

theorem bef_later {n : Nat} {f : Fin n → EReal} {o a : Fin n} (h : a < o) : Bef f o a = true ↔ f a < f o := by
  rw [bef_iff]
  exact ⟨fun h' => h'.elim id fun h'' => absurd h''.2 (lt_asymm h), .inl⟩

theorem bef_earlier {n : Nat} {f : Fin n → EReal} {o a : Fin n} (h : o < a) : Bef f o a = true ↔ f a ≤ f o := by
  rw [bef_iff, le_iff_lt_or_eq]
  exact ⟨fun h' => h'.elim .inl fun h'' => .inr h''.1.symm, fun h' => h'.elim .inl fun h'' => .inr ⟨h''.symm, h⟩⟩

theorem bef_self {n : Nat} {f : Fin n → EReal} {a : Fin n} : Bef f a a = true ↔ False := by
  rw [bef_iff]; simp

/-- At most one of the other three before it: the element is the first or the second of four. -/
theorem cnt0 (f : Fin 4 → EReal) :
    ¬ (f 0 < f 1 ∧ f 0 < f 2 ∨ f 0 < f 1 ∧ f 0 < f 3 ∨ f 0 < f 2 ∧ f 0 < f 3) ↔ (0 = top f 0 ∨ 0 = top f 1) := by
  rw [← not_iff_not, not_not, ← two_before, two_of_four]
  rw [bef_self, bef_later (by decide : (0 : Fin 4) < 1), bef_later (by decide : (0 : Fin 4) < 2), bef_later (by decide : (0 : Fin 4) < 3)]
  simp

theorem cnt1 (f : Fin 4 → EReal) :
    ¬ (f 1 ≤ f 0 ∧ f 1 < f 2 ∨ f 1 ≤ f 0 ∧ f 1 < f 3 ∨ f 1 < f 2 ∧ f 1 < f 3) ↔ (1 = top f 0 ∨ 1 = top f 1) := by
  rw [← not_iff_not, not_not, ← two_before, two_of_four]
  rw [bef_self, bef_earlier (by decide : (0 : Fin 4) < 1), bef_later (by decide : (1 : Fin 4) < 2), bef_later (by decide : (1 : Fin 4) < 3)]
  simp

theorem cnt2 (f : Fin 4 → EReal) :
    ¬ (f 2 ≤ f 0 ∧ f 2 ≤ f 1 ∨ f 2 ≤ f 0 ∧ f 2 < f 3 ∨ f 2 ≤ f 1 ∧ f 2 < f 3) ↔ (2 = top f 0 ∨ 2 = top f 1) := by
  rw [← not_iff_not, not_not, ← two_before, two_of_four]
  rw [bef_self, bef_earlier (by decide : (0 : Fin 4) < 2), bef_earlier (by decide : (1 : Fin 4) < 2), bef_later (by decide : (2 : Fin 4) < 3)]
  simp

theorem cnt3 (f : Fin 4 → EReal) :
    ¬ (f 3 ≤ f 0 ∧ f 3 ≤ f 1 ∨ f 3 ≤ f 0 ∧ f 3 ≤ f 2 ∨ f 3 ≤ f 1 ∧ f 3 ≤ f 2) ↔ (3 = top f 0 ∨ 3 = top f 1) := by
  rw [← not_iff_not, not_not, ← two_before, two_of_four]
  rw [bef_self, bef_earlier (by decide : (0 : Fin 4) < 3), bef_earlier (by decide : (1 : Fin 4) < 3), bef_earlier (by decide : (2 : Fin 4) < 3)]
  simp

/-- An expert of the group taken with at most one other of the group before it is one of the two taken. -/
theorem taken_iff (sb : Fin 16 → EReal) (g k : Fin 4) {X : Prop} (hX : X ↔ (k = top (grp sb g) 0 ∨ k = top (grp sb g) 1)) :
    (g = G sb ∧ X) ↔ ((⟨4 * g.val + k.val, by omega⟩ : Fin 16) = T0 sb ∨ (⟨4 * g.val + k.val, by omega⟩ : Fin 16) = T1 sb) := by
  rw [hX]
  simp only [T0, T1, Fin.ext_iff]
  constructor
  · rintro ⟨h, h'⟩
    have hg : g = G sb := Fin.ext h
    subst hg
    omega
  · intro h
    have hg : g.val = (G sb).val := by omega
    have hg' : g = G sb := Fin.ext hg
    subst hg'
    omega

end Cert.Moe

end
-- ==== Proof.Gates.lean ====
/- The kernel's routing, row by row: the named rows of its routing block, each read at one token as a plain value — the sixteen
   scores, the scores with the bias, the group scores, the group taken, the two experts taken in it, and the gates. -/
module

public import proofs.«01_k».proof.Proof.Routing
public import proofs.«01_k».proof.Proof.Gen.KernelIdeal.Skeleton
public import Idealize.ShloMosaic.Lib.Pointwise

@[expose] public section

noncomputable section

namespace Cert.Moe

open Cert.KernelIdeal Cert.KernelIdeal.Gen Idealize.ShloMosaic

section rows
variable {F : FTy → Type} [FloatOps F]

def r151 (x : FVec F S768x1024 .bf16) (w : Vec F S128x1024 .bf16) (b : Vec F S128x1 .f32) : FVec F S1x768 .f32 := k0_pay5 x w
def r152 (x : FVec F S768x1024 .bf16) (w : Vec F S128x1024 .bf16) (b : Vec F S128x1 .f32) : FVec F S1x768 .f32 := k0_pay6 x w
def r153 (x : FVec F S768x1024 .bf16) (w : Vec F S128x1024 .bf16) (b : Vec F S128x1 .f32) : FVec F S1x768 .f32 := k0_pay7 x w
def r154 (x : FVec F S768x1024 .bf16) (w : Vec F S128x1024 .bf16) (b : Vec F S128x1 .f32) : FVec F S1x768 .f32 := k0_pay8 x w
def r155 (x : FVec F S768x1024 .bf16) (w : Vec F S128x1024 .bf16) (b : Vec F S128x1 .f32) : FVec F S1x768 .f32 := k0_pay9 x w
def r156 (x : FVec F S768x1024 .bf16) (w : Vec F S128x1024 .bf16) (b : Vec F S128x1 .f32) : FVec F S1x768 .f32 := k0_pay10 x w
def r157 (x : FVec F S768x1024 .bf16) (w : Vec F S128x1024 .bf16) (b : Vec F S128x1 .f32) : FVec F S1x768 .f32 := k0_pay11 x w
def r158 (x : FVec F S768x1024 .bf16) (w : Vec F S128x1024 .bf16) (b : Vec F S128x1 .f32) : FVec F S1x768 .f32 := k0_pay12 x w
def r159 (x : FVec F S768x1024 .bf16) (w : Vec F S128x1024 .bf16) (b : Vec F S128x1 .f32) : FVec F S1x768 .f32 := k0_pay13 x w
def r160 (x : FVec F S768x1024 .bf16) (w : Vec F S128x1024 .bf16) (b : Vec F S128x1 .f32) : FVec F S1x768 .f32 := k0_pay14 x w
def r161 (x : FVec F S768x1024 .bf16) (w : Vec F S128x1024 .bf16) (b : Vec F S128x1 .f32) : FVec F S1x768 .f32 := k0_pay15 x w
def r162 (x : FVec F S768x1024 .bf16) (w : Vec F S128x1024 .bf16) (b : Vec F S128x1 .f32) : FVec F S1x768 .f32 := k0_pay16 x w
def r163 (x : FVec F S768x1024 .bf16) (w : Vec F S128x1024 .bf16) (b : Vec F S128x1 .f32) : FVec F S1x768 .f32 := k0_pay17 x w
def r164 (x : FVec F S768x1024 .bf16) (w : Vec F S128x1024 .bf16) (b : Vec F S128x1 .f32) : FVec F S1x768 .f32 := k0_pay18 x w
def r165 (x : FVec F S768x1024 .bf16) (w : Vec F S128x1024 .bf16) (b : Vec F S128x1 .f32) : FVec F S1x768 .f32 := k0_pay19 x w
def r166 (x : FVec F S768x1024 .bf16) (w : Vec F S128x1024 .bf16) (b : Vec F S128x1 .f32) : FVec F S1x768 .f32 := k0_pay20 x w
def r167 (x : FVec F S768x1024 .bf16) (w : Vec F S128x1024 .bf16) (b : Vec F S128x1 .f32) : FVec F S1x768 .f32 := k0_pay21 x w b
def r168 (x : FVec F S768x1024 .bf16) (w : Vec F S128x1024 .bf16) (b : Vec F S128x1 .f32) : FVec F S1x768 .f32 := k0_pay22 x w b
def r169 (x : FVec F S768x1024 .bf16) (w : Vec F S128x1024 .bf16) (b : Vec F S128x1 .f32) : FVec F S1x768 .f32 := k0_pay23 x w b
def r170 (x : FVec F S768x1024 .bf16) (w : Vec F S128x1024 .bf16) (b : Vec F S128x1 .f32) : FVec F S1x768 .f32 := k0_pay24 x w b
def r171 (x : FVec F S768x1024 .bf16) (w : Vec F S128x1024 .bf16) (b : Vec F S128x1 .f32) : FVec F S1x768 .f32 := k0_pay25 x w b
def r172 (x : FVec F S768x1024 .bf16) (w : Vec F S128x1024 .bf16) (b : Vec F S128x1 .f32) : FVec F S1x768 .f32 := k0_pay26 x w b
def r173 (x : FVec F S768x1024 .bf16) (w : Vec F S128x1024 .bf16) (b : Vec F S128x1 .f32) : FVec F S1x768 .f32 := k0_pay27 x w b
def r174 (x : FVec F S768x1024 .bf16) (w : Vec F S128x1024 .bf16) (b : Vec F S128x1 .f32) : FVec F S1x768 .f32 := k0_pay28 x w b
def r175 (x : FVec F S768x1024 .bf16) (w : Vec F S128x1024 .bf16) (b : Vec F S128x1 .f32) : FVec F S1x768 .f32 := k0_pay29 x w b
def r176 (x : FVec F S768x1024 .bf16) (w : Vec F S128x1024 .bf16) (b : Vec F S128x1 .f32) : FVec F S1x768 .f32 := k0_pay30 x w b
def r177 (x : FVec F S768x1024 .bf16) (w : Vec F S128x1024 .bf16) (b : Vec F S128x1 .f32) : FVec F S1x768 .f32 := k0_pay31 x w b
def r178 (x : FVec F S768x1024 .bf16) (w : Vec F S128x1024 .bf16) (b : Vec F S128x1 .f32) : FVec F S1x768 .f32 := k0_pay32 x w b
def r179 (x : FVec F S768x1024 .bf16) (w : Vec F S128x1024 .bf16) (b : Vec F S128x1 .f32) : FVec F S1x768 .f32 := k0_pay33 x w b
def r180 (x : FVec F S768x1024 .bf16) (w : Vec F S128x1024 .bf16) (b : Vec F S128x1 .f32) : FVec F S1x768 .f32 := k0_pay34 x w b
def r181 (x : FVec F S768x1024 .bf16) (w : Vec F S128x1024 .bf16) (b : Vec F S128x1 .f32) : FVec F S1x768 .f32 := k0_pay35 x w b
def r182 (x : FVec F S768x1024 .bf16) (w : Vec F S128x1024 .bf16) (b : Vec F S128x1 .f32) : FVec F S1x768 .f32 := k0_pay36 x w b
def r187 (x : FVec F S768x1024 .bf16) (w : Vec F S128x1024 .bf16) (b : Vec F S128x1 .f32) : FVec F S1x768 .f32 := k0_pay37 x w b
def r188 (x : FVec F S768x1024 .bf16) (w : Vec F S128x1024 .bf16) (b : Vec F S128x1 .f32) : FVec F S1x768 .f32 := k0_pay38 x w b
def r204 (x : FVec F S768x1024 .bf16) (w : Vec F S128x1024 .bf16) (b : Vec F S128x1 .f32) : FVec F S1x768 .f32 := k0_pay40 (r171 x w b) (r172 x w b) (r173 x w b) (r174 x w b)
def r215 (x : FVec F S768x1024 .bf16) (w : Vec F S128x1024 .bf16) (b : Vec F S128x1 .f32) : FVec F S1x768 .f32 := k0_pay41 (r175 x w b) (r176 x w b) (r177 x w b) (r178 x w b)
def r226 (x : FVec F S768x1024 .bf16) (w : Vec F S128x1024 .bf16) (b : Vec F S128x1 .f32) : FVec F S1x768 .f32 := k0_pay42 (r179 x w b) (r180 x w b) (r181 x w b) (r182 x w b)
def r229 (x : FVec F S768x1024 .bf16) (w : Vec F S128x1024 .bf16) (b : Vec F S128x1 .f32) : FVec F S1x768 .f32 := k0_pay43 (r168 x w b) (r169 x w b) (r170 x w b) (r171 x w b) (r172 x w b) (r173 x w b) (r174 x w b) (r175 x w b) (r176 x w b) (r177 x w b) (r178 x w b) (r179 x w b) (r180 x w b) (r181 x w b) (r182 x w b) (r187 x w b) (r188 x w b)
def r235 (x : FVec F S768x1024 .bf16) (w : Vec F S128x1024 .bf16) (b : Vec F S128x1 .f32) : IVec S1x768 1 := k0_pay45 (r168 x w b) (r169 x w b) (r170 x w b) (r171 x w b) (r172 x w b) (r173 x w b) (r174 x w b) (r175 x w b) (r176 x w b) (r177 x w b) (r178 x w b) (r179 x w b) (r180 x w b) (r181 x w b) (r182 x w b) (r187 x w b) (r188 x w b)
def r236 (x : FVec F S768x1024 .bf16) (w : Vec F S128x1024 .bf16) (b : Vec F S128x1 .f32) : IVec S1x768 1 := k0_pay46 (r168 x w b) (r169 x w b) (r170 x w b) (r171 x w b) (r172 x w b) (r173 x w b) (r174 x w b) (r175 x w b) (r176 x w b) (r177 x w b) (r178 x w b) (r179 x w b) (r180 x w b) (r181 x w b) (r182 x w b) (r187 x w b) (r188 x w b)
def r242 (x : FVec F S768x1024 .bf16) (w : Vec F S128x1024 .bf16) (b : Vec F S128x1 .f32) : IVec S1x768 32 := k0_pay47 (r167 x w b) (r168 x w b)
def r255 (x : FVec F S768x1024 .bf16) (w : Vec F S128x1024 .bf16) (b : Vec F S128x1 .f32) : IVec S1x768 1 := k0_pay48 (r167 x w b) (r169 x w b) (r170 x w b) (r235 x w b) (r242 x w b)
def r274 (x : FVec F S768x1024 .bf16) (w : Vec F S128x1024 .bf16) (b : Vec F S128x1 .f32) : IVec S1x768 1 := k0_pay49 (r167 x w b) (r168 x w b) (r169 x w b) (r170 x w b) (r235 x w b)
def r280 (x : FVec F S768x1024 .bf16) (w : Vec F S128x1024 .bf16) (b : Vec F S128x1 .f32) : IVec S1x768 32 := k0_pay50 (r167 x w b) (r169 x w b)
def r284 (x : FVec F S768x1024 .bf16) (w : Vec F S128x1024 .bf16) (b : Vec F S128x1 .f32) : IVec S1x768 32 := k0_pay51 (r168 x w b) (r169 x w b)
def r293 (x : FVec F S768x1024 .bf16) (w : Vec F S128x1024 .bf16) (b : Vec F S128x1 .f32) : IVec S1x768 1 := k0_pay52 (r169 x w b) (r170 x w b) (r235 x w b) (r280 x w b) (r284 x w b)
def r312 (x : FVec F S768x1024 .bf16) (w : Vec F S128x1024 .bf16) (b : Vec F S128x1 .f32) : IVec S1x768 1 := k0_pay53 (r167 x w b) (r168 x w b) (r169 x w b) (r170 x w b) (r235 x w b)
def r315 (x : FVec F S768x1024 .bf16) (w : Vec F S128x1024 .bf16) (b : Vec F S128x1 .f32) : IVec S1x768 1 := k0_pay54 (r204 x w b) (r229 x w b) (r236 x w b)
def r316 (x : FVec F S768x1024 .bf16) (w : Vec F S128x1024 .bf16) (b : Vec F S128x1 .f32) : IVec S1x768 1 := k0_pay55 (r204 x w b) (r229 x w b) (r236 x w b)
def r327 (x : FVec F S768x1024 .bf16) (w : Vec F S128x1024 .bf16) (b : Vec F S128x1 .f32) : IVec S1x768 32 := k0_pay56 (r171 x w b) (r172 x w b) (r173 x w b)
def r335 (x : FVec F S768x1024 .bf16) (w : Vec F S128x1024 .bf16) (b : Vec F S128x1 .f32) : IVec S1x768 1 := k0_pay57 (r171 x w b) (r174 x w b) (r315 x w b) (r327 x w b)
def r354 (x : FVec F S768x1024 .bf16) (w : Vec F S128x1024 .bf16) (b : Vec F S128x1 .f32) : IVec S1x768 1 := k0_pay58 (r171 x w b) (r172 x w b) (r173 x w b) (r174 x w b) (r315 x w b)
def r365 (x : FVec F S768x1024 .bf16) (w : Vec F S128x1024 .bf16) (b : Vec F S128x1 .f32) : IVec S1x768 32 := k0_pay59 (r171 x w b) (r172 x w b) (r173 x w b)
def r369 (x : FVec F S768x1024 .bf16) (w : Vec F S128x1024 .bf16) (b : Vec F S128x1 .f32) : IVec S1x768 32 := k0_pay60 (r173 x w b) (r174 x w b)
def r373 (x : FVec F S768x1024 .bf16) (w : Vec F S128x1024 .bf16) (b : Vec F S128x1 .f32) : IVec S1x768 1 := k0_pay61 (r315 x w b) (r365 x w b) (r369 x w b)
def r392 (x : FVec F S768x1024 .bf16) (w : Vec F S128x1024 .bf16) (b : Vec F S128x1 .f32) : IVec S1x768 1 := k0_pay62 (r171 x w b) (r172 x w b) (r173 x w b) (r174 x w b) (r315 x w b)
def r395 (x : FVec F S768x1024 .bf16) (w : Vec F S128x1024 .bf16) (b : Vec F S128x1 .f32) : IVec S1x768 1 := k0_pay63 (r215 x w b) (r229 x w b) (r316 x w b)
def r396 (x : FVec F S768x1024 .bf16) (w : Vec F S128x1024 .bf16) (b : Vec F S128x1 .f32) : IVec S1x768 1 := k0_pay64 (r215 x w b) (r229 x w b) (r316 x w b)
def r412 (x : FVec F S768x1024 .bf16) (w : Vec F S128x1024 .bf16) (b : Vec F S128x1 .f32) : IVec S1x768 32 := k0_pay65 (r175 x w b) (r176 x w b) (r177 x w b) (r178 x w b)
def r415 (x : FVec F S768x1024 .bf16) (w : Vec F S128x1024 .bf16) (b : Vec F S128x1 .f32) : IVec S1x768 1 := k0_pay66 (r395 x w b) (r412 x w b)
def r434 (x : FVec F S768x1024 .bf16) (w : Vec F S128x1024 .bf16) (b : Vec F S128x1 .f32) : IVec S1x768 1 := k0_pay67 (r175 x w b) (r176 x w b) (r177 x w b) (r178 x w b) (r395 x w b)
def r453 (x : FVec F S768x1024 .bf16) (w : Vec F S128x1024 .bf16) (b : Vec F S128x1 .f32) : IVec S1x768 1 := k0_pay68 (r175 x w b) (r176 x w b) (r177 x w b) (r178 x w b) (r395 x w b)
def r454 (x : FVec F S768x1024 .bf16) (w : Vec F S128x1024 .bf16) (b : Vec F S128x1 .f32) : IVec S1x768 32 := k0_pay69
def r472 (x : FVec F S768x1024 .bf16) (w : Vec F S128x1024 .bf16) (b : Vec F S128x1 .f32) : IVec S1x768 1 := k0_pay70 (r175 x w b) (r176 x w b) (r177 x w b) (r178 x w b) (r395 x w b) (r454 x w b)
def r475 (x : FVec F S768x1024 .bf16) (w : Vec F S128x1024 .bf16) (b : Vec F S128x1 .f32) : IVec S1x768 1 := k0_pay71 (r226 x w b) (r229 x w b) (r396 x w b)
def r494 (x : FVec F S768x1024 .bf16) (w : Vec F S128x1024 .bf16) (b : Vec F S128x1 .f32) : IVec S1x768 1 := k0_pay72 (r179 x w b) (r180 x w b) (r181 x w b) (r182 x w b) (r226 x w b) (r229 x w b) (r396 x w b)
def r495 (x : FVec F S768x1024 .bf16) (w : Vec F S128x1024 .bf16) (b : Vec F S128x1 .f32) : IVec S1x768 32 := k0_pay73
def r496 (x : FVec F S768x1024 .bf16) (w : Vec F S128x1024 .bf16) (b : Vec F S128x1 .f32) : IVec S1x768 1 := k0_pay74 (r179 x w b) (r180 x w b)
def r513 (x : FVec F S768x1024 .bf16) (w : Vec F S128x1024 .bf16) (b : Vec F S128x1 .f32) : IVec S1x768 1 := k0_pay75 (r180 x w b) (r181 x w b) (r182 x w b) (r475 x w b) (r495 x w b) (r496 x w b) 1#32
def r532 (x : FVec F S768x1024 .bf16) (w : Vec F S128x1024 .bf16) (b : Vec F S128x1 .f32) : IVec S1x768 1 := k0_pay76 (r179 x w b) (r180 x w b) (r181 x w b) (r182 x w b) (r475 x w b)
def r538 (x : FVec F S768x1024 .bf16) (w : Vec F S128x1024 .bf16) (b : Vec F S128x1 .f32) : IVec S1x768 32 := k0_pay77 (r179 x w b) (r182 x w b)
def r539 (x : FVec F S768x1024 .bf16) (w : Vec F S128x1024 .bf16) (b : Vec F S128x1 .f32) : IVec S1x768 1 := k0_pay78 (r180 x w b) (r182 x w b)
def r551 (x : FVec F S768x1024 .bf16) (w : Vec F S128x1024 .bf16) (b : Vec F S128x1 .f32) : IVec S1x768 1 := k0_pay79 (r181 x w b) (r182 x w b) (r475 x w b) (r538 x w b) (r539 x w b)
def r582 (x : FVec F S768x1024 .bf16) (w : Vec F S128x1024 .bf16) (b : Vec F S128x1 .f32) : FVec F S1x768 .f32 := k0_pay80 (r151 x w b) (r152 x w b) (r153 x w b) (r154 x w b) (r155 x w b) (r156 x w b) (r157 x w b) (r158 x w b) (r159 x w b) (r160 x w b) (r255 x w b) (r274 x w b) (r293 x w b) (r312 x w b) (r335 x w b) (r354 x w b) (r373 x w b) (r392 x w b) (r415 x w b) (r434 x w b)
def r600 (x : FVec F S768x1024 .bf16) (w : Vec F S128x1024 .bf16) (b : Vec F S128x1 .f32) : FVec F S1x768 .f32 := k0_pay81 (r161 x w b) (r162 x w b) (r163 x w b) (r164 x w b) (r165 x w b) (r166 x w b) (r453 x w b) (r472 x w b) (r494 x w b) (r513 x w b) (r532 x w b) (r551 x w b) (r582 x w b) (Scalar.ofBits .f32 0x00000000#32)
def r603 (x : FVec F S768x1024 .bf16) (w : Vec F S128x1024 .bf16) (b : Vec F S128x1 .f32) : FVec F S1x768 .f32 := k0_pay82 (r151 x w b) (r161 x w b) (r162 x w b) (r163 x w b) (r164 x w b) (r165 x w b) (r166 x w b) (r255 x w b) (r453 x w b) (r472 x w b) (r494 x w b) (r513 x w b) (r532 x w b) (r551 x w b) (r582 x w b) (Scalar.ofBits .f32 0x00000000#32)
def r606 (x : FVec F S768x1024 .bf16) (w : Vec F S128x1024 .bf16) (b : Vec F S128x1 .f32) : FVec F S1x768 .f32 := k0_pay83 (r152 x w b) (r161 x w b) (r162 x w b) (r163 x w b) (r164 x w b) (r165 x w b) (r166 x w b) (r274 x w b) (r453 x w b) (r472 x w b) (r494 x w b) (r513 x w b) (r532 x w b) (r551 x w b) (r582 x w b) (Scalar.ofBits .f32 0x00000000#32)
def r609 (x : FVec F S768x1024 .bf16) (w : Vec F S128x1024 .bf16) (b : Vec F S128x1 .f32) : FVec F S1x768 .f32 := k0_pay84 (r153 x w b) (r161 x w b) (r162 x w b) (r163 x w b) (r164 x w b) (r165 x w b) (r166 x w b) (r293 x w b) (r453 x w b) (r472 x w b) (r494 x w b) (r513 x w b) (r532 x w b) (r551 x w b) (r582 x w b) (Scalar.ofBits .f32 0x00000000#32)
def r612 (x : FVec F S768x1024 .bf16) (w : Vec F S128x1024 .bf16) (b : Vec F S128x1 .f32) : FVec F S1x768 .f32 := k0_pay85 (r154 x w b) (r161 x w b) (r162 x w b) (r163 x w b) (r164 x w b) (r165 x w b) (r166 x w b) (r312 x w b) (r453 x w b) (r472 x w b) (r494 x w b) (r513 x w b) (r532 x w b) (r551 x w b) (r582 x w b) (Scalar.ofBits .f32 0x00000000#32)
def r615 (x : FVec F S768x1024 .bf16) (w : Vec F S128x1024 .bf16) (b : Vec F S128x1 .f32) : FVec F S1x768 .f32 := k0_pay86 (r155 x w b) (r161 x w b) (r162 x w b) (r163 x w b) (r164 x w b) (r165 x w b) (r166 x w b) (r335 x w b) (r453 x w b) (r472 x w b) (r494 x w b) (r513 x w b) (r532 x w b) (r551 x w b) (r582 x w b) (Scalar.ofBits .f32 0x00000000#32)
def r618 (x : FVec F S768x1024 .bf16) (w : Vec F S128x1024 .bf16) (b : Vec F S128x1 .f32) : FVec F S1x768 .f32 := k0_pay87 (r156 x w b) (r161 x w b) (r162 x w b) (r163 x w b) (r164 x w b) (r165 x w b) (r166 x w b) (r354 x w b) (r453 x w b) (r472 x w b) (r494 x w b) (r513 x w b) (r532 x w b) (r551 x w b) (r582 x w b) (Scalar.ofBits .f32 0x00000000#32)
def r621 (x : FVec F S768x1024 .bf16) (w : Vec F S128x1024 .bf16) (b : Vec F S128x1 .f32) : FVec F S1x768 .f32 := k0_pay88 (r157 x w b) (r161 x w b) (r162 x w b) (r163 x w b) (r164 x w b) (r165 x w b) (r166 x w b) (r373 x w b) (r453 x w b) (r472 x w b) (r494 x w b) (r513 x w b) (r532 x w b) (r551 x w b) (r582 x w b) (Scalar.ofBits .f32 0x00000000#32)
def r624 (x : FVec F S768x1024 .bf16) (w : Vec F S128x1024 .bf16) (b : Vec F S128x1 .f32) : FVec F S1x768 .f32 := k0_pay89 (r158 x w b) (r161 x w b) (r162 x w b) (r163 x w b) (r164 x w b) (r165 x w b) (r166 x w b) (r392 x w b) (r453 x w b) (r472 x w b) (r494 x w b) (r513 x w b) (r532 x w b) (r551 x w b) (r582 x w b) (Scalar.ofBits .f32 0x00000000#32)
def r627 (x : FVec F S768x1024 .bf16) (w : Vec F S128x1024 .bf16) (b : Vec F S128x1 .f32) : FVec F S1x768 .f32 := k0_pay90 (r159 x w b) (r161 x w b) (r162 x w b) (r163 x w b) (r164 x w b) (r165 x w b) (r166 x w b) (r415 x w b) (r453 x w b) (r472 x w b) (r494 x w b) (r513 x w b) (r532 x w b) (r551 x w b) (r582 x w b) (Scalar.ofBits .f32 0x00000000#32)
def r628 (x : FVec F S768x1024 .bf16) (w : Vec F S128x1024 .bf16) (b : Vec F S128x1 .f32) : FVec F S1x768 .f32 := k0_pay91 (r160 x w b) (r161 x w b) (r162 x w b) (r163 x w b) (r164 x w b) (r165 x w b) (r166 x w b) (r453 x w b) (r472 x w b) (r494 x w b) (r513 x w b) (r532 x w b) (r551 x w b) (r582 x w b) (Scalar.ofBits .f32 0x00000000#32)
def r630 (x : FVec F S768x1024 .bf16) (w : Vec F S128x1024 .bf16) (b : Vec F S128x1 .f32) : FVec F S1x768 .f32 := k0_pay93 (r434 x w b) (r628 x w b)
def r633 (x : FVec F S768x1024 .bf16) (w : Vec F S128x1024 .bf16) (b : Vec F S128x1 .f32) : FVec F S1x768 .f32 := k0_pay94 (r161 x w b) (r453 x w b) (r600 x w b)
def r636 (x : FVec F S768x1024 .bf16) (w : Vec F S128x1024 .bf16) (b : Vec F S128x1 .f32) : FVec F S1x768 .f32 := k0_pay95 (r162 x w b) (r472 x w b) (r600 x w b)
def r639 (x : FVec F S768x1024 .bf16) (w : Vec F S128x1024 .bf16) (b : Vec F S128x1 .f32) : FVec F S1x768 .f32 := k0_pay96 (r163 x w b) (r494 x w b) (r600 x w b)
def r642 (x : FVec F S768x1024 .bf16) (w : Vec F S128x1024 .bf16) (b : Vec F S128x1 .f32) : FVec F S1x768 .f32 := k0_pay97 (r164 x w b) (r513 x w b) (r600 x w b)
def r645 (x : FVec F S768x1024 .bf16) (w : Vec F S128x1024 .bf16) (b : Vec F S128x1 .f32) : FVec F S1x768 .f32 := k0_pay98 (r165 x w b) (r532 x w b) (r600 x w b)
def r648 (x : FVec F S768x1024 .bf16) (w : Vec F S128x1024 .bf16) (b : Vec F S128x1 .f32) : FVec F S1x768 .f32 := k0_pay99 (r166 x w b) (r551 x w b) (r600 x w b)
def rG (x : FVec F S768x1024 .bf16) (w : Vec F S128x1024 .bf16) (b : Vec F S128x1 .f32) : Vec F S768x128 .f32 := k0_pay100 (r603 x w b) (r606 x w b) (r609 x w b) (r612 x w b) (r615 x w b) (r618 x w b) (r621 x w b) (r624 x w b) (r627 x w b) (r630 x w b) (r633 x w b) (r636 x w b) (r639 x w b) (r642 x w b) (r645 x w b) (r648 x w b)

end rows

/-- The score of token `r` for expert `e`: the sigmoid of the router's product. -/
def S (x : FVec Ideal S768x1024 .bf16) (w : Vec Ideal S128x1024 .bf16) (r : Fin 768) (e : Fin 16) : EReal :=
  Ideal.div 1 (1 + Ideal.exp (0 - ∑ k : Fin 1024, w (ix2 ⟨e.val, by omega⟩ k) * x (ix2 r k)))

/-- The score with the expert's bias. -/
def SB (x : FVec Ideal S768x1024 .bf16) (w : Vec Ideal S128x1024 .bf16) (b : Vec Ideal S128x1 .f32) (r : Fin 768) (e : Fin 16) : EReal :=
  S x w r e + b (ix2 ⟨e.val, by omega⟩ 0)

theorem lt2 (p q r : Prop) [Decidable p] [Decidable q] [Decidable r] :
    IntOp.cmpi .slt (IntOp.addi (IntOp.addi (IntOp.addi 0#32 (if p then 1#32 else 0#32)) (if q then 1#32 else 0#32))
      (if r then 1#32 else 0#32)) 2#32 = BitVec.ofBool (decide (¬ (p ∧ q ∨ p ∧ r ∨ q ∧ r))) := by
  by_cases hp : p <;> by_cases hq : q <;> by_cases hr : r <;> simp only [hp, hq, hr, if_true, if_false] <;> decide

theorem and_bit (p q : Prop) [Decidable p] [Decidable q] :
    IntOp.andi (BitVec.ofBool (decide p)) (BitVec.ofBool (decide q)) = BitVec.ofBool (decide (p ∧ q)) := by
  by_cases hp : p <;> by_cases hq : q <;> simp only [hp, hq] <;> decide

theorem or_bit (p q : Prop) [Decidable p] [Decidable q] :
    IntOp.ori (BitVec.ofBool (decide p)) (BitVec.ofBool (decide q)) = BitVec.ofBool (decide (p ∨ q)) := by
  by_cases hp : p <;> by_cases hq : q <;> simp only [hp, hq] <;> decide

theorem not_bit (p : Prop) [Decidable p] : IntOp.xori (BitVec.ofBool (decide p)) 1#1 = BitVec.ofBool (decide (¬ p)) := by
  by_cases hp : p <;> simp only [hp] <;> decide

theorem bit_congr {p q : Prop} [Decidable p] [Decidable q] (h : p ↔ q) : BitVec.ofBool (decide p) = BitVec.ofBool (decide q) := by
  simp only [h]

theorem sel_bit {α : Type} (p : Prop) [Decidable p] (a b : α) : Scalar.select (BitVec.ofBool (decide p)) a b = if p then a else b := by
  by_cases hp : p <;> simp [hp, Scalar.select]

theorem lt1_forall (P : Fin 4 → Prop) : (∀ g' < (1 : Fin 4), P g') ↔ P 0 := by
  simp only [Fin.forall_fin_succ]; simp
theorem lt2_forall (P : Fin 4 → Prop) : (∀ g' < (2 : Fin 4), P g') ↔ P 0 ∧ P 1 := by
  constructor
  · exact fun h => ⟨h 0 (by decide), h 1 (by decide)⟩
  · rintro ⟨h0, h1⟩ g hg
    have hs : ∀ i : Fin 4, i < 2 → i = 0 ∨ i = 1 := by decide
    rcases hs g hg with rfl | rfl <;> assumption
theorem lt3_forall (P : Fin 4 → Prop) : (∀ g' < (3 : Fin 4), P g') ↔ P 0 ∧ P 1 ∧ P 2 := by
  constructor
  · exact fun h => ⟨h 0 (by decide), h 1 (by decide), h 2 (by decide)⟩
  · rintro ⟨h0, h1, h2⟩ g hg
    have hs : ∀ i : Fin 4, i < 3 → i = 0 ∨ i = 1 ∨ i = 2 := by decide
    rcases hs g hg with rfl | rfl | rfl <;> assumption

/-- The gate of expert `e`: its score over the sum of the scores taken when it is one of the two taken, else zero. -/
def gate (s sb : Fin 16 → EReal) (e : Fin 16) : EReal :=
  if e = T0 sb ∨ e = T1 sb then Ideal.div (s e) (∑ e : Fin 16, (if e = T0 sb ∨ e = T1 sb then s e else 0)) else 0

theorem not_one_lt_zero : ¬ ((1 : EReal) < 0) := not_lt.2 zero_le_one

theorem r151_at (x : FVec Ideal S768x1024 .bf16) (w : Vec Ideal S128x1024 .bf16) (b : Vec Ideal S128x1 .f32) (r : Fin 768) : r151 x w b (ix2 0 r) = S x w r 0 := by
  pointwise [r151, k0_pay5, k0_pay3]
  rfl

theorem r152_at (x : FVec Ideal S768x1024 .bf16) (w : Vec Ideal S128x1024 .bf16) (b : Vec Ideal S128x1 .f32) (r : Fin 768) : r152 x w b (ix2 0 r) = S x w r 1 := by
  pointwise [r152, k0_pay6, k0_pay3]
  rfl

theorem r153_at (x : FVec Ideal S768x1024 .bf16) (w : Vec Ideal S128x1024 .bf16) (b : Vec Ideal S128x1 .f32) (r : Fin 768) : r153 x w b (ix2 0 r) = S x w r 2 := by
  pointwise [r153, k0_pay7, k0_pay3]
  rfl

theorem r154_at (x : FVec Ideal S768x1024 .bf16) (w : Vec Ideal S128x1024 .bf16) (b : Vec Ideal S128x1 .f32) (r : Fin 768) : r154 x w b (ix2 0 r) = S x w r 3 := by
  pointwise [r154, k0_pay8, k0_pay3]
  rfl

theorem r155_at (x : FVec Ideal S768x1024 .bf16) (w : Vec Ideal S128x1024 .bf16) (b : Vec Ideal S128x1 .f32) (r : Fin 768) : r155 x w b (ix2 0 r) = S x w r 4 := by
  pointwise [r155, k0_pay9, k0_pay3]
  rfl

theorem r156_at (x : FVec Ideal S768x1024 .bf16) (w : Vec Ideal S128x1024 .bf16) (b : Vec Ideal S128x1 .f32) (r : Fin 768) : r156 x w b (ix2 0 r) = S x w r 5 := by
  pointwise [r156, k0_pay10, k0_pay3]
  rfl

theorem r157_at (x : FVec Ideal S768x1024 .bf16) (w : Vec Ideal S128x1024 .bf16) (b : Vec Ideal S128x1 .f32) (r : Fin 768) : r157 x w b (ix2 0 r) = S x w r 6 := by
  pointwise [r157, k0_pay11, k0_pay3]
  rfl

theorem r158_at (x : FVec Ideal S768x1024 .bf16) (w : Vec Ideal S128x1024 .bf16) (b : Vec Ideal S128x1 .f32) (r : Fin 768) : r158 x w b (ix2 0 r) = S x w r 7 := by
  pointwise [r158, k0_pay12, k0_pay3]
  rfl

theorem r159_at (x : FVec Ideal S768x1024 .bf16) (w : Vec Ideal S128x1024 .bf16) (b : Vec Ideal S128x1 .f32) (r : Fin 768) : r159 x w b (ix2 0 r) = S x w r 8 := by
  pointwise [r159, k0_pay13, k0_pay3]
  rfl

theorem r160_at (x : FVec Ideal S768x1024 .bf16) (w : Vec Ideal S128x1024 .bf16) (b : Vec Ideal S128x1 .f32) (r : Fin 768) : r160 x w b (ix2 0 r) = S x w r 9 := by
  pointwise [r160, k0_pay14, k0_pay3]
  rfl

theorem r161_at (x : FVec Ideal S768x1024 .bf16) (w : Vec Ideal S128x1024 .bf16) (b : Vec Ideal S128x1 .f32) (r : Fin 768) : r161 x w b (ix2 0 r) = S x w r 10 := by
  pointwise [r161, k0_pay15, k0_pay3]
  rfl

theorem r162_at (x : FVec Ideal S768x1024 .bf16) (w : Vec Ideal S128x1024 .bf16) (b : Vec Ideal S128x1 .f32) (r : Fin 768) : r162 x w b (ix2 0 r) = S x w r 11 := by
  pointwise [r162, k0_pay16, k0_pay3]
  rfl

theorem r163_at (x : FVec Ideal S768x1024 .bf16) (w : Vec Ideal S128x1024 .bf16) (b : Vec Ideal S128x1 .f32) (r : Fin 768) : r163 x w b (ix2 0 r) = S x w r 12 := by
  pointwise [r163, k0_pay17, k0_pay3]
  rfl

theorem r164_at (x : FVec Ideal S768x1024 .bf16) (w : Vec Ideal S128x1024 .bf16) (b : Vec Ideal S128x1 .f32) (r : Fin 768) : r164 x w b (ix2 0 r) = S x w r 13 := by
  pointwise [r164, k0_pay18, k0_pay3]
  rfl

theorem r165_at (x : FVec Ideal S768x1024 .bf16) (w : Vec Ideal S128x1024 .bf16) (b : Vec Ideal S128x1 .f32) (r : Fin 768) : r165 x w b (ix2 0 r) = S x w r 14 := by
  pointwise [r165, k0_pay19, k0_pay3]
  rfl

theorem r166_at (x : FVec Ideal S768x1024 .bf16) (w : Vec Ideal S128x1024 .bf16) (b : Vec Ideal S128x1 .f32) (r : Fin 768) : r166 x w b (ix2 0 r) = S x w r 15 := by
  pointwise [r166, k0_pay20, k0_pay3]
  rfl

theorem r167_at (x : FVec Ideal S768x1024 .bf16) (w : Vec Ideal S128x1024 .bf16) (b : Vec Ideal S128x1 .f32) (r : Fin 768) : r167 x w b (ix2 0 r) = SB x w b r 0 := by
  pointwise [r167, k0_pay21, k0_pay4, k0_pay3]
  rfl

theorem r168_at (x : FVec Ideal S768x1024 .bf16) (w : Vec Ideal S128x1024 .bf16) (b : Vec Ideal S128x1 .f32) (r : Fin 768) : r168 x w b (ix2 0 r) = SB x w b r 1 := by
  pointwise [r168, k0_pay22, k0_pay4, k0_pay3]
  rfl

theorem r169_at (x : FVec Ideal S768x1024 .bf16) (w : Vec Ideal S128x1024 .bf16) (b : Vec Ideal S128x1 .f32) (r : Fin 768) : r169 x w b (ix2 0 r) = SB x w b r 2 := by
  pointwise [r169, k0_pay23, k0_pay4, k0_pay3]
  rfl

theorem r170_at (x : FVec Ideal S768x1024 .bf16) (w : Vec Ideal S128x1024 .bf16) (b : Vec Ideal S128x1 .f32) (r : Fin 768) : r170 x w b (ix2 0 r) = SB x w b r 3 := by
  pointwise [r170, k0_pay24, k0_pay4, k0_pay3]
  rfl

theorem r171_at (x : FVec Ideal S768x1024 .bf16) (w : Vec Ideal S128x1024 .bf16) (b : Vec Ideal S128x1 .f32) (r : Fin 768) : r171 x w b (ix2 0 r) = SB x w b r 4 := by
  pointwise [r171, k0_pay25, k0_pay4, k0_pay3]
  rfl

theorem r172_at (x : FVec Ideal S768x1024 .bf16) (w : Vec Ideal S128x1024 .bf16) (b : Vec Ideal S128x1 .f32) (r : Fin 768) : r172 x w b (ix2 0 r) = SB x w b r 5 := by
  pointwise [r172, k0_pay26, k0_pay4, k0_pay3]
  rfl

theorem r173_at (x : FVec Ideal S768x1024 .bf16) (w : Vec Ideal S128x1024 .bf16) (b : Vec Ideal S128x1 .f32) (r : Fin 768) : r173 x w b (ix2 0 r) = SB x w b r 6 := by
  pointwise [r173, k0_pay27, k0_pay4, k0_pay3]
  rfl

theorem r174_at (x : FVec Ideal S768x1024 .bf16) (w : Vec Ideal S128x1024 .bf16) (b : Vec Ideal S128x1 .f32) (r : Fin 768) : r174 x w b (ix2 0 r) = SB x w b r 7 := by
  pointwise [r174, k0_pay28, k0_pay4, k0_pay3]
  rfl

theorem r175_at (x : FVec Ideal S768x1024 .bf16) (w : Vec Ideal S128x1024 .bf16) (b : Vec Ideal S128x1 .f32) (r : Fin 768) : r175 x w b (ix2 0 r) = SB x w b r 8 := by
  pointwise [r175, k0_pay29, k0_pay4, k0_pay3]
  rfl

theorem r176_at (x : FVec Ideal S768x1024 .bf16) (w : Vec Ideal S128x1024 .bf16) (b : Vec Ideal S128x1 .f32) (r : Fin 768) : r176 x w b (ix2 0 r) = SB x w b r 9 := by
  pointwise [r176, k0_pay30, k0_pay4, k0_pay3]
  rfl

theorem r177_at (x : FVec Ideal S768x1024 .bf16) (w : Vec Ideal S128x1024 .bf16) (b : Vec Ideal S128x1 .f32) (r : Fin 768) : r177 x w b (ix2 0 r) = SB x w b r 10 := by
  pointwise [r177, k0_pay31, k0_pay4, k0_pay3]
  rfl

theorem r178_at (x : FVec Ideal S768x1024 .bf16) (w : Vec Ideal S128x1024 .bf16) (b : Vec Ideal S128x1 .f32) (r : Fin 768) : r178 x w b (ix2 0 r) = SB x w b r 11 := by
  pointwise [r178, k0_pay32, k0_pay4, k0_pay3]
  rfl

theorem r179_at (x : FVec Ideal S768x1024 .bf16) (w : Vec Ideal S128x1024 .bf16) (b : Vec Ideal S128x1 .f32) (r : Fin 768) : r179 x w b (ix2 0 r) = SB x w b r 12 := by
  pointwise [r179, k0_pay33, k0_pay4, k0_pay3]
  rfl

theorem r180_at (x : FVec Ideal S768x1024 .bf16) (w : Vec Ideal S128x1024 .bf16) (b : Vec Ideal S128x1 .f32) (r : Fin 768) : r180 x w b (ix2 0 r) = SB x w b r 13 := by
  pointwise [r180, k0_pay34, k0_pay4, k0_pay3]
  rfl

theorem r181_at (x : FVec Ideal S768x1024 .bf16) (w : Vec Ideal S128x1024 .bf16) (b : Vec Ideal S128x1 .f32) (r : Fin 768) : r181 x w b (ix2 0 r) = SB x w b r 14 := by
  pointwise [r181, k0_pay35, k0_pay4, k0_pay3]
  rfl

theorem r182_at (x : FVec Ideal S768x1024 .bf16) (w : Vec Ideal S128x1024 .bf16) (b : Vec Ideal S128x1 .f32) (r : Fin 768) : r182 x w b (ix2 0 r) = SB x w b r 15 := by
  pointwise [r182, k0_pay36, k0_pay4, k0_pay3]
  rfl

theorem r204_at (x : FVec Ideal S768x1024 .bf16) (w : Vec Ideal S128x1024 .bf16) (b : Vec Ideal S128x1 .f32) (r : Fin 768) : r204 x w b (ix2 0 r) = gsc (SB x w b r) 1 := by
  refine Eq.trans ?_ (pair_max (grp (SB x w b r) 1))
  pointwise [r204, k0_pay40]
  simp only [r171_at, r172_at, r173_at, r174_at]
  rfl

theorem r215_at (x : FVec Ideal S768x1024 .bf16) (w : Vec Ideal S128x1024 .bf16) (b : Vec Ideal S128x1 .f32) (r : Fin 768) : r215 x w b (ix2 0 r) = gsc (SB x w b r) 2 := by
  refine Eq.trans ?_ (pair_max (grp (SB x w b r) 2))
  pointwise [r215, k0_pay41]
  simp only [r175_at, r176_at, r177_at, r178_at]
  rfl

theorem r226_at (x : FVec Ideal S768x1024 .bf16) (w : Vec Ideal S128x1024 .bf16) (b : Vec Ideal S128x1 .f32) (r : Fin 768) : r226 x w b (ix2 0 r) = gsc (SB x w b r) 3 := by
  refine Eq.trans ?_ (pair_max (grp (SB x w b r) 3))
  pointwise [r226, k0_pay42]
  simp only [r179_at, r180_at, r181_at, r182_at]
  rfl

theorem g0_at (x : FVec Ideal S768x1024 .bf16) (w : Vec Ideal S128x1024 .bf16) (b : Vec Ideal S128x1 .f32) (r : Fin 768) : k0_pay39 (r168 x w b) (r169 x w b) (r170 x w b) (r187 x w b) (r188 x w b) (ix2 0 r) = gsc (SB x w b r) 0 := by
  refine Eq.trans ?_ (pair_max (grp (SB x w b r) 0))
  pointwise [r187, r188, k0_pay37, k0_pay38, k0_pay39, k0_pay21, k0_pay22, k0_pay23, k0_pay24, k0_pay4, k0_pay3]
  simp only [r168_at, r169_at, r170_at]
  rfl

theorem r229_at (x : FVec Ideal S768x1024 .bf16) (w : Vec Ideal S128x1024 .bf16) (b : Vec Ideal S128x1 .f32) (r : Fin 768) : r229 x w b (ix2 0 r) = max (max (max (gsc (SB x w b r) 0) (gsc (SB x w b r) 1)) (gsc (SB x w b r) 2)) (gsc (SB x w b r) 3) := by
  rw [← g0_at x w b r, ← r204_at x w b r, ← r215_at x w b r, ← r226_at x w b r]
  pointwise [r229, r204, r215, r226, k0_pay43]

theorem r235_at (x : FVec Ideal S768x1024 .bf16) (w : Vec Ideal S128x1024 .bf16) (b : Vec Ideal S128x1 .f32) (r : Fin 768) : r235 x w b (ix2 0 r) = BitVec.ofBool (decide ((0 : Fin 4) = G (SB x w b r))) := by
  pointwise [r235, k0_pay45, k0_pay44]
  rw [g0_at, show k0_pay43 _ _ _ _ _ _ _ _ _ _ _ _ _ _ _ _ _ (ix2 0 r) = _ from r229_at x w b r, not_bit, and_bit]
  refine bit_congr ?_
  rw [G, ← G_iff]
  simp [not_one_lt_zero]

theorem r236_at (x : FVec Ideal S768x1024 .bf16) (w : Vec Ideal S128x1024 .bf16) (b : Vec Ideal S128x1 .f32) (r : Fin 768) : r236 x w b (ix2 0 r) = BitVec.ofBool (decide (gsc (SB x w b r) 0 = max (max (max (gsc (SB x w b r) 0) (gsc (SB x w b r) 1)) (gsc (SB x w b r) 2)) (gsc (SB x w b r) 3))) := by
  pointwise [r236, k0_pay46, k0_pay45, k0_pay44]
  rw [g0_at, show k0_pay43 _ _ _ _ _ _ _ _ _ _ _ _ _ _ _ _ _ (ix2 0 r) = _ from r229_at x w b r, not_bit, and_bit, or_bit]
  refine bit_congr ?_
  simp [not_one_lt_zero]

theorem r316_at (x : FVec Ideal S768x1024 .bf16) (w : Vec Ideal S128x1024 .bf16) (b : Vec Ideal S128x1 .f32) (r : Fin 768) : r316 x w b (ix2 0 r) = BitVec.ofBool (decide (gsc (SB x w b r) 0 = max (max (max (gsc (SB x w b r) 0) (gsc (SB x w b r) 1)) (gsc (SB x w b r) 2)) (gsc (SB x w b r) 3) ∨ gsc (SB x w b r) 1 = max (max (max (gsc (SB x w b r) 0) (gsc (SB x w b r) 1)) (gsc (SB x w b r) 2)) (gsc (SB x w b r) 3))) := by
  pointwise [r316, k0_pay55, k0_pay54]
  rw [r236_at, r204_at, r229_at, not_bit, and_bit, or_bit]
  refine bit_congr ?_
  tauto

theorem r396_at (x : FVec Ideal S768x1024 .bf16) (w : Vec Ideal S128x1024 .bf16) (b : Vec Ideal S128x1 .f32) (r : Fin 768) : r396 x w b (ix2 0 r) = BitVec.ofBool (decide ((gsc (SB x w b r) 0 = max (max (max (gsc (SB x w b r) 0) (gsc (SB x w b r) 1)) (gsc (SB x w b r) 2)) (gsc (SB x w b r) 3) ∨ gsc (SB x w b r) 1 = max (max (max (gsc (SB x w b r) 0) (gsc (SB x w b r) 1)) (gsc (SB x w b r) 2)) (gsc (SB x w b r) 3)) ∨ gsc (SB x w b r) 2 = max (max (max (gsc (SB x w b r) 0) (gsc (SB x w b r) 1)) (gsc (SB x w b r) 2)) (gsc (SB x w b r) 3))) := by
  pointwise [r396, k0_pay64, k0_pay63]
  rw [r316_at, r215_at, r229_at, not_bit, and_bit, or_bit]
  refine bit_congr ?_
  tauto

theorem r315_at (x : FVec Ideal S768x1024 .bf16) (w : Vec Ideal S128x1024 .bf16) (b : Vec Ideal S128x1 .f32) (r : Fin 768) : r315 x w b (ix2 0 r) = BitVec.ofBool (decide ((1 : Fin 4) = G (SB x w b r))) := by
  pointwise [r315, k0_pay54]
  rw [r236_at, r204_at, r229_at, not_bit, and_bit]
  refine bit_congr ?_
  rw [G, ← G_iff, lt1_forall]

theorem r395_at (x : FVec Ideal S768x1024 .bf16) (w : Vec Ideal S128x1024 .bf16) (b : Vec Ideal S128x1 .f32) (r : Fin 768) : r395 x w b (ix2 0 r) = BitVec.ofBool (decide ((2 : Fin 4) = G (SB x w b r))) := by
  pointwise [r395, k0_pay63]
  rw [r316_at, r215_at, r229_at, not_bit, and_bit]
  refine bit_congr ?_
  rw [G, ← G_iff, lt2_forall]
  tauto

theorem r475_at (x : FVec Ideal S768x1024 .bf16) (w : Vec Ideal S128x1024 .bf16) (b : Vec Ideal S128x1 .f32) (r : Fin 768) : r475 x w b (ix2 0 r) = BitVec.ofBool (decide ((3 : Fin 4) = G (SB x w b r))) := by
  pointwise [r475, k0_pay71]
  rw [r396_at, r226_at, r229_at, not_bit, and_bit]
  refine bit_congr ?_
  rw [G, ← G_iff, lt3_forall]
  tauto

theorem r255_at (x : FVec Ideal S768x1024 .bf16) (w : Vec Ideal S128x1024 .bf16) (b : Vec Ideal S128x1 .f32) (r : Fin 768) : r255 x w b (ix2 0 r) = BitVec.ofBool (decide ((0 : Fin 16) = T0 (SB x w b r) ∨ (0 : Fin 16) = T1 (SB x w b r))) := by
  pointwise [r255, k0_pay48, r242, k0_pay47]
  simp only [r235_at, r167_at, r168_at, r169_at, r170_at, r171_at, r172_at, r173_at, r174_at, r175_at, r176_at, r177_at, r178_at, r179_at, r180_at, r181_at, r182_at]
  rw [lt2, and_bit]
  exact bit_congr (taken_iff (SB x w b r) 0 0 (cnt0 (grp (SB x w b r) 0)))

theorem r274_at (x : FVec Ideal S768x1024 .bf16) (w : Vec Ideal S128x1024 .bf16) (b : Vec Ideal S128x1 .f32) (r : Fin 768) : r274 x w b (ix2 0 r) = BitVec.ofBool (decide ((1 : Fin 16) = T0 (SB x w b r) ∨ (1 : Fin 16) = T1 (SB x w b r))) := by
  pointwise [r274, k0_pay49]
  simp only [r235_at, r167_at, r168_at, r169_at, r170_at, r171_at, r172_at, r173_at, r174_at, r175_at, r176_at, r177_at, r178_at, r179_at, r180_at, r181_at, r182_at]
  rw [lt2, and_bit]
  exact bit_congr (taken_iff (SB x w b r) 0 1 (cnt1 (grp (SB x w b r) 0)))

theorem r293_at (x : FVec Ideal S768x1024 .bf16) (w : Vec Ideal S128x1024 .bf16) (b : Vec Ideal S128x1 .f32) (r : Fin 768) : r293 x w b (ix2 0 r) = BitVec.ofBool (decide ((2 : Fin 16) = T0 (SB x w b r) ∨ (2 : Fin 16) = T1 (SB x w b r))) := by
  pointwise [r293, k0_pay52, r280, k0_pay50, r284, k0_pay51]
  simp only [r235_at, r167_at, r168_at, r169_at, r170_at, r171_at, r172_at, r173_at, r174_at, r175_at, r176_at, r177_at, r178_at, r179_at, r180_at, r181_at, r182_at]
  rw [lt2, and_bit]
  exact bit_congr (taken_iff (SB x w b r) 0 2 (cnt2 (grp (SB x w b r) 0)))

theorem r312_at (x : FVec Ideal S768x1024 .bf16) (w : Vec Ideal S128x1024 .bf16) (b : Vec Ideal S128x1 .f32) (r : Fin 768) : r312 x w b (ix2 0 r) = BitVec.ofBool (decide ((3 : Fin 16) = T0 (SB x w b r) ∨ (3 : Fin 16) = T1 (SB x w b r))) := by
  pointwise [r312, k0_pay53]
  simp only [r235_at, r167_at, r168_at, r169_at, r170_at, r171_at, r172_at, r173_at, r174_at, r175_at, r176_at, r177_at, r178_at, r179_at, r180_at, r181_at, r182_at]
  rw [lt2, and_bit]
  exact bit_congr (taken_iff (SB x w b r) 0 3 (cnt3 (grp (SB x w b r) 0)))

theorem r335_at (x : FVec Ideal S768x1024 .bf16) (w : Vec Ideal S128x1024 .bf16) (b : Vec Ideal S128x1 .f32) (r : Fin 768) : r335 x w b (ix2 0 r) = BitVec.ofBool (decide ((4 : Fin 16) = T0 (SB x w b r) ∨ (4 : Fin 16) = T1 (SB x w b r))) := by
  pointwise [r335, k0_pay57, r327, k0_pay56]
  simp only [r315_at, r167_at, r168_at, r169_at, r170_at, r171_at, r172_at, r173_at, r174_at, r175_at, r176_at, r177_at, r178_at, r179_at, r180_at, r181_at, r182_at]
  rw [lt2, and_bit]
  exact bit_congr (taken_iff (SB x w b r) 1 0 (cnt0 (grp (SB x w b r) 1)))

theorem r354_at (x : FVec Ideal S768x1024 .bf16) (w : Vec Ideal S128x1024 .bf16) (b : Vec Ideal S128x1 .f32) (r : Fin 768) : r354 x w b (ix2 0 r) = BitVec.ofBool (decide ((5 : Fin 16) = T0 (SB x w b r) ∨ (5 : Fin 16) = T1 (SB x w b r))) := by
  pointwise [r354, k0_pay58]
  simp only [r315_at, r167_at, r168_at, r169_at, r170_at, r171_at, r172_at, r173_at, r174_at, r175_at, r176_at, r177_at, r178_at, r179_at, r180_at, r181_at, r182_at]
  rw [lt2, and_bit]
  exact bit_congr (taken_iff (SB x w b r) 1 1 (cnt1 (grp (SB x w b r) 1)))

theorem r373_at (x : FVec Ideal S768x1024 .bf16) (w : Vec Ideal S128x1024 .bf16) (b : Vec Ideal S128x1 .f32) (r : Fin 768) : r373 x w b (ix2 0 r) = BitVec.ofBool (decide ((6 : Fin 16) = T0 (SB x w b r) ∨ (6 : Fin 16) = T1 (SB x w b r))) := by
  pointwise [r373, k0_pay61, r365, k0_pay59, r369, k0_pay60]
  simp only [r315_at, r167_at, r168_at, r169_at, r170_at, r171_at, r172_at, r173_at, r174_at, r175_at, r176_at, r177_at, r178_at, r179_at, r180_at, r181_at, r182_at]
  rw [lt2, and_bit]
  exact bit_congr (taken_iff (SB x w b r) 1 2 (cnt2 (grp (SB x w b r) 1)))

theorem r392_at (x : FVec Ideal S768x1024 .bf16) (w : Vec Ideal S128x1024 .bf16) (b : Vec Ideal S128x1 .f32) (r : Fin 768) : r392 x w b (ix2 0 r) = BitVec.ofBool (decide ((7 : Fin 16) = T0 (SB x w b r) ∨ (7 : Fin 16) = T1 (SB x w b r))) := by
  pointwise [r392, k0_pay62]
  simp only [r315_at, r167_at, r168_at, r169_at, r170_at, r171_at, r172_at, r173_at, r174_at, r175_at, r176_at, r177_at, r178_at, r179_at, r180_at, r181_at, r182_at]
  rw [lt2, and_bit]
  exact bit_congr (taken_iff (SB x w b r) 1 3 (cnt3 (grp (SB x w b r) 1)))

theorem r415_at (x : FVec Ideal S768x1024 .bf16) (w : Vec Ideal S128x1024 .bf16) (b : Vec Ideal S128x1 .f32) (r : Fin 768) : r415 x w b (ix2 0 r) = BitVec.ofBool (decide ((8 : Fin 16) = T0 (SB x w b r) ∨ (8 : Fin 16) = T1 (SB x w b r))) := by
  pointwise [r415, k0_pay66, r412, k0_pay65]
  simp only [r395_at, r167_at, r168_at, r169_at, r170_at, r171_at, r172_at, r173_at, r174_at, r175_at, r176_at, r177_at, r178_at, r179_at, r180_at, r181_at, r182_at]
  rw [lt2, and_bit]
  exact bit_congr (taken_iff (SB x w b r) 2 0 (cnt0 (grp (SB x w b r) 2)))

theorem r434_at (x : FVec Ideal S768x1024 .bf16) (w : Vec Ideal S128x1024 .bf16) (b : Vec Ideal S128x1 .f32) (r : Fin 768) : r434 x w b (ix2 0 r) = BitVec.ofBool (decide ((9 : Fin 16) = T0 (SB x w b r) ∨ (9 : Fin 16) = T1 (SB x w b r))) := by
  pointwise [r434, k0_pay67]
  simp only [r395_at, r167_at, r168_at, r169_at, r170_at, r171_at, r172_at, r173_at, r174_at, r175_at, r176_at, r177_at, r178_at, r179_at, r180_at, r181_at, r182_at]
  rw [lt2, and_bit]
  exact bit_congr (taken_iff (SB x w b r) 2 1 (cnt1 (grp (SB x w b r) 2)))

theorem r453_at (x : FVec Ideal S768x1024 .bf16) (w : Vec Ideal S128x1024 .bf16) (b : Vec Ideal S128x1 .f32) (r : Fin 768) : r453 x w b (ix2 0 r) = BitVec.ofBool (decide ((10 : Fin 16) = T0 (SB x w b r) ∨ (10 : Fin 16) = T1 (SB x w b r))) := by
  pointwise [r453, k0_pay68]
  simp only [r395_at, r167_at, r168_at, r169_at, r170_at, r171_at, r172_at, r173_at, r174_at, r175_at, r176_at, r177_at, r178_at, r179_at, r180_at, r181_at, r182_at]
  rw [lt2, and_bit]
  exact bit_congr (taken_iff (SB x w b r) 2 2 (cnt2 (grp (SB x w b r) 2)))

theorem r472_at (x : FVec Ideal S768x1024 .bf16) (w : Vec Ideal S128x1024 .bf16) (b : Vec Ideal S128x1 .f32) (r : Fin 768) : r472 x w b (ix2 0 r) = BitVec.ofBool (decide ((11 : Fin 16) = T0 (SB x w b r) ∨ (11 : Fin 16) = T1 (SB x w b r))) := by
  pointwise [r472, k0_pay70, r454, k0_pay69]
  simp only [r395_at, r167_at, r168_at, r169_at, r170_at, r171_at, r172_at, r173_at, r174_at, r175_at, r176_at, r177_at, r178_at, r179_at, r180_at, r181_at, r182_at]
  rw [lt2, and_bit]
  exact bit_congr (taken_iff (SB x w b r) 2 3 (cnt3 (grp (SB x w b r) 2)))

theorem r494_at (x : FVec Ideal S768x1024 .bf16) (w : Vec Ideal S128x1024 .bf16) (b : Vec Ideal S128x1 .f32) (r : Fin 768) : r494 x w b (ix2 0 r) = BitVec.ofBool (decide ((12 : Fin 16) = T0 (SB x w b r) ∨ (12 : Fin 16) = T1 (SB x w b r))) := by
  pointwise [r494, k0_pay72]
  simp only [show k0_pay71 (r226 x w b) (r229 x w b) (r396 x w b) (ix2 0 r) = _ from r475_at x w b r, r167_at, r168_at, r169_at, r170_at, r171_at, r172_at, r173_at, r174_at, r175_at, r176_at, r177_at, r178_at, r179_at, r180_at, r181_at, r182_at]
  rw [lt2, and_bit]
  exact bit_congr (taken_iff (SB x w b r) 3 0 (cnt0 (grp (SB x w b r) 3)))

theorem r513_at (x : FVec Ideal S768x1024 .bf16) (w : Vec Ideal S128x1024 .bf16) (b : Vec Ideal S128x1 .f32) (r : Fin 768) : r513 x w b (ix2 0 r) = BitVec.ofBool (decide ((13 : Fin 16) = T0 (SB x w b r) ∨ (13 : Fin 16) = T1 (SB x w b r))) := by
  pointwise [r513, k0_pay75, r495, k0_pay73, r496, k0_pay74]
  simp only [r475_at, r167_at, r168_at, r169_at, r170_at, r171_at, r172_at, r173_at, r174_at, r175_at, r176_at, r177_at, r178_at, r179_at, r180_at, r181_at, r182_at]
  rw [lt2, and_bit]
  exact bit_congr (taken_iff (SB x w b r) 3 1 (cnt1 (grp (SB x w b r) 3)))

theorem r532_at (x : FVec Ideal S768x1024 .bf16) (w : Vec Ideal S128x1024 .bf16) (b : Vec Ideal S128x1 .f32) (r : Fin 768) : r532 x w b (ix2 0 r) = BitVec.ofBool (decide ((14 : Fin 16) = T0 (SB x w b r) ∨ (14 : Fin 16) = T1 (SB x w b r))) := by
  pointwise [r532, k0_pay76]
  simp only [r475_at, r167_at, r168_at, r169_at, r170_at, r171_at, r172_at, r173_at, r174_at, r175_at, r176_at, r177_at, r178_at, r179_at, r180_at, r181_at, r182_at]
  rw [lt2, and_bit]
  exact bit_congr (taken_iff (SB x w b r) 3 2 (cnt2 (grp (SB x w b r) 3)))

theorem r551_at (x : FVec Ideal S768x1024 .bf16) (w : Vec Ideal S128x1024 .bf16) (b : Vec Ideal S128x1 .f32) (r : Fin 768) : r551 x w b (ix2 0 r) = BitVec.ofBool (decide ((15 : Fin 16) = T0 (SB x w b r) ∨ (15 : Fin 16) = T1 (SB x w b r))) := by
  pointwise [r551, k0_pay79, r538, k0_pay77, r539, k0_pay78]
  simp only [r475_at, r167_at, r168_at, r169_at, r170_at, r171_at, r172_at, r173_at, r174_at, r175_at, r176_at, r177_at, r178_at, r179_at, r180_at, r181_at, r182_at]
  rw [lt2, and_bit]
  exact bit_congr (taken_iff (SB x w b r) 3 3 (cnt3 (grp (SB x w b r) 3)))

/-- The two scores taken, together. -/
theorem r600_at (x : FVec Ideal S768x1024 .bf16) (w : Vec Ideal S128x1024 .bf16) (b : Vec Ideal S128x1 .f32) (r : Fin 768) : r600 x w b (ix2 0 r) = ∑ e : Fin 16, (if e = T0 (SB x w b r) ∨ e = T1 (SB x w b r) then S x w r e else 0) := by
  pointwise [r600, k0_pay81, r582, k0_pay80]
  simp only [r255_at, r274_at, r293_at, r312_at, r335_at, r354_at, r373_at, r392_at, r415_at, r434_at, r453_at, r472_at, r494_at, r513_at, r532_at, r551_at, r151_at, r152_at, r153_at, r154_at, r155_at, r156_at, r157_at, r158_at, r159_at, r160_at, r161_at, r162_at, r163_at, r164_at, r165_at, r166_at, sel_bit, Fin.sum_univ_succ, Fin.sum_univ_zero]
  simp only [add_assoc, add_zero, zero_add]
  rfl

theorem den_at (x : FVec Ideal S768x1024 .bf16) (w : Vec Ideal S128x1024 .bf16) (b : Vec Ideal S128x1 .f32) (r : Fin 768) : k0_pay81 (F := Ideal) (r161 x w b) (r162 x w b) (r163 x w b) (r164 x w b) (r165 x w b) (r166 x w b) (r453 x w b) (r472 x w b) (r494 x w b) (r513 x w b) (r532 x w b) (r551 x w b) (r582 x w b) (0 : EReal) (ix2 0 r) = ∑ e : Fin 16, (if e = T0 (SB x w b r) ∨ e = T1 (SB x w b r) then S x w r e else 0) := by
  rw [← r600_at x w b r]
  pointwise [r600, k0_pay81]

theorem r603_at (x : FVec Ideal S768x1024 .bf16) (w : Vec Ideal S128x1024 .bf16) (b : Vec Ideal S128x1 .f32) (r : Fin 768) : r603 x w b (ix2 0 r) = gate (S x w r) (SB x w b r) 0 := by
  pointwise [r603, k0_pay82]
  rw [den_at, r255_at, r151_at, sel_bit]
  rfl

theorem r606_at (x : FVec Ideal S768x1024 .bf16) (w : Vec Ideal S128x1024 .bf16) (b : Vec Ideal S128x1 .f32) (r : Fin 768) : r606 x w b (ix2 0 r) = gate (S x w r) (SB x w b r) 1 := by
  pointwise [r606, k0_pay83]
  rw [den_at, r274_at, r152_at, sel_bit]
  rfl

theorem r609_at (x : FVec Ideal S768x1024 .bf16) (w : Vec Ideal S128x1024 .bf16) (b : Vec Ideal S128x1 .f32) (r : Fin 768) : r609 x w b (ix2 0 r) = gate (S x w r) (SB x w b r) 2 := by
  pointwise [r609, k0_pay84]
  rw [den_at, r293_at, r153_at, sel_bit]
  rfl

theorem r612_at (x : FVec Ideal S768x1024 .bf16) (w : Vec Ideal S128x1024 .bf16) (b : Vec Ideal S128x1 .f32) (r : Fin 768) : r612 x w b (ix2 0 r) = gate (S x w r) (SB x w b r) 3 := by
  pointwise [r612, k0_pay85]
  rw [den_at, r312_at, r154_at, sel_bit]
  rfl

theorem r615_at (x : FVec Ideal S768x1024 .bf16) (w : Vec Ideal S128x1024 .bf16) (b : Vec Ideal S128x1 .f32) (r : Fin 768) : r615 x w b (ix2 0 r) = gate (S x w r) (SB x w b r) 4 := by
  pointwise [r615, k0_pay86]
  rw [den_at, r335_at, r155_at, sel_bit]
  rfl

theorem r618_at (x : FVec Ideal S768x1024 .bf16) (w : Vec Ideal S128x1024 .bf16) (b : Vec Ideal S128x1 .f32) (r : Fin 768) : r618 x w b (ix2 0 r) = gate (S x w r) (SB x w b r) 5 := by
  pointwise [r618, k0_pay87]
  rw [den_at, r354_at, r156_at, sel_bit]
  rfl

theorem r621_at (x : FVec Ideal S768x1024 .bf16) (w : Vec Ideal S128x1024 .bf16) (b : Vec Ideal S128x1 .f32) (r : Fin 768) : r621 x w b (ix2 0 r) = gate (S x w r) (SB x w b r) 6 := by
  pointwise [r621, k0_pay88]
  rw [den_at, r373_at, r157_at, sel_bit]
  rfl

theorem r624_at (x : FVec Ideal S768x1024 .bf16) (w : Vec Ideal S128x1024 .bf16) (b : Vec Ideal S128x1 .f32) (r : Fin 768) : r624 x w b (ix2 0 r) = gate (S x w r) (SB x w b r) 7 := by
  pointwise [r624, k0_pay89]
  rw [den_at, r392_at, r158_at, sel_bit]
  rfl

theorem r627_at (x : FVec Ideal S768x1024 .bf16) (w : Vec Ideal S128x1024 .bf16) (b : Vec Ideal S128x1 .f32) (r : Fin 768) : r627 x w b (ix2 0 r) = gate (S x w r) (SB x w b r) 8 := by
  pointwise [r627, k0_pay90]
  rw [den_at, r415_at, r159_at, sel_bit]
  rfl

theorem r630_at (x : FVec Ideal S768x1024 .bf16) (w : Vec Ideal S128x1024 .bf16) (b : Vec Ideal S128x1 .f32) (r : Fin 768) : r630 x w b (ix2 0 r) = gate (S x w r) (SB x w b r) 9 := by
  pointwise [r630, r628, k0_pay93, k0_pay91]
  rw [den_at, r434_at, r160_at, sel_bit]
  rfl

theorem r633_at (x : FVec Ideal S768x1024 .bf16) (w : Vec Ideal S128x1024 .bf16) (b : Vec Ideal S128x1 .f32) (r : Fin 768) : r633 x w b (ix2 0 r) = gate (S x w r) (SB x w b r) 10 := by
  pointwise [r633, k0_pay94]
  rw [r600_at, r453_at, r161_at, sel_bit]
  rfl

theorem r636_at (x : FVec Ideal S768x1024 .bf16) (w : Vec Ideal S128x1024 .bf16) (b : Vec Ideal S128x1 .f32) (r : Fin 768) : r636 x w b (ix2 0 r) = gate (S x w r) (SB x w b r) 11 := by
  pointwise [r636, k0_pay95]
  rw [r600_at, r472_at, r162_at, sel_bit]
  rfl

theorem r639_at (x : FVec Ideal S768x1024 .bf16) (w : Vec Ideal S128x1024 .bf16) (b : Vec Ideal S128x1 .f32) (r : Fin 768) : r639 x w b (ix2 0 r) = gate (S x w r) (SB x w b r) 12 := by
  pointwise [r639, k0_pay96]
  rw [r600_at, r494_at, r163_at, sel_bit]
  rfl

theorem r642_at (x : FVec Ideal S768x1024 .bf16) (w : Vec Ideal S128x1024 .bf16) (b : Vec Ideal S128x1 .f32) (r : Fin 768) : r642 x w b (ix2 0 r) = gate (S x w r) (SB x w b r) 13 := by
  pointwise [r642, k0_pay97]
  rw [r600_at, r513_at, r164_at, sel_bit]
  rfl

theorem r645_at (x : FVec Ideal S768x1024 .bf16) (w : Vec Ideal S128x1024 .bf16) (b : Vec Ideal S128x1 .f32) (r : Fin 768) : r645 x w b (ix2 0 r) = gate (S x w r) (SB x w b r) 14 := by
  pointwise [r645, k0_pay98]
  rw [r600_at, r532_at, r165_at, sel_bit]
  rfl

theorem r648_at (x : FVec Ideal S768x1024 .bf16) (w : Vec Ideal S128x1024 .bf16) (b : Vec Ideal S128x1 .f32) (r : Fin 768) : r648 x w b (ix2 0 r) = gate (S x w r) (SB x w b r) 15 := by
  pointwise [r648, k0_pay99]
  rw [r600_at, r551_at, r166_at, sel_bit]
  rfl

theorem rG_0 (x : FVec Ideal S768x1024 .bf16) (w : Vec Ideal S128x1024 .bf16) (b : Vec Ideal S128x1 .f32) (r : Fin 768) : rG x w b (ix2 r (0 : Fin 128)) = gate (S x w r) (SB x w b r) 0 := by
  pointwise [rG, k0_pay100]
  exact r603_at x w b r

theorem rG_1 (x : FVec Ideal S768x1024 .bf16) (w : Vec Ideal S128x1024 .bf16) (b : Vec Ideal S128x1 .f32) (r : Fin 768) : rG x w b (ix2 r (1 : Fin 128)) = gate (S x w r) (SB x w b r) 1 := by
  pointwise [rG, k0_pay100]
  exact r606_at x w b r

theorem rG_2 (x : FVec Ideal S768x1024 .bf16) (w : Vec Ideal S128x1024 .bf16) (b : Vec Ideal S128x1 .f32) (r : Fin 768) : rG x w b (ix2 r (2 : Fin 128)) = gate (S x w r) (SB x w b r) 2 := by
  pointwise [rG, k0_pay100]
  exact r609_at x w b r

theorem rG_3 (x : FVec Ideal S768x1024 .bf16) (w : Vec Ideal S128x1024 .bf16) (b : Vec Ideal S128x1 .f32) (r : Fin 768) : rG x w b (ix2 r (3 : Fin 128)) = gate (S x w r) (SB x w b r) 3 := by
  pointwise [rG, k0_pay100]
  exact r612_at x w b r

theorem rG_4 (x : FVec Ideal S768x1024 .bf16) (w : Vec Ideal S128x1024 .bf16) (b : Vec Ideal S128x1 .f32) (r : Fin 768) : rG x w b (ix2 r (4 : Fin 128)) = gate (S x w r) (SB x w b r) 4 := by
  pointwise [rG, k0_pay100]
  exact r615_at x w b r

theorem rG_5 (x : FVec Ideal S768x1024 .bf16) (w : Vec Ideal S128x1024 .bf16) (b : Vec Ideal S128x1 .f32) (r : Fin 768) : rG x w b (ix2 r (5 : Fin 128)) = gate (S x w r) (SB x w b r) 5 := by
  pointwise [rG, k0_pay100]
  exact r618_at x w b r

theorem rG_6 (x : FVec Ideal S768x1024 .bf16) (w : Vec Ideal S128x1024 .bf16) (b : Vec Ideal S128x1 .f32) (r : Fin 768) : rG x w b (ix2 r (6 : Fin 128)) = gate (S x w r) (SB x w b r) 6 := by
  pointwise [rG, k0_pay100]
  exact r621_at x w b r

theorem rG_7 (x : FVec Ideal S768x1024 .bf16) (w : Vec Ideal S128x1024 .bf16) (b : Vec Ideal S128x1 .f32) (r : Fin 768) : rG x w b (ix2 r (7 : Fin 128)) = gate (S x w r) (SB x w b r) 7 := by
  pointwise [rG, k0_pay100]
  exact r624_at x w b r

theorem rG_8 (x : FVec Ideal S768x1024 .bf16) (w : Vec Ideal S128x1024 .bf16) (b : Vec Ideal S128x1 .f32) (r : Fin 768) : rG x w b (ix2 r (8 : Fin 128)) = gate (S x w r) (SB x w b r) 8 := by
  pointwise [rG, k0_pay100]
  exact r627_at x w b r

theorem rG_9 (x : FVec Ideal S768x1024 .bf16) (w : Vec Ideal S128x1024 .bf16) (b : Vec Ideal S128x1 .f32) (r : Fin 768) : rG x w b (ix2 r (9 : Fin 128)) = gate (S x w r) (SB x w b r) 9 := by
  pointwise [rG, k0_pay100]
  exact r630_at x w b r

theorem rG_10 (x : FVec Ideal S768x1024 .bf16) (w : Vec Ideal S128x1024 .bf16) (b : Vec Ideal S128x1 .f32) (r : Fin 768) : rG x w b (ix2 r (10 : Fin 128)) = gate (S x w r) (SB x w b r) 10 := by
  pointwise [rG, k0_pay100]
  exact r633_at x w b r

theorem rG_11 (x : FVec Ideal S768x1024 .bf16) (w : Vec Ideal S128x1024 .bf16) (b : Vec Ideal S128x1 .f32) (r : Fin 768) : rG x w b (ix2 r (11 : Fin 128)) = gate (S x w r) (SB x w b r) 11 := by
  pointwise [rG, k0_pay100]
  exact r636_at x w b r

theorem rG_12 (x : FVec Ideal S768x1024 .bf16) (w : Vec Ideal S128x1024 .bf16) (b : Vec Ideal S128x1 .f32) (r : Fin 768) : rG x w b (ix2 r (12 : Fin 128)) = gate (S x w r) (SB x w b r) 12 := by
  pointwise [rG, k0_pay100]
  exact r639_at x w b r

theorem rG_13 (x : FVec Ideal S768x1024 .bf16) (w : Vec Ideal S128x1024 .bf16) (b : Vec Ideal S128x1 .f32) (r : Fin 768) : rG x w b (ix2 r (13 : Fin 128)) = gate (S x w r) (SB x w b r) 13 := by
  pointwise [rG, k0_pay100]
  exact r642_at x w b r

theorem rG_14 (x : FVec Ideal S768x1024 .bf16) (w : Vec Ideal S128x1024 .bf16) (b : Vec Ideal S128x1 .f32) (r : Fin 768) : rG x w b (ix2 r (14 : Fin 128)) = gate (S x w r) (SB x w b r) 14 := by
  pointwise [rG, k0_pay100]
  exact r645_at x w b r

theorem rG_15 (x : FVec Ideal S768x1024 .bf16) (w : Vec Ideal S128x1024 .bf16) (b : Vec Ideal S128x1 .f32) (r : Fin 768) : rG x w b (ix2 r (15 : Fin 128)) = gate (S x w r) (SB x w b r) 15 := by
  pointwise [rG, k0_pay100]
  exact r648_at x w b r

/-- The gates' block at a token and a lane: the expert's gate on the first sixteen lanes, zero after them. -/
theorem rG_at (x : FVec Ideal S768x1024 .bf16) (w : Vec Ideal S128x1024 .bf16) (b : Vec Ideal S128x1 .f32) (r : Fin 768) (e : Fin 128) : rG x w b (ix2 r e) = if h : e.val < 16 then gate (S x w r) (SB x w b r) ⟨e.val, h⟩ else 0 := by
  by_cases h : e.val < 16
  · rw [dif_pos h]
    have hs : ∀ e : Fin 128, e.val < 16 → e = 0 ∨ e = 1 ∨ e = 2 ∨ e = 3 ∨ e = 4 ∨ e = 5 ∨ e = 6 ∨ e = 7 ∨ e = 8 ∨ e = 9 ∨ e = 10 ∨ e = 11 ∨ e = 12 ∨ e = 13 ∨ e = 14 ∨ e = 15 := by decide
    rcases hs e h with rfl | rfl | rfl | rfl | rfl | rfl | rfl | rfl | rfl | rfl | rfl | rfl | rfl | rfl | rfl | rfl
    · exact rG_0 x w b r
    · exact rG_1 x w b r
    · exact rG_2 x w b r
    · exact rG_3 x w b r
    · exact rG_4 x w b r
    · exact rG_5 x w b r
    · exact rG_6 x w b r
    · exact rG_7 x w b r
    · exact rG_8 x w b r
    · exact rG_9 x w b r
    · exact rG_10 x w b r
    · exact rG_11 x w b r
    · exact rG_12 x w b r
    · exact rG_13 x w b r
    · exact rG_14 x w b r
    · exact rG_15 x w b r
  · rw [dif_neg h]
    pointwise [rG, k0_pay100]
    iterate 16 rw [dif_neg (by omega)]

end Cert.Moe

end
-- ==== Proof.Open.lean ====
/- What each case of the kernel's body leaves in its accumulator, its gate table and its output block, as terms of what it read. -/
module

public import proofs.«01_k».proof.Proof.Gen.KernelIdeal.Value
public import proofs.«01_k».proof.Proof.Gates

@[expose] public section

noncomputable section

namespace Cert.Moe

open Cert.KernelIdeal Cert.KernelIdeal.Gen Cert.KernelIdeal.Value Idealize.ShloMosaic Idealize.ShloMosaic.TcCoe Idealize.SL.Sem

variable {F : FTy → Type} [FloatOps F]

theorem hz2 : (![0, 0] : Fin 2 → Nat) = fun _ => 0 := by decide
theorem hz3 : (![0, 0, 0] : Fin 3 → Nat) = fun _ => 0 := by decide

/-- One grid point's step on the accumulator: the four experts of the point's group, side by side, times their down weights. -/
def stepv (i : grid0.Coords) (x0 : Vec F S768x1024 .f32) (gts : Vec F S768x128 .f32) (x3 x4 : Vec F S4x1024x256 .f32) (x5 : Vec F S1x1024x1024 .f32)
    (acc : Vec F S768x1024 .f32) : Vec F S768x1024 .f32 :=
  k0_pay1 (k0_pay92 x0)
    (k0_pay102 i x0 gts (View.ld x3 (Rect.unit ![0, 0, 0] ![1, 1024, 256] inb_S4x1024x256_S1x1024x256_0_0_0)) (View.ld x4 (Rect.unit ![0, 0, 0] ![1, 1024, 256] inb_S4x1024x256_S1x1024x256_0_0_0)))
    (k0_pay103 (BitVec.ofNat 32 ↑(i 1)) (k0_pay92 x0) (iota Kind.tc S1x128 32 [1] iota_S1x128_d1_w32) gts (View.ld x3 (Rect.unit ![1, 0, 0] ![1, 1024, 256] inb_S4x1024x256_S1x1024x256_1_0_0)) (View.ld x4 (Rect.unit ![1, 0, 0] ![1, 1024, 256] inb_S4x1024x256_S1x1024x256_1_0_0)))
    (k0_pay105 (k0_pay92 x0) (k0_pay104 (BitVec.ofNat 32 ↑(i 1)) (iota Kind.tc S1x128 32 [1] iota_S1x128_d1_w32) gts) (View.ld x3 (Rect.unit ![2, 0, 0] ![1, 1024, 256] inb_S4x1024x256_S1x1024x256_2_0_0)) (View.ld x4 (Rect.unit ![2, 0, 0] ![1, 1024, 256] inb_S4x1024x256_S1x1024x256_2_0_0)))
    (k0_pay106 (BitVec.ofNat 32 ↑(i 1)) (iota Kind.tc S1x128 32 [1] iota_S1x128_d1_w32) gts)
    (k0_pay107 (k0_pay92 x0) (View.ld x3 (Rect.unit ![3, 0, 0] ![1, 1024, 256] inb_S4x1024x256_S1x1024x256_3_0_0)))
    (k0_pay108 (k0_pay92 x0) (View.ld x3 (Rect.unit ![3, 0, 0] ![1, 1024, 256] inb_S4x1024x256_S1x1024x256_3_0_0)))
    (View.ld x4 (Rect.unit ![3, 0, 0] ![1, 1024, 256] inb_S4x1024x256_S1x1024x256_3_0_0)) acc x5

/-- The first point of a tile leaves the gate table. -/
theorem gate_A  (c : Dev nD) (i : grid0.Coords) (arg2 : Memref sig .tc .vmem S768x1024 .f32) (harg2 : arg2.IsWhole) (arg3 : Memref sig .tc .vmem S128x1024 .bf16) (harg3 : arg3.IsWhole) (arg4 : Memref sig .tc .vmem S128x1 .f32) (harg4 : arg4.IsWhole) (arg5 : Memref sig .tc .vmem S4x1024x256 .f32) (harg5 : arg5.IsWhole) (arg6 : Memref sig .tc .vmem S4x1024x256 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .f32) (harg11 : arg11.IsWhole) (arg12 : Memref sig .tc .vmem S768x128 .f32) (harg12 : arg12.IsWhole) (hc0 : cond0_0 i) (hc1 : ¬cond0_1 i)
    (x0 : Vec F S768x1024 .f32) (x1 : Vec F S128x1024 .bf16) (x2 : Vec F S128x1 .f32) (x3 : Vec F S4x1024x256 .f32) (x4 : Vec F S4x1024x256 .f32) (x5 : Vec F S1x1024x1024 .f32) (x6 : Vec F S1x1024 .f32) (x7 : Vec F S1x1024 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = rG (k0_pay92 x0) x1 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_unit_zero hz2]
  simp only [View.readCov_unit_zero (S := S768x1024) _ hz2, View.readCov_unit_zero (S := S768x128) _ hz2, View.readAt_eq_ld, harg2.read_unread, harg3.read_unread, harg4.read_unread, harg5.read_unread, harg6.read_unread, harg7.read_unread, harg8.read_unread, harg9.read_unread, harg11.read_unread, harg12.read_unread, View.ld_unit_zero (S := S768x1024) hz2, View.ld_unit_zero (S := S128x1024) hz2, View.ld_unit_zero (S := S128x1) hz2, View.ld_unit_zero (S := S768x128) hz2, View.ld_unit_zero (S := S1x1024) hz2, View.ld_unit_zero (S := S1x1024x1024) hz3]
  rfl

/-- The first point of a tile steps from zero. -/
theorem acc_A  (c : Dev nD) (i : grid0.Coords) (arg2 : Memref sig .tc .vmem S768x1024 .f32) (harg2 : arg2.IsWhole) (arg3 : Memref sig .tc .vmem S128x1024 .bf16) (harg3 : arg3.IsWhole) (arg4 : Memref sig .tc .vmem S128x1 .f32) (harg4 : arg4.IsWhole) (arg5 : Memref sig .tc .vmem S4x1024x256 .f32) (harg5 : arg5.IsWhole) (arg6 : Memref sig .tc .vmem S4x1024x256 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .f32) (harg11 : arg11.IsWhole) (arg12 : Memref sig .tc .vmem S768x128 .f32) (harg12 : arg12.IsWhole) (hc0 : cond0_0 i) (hc1 : ¬cond0_1 i)
    (x0 : Vec F S768x1024 .f32) (x1 : Vec F S128x1024 .bf16) (x2 : Vec F S128x1 .f32) (x3 : Vec F S4x1024x256 .f32) (x4 : Vec F S4x1024x256 .f32) (x5 : Vec F S1x1024x1024 .f32) (x6 : Vec F S1x1024 .f32) (x7 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = stepv i x0 (rG (k0_pay92 x0) x1 x2) x3 x4 x5 k0_pay101 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero hz2]
  simp only [View.readCov_unit_zero (S := S768x1024) _ hz2, View.readCov_unit_zero (S := S768x128) _ hz2, View.readAt_eq_ld, harg2.read_unread, harg3.read_unread, harg4.read_unread, harg5.read_unread, harg6.read_unread, harg7.read_unread, harg8.read_unread, harg9.read_unread, harg11.read_unread, harg12.read_unread, View.ld_unit_zero (S := S768x1024) hz2, View.ld_unit_zero (S := S128x1024) hz2, View.ld_unit_zero (S := S128x1) hz2, View.ld_unit_zero (S := S768x128) hz2, View.ld_unit_zero (S := S1x1024) hz2, View.ld_unit_zero (S := S1x1024x1024) hz3]
  rfl

/-- A middle point steps from what the point before left. -/
theorem acc_B  (c : Dev nD) (i : grid0.Coords) (arg2 : Memref sig .tc .vmem S768x1024 .f32) (harg2 : arg2.IsWhole) (arg3 : Memref sig .tc .vmem S128x1024 .bf16) (harg3 : arg3.IsWhole) (arg4 : Memref sig .tc .vmem S128x1 .f32) (harg4 : arg4.IsWhole) (arg5 : Memref sig .tc .vmem S4x1024x256 .f32) (harg5 : arg5.IsWhole) (arg6 : Memref sig .tc .vmem S4x1024x256 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .f32) (harg11 : arg11.IsWhole) (arg12 : Memref sig .tc .vmem S768x128 .f32) (harg12 : arg12.IsWhole) (hc0 : ¬cond0_0 i) (hc1 : ¬cond0_1 i)
    (x0 : Vec F S768x1024 .f32) (x1 : Vec F S128x1024 .bf16) (x2 : Vec F S128x1 .f32) (x3 : Vec F S4x1024x256 .f32) (x4 : Vec F S4x1024x256 .f32) (x5 : Vec F S1x1024x1024 .f32) (x6 : Vec F S1x1024 .f32) (x7 : Vec F S1x1024 .f32) (xs0 : Vec F S768x1024 .f32) (xs1 : Vec F S768x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = stepv i x0 xs1 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero hz2]
  simp only [View.readCov_unit_zero (S := S768x1024) _ hz2, View.readCov_unit_zero (S := S768x128) _ hz2, View.readAt_eq_ld, harg2.read_unread, harg3.read_unread, harg4.read_unread, harg5.read_unread, harg6.read_unread, harg7.read_unread, harg8.read_unread, harg9.read_unread, harg11.read_unread, harg12.read_unread, View.ld_unit_zero (S := S768x1024) hz2, View.ld_unit_zero (S := S128x1024) hz2, View.ld_unit_zero (S := S128x1) hz2, View.ld_unit_zero (S := S768x128) hz2, View.ld_unit_zero (S := S1x1024) hz2, View.ld_unit_zero (S := S1x1024x1024) hz3]
  rfl

/-- So does the last point. -/
theorem acc_C  (c : Dev nD) (i : grid0.Coords) (arg2 : Memref sig .tc .vmem S768x1024 .f32) (harg2 : arg2.IsWhole) (arg3 : Memref sig .tc .vmem S128x1024 .bf16) (harg3 : arg3.IsWhole) (arg4 : Memref sig .tc .vmem S128x1 .f32) (harg4 : arg4.IsWhole) (arg5 : Memref sig .tc .vmem S4x1024x256 .f32) (harg5 : arg5.IsWhole) (arg6 : Memref sig .tc .vmem S4x1024x256 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .f32) (harg11 : arg11.IsWhole) (arg12 : Memref sig .tc .vmem S768x128 .f32) (harg12 : arg12.IsWhole) (hc0 : ¬cond0_0 i) (hc1 : cond0_1 i)
    (x0 : Vec F S768x1024 .f32) (x1 : Vec F S128x1024 .bf16) (x2 : Vec F S128x1 .f32) (x3 : Vec F S4x1024x256 .f32) (x4 : Vec F S4x1024x256 .f32) (x5 : Vec F S1x1024x1024 .f32) (x6 : Vec F S1x1024 .f32) (x7 : Vec F S1x1024 .f32) (xs0 : Vec F S768x1024 .f32) (xs1 : Vec F S768x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = stepv i x0 xs1 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz2]
  simp only [View.readCov_unit_zero (S := S768x1024) _ hz2, View.readCov_unit_zero (S := S768x128) _ hz2, View.readAt_eq_ld, harg2.read_unread, harg3.read_unread, harg4.read_unread, harg5.read_unread, harg6.read_unread, harg7.read_unread, harg8.read_unread, harg9.read_unread, harg11.read_unread, harg12.read_unread, View.ld_unit_zero (S := S768x1024) hz2, View.ld_unit_zero (S := S128x1024) hz2, View.ld_unit_zero (S := S128x1) hz2, View.ld_unit_zero (S := S768x128) hz2, View.ld_unit_zero (S := S1x1024) hz2, View.ld_unit_zero (S := S1x1024x1024) hz3]
  rfl

/-- The last point of a tile stores the layer norm of the tokens and the accumulator. -/
theorem out_C  (c : Dev nD) (i : grid0.Coords) (arg2 : Memref sig .tc .vmem S768x1024 .f32) (harg2 : arg2.IsWhole) (arg3 : Memref sig .tc .vmem S128x1024 .bf16) (harg3 : arg3.IsWhole) (arg4 : Memref sig .tc .vmem S128x1 .f32) (harg4 : arg4.IsWhole) (arg5 : Memref sig .tc .vmem S4x1024x256 .f32) (harg5 : arg5.IsWhole) (arg6 : Memref sig .tc .vmem S4x1024x256 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S768x1024 .f32) (harg10 : arg10.IsWhole) (arg11 : Memref sig .tc .vmem S768x1024 .f32) (harg11 : arg11.IsWhole) (arg12 : Memref sig .tc .vmem S768x128 .f32) (harg12 : arg12.IsWhole) (hc0 : ¬cond0_0 i) (hc1 : cond0_1 i)
    (x0 : Vec F S768x1024 .f32) (x1 : Vec F S128x1024 .bf16) (x2 : Vec F S128x1 .f32) (x3 : Vec F S4x1024x256 .f32) (x4 : Vec F S4x1024x256 .f32) (x5 : Vec F S1x1024x1024 .f32) (x6 : Vec F S1x1024 .f32) (x7 : Vec F S1x1024 .f32) (xs0 : Vec F S768x1024 .f32) (xs1 : Vec F S768x128 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay2 x0 (stepv i x0 xs1 x3 x4 x5 xs0) x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz2]
  simp only [View.readCov_unit_zero (S := S768x1024) _ hz2, View.readCov_unit_zero (S := S768x128) _ hz2, View.readAt_eq_ld, harg2.read_unread, harg3.read_unread, harg4.read_unread, harg5.read_unread, harg6.read_unread, harg7.read_unread, harg8.read_unread, harg9.read_unread, harg11.read_unread, harg12.read_unread, View.ld_unit_zero (S := S768x1024) hz2, View.ld_unit_zero (S := S128x1024) hz2, View.ld_unit_zero (S := S128x1) hz2, View.ld_unit_zero (S := S768x128) hz2, View.ld_unit_zero (S := S1x1024) hz2, View.ld_unit_zero (S := S1x1024x1024) hz3]
  rfl

end Cert.Moe

end
-- ==== Proof.Spec.lean ====
/- The layer's arithmetic on plain rows of numbers: one expert, the norm, and the facts about sums both programs' readings use. -/
module

public import proofs.«01_k».proof.Proof.Gates

@[expose] public section

noncomputable section

namespace Cert.Moe

open Idealize.ShloMosaic

/-- The sigmoid. -/
def sg (z : EReal) : EReal := Ideal.div 1 (1 + Ideal.exp (-z))

/-- An expert's hidden unit `d` on the row `x`. -/
def he (x : Fin 1024 → EReal) (wg wu : Fin 1024 → Fin 256 → EReal) (d : Fin 256) : EReal :=
  (∑ k, x k * wg k d) * sg (∑ k, x k * wg k d) * ∑ k, x k * wu k d

/-- One output of an expert on the row `x`. -/
def ffn (x : Fin 1024 → EReal) (wg wu : Fin 1024 → Fin 256 → EReal) (wd : Fin 256 → EReal) : EReal :=
  ∑ d, he x wg wu d * wd d

/-- The mean of a row. -/
def mean (z : Fin 1024 → EReal) : EReal := Ideal.div (∑ x, z x) (Ideal.ofBits FTy.f32 1149239296#32)

/-- One output of the layer norm of a row. -/
def ln (z : Fin 1024 → EReal) (ga be : EReal) (d : Fin 1024) : EReal :=
  (z d - mean z) * Ideal.rsqrt (Ideal.div (∑ x, (z x - mean z) * (z x - mean z)) (Ideal.ofBits FTy.f32 1149239296#32) + Ideal.ofBits FTy.f32 925353388#32) * ga + be

theorem neg_eq (z : EReal) : 0 - z = -z := by rw [sub_eq_add_neg, zero_add]

/-- A finite factor that is not negative comes out of a sum. -/
theorem pull {n : Nat} (g : EReal) (h0 : 0 ≤ g) (h1 : g ≠ ⊤) (f : Fin n → EReal) : ∑ k, g * f k = g * ∑ k, f k := by
  classical
  have : ∀ s : Finset (Fin n), ∑ k ∈ s, g * f k = g * ∑ k ∈ s, f k := by
    intro s
    induction s using Finset.induction_on with
    | empty => simp
    | insert a s ha ih => rw [Finset.sum_insert ha, Finset.sum_insert ha, ih, EReal.left_distrib_of_nonneg_of_ne_top h0 h1]
  exact this _

/-- A sum over 1024 columns as four sums over 256. -/
theorem sum4 (f : Fin 1024 → EReal) : ∑ x, f x = (∑ k : Fin 256, f ⟨k.val, by omega⟩) + (∑ k : Fin 256, f ⟨256 + k.val, by omega⟩) + (∑ k : Fin 256, f ⟨512 + k.val, by omega⟩) + ∑ k : Fin 256, f ⟨768 + k.val, by omega⟩ := by
  have h1 := Fin.sum_univ_add (a := 256) (b := 768) f
  have h2 := Fin.sum_univ_add (a := 256) (b := 512) (fun k : Fin 768 => f (Fin.natAdd 256 k))
  have h3 := Fin.sum_univ_add (a := 256) (b := 256) (fun k : Fin 512 => f (Fin.natAdd 256 (Fin.natAdd 256 k)))
  have e : ∀ k : Fin 256, f (Fin.natAdd 256 (Fin.natAdd 256 (Fin.castAdd 256 k))) = f ⟨512 + k.val, by omega⟩ := fun k =>
    congrArg f (Fin.ext (by show 256 + (256 + k.val) = 512 + k.val; omega))
  have e' : ∀ k : Fin 256, f (Fin.natAdd 256 (Fin.natAdd 256 (Fin.natAdd 256 k))) = f ⟨768 + k.val, by omega⟩ := fun k =>
    congrArg f (Fin.ext (by show 256 + (256 + (256 + k.val)) = 768 + k.val; omega))
  simp only [e, e'] at h3
  refine h1.trans ?_
  rw [show (∑ i : Fin 768, f (Fin.natAdd 256 i)) = _ from h2, show (∑ i : Fin 512, f (Fin.natAdd 256 (Fin.natAdd 256 i))) = _ from h3]
  simp only [← add_assoc]
  rfl

theorem sum16 (f : Fin 16 → EReal) : ∑ e, f e = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-! ### The gates are finite and not negative, for finite tokens and router weights -/

theorem sum_real {n : Nat} (f : Fin n → EReal) (h : ∀ k, ∃ a : ℝ, f k = a) : ∃ a : ℝ, ∑ k, f k = a := by
  choose a ha using h
  exact ⟨∑ k, a k, by
    rw [show f = fun k => ((a k : ℝ) : EReal) from funext ha]
    classical
    have : ∀ s : Finset (Fin n), ∑ k ∈ s, ((a k : ℝ) : EReal) = ((∑ k ∈ s, a k : ℝ) : EReal) := by
      intro s
      induction s using Finset.induction_on with
      | empty => simp
      | insert b s hb ih => rw [Finset.sum_insert hb, Finset.sum_insert hb, ih, EReal.coe_add]
    exact this _⟩

theorem sg_pos (z : ℝ) : ∃ s : ℝ, 0 < s ∧ sg z = s := by
  have hp : 0 < 1 + Real.exp (-z) := by positivity
  refine ⟨1 * (1 + Real.exp (-z))⁻¹, by positivity, ?_⟩
  unfold sg
  have he : Ideal.exp (-(z : EReal)) = ((Real.exp (-z) : ℝ) : EReal) := by
    rw [← EReal.coe_neg]; rfl
  rw [he, ← EReal.coe_one, ← EReal.coe_add]
  unfold Ideal.div
  rw [if_neg (by exact_mod_cast hp.ne')]
  rw [← EReal.coe_inv, ← EReal.coe_mul]

theorem gate_ok (s sb : Fin 16 → EReal) (h : ∀ e, ∃ a : ℝ, 0 < a ∧ s e = a) (e : Fin 16) : 0 ≤ gate s sb e ∧ gate s sb e ≠ ⊤ := by
  unfold gate
  by_cases c : e = T0 sb ∨ e = T1 sb
  · rw [if_pos c]
    choose a hp ha using h
    have hs : ∀ e, (if e = T0 sb ∨ e = T1 sb then s e else 0) = (((if e = T0 sb ∨ e = T1 sb then a e else 0 : ℝ)) : EReal) := by
      intro e; split <;> simp [ha]
    have hsum : ∃ b : ℝ, 0 < b ∧ (∑ e, (if e = T0 sb ∨ e = T1 sb then s e else 0)) = (b : EReal) := by
      obtain ⟨b, hb⟩ := sum_real (fun e => if e = T0 sb ∨ e = T1 sb then s e else 0) (fun e => ⟨_, hs e⟩)
      refine ⟨b, ?_, hb⟩
      have hle : s e ≤ ∑ e, (if e = T0 sb ∨ e = T1 sb then s e else 0) := by
        have := Finset.single_le_sum (f := fun e => if e = T0 sb ∨ e = T1 sb then s e else 0) (s := Finset.univ)
          (fun i _ => by split; · rw [ha]; exact_mod_cast (hp i).le
                         · exact le_rfl) (Finset.mem_univ e)
        simpa only [if_pos c] using this
      rw [hb, ha] at hle
      have : a e ≤ b := by exact_mod_cast hle
      exact lt_of_lt_of_le (hp e) this
    obtain ⟨b, hb, hE⟩ := hsum
    rw [hE, ha]
    unfold Ideal.div
    rw [if_neg (by exact_mod_cast hb.ne'), ← EReal.coe_inv, ← EReal.coe_mul]
    exact ⟨by exact_mod_cast (mul_pos (hp e) (inv_pos.mpr hb)).le, EReal.coe_ne_top _⟩
  · rw [if_neg c]
    exact ⟨le_rfl, EReal.zero_ne_top⟩

end Cert.Moe

end
-- ==== Proof.Step.lean ====
/- One grid point's step on the accumulator, read at an index: what was there plus the group's four experts, each times its gate. -/
module

public import proofs.«01_k».proof.Proof.Open
public import proofs.«01_k».proof.Proof.Spec

@[expose] public section

noncomputable section

namespace Cert.Moe

open Cert.KernelIdeal Cert.KernelIdeal.Gen Cert.KernelIdeal.Value Idealize.ShloMosaic

theorem word_at : ∀ (a j : Fin 4), Scalar.addi (Scalar.muli (BitVec.ofNat 32 a.val) 4#32) (BitVec.ofNat 32 j.val) = BitVec.ofNat 32 (4 * a.val + j.val) := by decide

/-- Picking one lane out of a row of 128 by a sum. -/
theorem lane (f : Fin 128 → EReal) (a j : Fin 4) :
    (∑ x : Fin 128, Scalar.select (IntOp.cmpi CmpIPredicate.eq (BitVec.ofNat 32 x.val) (Scalar.addi (Scalar.muli (BitVec.ofNat 32 a.val) 4#32) (BitVec.ofNat 32 j.val))) (f x) 0)
      = f ⟨4 * a.val + j.val, by omega⟩ := by
  rw [word_at]
  have h : ∀ x : Fin 128, IntOp.cmpi CmpIPredicate.eq (BitVec.ofNat 32 x.val) (BitVec.ofNat 32 (4 * a.val + j.val)) = BitVec.ofBool (decide (x = ⟨4 * a.val + j.val, by omega⟩)) := by
    intro x
    show BitVec.ofBool (BitVec.ofNat 32 x.val == BitVec.ofNat 32 (4 * a.val + j.val)) = _
    congr 1
    rw [Bool.eq_iff_iff, beq_iff_eq, decide_eq_true_iff]
    constructor
    · intro e
      have := congrArg BitVec.toNat e
      simp only [BitVec.toNat_ofNat] at this
      exact Fin.ext (by show x.val = 4 * a.val + j.val; omega)
    · rintro rfl; rfl
  simp only [h, sel_bit]
  rw [Finset.sum_ite_eq' Finset.univ (⟨4 * a.val + j.val, by omega⟩ : Fin 128) f, if_pos (Finset.mem_univ _)]

theorem gcol (gts : Vec Ideal S768x128 .f32) (r : Fin 768) (i : grid0.Coords) (j : Fin 4) (w : BitVec 32) (hw : BitVec.ofNat 32 j.val = w) (v : EReal)
    (hv : gts (ix2 r ⟨4 * (i 1).val + j.val, by have : (i 1).val < 4 := (i 1).isLt; omega⟩) = v) :
    (∑ x : Fin 128, Scalar.select (IntOp.cmpi CmpIPredicate.eq (BitVec.ofNat 32 x.val) (Scalar.addi (Scalar.muli (BitVec.ofNat 32 (i 1).val) 4#32) w)) (gts (ix2 r x)) 0)
      = v := by
  subst hw; subst hv; exact
  lane (fun x => gts (ix2 r x)) (i 1) j

/-- Four pieces of 256 laid side by side and contracted: four contractions, each with its own factor taken out. -/
theorem beside (g : Fin 4 → EReal) (hg : ∀ j, 0 ≤ g j ∧ g j ≠ ⊤) (h : Fin 4 → Fin 256 → EReal) (y : Fin 1024 → EReal) :
    (∑ x : Fin 1024, (if c : x.val < 256 then g 0 * h 0 ⟨x.val, c⟩ else if c : x.val - 256 < 256 then g 1 * h 1 ⟨x.val - 256, c⟩
      else if c : x.val - 256 - 256 < 256 then g 2 * h 2 ⟨x.val - 256 - 256, c⟩ else g 3 * h 3 ⟨x.val - 256 - 256 - 256, by omega⟩) * y x)
      = ∑ j : Fin 4, g j * ∑ k : Fin 256, h j k * y ⟨256 * j.val + k.val, by omega⟩ := by
  have key : ∀ j : Fin 4, ∀ k : Fin 256, ∀ x : Fin 1024, x.val = 256 * j.val + k.val →
      (if c : x.val < 256 then g 0 * h 0 ⟨x.val, c⟩ else if c : x.val - 256 < 256 then g 1 * h 1 ⟨x.val - 256, c⟩
      else if c : x.val - 256 - 256 < 256 then g 2 * h 2 ⟨x.val - 256 - 256, c⟩ else g 3 * h 3 ⟨x.val - 256 - 256 - 256, by omega⟩) * y x
      = g j * (h j k * y ⟨256 * j.val + k.val, by omega⟩) := by
    intro j k x hx
    obtain ⟨x, lx⟩ := x
    obtain ⟨k, lk⟩ := k
    dsimp only at hx ⊢
    rw [← mul_assoc]
    subst hx
    congr 1
    match j with
    | 0 =>
      rw [dif_pos (by show 256 * 0 + k < 256; omega)]
      exact congrArg (fun z => g 0 * h 0 z) (Fin.ext (by show 256 * 0 + k = k; omega))
    | 1 =>
      rw [dif_neg (by show ¬ 256 * 1 + k < 256; omega), dif_pos (by show 256 * 1 + k - 256 < 256; omega)]
      exact congrArg (fun z => g 1 * h 1 z) (Fin.ext (by show 256 * 1 + k - 256 = k; omega))
    | 2 =>
      rw [dif_neg (by show ¬ 256 * 2 + k < 256; omega), dif_neg (by show ¬ 256 * 2 + k - 256 < 256; omega), dif_pos (by show 256 * 2 + k - 256 - 256 < 256; omega)]
      exact congrArg (fun z => g 2 * h 2 z) (Fin.ext (by show 256 * 2 + k - 256 - 256 = k; omega))
    | 3 =>
      rw [dif_neg (by show ¬ 256 * 3 + k < 256; omega), dif_neg (by show ¬ 256 * 3 + k - 256 < 256; omega), dif_neg (by show ¬ 256 * 3 + k - 256 - 256 < 256; omega)]
      exact congrArg (fun z => g 3 * h 3 z) (Fin.ext (by show 256 * 3 + k - 256 - 256 - 256 = k; omega))
  refine (sum4 _).trans (Eq.trans ?_ (Fin.sum_univ_four _).symm)
  rw [← pull (g 0) (hg 0).1 (hg 0).2, ← pull (g 1) (hg 1).1 (hg 1).2, ← pull (g 2) (hg 2).1 (hg 2).2, ← pull (g 3) (hg 3).1 (hg 3).2]
  refine congrArg₂ (· + ·) (congrArg₂ (· + ·) (congrArg₂ (· + ·) ?_ ?_) ?_) ?_
  · exact Finset.sum_congr rfl fun k _ => key 0 k _ (by show k.val = 256 * 0 + k.val; omega)
  · exact Finset.sum_congr rfl fun k _ => key 1 k _ (by show 256 + k.val = 256 * 1 + k.val; omega)
  · exact Finset.sum_congr rfl fun k _ => key 2 k _ (by show 512 + k.val = 256 * 2 + k.val; omega)
  · exact Finset.sum_congr rfl fun k _ => key 3 k _ (by show 768 + k.val = 256 * 3 + k.val; omega)

theorem step_at (i : grid0.Coords) (x0 : Vec Ideal S768x1024 .f32) (gts : Vec Ideal S768x128 .f32) (x3 x4 : Vec Ideal S4x1024x256 .f32) (x5 : Vec Ideal S1x1024x1024 .f32)
    (acc : Vec Ideal S768x1024 .f32) (r : Fin 768) (d : Fin 1024) (g : Fin 4 → EReal) (hg : ∀ j, 0 ≤ g j ∧ g j ≠ ⊤)
    (hgt : ∀ j : Fin 4, gts (ix2 r ⟨4 * (i 1).val + j.val, by have : (i 1).val < 4 := (i 1).isLt; omega⟩) = g j) :
    stepv i x0 gts x3 x4 x5 acc (ix2 r d) = acc (ix2 r d) + ∑ j : Fin 4,
      g j * ffn (fun k => x0 (ix2 r k)) (fun k x => x3 (ix3 j k x)) (fun k x => x4 (ix3 j k x)) (fun x => x5 (ix3 0 ⟨256 * j.val + x.val, by omega⟩ d)) := by
  have l0 : (∑ x : Fin 128, Scalar.select (IntOp.cmpi CmpIPredicate.eq (BitVec.ofNat 32 x.val) (Scalar.addi (Scalar.muli (BitVec.ofNat 32 (i 1).val) 4#32) 0#32)) (gts (ix2 r x)) 0) = g 0 := gcol gts r i 0 _ rfl _ (hgt 0)
  have l1 : (∑ x : Fin 128, Scalar.select (IntOp.cmpi CmpIPredicate.eq (BitVec.ofNat 32 x.val) (Scalar.addi (Scalar.muli (BitVec.ofNat 32 (i 1).val) 4#32) 1#32)) (gts (ix2 r x)) 0) = g 1 := gcol gts r i 1 _ rfl _ (hgt 1)
  have l2 : (∑ x : Fin 128, Scalar.select (IntOp.cmpi CmpIPredicate.eq (BitVec.ofNat 32 x.val) (Scalar.addi (Scalar.muli (BitVec.ofNat 32 (i 1).val) 4#32) 2#32)) (gts (ix2 r x)) 0) = g 2 := gcol gts r i 2 _ rfl _ (hgt 2)
  have l3 : (∑ x : Fin 128, Scalar.select (IntOp.cmpi CmpIPredicate.eq (BitVec.ofNat 32 x.val) (Scalar.addi (Scalar.muli (BitVec.ofNat 32 (i 1).val) 4#32) 3#32)) (gts (ix2 r x)) 0) = g 3 := gcol gts r i 3 _ rfl _ (hgt 3)
  pointwise [stepv, k0_pay1, k0_pay92, k0_pay102, k0_pay103, k0_pay104, k0_pay105, k0_pay106, k0_pay107, k0_pay108]
  simp only [l0, l1, l2, l3, neg_eq]
  congr 1
  exact beside g hg (fun j => he (fun k => x0 (ix2 r k)) (fun k x => x3 (ix3 j k x)) (fun k x => x4 (ix3 j k x))) (fun x => x5 (ix3 0 x d))

end Cert.Moe

end
-- ==== Proof.Blocks.lean ====
/- The arrays the launch is entered with, and its windows' blocks, read at an index of the arguments. -/
module

public import proofs.«01_k».proof.Proof.Gen.KernelIdeal.Value
public import Idealize.ShloMosaic.Lib.Pointwise
public import Idealize.ShloMosaic.Lib.Pipeline.ValueKit.Geometry
public import Idealize.ShloMosaic.Lib.Pipeline.ValueKit.Geometry

@[expose] public section

noncomputable section

namespace Cert.Moe

open Cert.KernelIdeal Cert.KernelIdeal.Gen Cert.KernelIdeal.Value Idealize.ShloMosaic Idealize.ShloMosaic.TcCoe Idealize.SL.Sem Idealize.ShloMosaic.Tactic

variable (m : (ℓ : Loc nD τ sig) → Buf (Elt Ideal) ℓ) (c : Dev nD)

/-- The tokens. -/
def KX : S16896x1024.Idx → EReal := m ((c : Thread nD τ).loc main_arg0)
/-- The router's weights. -/
def KW : S1024x16.Idx → EReal := m ((c : Thread nD τ).loc main_arg1)
/-- The experts' biases. -/
def KBi : S16.Idx → EReal := m ((c : Thread nD τ).loc main_arg2)
/-- The gate projections. -/
def KG : S16x1024x256.Idx → EReal := m ((c : Thread nD τ).loc main_arg3)
/-- The up projections. -/
def KU : S16x1024x256.Idx → EReal := m ((c : Thread nD τ).loc main_arg4)
/-- The down projections. -/
def KD : S16x256x1024.Idx → EReal := m ((c : Thread nD τ).loc main_arg5)
/-- The norm's gain. -/
def KA : S1024.Idx → EReal := m ((c : Thread nD τ).loc main_arg6)
/-- The norm's bias. -/
def KB : S1024.Idx → EReal := m ((c : Thread nD τ).loc main_arg7)

theorem V_v5 (g : Fin 4) (k d : Fin 1024) : (V m c main_v5 : Vec Ideal S4x1024x1024 .f32) (ix3 g k d) = KD m c (ix3 ⟨4 * g.val + k.val / 256, by omega⟩ ⟨k.val % 256, by omega⟩ d) := by
  dsimp only [V]
  simp only [hostOps0, hostOps0_1, hostOps0_2, hostOps0_3, hostOps0_4, List.flatten_cons, List.flatten_nil, List.append_nil, List.cons_append, List.nil_append]
  after_results_simp
  show shapeCast S4x1024x1024 (KD m c) shapeCasts_S16x256x1024_S4x1024x1024 (ix3 g k d) = _
  pointwise []
  congr 2
  exact Fin.ext (by show g.val * 4 + k.val / 256 = 4 * g.val + k.val / 256; omega)

theorem V_v6 (d : Fin 1024) : (V m c main_v6 : Vec Ideal S1x1024 .f32) (ix2 0 d) = KA m c (ix1 d) := by
  dsimp only [V]
  simp only [hostOps0, hostOps0_1, hostOps0_2, hostOps0_3, hostOps0_4, List.flatten_cons, List.flatten_nil, List.append_nil, List.cons_append, List.nil_append]
  after_results_simp
  show shapeCast S1x1024 (KA m c) shapeCasts_S1024_S1x1024 (ix2 0 d) = _
  pointwise []

theorem V_v7 (d : Fin 1024) : (V m c main_v7 : Vec Ideal S1x1024 .f32) (ix2 0 d) = KB m c (ix1 d) := by
  dsimp only [V]
  simp only [hostOps0, hostOps0_1, hostOps0_2, hostOps0_3, hostOps0_4, List.flatten_cons, List.flatten_nil, List.append_nil, List.cons_append, List.nil_append]
  after_results_simp
  show shapeCast S1x1024 (KB m c) shapeCasts_S1024_S1x1024 (ix2 0 d) = _
  pointwise []

theorem V_v4 (e : Fin 16) (k : Fin 1024) : (V m c main_v4 : Vec Ideal S128x1024 .bf16) (ix2 ⟨e.val, by omega⟩ k) = KW m c (ix2 k e) := by
  dsimp only [V]
  simp only [hostOps0, hostOps0_1, hostOps0_2, hostOps0_3, hostOps0_4, List.flatten_cons, List.flatten_nil, List.append_nil, List.cons_append, List.nil_append]
  after_results_simp
  show truncf (F := Ideal) .bf16 (pad S128x1024 ![0, 0] ![112, 0] ![0, 0] (transpose S16x1024 [1, 0] (KW m c) transposes_S1024x16_S16x1024_1_0) (sitofp .f32 (constantI S_ 32 0#32)) pads_S16x1024_S128x1024_01120_000 h_S_) bitsLt_bf16_f32 (ix2 ⟨e.val, by omega⟩ k) = _
  pointwise []

theorem V_v3 (e : Fin 16) : (V m c main_v3 : Vec Ideal S128x1 .f32) (ix2 ⟨e.val, by omega⟩ 0) = KBi m c (ix1 e) := by
  dsimp only [V]
  simp only [hostOps0, hostOps0_1, hostOps0_2, hostOps0_3, hostOps0_4, List.flatten_cons, List.flatten_nil, List.append_nil, List.cons_append, List.nil_append]
  after_results_simp
  show shapeCast S128x1 (pad S128 ![0] ![112] ![0] (KBi m c) (sitofp (F := Ideal) .f32 (constantI S_ 32 0#32)) pads_S16_S128_01120 h_S_) shapeCasts_S128_S128x1 (ix2 ⟨e.val, by omega⟩ 0) = _
  pointwise []

theorem co (t : Fin cfg0.N) : (grid0.coords t 0).val = t.val / 4 ∧ (grid0.coords t 1).val = t.val % 4 := by
  revert t; exact (by decide +kernel : ∀ t : Fin grid0.N, (grid0.coords t 0).val = t.val / 4 ∧ (grid0.coords t 1).val = t.val % 4)

theorem e0 : ∀ t : Fin cfg0.N, win0_0.index t = ![t.val / 4, 0] := (by decide +kernel : ∀ t : Fin grid0.N, win0_0.index t = ![t.val / 4, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![t.val % 4, 0, 0] := (by decide +kernel : ∀ t : Fin grid0.N, win0_3.index t = ![t.val % 4, 0, 0])
theorem e4 : ∀ t : Fin cfg0.N, win0_4.index t = ![t.val % 4, 0, 0] := (by decide +kernel : ∀ t : Fin grid0.N, win0_4.index t = ![t.val % 4, 0, 0])
theorem e5 : ∀ t : Fin cfg0.N, win0_5.index t = ![t.val % 4, 0, 0] := (by decide +kernel : ∀ t : Fin grid0.N, win0_5.index t = ![t.val % 4, 0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])

theorem b0 (t : Fin cfg0.N) (r : Fin 768) (k : Fin 1024) : (iblk m c 0 t : Vec Ideal S768x1024 .f32) (ix2 r k) = KX m c (ix2 ⟨768 * (t.val / 4) + r.val, by have := lt_of_lt_of_eq t.isLt N_0; omega⟩ k) := by
  blk_simp [iblk]
  rw [V_main_arg0]
  unfold KX
  congr 1
  blk_ext [e0]

theorem b1 (t : Fin cfg0.N) (e : Fin 16) (k : Fin 1024) :
    (iblk m c 1 t : Vec Ideal S128x1024 .bf16) (ix2 ⟨e.val, by omega⟩ k) = KW m c (ix2 k e) := by
  blk_simp [iblk]
  rw [← V_v4]
  congr 1
  blk_ext [e1]

theorem b2 (t : Fin cfg0.N) (e : Fin 16) :
    (iblk m c 2 t : Vec Ideal S128x1 .f32) (ix2 ⟨e.val, by omega⟩ 0) = KBi m c (ix1 e) := by
  blk_simp [iblk]
  rw [← V_v3]
  congr 1
  blk_ext [e2]

theorem b3 (t : Fin cfg0.N) (j : Fin 4) (k : Fin 1024) (d : Fin 256) :
    (iblk m c 3 t : Vec Ideal S4x1024x256 .f32) (ix3 j k d) = KG m c (ix3 ⟨4 * (t.val % 4) + j.val, by omega⟩ k d) := by
  blk_simp [iblk]
  rw [V_main_arg3]
  unfold KG
  congr 1
  blk_ext [e3]

theorem b4 (t : Fin cfg0.N) (j : Fin 4) (k : Fin 1024) (d : Fin 256) :
    (iblk m c 4 t : Vec Ideal S4x1024x256 .f32) (ix3 j k d) = KU m c (ix3 ⟨4 * (t.val % 4) + j.val, by omega⟩ k d) := by
  blk_simp [iblk]
  rw [V_main_arg4]
  unfold KU
  congr 1
  blk_ext [e4]

theorem b5 (t : Fin cfg0.N) (k d : Fin 1024) :
    (iblk m c 5 t : Vec Ideal S1x1024x1024 .f32) (ix3 0 k d) = KD m c (ix3 ⟨4 * (t.val % 4) + k.val / 256, by omega⟩ ⟨k.val % 256, by omega⟩ d) := by
  refine Eq.trans ?_ (V_v5 m c ⟨t.val % 4, by omega⟩ k d)
  blk_simp [iblk]
  congr 1
  blk_ext [e5]

theorem b6 (t : Fin cfg0.N) (d : Fin 1024) :
    (iblk m c 6 t : Vec Ideal S1x1024 .f32) (ix2 0 d) = KA m c (ix1 d) := by
  blk_simp [iblk]
  rw [← V_v6]
  congr 1
  blk_ext [e6]

theorem b7 (t : Fin cfg0.N) (d : Fin 1024) :
    (iblk m c 7 t : Vec Ideal S1x1024 .f32) (ix2 0 d) = KB m c (ix1 d) := by
  blk_simp [iblk]
  rw [← V_v7]
  congr 1
  blk_ext [e7]

end Cert.Moe

end
-- ==== Proof.Inf.lean ====
/- The norm of a row with an infinite entry: the mean is infinite, every distance from it is, and their mean square is too, so that the
   reciprocal root is zero and the norm is the offset alone. -/
module

public import proofs.«01_k».proof.Proof.Spec

@[expose] public section

noncomputable section

namespace Cert.Moe

open Idealize.ShloMosaic

/-- Infinite, of either sign. -/
def Inf (x : EReal) : Prop := x = ⊤ ∨ x = ⊥

theorem real_or_inf (x : EReal) : (∃ a : ℝ, x = a) ∨ Inf x := by
  induction x with
  | bot => exact Or.inr (Or.inr rfl)
  | top => exact Or.inr (Or.inl rfl)
  | coe a => exact Or.inl ⟨a, rfl⟩

theorem inf_add {x : EReal} (y : EReal) (h : Inf x) : Inf (x + y) := by
  rcases h with rfl | rfl
  · induction y with
    | bot => exact Or.inr (by simp)
    | top => exact Or.inl (by simp)
    | coe a => exact Or.inl (by simp)
  · exact Or.inr (by simp)

theorem inf_neg {x : EReal} (h : Inf x) : Inf (-x) := by
  rcases h with rfl | rfl
  · exact Or.inr (by simp)
  · exact Or.inl (by simp)

theorem inf_sum (f : Fin 1024 → EReal) (k : Fin 1024) (h : Inf (f k)) : Inf (∑ x, f x) := by
  classical
  rw [← Finset.add_sum_erase Finset.univ f (Finset.mem_univ k)]
  exact inf_add _ h

theorem inf_mul_pos {x : EReal} (r : ℝ) (hr : 0 < r) (h : Inf x) : Inf (x * (r : EReal)) := by
  rcases h with rfl | rfl
  · exact Or.inl (EReal.top_mul_coe_of_pos hr)
  · exact Or.inr (EReal.bot_mul_coe_of_pos hr)

theorem inf_sq {x : EReal} (h : Inf x) : x * x = ⊤ := by
  rcases h with rfl | rfl
  · exact EReal.top_mul_top
  · exact EReal.bot_mul_bot

theorem n_bits : Ideal.ofBits FTy.f32 1149239296#32 = ((1024 : ℝ) : EReal) := by
  simp [Ideal.ofBits, Ideal.ieee]
  rw [← EReal.coe_mul]
  congr 1
  norm_num

theorem div_n (x : EReal) : Ideal.div x (Ideal.ofBits FTy.f32 1149239296#32) = x * (((1024 : ℝ)⁻¹ : ℝ) : EReal) := by
  rw [n_bits]
  unfold Ideal.div
  rw [if_neg (by exact_mod_cast (by norm_num : (1024 : ℝ) ≠ 0)), EReal.coe_inv]

theorem eps_bits : ∃ r : ℝ, Ideal.ofBits FTy.f32 925353388#32 = (r : EReal) := by
  rcases real_or_inf (Ideal.ofBits FTy.f32 925353388#32) with h | h
  · exact h
  · exfalso
    revert h
    simp [Ideal.ofBits, Ideal.ieee, Inf]
    exact ⟨by rw [← EReal.coe_mul]; exact EReal.coe_ne_top _, by rw [← EReal.coe_mul]; exact EReal.coe_ne_bot _⟩

theorem alpha_bits : ∃ r : ℝ, 0 < r ∧ Ideal.ofBits FTy.f32 1068827891#32 = (r : EReal) := by
  refine ⟨11863283 * (2 ^ 23)⁻¹, by positivity, ?_⟩
  simp [Ideal.ofBits, Ideal.ieee]

theorem ln_inf (z : Fin 1024 → EReal) (ga be : EReal) (d k : Fin 1024) (h : Inf (z k)) : ln z ga be d = be := by
  have hm : Inf (mean z) := by
    unfold mean
    rw [div_n]
    exact inf_mul_pos _ (by norm_num) (inf_sum z k h)
  have hd : ∀ x, Inf (z x - mean z) := fun x => by
    rw [sub_eq_add_neg, add_comm]
    exact inf_add _ (inf_neg hm)
  have hs : (∑ x, (z x - mean z) * (z x - mean z)) = ⊤ := by
    have hp : ∀ s : Finset (Fin 1024), s.Nonempty → ∑ _x ∈ s, (⊤ : EReal) = ⊤ := by
      intro s hs
      induction hs using Finset.Nonempty.cons_induction with
      | singleton a => simp
      | cons a s ha hs ih => rw [Finset.sum_cons, ih]; rfl
    rw [Finset.sum_congr rfl fun x _ => inf_sq (hd x)]
    exact hp _ ⟨k, Finset.mem_univ k⟩
  obtain ⟨e, he⟩ := eps_bits
  unfold ln
  rw [hs, div_n, EReal.top_mul_coe_of_pos (by norm_num), he, EReal.top_add_coe]
  show (z d - mean z) * 0 * ga + be = be
  rw [mul_zero, zero_mul, zero_add]

/-- A row that has an infinite entry keeps one whatever is added to it. -/
theorem inf_row (x a : EReal) (h : Inf x) : Inf (Ideal.ofBits FTy.f32 1068827891#32 * x + a) := by
  obtain ⟨r, hr, e⟩ := alpha_bits
  rw [e, mul_comm]
  exact inf_add _ (inf_mul_pos r hr h)

end Cert.Moe

end
-- ==== Proof.KernelOut.lean ====
/- What the kernel's launch leaves, read at an index of the arguments: point by point the gate table and the accumulator, and at a
   tile's last point the normed token. -/
module

public import proofs.«01_k».proof.Proof.Step
public import proofs.«01_k».proof.Proof.Blocks
public import proofs.«01_k».proof.Proof.Inf

@[expose] public section

noncomputable section

namespace Cert.Moe

open Cert.KernelIdeal Cert.KernelIdeal.Gen Cert.KernelIdeal.Value Idealize.ShloMosaic Idealize.ShloMosaic.TcCoe Idealize.SL.Sem Idealize.ShloMosaic.Tactic

variable (m : (ℓ : Loc nD τ sig) → Buf (Elt Ideal) ℓ) (c : Dev nD)

/-- A token's score for an expert. -/
def KS (t : Fin 16896) (e : Fin 16) : EReal := sg (∑ k, KX m c (ix2 t k) * KW m c (ix2 k e))
/-- The score with the expert's bias. -/
def KSB (t : Fin 16896) (e : Fin 16) : EReal := KS m c t e + KBi m c (ix1 e)
/-- The gate. -/
def kg (t : Fin 16896) (e : Fin 16) : EReal := gate (KS m c t) (KSB m c t) e
/-- One expert's part of one token's sum. -/
def kterm (t : Fin 16896) (d : Fin 1024) (e : Fin 16) : EReal :=
  kg m c t e * ffn (fun k => KX m c (ix2 t k)) (fun k x => KG m c (ix3 e k x)) (fun k x => KU m c (ix3 e k x)) (fun x => KD m c (ix3 e x d))
/-- The four experts of a group. -/
def kgroup (t : Fin 16896) (d : Fin 1024) (g : Fin 4) : EReal := ∑ j : Fin 4, kterm m c t d ⟨4 * g.val + j.val, by omega⟩
/-- The row before the norm. -/
def kz (t : Fin 16896) (d : Fin 1024) : EReal := Ideal.ofBits FTy.f32 1068827891#32 * KX m c (ix2 t d) + ∑ e, kterm m c t d e

/-- The groups added up to and with the `n`-th. -/
def psum (u : Fin 4 → EReal) : Nat → EReal
  | 0 => u 0
  | 1 => u 0 + u 1
  | 2 => u 0 + u 1 + u 2
  | _ => u 0 + u 1 + u 2 + u 3

theorem psum_succ (u : Fin 4 → EReal) : ∀ n (h : n + 1 < 4), psum u (n + 1) = psum u n + u ⟨n + 1, h⟩
  | 0, _ => rfl
  | 1, _ => rfl
  | 2, _ => rfl
  | n + 3, h => absurd h (by omega)

theorem psum_all (t : Fin 16896) (d : Fin 1024) : psum (kgroup m c t d) 3 = ∑ e, kterm m c t d e := by
  rw [sum16]
  unfold psum
  unfold kgroup
  have s4 : ∀ f : Fin 4 → EReal, ∑ j, f j = f 0 + f 1 + f 2 + f 3 := fun f => Fin.sum_univ_four f
  rw [s4, s4, s4, s4]
  simp only [← add_assoc]
  rfl

/-- The token a row of a point's tile is. -/
def tok (t : Fin cfg0.N) (r : Fin 768) : Fin 16896 := ⟨768 * (t.val / 4) + r.val, by have := lt_of_lt_of_eq t.isLt N_0; omega⟩

theorem table_of (x0 : Vec Ideal S768x1024 .f32) (w : Vec Ideal S128x1024 .bf16) (b : Vec Ideal S128x1 .f32) (t : Fin 16896) (r : Fin 768) (e : Fin 16)
    (hx : ∀ k, x0 (ix2 r k) = KX m c (ix2 t k)) (hw : ∀ (e : Fin 16) k, w (ix2 ⟨e.val, by omega⟩ k) = KW m c (ix2 k e))
    (hb : ∀ e : Fin 16, b (ix2 ⟨e.val, by omega⟩ 0) = KBi m c (ix1 e)) :
    rG (k0_pay92 x0) w b (ix2 r ⟨e.val, by omega⟩) = kg m c t e := by
  refine (rG_at _ _ _ r _).trans ((dif_pos (show (⟨e.val, by omega⟩ : Fin 128).val < 16 from e.isLt)).trans ?_)
  have hs : S (k0_pay92 x0) w r = KS m c t := by
    funext e
    unfold S KS sg
    rw [neg_eq]
    have : (∑ k, w (ix2 ⟨e.val, by omega⟩ k) * k0_pay92 x0 (ix2 r k)) = ∑ k, KX m c (ix2 t k) * KW m c (ix2 k e) := by
      refine Finset.sum_congr rfl fun k _ => ?_
      rw [hw, mul_comm]
      exact congrArg (· * KW m c (ix2 k e)) (hx k)
    rw [this]
  have hb' : SB (k0_pay92 x0) w b r = KSB m c t := by
    funext e
    unfold SB KSB
    rw [hs, hb]
  unfold kg
  rw [hs, hb']

theorem table_at (t : Fin cfg0.N) (r : Fin 768) (e : Fin 16) :
    rG (k0_pay92 (iblk m c 0 t)) (iblk m c 1 t) (iblk m c 2 t) (ix2 r ⟨e.val, by omega⟩) = kg m c (tok t r) e :=
  table_of m c _ _ _ (tok t r) r e (b0 m c t r) (b1 m c t) (b2 m c t)

theorem gates_A (t : Fin cfg0.N) (h0 : t.val % 4 = 0) (h1 : ¬t.val % 4 = 3) :
    (outsAt0 m c t.val t.isLt).2.2 = rG (k0_pay92 (iblk m c 0 t)) (iblk m c 1 t) (iblk m c 2 t) := by
  rw [outsAt0_A m c t h0 h1]
  dsimp only
  rw [gate_A]

theorem sum_A (t : Fin cfg0.N) (h0 : t.val % 4 = 0) (h1 : ¬t.val % 4 = 3) :
    (outsAt0 m c t.val t.isLt).2.1 = stepv (grid0.coords t) (iblk m c 0 t) (rG (k0_pay92 (iblk m c 0 t)) (iblk m c 1 t) (iblk m c 2 t)) (iblk m c 3 t) (iblk m c 4 t) (iblk m c 5 t) (k0_pay101 (F := Ideal)) := by
  rw [outsAt0_A m c t h0 h1]
  dsimp only
  rw [acc_A]

theorem gates_BC (n : Nat) (hn : n + 1 < cfg0.N) (h0 : ¬(n + 1) % 4 = 0) :
    (outsAt0 m c (n + 1) hn).2.2 = (outsAt0 m c n (Nat.lt_of_succ_lt hn)).2.2 := by
  by_cases h1 : (n + 1) % 4 = 3
  · exact congrArg (·.2.2) (outsAt0_C m c ⟨n + 1, hn⟩ h0 h1)
  · exact congrArg (·.2.2) (outsAt0_B m c ⟨n + 1, hn⟩ h0 h1)

theorem sum_B (t : Fin cfg0.N) (h0 : ¬t.val % 4 = 0) (h1 : ¬t.val % 4 = 3) :
    (outsAt0 m c t.val t.isLt).2.1 = stepv (grid0.coords t) (iblk m c 0 t) (outsAt0 m c (t.val - 1) (Nat.lt_of_le_of_lt (Nat.sub_le _ _) t.isLt)).2.2
      (iblk m c 3 t) (iblk m c 4 t) (iblk m c 5 t) (outsAt0 m c (t.val - 1) (Nat.lt_of_le_of_lt (Nat.sub_le _ _) t.isLt)).2.1 := by
  rw [outsAt0_B m c t h0 h1]
  dsimp only
  rw [acc_B]

theorem sum_C (t : Fin cfg0.N) (h0 : ¬t.val % 4 = 0) (h1 : t.val % 4 = 3) :
    (outsAt0 m c t.val t.isLt).2.1 = stepv (grid0.coords t) (iblk m c 0 t) (outsAt0 m c (t.val - 1) (Nat.lt_of_le_of_lt (Nat.sub_le _ _) t.isLt)).2.2
      (iblk m c 3 t) (iblk m c 4 t) (iblk m c 5 t) (outsAt0 m c (t.val - 1) (Nat.lt_of_le_of_lt (Nat.sub_le _ _) t.isLt)).2.1 := by
  rw [outsAt0_C m c t h0 h1]
  dsimp only
  rw [acc_C]

theorem sum_BC (n : Nat) (hn : n + 1 < cfg0.N) (h0 : ¬(n + 1) % 4 = 0) :
    (outsAt0 m c (n + 1) hn).2.1 = stepv (grid0.coords ⟨n + 1, hn⟩) (iblk m c 0 ⟨n + 1, hn⟩) (outsAt0 m c n (Nat.lt_of_succ_lt hn)).2.2
      (iblk m c 3 ⟨n + 1, hn⟩) (iblk m c 4 ⟨n + 1, hn⟩) (iblk m c 5 ⟨n + 1, hn⟩) (outsAt0 m c n (Nat.lt_of_succ_lt hn)).2.1 := by
  by_cases h1 : (n + 1) % 4 = 3
  · exact sum_C m c ⟨n + 1, hn⟩ h0 h1
  · exact sum_B m c ⟨n + 1, hn⟩ h0 h1

theorem out_last (t : Fin cfg0.N) (h1 : t.val % 4 = 3) :
    (outsAt0 m c t.val t.isLt).1 = k0_pay2 (iblk m c 0 t) (outsAt0 m c t.val t.isLt).2.1 (iblk m c 6 t) (iblk m c 7 t) := by
  have h0 : ¬t.val % 4 = 0 := by omega
  rw [sum_C m c t h0 h1, outsAt0_C m c t h0 h1]
  dsimp only
  rw [out_C]

theorem zero_at (r : Fin 768) (d : Fin 1024) : k0_pay101 (F := Ideal) (ix2 r d) = 0 := by
  pointwise [k0_pay101]

theorem norm_at (x0 acc : Vec Ideal S768x1024 .f32) (x6 x7 : Vec Ideal S1x1024 .f32) (r : Fin 768) (d : Fin 1024) :
    k0_pay2 x0 acc x6 x7 (ix2 r d) = ln (fun x => Ideal.ofBits FTy.f32 1068827891#32 * x0 (ix2 r x) + acc (ix2 r x)) (x6 (ix2 0 d)) (x7 (ix2 0 d)) d := by
  pointwise [k0_pay2]
  rfl

/-- Every score of a token is a positive real. -/
def Pos (t : Fin 16896) : Prop := ∀ e, ∃ a : ℝ, 0 < a ∧ KS m c t e = a

theorem step_k (t : Fin cfg0.N) (gts : Vec Ideal S768x128 .f32) (acc : Vec Ideal S768x1024 .f32) (r : Fin 768) (d : Fin 1024) (hx : Pos m c (tok t r))
    (hgt : ∀ e : Fin 16, gts (ix2 r ⟨e.val, by omega⟩) = kg m c (tok t r) e) :
    stepv (grid0.coords t) (iblk m c 0 t) gts (iblk m c 3 t) (iblk m c 4 t) (iblk m c 5 t) acc (ix2 r d)
      = acc (ix2 r d) + kgroup m c (tok t r) d ⟨t.val % 4, by omega⟩ := by
  refine (step_at (grid0.coords t) (iblk m c 0 t) gts (iblk m c 3 t) (iblk m c 4 t) (iblk m c 5 t) acc r d
    (fun j => kg m c (tok t r) ⟨4 * (t.val % 4) + j.val, by omega⟩) (fun j => gate_ok _ _ hx _) (fun j => ?_)).trans ?_
  · refine Eq.trans ?_ (hgt ⟨4 * (t.val % 4) + j.val, by omega⟩)
    exact congrArg (fun z => gts (ix2 r z)) (Fin.ext (by show 4 * (grid0.coords t 1).val + j.val = 4 * (t.val % 4) + j.val; rw [(co t).2]))
  · refine congrArg (acc (ix2 r d) + ·) (Finset.sum_congr rfl fun j _ => ?_)
    unfold kterm
    refine congrArg (kg m c (tok t r) ⟨4 * (t.val % 4) + j.val, by omega⟩ * ·) ?_
    have h0 : (fun k => (iblk m c 0 t : Vec Ideal S768x1024 .f32) (ix2 r k)) = fun k => KX m c (ix2 (tok t r) k) := funext fun k => b0 m c t r k
    have h3 : (fun k x => (iblk m c 3 t : Vec Ideal S4x1024x256 .f32) (ix3 j k x)) = fun k x => KG m c (ix3 ⟨4 * (t.val % 4) + j.val, by omega⟩ k x) := funext fun k => funext fun x => b3 m c t j k x
    have h4 : (fun k x => (iblk m c 4 t : Vec Ideal S4x1024x256 .f32) (ix3 j k x)) = fun k x => KU m c (ix3 ⟨4 * (t.val % 4) + j.val, by omega⟩ k x) := funext fun k => funext fun x => b4 m c t j k x
    have h5 : (fun x : Fin 256 => (iblk m c 5 t : Vec Ideal S1x1024x1024 .f32) (ix3 0 ⟨256 * j.val + x.val, by omega⟩ d)) = fun x => KD m c (ix3 ⟨4 * (t.val % 4) + j.val, by omega⟩ x d) := by
      funext x
      refine (b5 m c t ⟨256 * j.val + x.val, by omega⟩ d).trans ?_
      have a1 : (⟨4 * (t.val % 4) + (256 * j.val + x.val) / 256, by omega⟩ : Fin 16) = ⟨4 * (t.val % 4) + j.val, by omega⟩ := Fin.ext (by show 4 * (t.val % 4) + (256 * j.val + x.val) / 256 = 4 * (t.val % 4) + j.val; omega)
      have a2 : (⟨(256 * j.val + x.val) % 256, by omega⟩ : Fin 256) = x := Fin.ext (by show (256 * j.val + x.val) % 256 = x.val; omega)
      exact congrArg₂ (fun a b => KD m c (ix3 a b d)) a1 a2
    exact congr (congr (congr (congrArg ffn h0) h3) h4) h5

/-- After every point: the gate table is the tile's, and the accumulator holds the groups so far. -/
theorem inv : ∀ n (hn : n < cfg0.N),
    (∀ (r : Fin 768) (e : Fin 16), (outsAt0 m c n hn).2.2 (ix2 r ⟨e.val, by omega⟩) = kg m c (tok ⟨n, hn⟩ r) e)
      ∧ ∀ (r : Fin 768) (d : Fin 1024), Pos m c (tok ⟨n, hn⟩ r) → (outsAt0 m c n hn).2.1 (ix2 r d) = psum (kgroup m c (tok ⟨n, hn⟩ r) d) (n % 4) := by
  have first : ∀ n (hn : n < cfg0.N), n % 4 = 0 →
      (∀ (r : Fin 768) (e : Fin 16), (outsAt0 m c n hn).2.2 (ix2 r ⟨e.val, by omega⟩) = kg m c (tok ⟨n, hn⟩ r) e)
        ∧ ∀ (r : Fin 768) (d : Fin 1024), Pos m c (tok ⟨n, hn⟩ r) → (outsAt0 m c n hn).2.1 (ix2 r d) = psum (kgroup m c (tok ⟨n, hn⟩ r) d) (n % 4) := by
    intro n hn h0
    have h1 : ¬n % 4 = 3 := by omega
    refine ⟨fun r e => (congrFun (gates_A m c ⟨n, hn⟩ h0 h1) _).trans (table_at m c ⟨n, hn⟩ r e), fun r d hx => ?_⟩
    refine (congrFun (sum_A m c ⟨n, hn⟩ h0 h1) _).trans ((step_k m c ⟨n, hn⟩ _ _ r d hx (table_at m c ⟨n, hn⟩ r)).trans ?_)
    rw [zero_at, zero_add]
    refine Eq.trans ?_ (show psum (kgroup m c (tok ⟨n, hn⟩ r) d) 0 = psum (kgroup m c (tok ⟨n, hn⟩ r) d) (n % 4) by rw [h0])
    exact congrArg (kgroup m c (tok ⟨n, hn⟩ r) d) (Fin.ext h0)
  intro n
  induction n with
  | zero => exact fun hn => first 0 hn rfl
  | succ n ih =>
    intro hn
    by_cases h0 : (n + 1) % 4 = 0
    · exact first _ hn h0
    have ht : ∀ r, tok ⟨n, Nat.lt_of_succ_lt hn⟩ r = tok ⟨n + 1, hn⟩ r := fun r => Fin.ext (by show 768 * (n / 4) + r.val = 768 * ((n + 1) / 4) + r.val; omega)
    obtain ⟨i1, i2⟩ := ih (Nat.lt_of_succ_lt hn)
    refine ⟨fun r e => (congrFun (gates_BC m c n hn h0) _).trans ((i1 r e).trans (by rw [ht])), fun r d hx => ?_⟩
    refine (congrFun (sum_BC m c n hn h0) _).trans ((step_k m c ⟨n + 1, hn⟩ _ _ r d hx (fun e => (i1 r e).trans (by rw [ht]))).trans ?_)
    rw [i2 r d (by rw [ht]; exact hx), ht]
    have hm : (n + 1) % 4 = n % 4 + 1 := by omega
    have hu : (⟨(n + 1) % 4, by omega⟩ : Fin 4) = ⟨n % 4 + 1, by omega⟩ := Fin.ext hm
    refine Eq.trans ?_ ((psum_succ (kgroup m c (tok ⟨n + 1, hn⟩ r) d) (n % 4) (by omega)).symm.trans (by rw [hm]))
    exact congrArg (fun z => psum (kgroup m c (tok ⟨n + 1, hn⟩ r) d) (n % 4) + kgroup m c (tok ⟨n + 1, hn⟩ r) d z) hu

/-- What a tile's last point writes out. -/
theorem out_at (n : Nat) (hn : n + 1 < cfg0.N) (h1 : (n + 1) % 4 = 3) (r : Fin 768) (d : Fin 1024) (hx : Pos m c (tok ⟨n + 1, hn⟩ r)) :
    (outsAt0 m c (n + 1) hn).1 (ix2 r d) = ln (kz m c (tok ⟨n + 1, hn⟩ r)) (KA m c (ix1 d)) (KB m c (ix1 d)) d := by
  refine (congrFun (out_last m c ⟨n + 1, hn⟩ h1) _).trans ((norm_at _ _ _ _ r d).trans ?_)
  have h6 := b6 m c ⟨n + 1, hn⟩ d
  have h7 := b7 m c ⟨n + 1, hn⟩ d
  have hz : (fun x => Ideal.ofBits FTy.f32 1068827891#32 * (iblk m c 0 ⟨n + 1, hn⟩ : Vec Ideal S768x1024 .f32) (ix2 r x) + (outsAt0 m c (n + 1) hn).2.1 (ix2 r x)) = kz m c (tok ⟨n + 1, hn⟩ r) := by
    funext x
    unfold kz
    rw [(inv m c (n + 1) hn).2 r x hx, h1, psum_all]
    exact congrArg (Ideal.ofBits FTy.f32 1068827891#32 * · + _) (b0 m c ⟨n + 1, hn⟩ r x)
  exact congr (congr (congr (congrArg ln hz) h6) h7) rfl

/-- For a token with an infinite entry the last point writes out the norm's offset. -/
theorem out_inf (n : Nat) (hn : n + 1 < cfg0.N) (h1 : (n + 1) % 4 = 3) (r : Fin 768) (d k : Fin 1024) (hx : Inf (KX m c (ix2 (tok ⟨n + 1, hn⟩ r) k))) :
    (outsAt0 m c (n + 1) hn).1 (ix2 r d) = KB m c (ix1 d) := by
  refine (congrFun (out_last m c ⟨n + 1, hn⟩ h1) _).trans ((norm_at _ _ _ _ r d).trans ((ln_inf _ _ _ d k ?_).trans (b7 m c ⟨n + 1, hn⟩ d)))
  refine inf_row _ _ ?_
  have h0 := b0 m c ⟨n + 1, hn⟩ r k
  rw [h0]
  exact hx

/-- The launch's result at an index is what the tile's last point writes out there. -/
theorem G8_out (t : Fin 16896) (d : Fin 1024) :
    ∃ (n : Nat) (hn : n + 1 < cfg0.N) (r : Fin 768), (n + 1) % 4 = 3 ∧ tok ⟨n + 1, hn⟩ r = t
      ∧ (G8 m c : Vec Ideal S16896x1024 .f32) (ix2 t d) = (outsAt0 m c (n + 1) hn).1 (ix2 r d) := by
  have hp : pt8Of (ix2 t d) = 4 * (t.val / 768) + 3 := by
    show 4 * (1 * (t.val / 768 - 0) + 1 * (d.val / 1024 - 0)) + 3 = _
    omega
  have hN : pt8Of (ix2 t d) < cfg0.N := by rw [hp]; exact lt_of_lt_of_eq (by omega) N_0.symm
  have hn : 4 * (t.val / 768) + 2 + 1 < cfg0.N := lt_of_lt_of_eq (by omega) N_0.symm
  have hl : loc8Of (ix2 t d) = ix2 (⟨t.val % 768, by omega⟩ : Fin 768) d := by
    funext a
    match a with
    | ⟨0, _⟩ => rfl
    | ⟨1, _⟩ => exact Fin.ext (Nat.mod_eq_of_lt d.isLt)
  have ht : tok ⟨4 * (t.val / 768) + 2 + 1, hn⟩ ⟨t.val % 768, by omega⟩ = t := Fin.ext (by show 768 * ((4 * (t.val / 768) + 2 + 1) / 4) + t.val % 768 = t.val; omega)
  refine ⟨4 * (t.val / 768) + 2, hn, ⟨t.val % 768, by omega⟩, by omega, ht, ?_⟩
  refine (dif_pos hN).trans ?_
  rw [hl, outsAt0_sweep]
  simp only [hp]

/-- The launch's result at an index, for a token with positive real scores. -/
theorem G8_at (t : Fin 16896) (d : Fin 1024) (hx : Pos m c t) :
    (G8 m c : Vec Ideal S16896x1024 .f32) (ix2 t d) = ln (kz m c t) (KA m c (ix1 d)) (KB m c (ix1 d)) d := by
  obtain ⟨n, hn, r, h1, ht, e⟩ := G8_out m c t d
  subst ht
  exact e.trans (out_at m c n hn h1 r d hx)

/-- The launch's result at an index, for a token with an infinite entry. -/
theorem G8_inf (t : Fin 16896) (d k : Fin 1024) (hx : Inf (KX m c (ix2 t k))) :
    (G8 m c : Vec Ideal S16896x1024 .f32) (ix2 t d) = KB m c (ix1 d) := by
  obtain ⟨n, hn, r, h1, ht, e⟩ := G8_out m c t d
  subst ht
  exact e.trans (out_inf m c n hn h1 r d k hx)

end Cert.Moe

end
-- ==== Proof.TopK.lean ====
/- `lax.top_k` along the last axis and a gather along the last axis, each read at an index. -/
module

public import proofs.«01_k».proof.Proof.Routing
public import Idealize.ShloMosaic.Lib.Pointwise

@[expose] public section

noncomputable section

namespace Cert.Moe

open Idealize.ShloMosaic

theorem sorted_top {n : Nat} (f : Fin n → EReal) (a : Fin n) :
    sortedFrom (fun k k' => FloatOps.cmpfTotal (F := Ideal) (φ := .f32) .gt (f k) (f k') == 1#1) a = top f a := by
  unfold top
  congr 1
  funext k k'
  rw [Ideal.cmpfTotal_def]
  show (BitVec.ofBool (decide (f k > f k')) == 1#1) = decide (f k' < f k)
  by_cases h : f k' < f k <;> simp [h]

theorem along2 {A n : Nat} (i : Fin A) (j k : Fin n) :
    Shape.Idx.along (s := ⟨2, ![A, n]⟩) (ix2 i j) (1 : Fin 2) k = ix2 i k := by
  funext a
  match a with
  | ⟨0, _⟩ => rfl
  | ⟨1, _⟩ => rfl

theorem along3 {A B n : Nat} (i : Fin A) (l : Fin B) (j k : Fin n) :
    Shape.Idx.along (s := ⟨3, ![A, B, n]⟩) (ix3 i l j) (2 : Fin 3) k = ix3 i l k := by
  funext a
  match a with
  | ⟨0, _⟩ => rfl
  | ⟨1, _⟩ => rfl
  | ⟨2, _⟩ => rfl

/-- A leading piece of the last of two axes, read at an index. -/
theorem lead2 {A n k : Nat} (hk : k ≤ n) {α : Type} (v : (⟨2, ![A, n]⟩ : Shape).Idx → α)
    (h : (⟨2, ![A, n]⟩ : Shape).Slices (fun _ => 0) ⟨2, ![A, k]⟩) (i : Fin A) (j : Fin k) :
    extractStridedSlice ⟨2, ![A, k]⟩ (fun _ => 0) v h (ix2 i j) = v (ix2 i ⟨j.val, by omega⟩) := by
  unfold extractStridedSlice
  congr 1
  funext a
  refine Fin.ext ?_
  match a with
  | ⟨0, _⟩ => exact Nat.zero_add _
  | ⟨1, _⟩ => exact Nat.zero_add _

/-- A leading piece of the last of three axes, read at an index. -/
theorem lead3 {A B n k : Nat} (hk : k ≤ n) {α : Type} (v : (⟨3, ![A, B, n]⟩ : Shape).Idx → α)
    (h : (⟨3, ![A, B, n]⟩ : Shape).Slices (fun _ => 0) ⟨3, ![A, B, k]⟩) (i : Fin A) (l : Fin B) (j : Fin k) :
    extractStridedSlice ⟨3, ![A, B, k]⟩ (fun _ => 0) v h (ix3 i l j) = v (ix3 i l ⟨j.val, by omega⟩) := by
  unfold extractStridedSlice
  congr 1
  funext a
  refine Fin.ext ?_
  match a with
  | ⟨0, _⟩ => exact Nat.zero_add _
  | ⟨1, _⟩ => exact Nat.zero_add _
  | ⟨2, _⟩ => exact Nat.zero_add _

/-- The positions `top_k` returns along the last of two axes. -/
theorem topK2_pos {A n k : Nat} (hk : k ≤ n) (x : FVec Ideal ⟨2, ![A, n]⟩ .f32) (h) (i : Fin A) (j : Fin k) :
    (Host.topK ⟨2, ![A, k]⟩ 1 (FloatOps.cmpfTotal (F := Ideal) (φ := .f32) .gt) x h).2 (ix2 i j)
      = BitVec.ofNat 32 (top (fun l => x (ix2 i l)) ⟨j.val, by omega⟩).val := by
  rw [← sorted_top]
  unfold Host.topK
  dsimp only
  rw [lead2 hk]
  unfold Host.sort2
  rw [dif_pos (by decide : 1 < 2)]
  dsimp only
  have q : Shape.Idx.along (s := ⟨2, ![A, n]⟩) (ix2 i ⟨j.val, by omega⟩) (1 : Fin 2) = fun m : Fin n => ix2 i m := funext (along2 i _)
  exact congrArg (fun f : Fin n → (⟨2, ![A, n]⟩ : Shape).Idx => BitVec.ofNat 32 ((f (sortedFrom (fun k k' => FloatOps.cmpfTotal (F := Ideal) (φ := .f32) .gt (x (f k)) (x (f k')) == 1#1) ⟨j.val, by omega⟩)) 1).val) q

/-- The values `top_k` returns along the last of three axes. -/
theorem topK3_val {A B n k : Nat} (hk : k ≤ n) (x : FVec Ideal ⟨3, ![A, B, n]⟩ .f32) (h) (i : Fin A) (l : Fin B) (j : Fin k) :
    (Host.topK ⟨3, ![A, B, k]⟩ 2 (FloatOps.cmpfTotal (F := Ideal) (φ := .f32) .gt) x h).1 (ix3 i l j)
      = x (ix3 i l (top (fun q => x (ix3 i l q)) ⟨j.val, by omega⟩)) := by
  rw [← sorted_top]
  unfold Host.topK
  dsimp only
  rw [lead3 hk]
  unfold Host.sort2
  rw [dif_pos (by decide : 2 < 3)]
  dsimp only
  have q : Shape.Idx.along (s := ⟨3, ![A, B, n]⟩) (ix3 i l ⟨j.val, by omega⟩) (2 : Fin 3) = fun m : Fin n => ix3 i l m := funext (along3 i l _)
  exact congrArg (fun f : Fin n → (⟨3, ![A, B, n]⟩ : Shape).Idx => x (f (sortedFrom (fun k k' => FloatOps.cmpfTotal (F := Ideal) (φ := .f32) .gt (x (f k)) (x (f k')) == 1#1) ⟨j.val, by omega⟩))) q

end Cert.Moe

end
-- ==== Proof.Ref.lean ====
/- The plain layer's routing, read at an index: its gate table holds `gate` of the two affinity rows. -/
module

public import proofs.«01_k».proof.Proof.Gen.ReferenceIdeal.Run
public import proofs.«01_k».proof.Proof.TopK
public import proofs.«01_k».proof.Proof.Gates

@[expose] public section

noncomputable section

namespace Cert.Moe

open Cert.ReferenceIdeal Cert.ReferenceIdeal.Gen Cert.ReferenceIdeal.Value Idealize.ShloMosaic

variable (V0 : Valuation τ sig (Elt Ideal))

/-- The tokens. -/
def RX : S16896x1024.Idx → EReal := V0 (Proc.devRef .tc main_arg0)
/-- The router's weights. -/
def RW : S1024x16.Idx → EReal := V0 (Proc.devRef .tc main_arg1)
/-- The experts' biases. -/
def RBi : S16.Idx → EReal := V0 (Proc.devRef .tc main_arg2)
/-- The affinity of token `t` with expert `e`. -/
def RS (t : Fin 16896) (e : Fin 16) : EReal := res_main_v8 V0 (ix2 t e)
/-- The same with the expert's bias added. -/
def RSB (t : Fin 16896) (e : Fin 16) : EReal := res_main_v11 V0 (ix2 t e)

theorem RS_eq (t : Fin 16896) (e : Fin 16) : RS V0 t e = Ideal.div 1 (1 + Ideal.exp (-∑ k : Fin 1024, RX V0 (ix2 t k) * RW V0 (ix2 k e))) := by
  unfold RS RX RW
  pointwise [res_main_v8]

theorem RSB_eq (t : Fin 16896) (e : Fin 16) : RSB V0 t e = RS V0 t e + RBi V0 (ix1 e) := by
  unfold RSB RS RBi
  pointwise [res_main_v11]

theorem v12_at (t : Fin 16896) (g k : Fin 4) : res_main_v12 V0 (ix3 t g k) = grp (RSB V0 t) g k := by
  unfold grp RSB
  pointwise [res_main_v12]
  congr 2
  refine Fin.ext ?_
  show g.val * 4 + k.val = 4 * g.val + k.val
  omega

theorem v13_at (t : Fin 16896) (g : Fin 4) : res_main_v13 V0 (ix2 t g) = gsc (RSB V0 t) g := by
  pointwise [res_main_v13]
  rw [Fin.sum_univ_two]
  have hf : (fun q => res_main_v12 V0 (ix3 t g q)) = grp (RSB V0 t) g := funext fun q => v12_at V0 t g q
  have h : ∀ j : Fin 2, (Host.topK S16896x4x2 2 (FloatOps.cmpfTotal CmpDirection.gt) (res_main_v12 V0) sliceFits_S16896x4x4_S16896x4x2).1 (ix3 t g j) = grp (RSB V0 t) g (top (grp (RSB V0 t) g) ⟨j.val, by omega⟩) := by
    intro j
    rw [← v12_at, ← hf]
    exact topK3_val (by decide) (res_main_v12 V0) sliceFits_S16896x4x4_S16896x4x2 t g j
  rw [h, h]
  rfl

theorem grp_pos (t : Fin 16896) : (Host.topK S16896x1 1 (FloatOps.cmpfTotal CmpDirection.gt) (res_main_v13 V0) sliceFits_S16896x4_S16896x1).2 (ix2 t 0) = BitVec.ofNat 32 (G (RSB V0 t)).val := by
  have hf : (fun q => res_main_v13 V0 (ix2 t q)) = gsc (RSB V0 t) := funext fun q => v13_at V0 t q
  have h := topK2_pos (n := 4) (k := 1) (by decide) (res_main_v13 V0) sliceFits_S16896x4_S16896x1 t 0
  rw [hf] at h
  exact h

theorem ofNat_inj {a b : Nat} (ha : a < 16) (hb : b < 16) : BitVec.ofNat 32 a = BitVec.ofNat 32 b ↔ a = b := by
  constructor
  · intro h
    have := congrArg BitVec.toNat h
    simp only [BitVec.toNat_ofNat] at this
    omega
  · rintro rfl; rfl

theorem conv_eq {a b : Nat} (ha : a < 16) (hb : b < 16) : (FloatOps.uitofp .f32 (IntOp.cmpi .eq (BitVec.ofNat 32 a) (BitVec.ofNat 32 b)) : Ideal .f32) = if a = b then (1 : EReal) else 0 := by
  have h : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff]
    simp [ofNat_inj ha hb]
  rw [h]
  by_cases e : a = b
  · rw [if_pos e, decide_eq_true e]
    show (((1 : Nat) : ℝ) : EReal) = 1
    norm_num
  · rw [if_neg e, decide_eq_false e]
    show (((0 : Nat) : ℝ) : EReal) = 0
    norm_num

theorem neg_inf : Ideal.ofBits .f32 4286578688#32 = ⊥ := by
  simp [Ideal.ofBits, Ideal.ieee]

theorem v20_at (t : Fin 16896) (e : Fin 16) : res_main_v20 V0 (ix2 t e) = msk (RSB V0 t) (G (RSB V0 t)) e := by
  pointwise [res_main_v20]
  rw [grp_pos]
  show (if 0 < ∑ _x : Fin 1, (FloatOps.uitofp .f32 (IntOp.cmpi .eq (BitVec.ofNat 32 (G (RSB V0 t)).val) (BitVec.ofNat 32 (e.val / 4))) : Ideal .f32) then RSB V0 t e else Ideal.ofBits .f32 4286578688#32) = _
  rw [Fin.sum_univ_one, conv_eq (by omega) (by omega)]
  unfold msk
  by_cases h : (G (RSB V0 t)).val = e.val / 4
  · rw [if_pos h, if_pos h.symm, if_pos zero_lt_one]
  · rw [if_neg h, if_neg (fun r => h (Eq.symm r)), if_neg (lt_irrefl _)]
    exact neg_inf

theorem idx_at (t : Fin 16896) (j : Fin 2) : res_main_indices_9 V0 (ix2 t j) = BitVec.ofNat 32 (top (msk (RSB V0 t) (G (RSB V0 t))) ⟨j.val, by omega⟩).val := by
  have hf : (fun q => res_main_v20 V0 (ix2 t q)) = msk (RSB V0 t) (G (RSB V0 t)) := funext fun q => v20_at V0 t q
  have h := topK2_pos (n := 16) (k := 2) (by decide) (res_main_v20 V0) sliceFits_S16896x16_S16896x2 t j
  rw [hf] at h
  unfold res_main_indices_9
  exact h

/-- The expert the `j`-th place of a token goes to. -/
def TT (t : Fin 16896) (j : Fin 2) : Fin 16 := top (msk (RSB V0 t) (G (RSB V0 t))) ⟨j.val, by omega⟩

theorem norm_idx (a : Fin 16) : Scalar.select (IntOp.cmpi CmpIPredicate.slt (BitVec.ofNat 32 a.val) 0#32) (IntOp.addi (BitVec.ofNat 32 a.val) 16#32) (BitVec.ofNat 32 a.val) = BitVec.ofNat 32 a.val := by
  revert a; decide

theorem c5_at (t : Fin 16896) (j : Fin 2) : res_main_call2_v5 V0 (ix3 t j 0) = BitVec.ofNat 32 (TT V0 t j).val := by
  pointwise [res_main_call2_v5]
  rw [idx_at]
  exact norm_idx _

theorem inRange (a : Fin 16) : IntOp.andi (IntOp.cmpi CmpIPredicate.sge (BitVec.ofNat 32 a.val) 0#32) (IntOp.cmpi CmpIPredicate.sle (BitVec.ofNat 32 a.val) 15#32) = 1#1 := by
  revert a; decide

theorem gather_at (t : Fin 16896) (j : Fin 2) (x : FVec Ideal S16896x16 .f32) (idx : IVec S16896x2x1 32) (e : Fin 16) (he : (idx (ix3 t j 0)).toInt.toNat = e.val) :
    Host.gather gather_S16896x16_S16896x2x1_S16896x2_n_1_0_0_1_2_11 x idx (ix2 t j) = x (ix2 t e) := by
  unfold Host.gather
  congr 1
  funext a
  refine Fin.ext ?_
  show GatherDims.start gather_S16896x16_S16896x2x1_S16896x2_n_1_0_0_1_2_11 (ix2 t j) idx a + GatherDims.batchCoord _ (ix2 t j) a + GatherDims.offCoord _ (ix2 t j) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (⟨0, by decide⟩ : Fin 2) ∈ gather_S16896x16_S16896x2x1_S16896x2_n_1_0_0_1_2_11.operandBatchingDims from List.mem_singleton.mpr rfl)]
    rfl
  | ⟨1, _⟩ =>
    rw [GatherDims.batchCoord_eq_zero _ _ _ (fun h => by simp [gather_S16896x16_S16896x2x1_S16896x2_n_1_0_0_1_2_11] at h),
      GatherDims.offCoord_eq_zero _ _ _ (fun h => ((GatherDims.mem_sKept _ _).mp h).1 (List.mem_singleton.mpr rfl))]
    show GatherDims.start gather_S16896x16_S16896x2x1_S16896x2_n_1_0_0_1_2_11 (ix2 t j) idx ⟨1, by decide⟩ = _
    unfold GatherDims.start
    rw [dif_pos (show (⟨1, by decide⟩ : Fin 2) ∈ gather_S16896x16_S16896x2x1_S16896x2_n_1_0_0_1_2_11.startIndexMap from List.mem_singleton.mpr rfl)]
    have hsi : ∀ p, GatherDims.siIdx gather_S16896x16_S16896x2x1_S16896x2_n_1_0_0_1_2_11 (ix2 t j) p = ix3 t j 0 := by
      intro p
      funext b; refine Fin.ext ?_
      match b with
      | ⟨0, _⟩ => rfl
      | ⟨1, _⟩ => rfl
      | ⟨2, _⟩ =>
        have : p.val < 1 := p.isLt
        have h0 : p = ⟨0, by decide⟩ := Fin.ext (by show p.val = 0; omega)
        rw [h0]; rfl
    rw [hsi, he]
    show min e.val (16 - 1) = e.val
    omega

theorem toInt_small (a : Fin 16) : (BitVec.ofNat 32 a.val).toInt.toNat = a.val := by
  revert a; decide

theorem v21_at (t : Fin 16896) (j : Fin 2) : res_main_v21 V0 (ix2 t j) = RS V0 t (TT V0 t j) := by
  pointwise [res_main_v21]
  rw [gather_at t j _ _ (TT V0 t j) (by rw [c5_at]; exact toInt_small _)]
  have hb : ∀ x : S16896x2x1.Idx, IntOp.andi (IntOp.cmpi CmpIPredicate.sge (res_main_call2_v5 V0 x) 0#32) (IntOp.cmpi CmpIPredicate.sle (res_main_call2_v5 V0 x) 15#32) = 1#1 := by
    intro x
    obtain ⟨p, q, hx⟩ : ∃ (p : Fin 16896) (q : Fin 2), x = ix3 p q 0 := by
      refine ⟨x 0, x 1, ?_⟩
      funext a
      match a with
      | ⟨0, _⟩ => rfl
      | ⟨1, _⟩ => rfl
      | ⟨2, _⟩ => exact Fin.ext (by have : (x 2).val < 1 := (x 2).isLt; show (x 2).val = 0; omega)
    rw [hx, c5_at]
    exact inRange _
  have hfold : ∀ s : Finset S16896x2x1.Idx, Finset.fold IntOp.andi (1#1) (fun x => IntOp.andi (IntOp.cmpi CmpIPredicate.sge (res_main_call2_v5 V0 x) 0#32) (IntOp.cmpi CmpIPredicate.sle (res_main_call2_v5 V0 x) 15#32)) s = 1#1 := by
    intro s
    classical
    induction s using Finset.induction_on with
    | empty => rfl
    | insert a s ha ih => rw [Finset.fold_insert ha, ih, hb]; rfl
  rw [hfold]
  rfl

theorem sum_two (s : Fin 16 → EReal) (a b : Fin 16) (h : a ≠ b) : (∑ e, if e = a ∨ e = b then s e else 0) = s a + s b := by
  have : ∀ e, (if e = a ∨ e = b then s e else 0) = (if e = a then s e else 0) + (if e = b then s e else 0) := by
    intro e
    by_cases h1 : e = a
    · have h2 : ¬ e = b := fun q => h (h1.symm.trans q)
      simp [h1, h]
    · simp [h1]
  simp only [this, Finset.sum_add_distrib, Finset.sum_ite_eq', Finset.mem_univ, if_true]

theorem v27_at (t : Fin 16896) (e : Fin 16) : res_main_v27 V0 (ix2 t e) = gate (RS V0 t) (RSB V0 t) e := by
  pointwise [res_main_v27]
  have h0 : TT V0 t 0 = T0 (RSB V0 t) := top16_zero _
  have h1 : TT V0 t 1 = T1 (RSB V0 t) := top16_one _
  have i0 : res_main_indices_9 V0 (ix2 t 0) = BitVec.ofNat 32 (T0 (RSB V0 t)).val := by rw [← h0]; exact idx_at V0 t 0
  have i1 : res_main_indices_9 V0 (ix2 t 1) = BitVec.ofNat 32 (T1 (RSB V0 t)).val := by rw [← h1]; exact idx_at V0 t 1
  rw [Fin.sum_univ_two, Fin.sum_univ_two, v21_at, v21_at, i0, i1, conv_eq (Fin.isLt _) e.isLt, conv_eq (Fin.isLt _) e.isLt, h0, h1]
  rw [← sum_two _ _ _ (T_ne _)]
  unfold gate
  by_cases c0 : e = T0 (RSB V0 t)
  · have c1 : ¬ (T1 (RSB V0 t)).val = e.val := fun q => T_ne _ (c0.symm.trans (Fin.ext q.symm))
    rw [if_pos (Or.inl c0), if_neg c1, if_pos (congrArg Fin.val c0.symm), mul_one, mul_zero, add_zero, ← c0]
  · by_cases c1 : e = T1 (RSB V0 t)
    · rw [if_pos (Or.inr c1), if_neg (fun q => c0 (Fin.ext q.symm)), if_pos (congrArg Fin.val c1.symm), mul_one, mul_zero, zero_add, ← c1]
    · rw [if_neg (not_or.mpr ⟨c0, c1⟩), if_neg (fun q => c0 (Fin.ext q.symm)), if_neg (fun q => c1 (Fin.ext q.symm)), mul_zero, mul_zero, zero_add]

end Cert.Moe

end
-- ==== Proof.RefOut.lean ====
/- The plain layer's result at an index: the norm of the scaled token plus its gated experts. -/
module

public import proofs.«01_k».proof.Proof.Ref
public import proofs.«01_k».proof.Proof.Spec

@[expose] public section

noncomputable section

namespace Cert.Moe

open Cert.ReferenceIdeal Cert.ReferenceIdeal.Gen Cert.ReferenceIdeal.Value Idealize.ShloMosaic

variable (V0 : Valuation τ sig (Elt Ideal))

/-- The gate projections. -/
def RG : S16x1024x256.Idx → EReal := V0 (Proc.devRef .tc main_arg3)
/-- The up projections. -/
def RU : S16x1024x256.Idx → EReal := V0 (Proc.devRef .tc main_arg4)
/-- The down projections. -/
def RD : S16x256x1024.Idx → EReal := V0 (Proc.devRef .tc main_arg5)
/-- The norm's gain. -/
def RA : S1024.Idx → EReal := V0 (Proc.devRef .tc main_arg6)
/-- The norm's bias. -/
def RB : S1024.Idx → EReal := V0 (Proc.devRef .tc main_arg7)

/-- Expert `e`'s part of the output at a token and a column. -/
def rterm (t : Fin 16896) (d : Fin 1024) (e : Fin 16) : EReal :=
  gate (RS V0 t) (RSB V0 t) e * ffn (fun k => RX V0 (ix2 t k)) (fun k x => RG V0 (ix3 e k x)) (fun k x => RU V0 (ix3 e k x)) (fun x => RD V0 (ix3 e x d))

/-- The row the norm is taken of. -/
def rz (t : Fin 16896) (d : Fin 1024) : EReal := Ideal.ofBits FTy.f32 1068827891#32 * RX V0 (ix2 t d) + ∑ e, rterm V0 t d e

theorem h0 (t : Fin 16896) (x : Fin 256) : res_main_v31 V0 (ix2 t x) = ∑ k : Fin 1024, RX V0 (ix2 t k) * RG V0 (ix3 0 k x) := by
  unfold RX RG
  pointwise [res_main_v31]
theorem h1 (t : Fin 16896) (x : Fin 256) : res_main_v46 V0 (ix2 t x) = ∑ k : Fin 1024, RX V0 (ix2 t k) * RG V0 (ix3 1 k x) := by
  unfold RX RG
  pointwise [res_main_v46]
theorem h2 (t : Fin 16896) (x : Fin 256) : res_main_v61 V0 (ix2 t x) = ∑ k : Fin 1024, RX V0 (ix2 t k) * RG V0 (ix3 2 k x) := by
  unfold RX RG
  pointwise [res_main_v61]
theorem h3 (t : Fin 16896) (x : Fin 256) : res_main_v76 V0 (ix2 t x) = ∑ k : Fin 1024, RX V0 (ix2 t k) * RG V0 (ix3 3 k x) := by
  unfold RX RG
  pointwise [res_main_v76]
theorem h4 (t : Fin 16896) (x : Fin 256) : res_main_v91 V0 (ix2 t x) = ∑ k : Fin 1024, RX V0 (ix2 t k) * RG V0 (ix3 4 k x) := by
  unfold RX RG
  pointwise [res_main_v91]
theorem h5 (t : Fin 16896) (x : Fin 256) : res_main_v106 V0 (ix2 t x) = ∑ k : Fin 1024, RX V0 (ix2 t k) * RG V0 (ix3 5 k x) := by
  unfold RX RG
  pointwise [res_main_v106]
theorem h6 (t : Fin 16896) (x : Fin 256) : res_main_v121 V0 (ix2 t x) = ∑ k : Fin 1024, RX V0 (ix2 t k) * RG V0 (ix3 6 k x) := by
  unfold RX RG
  pointwise [res_main_v121]
theorem h7 (t : Fin 16896) (x : Fin 256) : res_main_v136 V0 (ix2 t x) = ∑ k : Fin 1024, RX V0 (ix2 t k) * RG V0 (ix3 7 k x) := by
  unfold RX RG
  pointwise [res_main_v136]
theorem h8 (t : Fin 16896) (x : Fin 256) : res_main_v151 V0 (ix2 t x) = ∑ k : Fin 1024, RX V0 (ix2 t k) * RG V0 (ix3 8 k x) := by
  unfold RX RG
  pointwise [res_main_v151]
theorem h9 (t : Fin 16896) (x : Fin 256) : res_main_v166 V0 (ix2 t x) = ∑ k : Fin 1024, RX V0 (ix2 t k) * RG V0 (ix3 9 k x) := by
  unfold RX RG
  pointwise [res_main_v166]
theorem h10 (t : Fin 16896) (x : Fin 256) : res_main_v181 V0 (ix2 t x) = ∑ k : Fin 1024, RX V0 (ix2 t k) * RG V0 (ix3 10 k x) := by
  unfold RX RG
  pointwise [res_main_v181]
theorem h11 (t : Fin 16896) (x : Fin 256) : res_main_v196 V0 (ix2 t x) = ∑ k : Fin 1024, RX V0 (ix2 t k) * RG V0 (ix3 11 k x) := by
  unfold RX RG
  pointwise [res_main_v196]
theorem h12 (t : Fin 16896) (x : Fin 256) : res_main_v211 V0 (ix2 t x) = ∑ k : Fin 1024, RX V0 (ix2 t k) * RG V0 (ix3 12 k x) := by
  unfold RX RG
  pointwise [res_main_v211]
theorem h13 (t : Fin 16896) (x : Fin 256) : res_main_v226 V0 (ix2 t x) = ∑ k : Fin 1024, RX V0 (ix2 t k) * RG V0 (ix3 13 k x) := by
  unfold RX RG
  pointwise [res_main_v226]
theorem h14 (t : Fin 16896) (x : Fin 256) : res_main_v241 V0 (ix2 t x) = ∑ k : Fin 1024, RX V0 (ix2 t k) * RG V0 (ix3 14 k x) := by
  unfold RX RG
  pointwise [res_main_v241]
theorem h15 (t : Fin 16896) (x : Fin 256) : res_main_v256 V0 (ix2 t x) = ∑ k : Fin 1024, RX V0 (ix2 t k) * RG V0 (ix3 15 k x) := by
  unfold RX RG
  pointwise [res_main_v256]

def p103 : S16896x1024.Idx → EReal := res_main_v103 V0
theorem s103 (t : Fin 16896) (d : Fin 1024) : p103 V0 (ix2 t d) = rterm V0 t d 0 + rterm V0 t d 1 + rterm V0 t d 2 + rterm V0 t d 3 + rterm V0 t d 4 := by
  unfold p103
  pointwise [res_main_v103]
  simp only [h0, h1, h2, h3, h4, v27_at]
  rfl

def p178 : S16896x1024.Idx → EReal := res_main_v178 V0
theorem s178 (t : Fin 16896) (d : Fin 1024) : p178 V0 (ix2 t d) = p103 V0 (ix2 t d) + rterm V0 t d 5 + rterm V0 t d 6 + rterm V0 t d 7 + rterm V0 t d 8 + rterm V0 t d 9 := by
  unfold p178 p103
  pointwise [res_main_v178]
  simp only [h5, h6, h7, h8, h9, v27_at]
  rfl

def p253 : S16896x1024.Idx → EReal := res_main_v253 V0
theorem s253 (t : Fin 16896) (d : Fin 1024) : p253 V0 (ix2 t d) = p178 V0 (ix2 t d) + rterm V0 t d 10 + rterm V0 t d 11 + rterm V0 t d 12 + rterm V0 t d 13 + rterm V0 t d 14 := by
  unfold p253 p178
  pointwise [res_main_v253]
  simp only [h10, h11, h12, h13, h14, v27_at]
  rfl

theorem v269_at (t : Fin 16896) (d : Fin 1024) : res_main_v269 V0 (ix2 t d) = rz V0 t d := by
  pointwise [res_main_v269]
  unfold rz
  rw [sum16, ← s103, ← s178, ← s253]
  simp only [h15, v27_at]
  rfl

theorem ref_at (t : Fin 16896) (d : Fin 1024) :
    addf (F := Ideal) (mulf (mulf (subf (res_main_v269 V0) (broadcastInDim S16896x1024 ![0, 1] bcast_S16896x1_S16896x1024_0_1 (res_main_v273 V0))) (broadcastInDim S16896x1024 ![0, 1] bcast_S16896x1_S16896x1024_0_1 (Host.rsqrt (addf (Host.divf (broadcastInDim S16896x1 ![0] bcast_S16896_S16896x1_0 (Host.reduceAdd (mulf (res_main_v275 V0) (res_main_v275 V0)) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x3727C5AC#32)))))) (broadcastInDim S16896x1024 ![0, 1] bcast_S1x1024_S16896x1024_0_1 (broadcastInDim S1x1024 ![1] bcast_S1024_S1x1024_1 (V0 (Proc.devRef .tc main_arg6))))) (broadcastInDim S16896x1024 ![0, 1] bcast_S1x1024_S16896x1024_0_1 (broadcastInDim S1x1024 ![1] bcast_S1024_S1x1024_1 (V0 (Proc.devRef .tc main_arg7)))) (ix2 t d)
      = ln (rz V0 t) (RA V0 (ix1 d)) (RB V0 (ix1 d)) d := by
  pointwise [res_main_v275, res_main_v273]
  simp only [v269_at]
  rfl

end Cert.Moe

end
-- ==== Proof.Tie.lean ====
/- The two sides read at the same index of the same arguments are one value. -/
module

public import proofs.«01_k».proof.Proof.KernelOut
public import proofs.«01_k».proof.Proof.RefOut
public import proofs.«01_k».proof.Proof.Gen.Pre_finite
public import proofs.«01_k».proof.Defs

@[expose] public section

noncomputable section

namespace Cert.Moe

open Idealize.ShloMosaic Idealize.SL.Sem

/-- A number below the top in absolute value is real. -/
theorem real_of (x : EReal) (h : BitVec.ofBool (decide (max x (-x) < Ideal.ofBits FTy.f32 2139095040#32)) = 1#1) : ∃ a : ℝ, x = a := by
  have top : Ideal.ofBits FTy.f32 2139095040#32 = ⊤ := by simp [Ideal.ofBits, Ideal.ieee]
  rw [top] at h
  have hlt : max x (-x) < ⊤ := by
    by_contra c
    rw [decide_eq_false c] at h
    exact absurd h (by decide)
  induction x with
  | bot => exact absurd hlt (by simp)
  | top => exact absurd hlt (by simp)
  | coe a => exact ⟨a, rfl⟩

theorem fin_w (a : FVec Ideal Cert.Pre_finite.S1024x16 .f32)
    (h : cmpf .olt (Host.absf a) (broadcastInDim Cert.Pre_finite.S1024x16 ![] Cert.Pre_finite.Gen.bcast_S_S1024x16 (constant Cert.Pre_finite.S_ .f32 0x7F800000#32)) = fun _ => 1#1)
    (k : Fin 1024) (e : Fin 16) : ∃ r : ℝ, a (ix2 k e) = r := by
  have h0 := congrFun h (ix2 k e)
  revert h0
  pointwise
  exact real_of _

section
variable (m : (ℓ : Loc Cert.KernelIdeal.nD Cert.KernelIdeal.τ Cert.KernelIdeal.sig) → Buf (Elt Ideal) ℓ) (c : Dev Cert.KernelIdeal.nD)

/-- With the router's weights real, every score of a real token is a positive real. -/
theorem score_pos (h : Cert.Pre_KernelIdeal_finite m) (t : Fin 16896) (hx : ∀ k, ∃ r : ℝ, KX m c (ix2 t k) = r) : Pos m c t := by
  intro e
  have hw : ∀ k e, ∃ r : ℝ, KW m c (ix2 k e) = r := fin_w (KW m c) (h c)
  obtain ⟨z, hz⟩ := sum_real (fun k => KX m c (ix2 t k) * KW m c (ix2 k e)) (fun k => by
    obtain ⟨a, ha⟩ := hx k
    obtain ⟨b, hb⟩ := hw k e
    exact ⟨a * b, by rw [ha, hb, EReal.coe_mul]⟩)
  obtain ⟨s, h0, h1⟩ := sg_pos z
  exact ⟨s, h0, by unfold KS; rw [hz, h1]⟩

/-- The reference's row is the kernel's. -/
theorem tie (h : Cert.Pre_KernelIdeal_finite m) (V0 : Valuation Cert.ReferenceIdeal.τ Cert.ReferenceIdeal.sig (Elt Ideal))
    (e0 : RX V0 = KX m c) (e1 : RW V0 = KW m c) (e2 : RBi V0 = KBi m c) (e3 : RG V0 = KG m c) (e4 : RU V0 = KU m c) (e5 : RD V0 = KD m c)
    (e6 : RA V0 = KA m c) (e7 : RB V0 = KB m c) (t : Fin 16896) (d : Fin 1024) :
    ln (rz V0 t) (RA V0 (ix1 d)) (RB V0 (ix1 d)) d = (Cert.KernelIdeal.Value.G8 m c : Vec Ideal Cert.KernelIdeal.S16896x1024 .f32) (ix2 t d) := by
  by_cases hi : ∃ k, Inf (KX m c (ix2 t k))
  · obtain ⟨k, hk⟩ := hi
    rw [G8_inf m c t d k hk, e7]
    refine ln_inf _ _ _ d k ?_
    unfold rz
    rw [e0]
    exact inf_row _ _ hk
  have hr : ∀ k, ∃ r : ℝ, KX m c (ix2 t k) = r := fun k => (real_or_inf _).resolve_right fun hk => hi ⟨k, hk⟩
  rw [G8_at m c t d (score_pos m c h t hr)]
  have hs : RS V0 t = KS m c t := by
    funext e
    rw [RS_eq, e0, e1]
    rfl
  have hb : RSB V0 t = KSB m c t := by
    funext e
    rw [RSB_eq, hs, e2]
    rfl
  have hz : rz V0 t = kz m c t := by
    funext x
    unfold rz kz rterm kterm kg
    rw [hs, hb, e0, e3, e4, e5]
  rw [hz, e6, e7]

end

end Cert.Moe

end
-- ==== Proof.Mix.lean ====
/- The mixers' output projection: the norm of the scaled stream plus the three mixers' projected outputs, on the kernel's side. -/
module

public import proofs.«01_k».proof.Proof.Gen.Kernel2Ideal.Value
public import proofs.«01_k».proof.Proof.Spec
public import Idealize.ShloMosaic.Lib.Pointwise
public import Idealize.ShloMosaic.Lib.Pipeline.ValueKit.Geometry

@[expose] public section

noncomputable section

namespace Cert.Mix

open Cert.Kernel2Ideal Cert.Kernel2Ideal.Gen Cert.Kernel2Ideal.Value Cert.Moe Idealize.ShloMosaic Idealize.ShloMosaic.TcCoe Idealize.SL.Sem Idealize.ShloMosaic.Tactic

/-- The row the norm is taken of: the scaled stream plus the three mixers' outputs through their rows of the projection. -/
def mz (h : Fin 1024 → EReal) (ya yb : Fin 256 → EReal) (yc : Fin 512 → EReal) (w : Fin 1024 → Fin 1024 → EReal) (d : Fin 1024) : EReal :=
  Ideal.ofBits FTy.f32 1068827891#32 * h d + ((∑ k, ya k * w ⟨k.val, by omega⟩ d) + (∑ k, yb k * w ⟨256 + k.val, by omega⟩ d) + ∑ k, yc k * w ⟨512 + k.val, by omega⟩ d)

variable (m : (ℓ : Loc nD τ sig) → Buf (Elt Ideal) ℓ) (c : Dev nD)

/-- The first mixer's output. -/
def KYa : S16896x256.Idx → EReal := m ((c : Thread nD τ).loc main_arg0)
/-- The second mixer's output. -/
def KYb : S16896x256.Idx → EReal := m ((c : Thread nD τ).loc main_arg1)
/-- The third mixer's output. -/
def KYc : S16896x512.Idx → EReal := m ((c : Thread nD τ).loc main_arg2)
/-- The stream. -/
def KH : S16896x1024.Idx → EReal := m ((c : Thread nD τ).loc main_arg3)
/-- The projection. -/
def KW : S1024x1024.Idx → EReal := m ((c : Thread nD τ).loc main_arg4)
/-- The norm's gain. -/
def KA : S1024.Idx → EReal := m ((c : Thread nD τ).loc main_arg5)
/-- The norm's bias. -/
def KB : S1024.Idx → EReal := m ((c : Thread nD τ).loc main_arg6)

theorem V_v0 (k d : Fin 1024) : (V m c main_v0 : Vec Ideal S1024x1024 .bf16) (ix2 k d) = KW m c (ix2 k d) := by
  dsimp only [V]
  simp only [hostOps0, List.flatten_cons, List.flatten_nil, List.append_nil, List.cons_append, List.nil_append]
  after_results_simp
  show truncf (F := Ideal) .bf16 (KW m c) bitsLt_bf16_f32 (ix2 k d) = _
  pointwise []

theorem V_v1 (d : Fin 1024) : (V m c main_v1 : Vec Ideal S1x1024 .f32) (ix2 0 d) = KA m c (ix1 d) := by
  dsimp only [V]
  simp only [hostOps0, List.flatten_cons, List.flatten_nil, List.append_nil, List.cons_append, List.nil_append]
  after_results_simp
  show shapeCast S1x1024 (KA m c) shapeCasts_S1024_S1x1024 (ix2 0 d) = _
  pointwise []

theorem V_v2 (d : Fin 1024) : (V m c main_v2 : Vec Ideal S1x1024 .f32) (ix2 0 d) = KB m c (ix1 d) := by
  dsimp only [V]
  simp only [hostOps0, List.flatten_cons, List.flatten_nil, List.append_nil, List.cons_append, List.nil_append]
  after_results_simp
  show shapeCast S1x1024 (KB m c) shapeCasts_S1024_S1x1024 (ix2 0 d) = _
  pointwise []

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])
theorem fl7 : ∀ t : Fin cfg0.N, (cfg0.win 7).flush t = true := (by decide +kernel : ∀ t : Fin grid0.N, win0_7.flush t = true)

theorem b0 (t : Fin cfg0.N) (r : Fin 768) (k : Fin 256) : (iblk m c 0 t : Vec Ideal S768x256 .f32) (ix2 r k) = KYa m c (ix2 ⟨768 * t.val + r.val, by have := lt_of_lt_of_eq t.isLt N_0; omega⟩ k) := by
  blk_simp [iblk]
  rw [V_main_arg0]
  unfold KYa
  congr 1
  blk_ext [e0]

theorem b1 (t : Fin cfg0.N) (r : Fin 768) (k : Fin 256) : (iblk m c 1 t : Vec Ideal S768x256 .f32) (ix2 r k) = KYb m c (ix2 ⟨768 * t.val + r.val, by have := lt_of_lt_of_eq t.isLt N_0; omega⟩ k) := by
  blk_simp [iblk]
  rw [V_main_arg1]
  unfold KYb
  congr 1
  blk_ext [e1]

theorem b2 (t : Fin cfg0.N) (r : Fin 768) (k : Fin 512) : (iblk m c 2 t : Vec Ideal S768x512 .f32) (ix2 r k) = KYc m c (ix2 ⟨768 * t.val + r.val, by have := lt_of_lt_of_eq t.isLt N_0; omega⟩ k) := by
  blk_simp [iblk]
  rw [V_main_arg2]
  unfold KYc
  congr 1
  blk_ext [e2]

theorem b3 (t : Fin cfg0.N) (r : Fin 768) (k : Fin 1024) : (iblk m c 3 t : Vec Ideal S768x1024 .f32) (ix2 r k) = KH m c (ix2 ⟨768 * t.val + r.val, by have := lt_of_lt_of_eq t.isLt N_0; omega⟩ k) := by
  blk_simp [iblk]
  rw [V_main_arg3]
  unfold KH
  congr 1
  blk_ext [e3]

theorem b4 (t : Fin cfg0.N) (k d : Fin 1024) : (iblk m c 4 t : Vec Ideal S1024x1024 .bf16) (ix2 k d) = KW m c (ix2 k d) := by
  blk_simp [iblk]
  rw [← V_v0]
  congr 1
  blk_ext [e4]

theorem b5 (t : Fin cfg0.N) (d : Fin 1024) : (iblk m c 5 t : Vec Ideal S1x1024 .f32) (ix2 0 d) = KA m c (ix1 d) := by
  blk_simp [iblk]
  rw [← V_v1]
  congr 1
  blk_ext [e5]

theorem b6 (t : Fin cfg0.N) (d : Fin 1024) : (iblk m c 6 t : Vec Ideal S1x1024 .f32) (ix2 0 d) = KB m c (ix1 d) := by
  blk_simp [iblk]
  rw [← V_v2]
  congr 1
  blk_ext [e6]

theorem zero_bits : Ideal.ofBits FTy.f32 0#32 = 0 := by simp [Ideal.ofBits, Ideal.ieee]

/-- The centred row of a block. -/
theorem cen_at (x0 x1 : Vec Ideal S768x256 .f32) (x2 : Vec Ideal S768x512 .f32) (x3 : Vec Ideal S768x1024 .f32) (x4 : Vec Ideal S1024x1024 .bf16) (r : Fin 768) (d : Fin 1024) :
    k0_pay4 (F := Ideal) (View.ld x0 r0_0) (View.ld x4 r0_1) (View.ld x1 r0_0) (View.ld x4 r0_2) (View.ld x2 r0_3) (View.ld x4 r0_4) (View.ld x3 r0_5) (ix2 r d)
      = mz (fun k => x3 (ix2 r k)) (fun k => x0 (ix2 r k)) (fun k => x1 (ix2 r k)) (fun k => x2 (ix2 r k)) (fun k d => x4 (ix2 k d)) d
        - mean (mz (fun k => x3 (ix2 r k)) (fun k => x0 (ix2 r k)) (fun k => x1 (ix2 r k)) (fun k => x2 (ix2 r k)) (fun k d => x4 (ix2 k d))) := by
  unfold mean mz
  pointwise [k0_pay4]

/-- A block of the kernel's output: the norm of that row. -/
theorem out_blk (x0 x1 : Vec Ideal S768x256 .f32) (x2 : Vec Ideal S768x512 .f32) (x3 : Vec Ideal S768x1024 .f32) (x4 : Vec Ideal S1024x1024 .bf16) (x5 x6 : Vec Ideal S1x1024 .f32) (r : Fin 768) (d : Fin 1024) :
    out0_7 (F := Ideal) x0 x1 x2 x3 x4 x5 x6 (ix2 r d)
      = ln (mz (fun k => x3 (ix2 r k)) (fun k => x0 (ix2 r k)) (fun k => x1 (ix2 r k)) (fun k => x2 (ix2 r k)) (fun k d => x4 (ix2 k d))) (x5 (ix2 0 d)) (x6 (ix2 0 d)) d := by
  unfold out0_7
  rw [View.canon_unit_zero (by decide)]
  unfold ln
  simp only [← cen_at]
  pointwise [k0_pay1, k0_pay2, k0_pay3, k0_pay5]

/-- A cell of the array under a block is the block's. -/
theorem cell (q : Fin cfg0.N) (r : Fin 768) (d : Fin 1024) :
    ((dats m 0 c).arrAt 7 cfg0.N : Vec Ideal S16896x1024 .f32) (ix2 ⟨768 * q.val + r.val, by have := lt_of_lt_of_eq q.isLt N_0; omega⟩ d)
      = out0_7 (iblk m c 0 q) (iblk m c 1 q) (iblk m c 2 q) (iblk m c 3 q) (iblk m c 4 q) (iblk m c 5 q) (iblk m c 6 q) (ix2 r d) := by
  have b := congrFun (blocks7 m c q (fl7 q)) (ix2 r d)
  rw [flushed7] at b
  generalize out0_7 (iblk m c 0 q) (iblk m c 1 q) (iblk m c 2 q) (iblk m c 3 q) (iblk m c 4 q) (iblk m c 5 q) (iblk m c 6 q) = u at b ⊢
  generalize (dats m 0 c).arrAt 7 cfg0.N = a at b ⊢
  have b' : a (((cfg0.win 7).blk q).view.emb (ix2 r d)) = u (ix2 r d) := b
  rw [← b']
  congr 1
  blk_ext [e7]

/-- The kernel's array at an index. -/
theorem arr_at (t : Fin 16896) (d : Fin 1024) :
    ((dats m 0 c).arrAt 7 cfg0.N : Vec Ideal S16896x1024 .f32) (ix2 t d)
      = ln (mz (fun k => KH m c (ix2 t k)) (fun k => KYa m c (ix2 t k)) (fun k => KYb m c (ix2 t k)) (fun k => KYc m c (ix2 t k)) (fun k d => KW m c (ix2 k d))) (KA m c (ix1 d)) (KB m c (ix1 d)) d := by
  obtain ⟨q, r, rfl⟩ : ∃ (q : Fin cfg0.N) (r : Fin 768), t = ⟨768 * q.val + r.val, by have := lt_of_lt_of_eq q.isLt N_0; omega⟩ :=
    ⟨⟨t.val / 768, lt_of_lt_of_eq (by omega) N_0.symm⟩, ⟨t.val % 768, by omega⟩, Fin.ext (by show t.val = 768 * (t.val / 768) + t.val % 768; omega)⟩
  have o := out_blk (iblk m c 0 q) (iblk m c 1 q) (iblk m c 2 q) (iblk m c 3 q) (iblk m c 4 q) (iblk m c 5 q) (iblk m c 6 q) r d
  simp only [b0, b1, b2, b3, b4, b5, b6] at o
  refine Eq.trans ?_ o
  exact cell m c q r d

end Cert.Mix

end
-- ==== Proof.RefMix.lean ====
/- The plain output projection and norm at an index. -/
module

public import proofs.«01_k».proof.Proof.Gen.Reference2Ideal.Run
public import proofs.«01_k».proof.Proof.Mix

@[expose] public section

noncomputable section

namespace Cert.Mix

open Cert.Reference2Ideal Cert.Reference2Ideal.Gen Cert.Reference2Ideal.Value Cert.Moe Idealize.ShloMosaic Idealize.ShloMosaic.TcCoe Idealize.SL.Sem

/-- Three arrays beside one another. -/
def beside3 (ya yb : Vec Ideal S16896x256 .f32) (yc : Vec Ideal S16896x512 .f32) : Vec Ideal S16896x1024 .f32 :=
  concatenate S16896x1024 1 [⟨S16896x256, ya⟩, ⟨S16896x256, yb⟩, ⟨S16896x512, yc⟩] concatenates_S16896x256_S16896x256_S16896x512_S16896x1024_d1

/-- A sum over 1024 columns as sums over 256, 256 and 512. -/
theorem sum3 (f : Fin 1024 → EReal) : ∑ x, f x = (∑ k : Fin 256, f ⟨k.val, by omega⟩) + (∑ k : Fin 256, f ⟨256 + k.val, by omega⟩) + ∑ k : Fin 512, f ⟨512 + k.val, by omega⟩ := by
  have h1 := Fin.sum_univ_add (a := 256) (b := 768) f
  have h2 := Fin.sum_univ_add (a := 256) (b := 512) (fun k : Fin 768 => f (Fin.natAdd 256 k))
  have e : ∀ k : Fin 512, f (Fin.natAdd 256 (Fin.natAdd 256 k)) = f ⟨512 + k.val, by omega⟩ := fun k =>
    congrArg f (Fin.ext (by show 256 + (256 + k.val) = 512 + k.val; omega))
  simp only [e] at h2
  refine h1.trans ?_
  rw [show (∑ i : Fin 768, f (Fin.natAdd 256 i)) = _ from h2, ← add_assoc]
  rfl

theorem beside3_a (ya yb : Vec Ideal S16896x256 .f32) (yc : Vec Ideal S16896x512 .f32) (t : Fin 16896) (k : Fin 256) : beside3 ya yb yc (ix2 t ⟨k.val, by omega⟩) = ya (ix2 t k) := by
  pointwise [beside3]
theorem beside3_b (ya yb : Vec Ideal S16896x256 .f32) (yc : Vec Ideal S16896x512 .f32) (t : Fin 16896) (k : Fin 256) : beside3 ya yb yc (ix2 t ⟨256 + k.val, by omega⟩) = yb (ix2 t k) := by
  pointwise [beside3]
theorem beside3_c (ya yb : Vec Ideal S16896x256 .f32) (yc : Vec Ideal S16896x512 .f32) (t : Fin 16896) (k : Fin 512) : beside3 ya yb yc (ix2 t ⟨512 + k.val, by omega⟩) = yc (ix2 t k) := by
  pointwise [beside3]
  rw [dif_neg (by omega), dif_neg (by omega)]
  congr 2
  exact Fin.ext (by show 512 + k.val - 256 - 256 = k.val; omega)

/-- The arrays laid beside one another and contracted with the projection: each with its own rows. -/
theorem contract (h : Fin 1024 → EReal) (ya yb : Vec Ideal S16896x256 .f32) (yc : Vec Ideal S16896x512 .f32) (w : Fin 1024 → Fin 1024 → EReal) (t : Fin 16896) :
    (fun d => Ideal.ofBits FTy.f32 1068827891#32 * h d + ∑ k, beside3 ya yb yc (ix2 t k) * w k d)
      = mz h (fun k => ya (ix2 t k)) (fun k => yb (ix2 t k)) (fun k => yc (ix2 t k)) w := by
  funext d
  unfold mz
  rw [sum3]
  simp only [beside3_a, beside3_b, beside3_c]

theorem ref_gen (h CC : Vec Ideal S16896x1024 .f32) (w : Vec Ideal S1024x1024 .f32) (g b : Vec Ideal S1024 .f32)
    (m : (ℓ : Loc nD τ sig) → Buf (Elt Ideal) ℓ) (c : Dev nD)
    (hh : m ((c.tc : Thread nD τ).loc main_arg3) = h) (hw : m ((c.tc : Thread nD τ).loc main_arg4) = w)
    (hg : m ((c.tc : Thread nD τ).loc main_arg5) = g) (hb : m ((c.tc : Thread nD τ).loc main_arg6) = b)
    (hC : beside3 (m ((c.tc : Thread nD τ).loc main_arg0)) (m ((c.tc : Thread nD τ).loc main_arg1)) (m ((c.tc : Thread nD τ).loc main_arg2)) = CC)
    (t : Fin 16896) (d : Fin 1024) :
    (res_main_v28 m c : Vec Ideal S16896x1024 .f32) (ix2 t d)
      = ln (fun d => Ideal.ofBits FTy.f32 1068827891#32 * h (ix2 t d) + ∑ k, CC (ix2 t k) * w (ix2 k d)) (g (ix1 d)) (b (ix1 d)) d := by
  unfold res_main_v28
  unfold beside3 at hC
  rw [hC, hh, hw, hg, hb]
  unfold ln mean
  pointwise []

end Cert.Mix

end
-- ==== Proof.Inp.lean ====
/- The input projection's launch: the packed weights, its windows' blocks and its four results, at an index of the arguments. -/
module

public import proofs.«01_k».proof.Proof.Gen.Kernel3Ideal.Value
public import proofs.«01_k».proof.Proof.Spec
public import Idealize.ShloMosaic.Lib.Pointwise
public import Idealize.ShloMosaic.Lib.Pipeline.ValueKit.Geometry

@[expose] public section

noncomputable section

namespace Cert.Inp

open Cert.Kernel3Ideal Cert.Kernel3Ideal.Gen Cert.Kernel3Ideal.Value Cert.Moe Idealize.ShloMosaic Idealize.ShloMosaic.TcCoe Idealize.SL.Sem Idealize.ShloMosaic.Tactic

variable (m : (ℓ : Loc nD τ sig) → Buf (Elt Ideal) ℓ) (c : Dev nD)

/-- The stream. -/
def KX : S16896x1024.Idx → EReal := m ((c : Thread nD τ).loc main_arg0)
/-- The norm's gain. -/
def KA : S1024.Idx → EReal := m ((c : Thread nD τ).loc main_arg1)
/-- The norm's bias. -/
def KB : S1024.Idx → EReal := m ((c : Thread nD τ).loc main_arg2)
/-- The projection. -/
def KW : S1024x2748.Idx → EReal := m ((c : Thread nD τ).loc main_arg3)
/-- The projection's bias. -/
def KC : S2748.Idx → EReal := m ((c : Thread nD τ).loc main_arg4)

/-- The weights' columns taken apart by name: the first sixteen pieces. -/
def pw0 (W : Vec Ideal S1024x2748 .f32) : Vec Ideal S1024x2944 .f32 :=
  concatenate S1024x2944 1 [⟨S1024x128, extractStridedSlice S1024x128 ![0, 0] W slices_S1024x2748_S1024x128_0_0⟩, ⟨S1024x128, extractStridedSlice S1024x128 ![0, 128] W slices_S1024x2748_S1024x128_0_128⟩, ⟨S1024x256, extractStridedSlice S1024x256 ![0, 256] W slices_S1024x2748_S1024x256_0_256⟩, ⟨S1024x256, extractStridedSlice S1024x256 ![0, 528] W slices_S1024x2748_S1024x256_0_528⟩, ⟨S1024x16, extractStridedSlice S1024x16 ![0, 512] W slices_S1024x2748_S1024x16_0_512⟩, ⟨S1024x112, broadcastInDim S1024x112 ![] bcast_S_S1024x112 (constant (F := Ideal) S_ .f32 0x00000000#32)⟩, ⟨S1024x512, extractStridedSlice S1024x512 ![0, 784] W slices_S1024x2748_S1024x512_0_784⟩, ⟨S1024x256, extractStridedSlice S1024x256 ![0, 1296] W slices_S1024x2748_S1024x256_0_1296⟩, ⟨S1024x256, extractStridedSlice S1024x256 ![0, 1560] W slices_S1024x2748_S1024x256_0_1560⟩, ⟨S1024x4, extractStridedSlice S1024x4 ![0, 1552] W slices_S1024x2748_S1024x4_0_1552⟩, ⟨S1024x4, extractStridedSlice S1024x4 ![0, 1556] W slices_S1024x2748_S1024x4_0_1556⟩, ⟨S1024x120, broadcastInDim S1024x120 ![] bcast_S_S1024x120 (constant (F := Ideal) S_ .f32 0x00000000#32)⟩, ⟨S1024x512, extractStridedSlice S1024x512 ![0, 1816] W slices_S1024x2748_S1024x512_0_1816⟩, ⟨S1024x128, extractStridedSlice S1024x128 ![0, 2328] W slices_S1024x2748_S1024x128_0_2328⟩, ⟨S1024x128, extractStridedSlice S1024x128 ![0, 2456] W slices_S1024x2748_S1024x128_0_2456⟩, ⟨S1024x128, extractStridedSlice S1024x128 ![0, 2584] W slices_S1024x2748_S1024x128_0_2584⟩] concatenates_S1024x128_S1024x128_S1024x256_S1024x256_S1024x16_S1024x112_S1024x512_S1024x256_S1024x256_S1024x4_S1024x4_S1024x120_S1024x512_S1024x128_S1024x128_S1024x128_S1024x2944_d1

/-- The last three. -/
def pw1 (W : Vec Ideal S1024x2748 .f32) : Vec Ideal S1024x128 .f32 :=
  concatenate S1024x128 1 [⟨S1024x32, extractStridedSlice S1024x32 ![0, 2716] W slices_S1024x2748_S1024x32_0_2716⟩, ⟨S1024x4, extractStridedSlice S1024x4 ![0, 2712] W slices_S1024x2748_S1024x4_0_2712⟩, ⟨S1024x92, broadcastInDim S1024x92 ![] bcast_S_S1024x92 (constant (F := Ideal) S_ .f32 0x00000000#32)⟩] concatenates_S1024x32_S1024x4_S1024x92_S1024x128_d1

/-- The bias likewise. -/
def pb0 (W : Vec Ideal S2748 .f32) : Vec Ideal S2944 .f32 :=
  concatenate S2944 0 [⟨S128, extractStridedSlice S128 ![0] W slices_S2748_S128_0⟩, ⟨S128, extractStridedSlice S128 ![128] W slices_S2748_S128_128⟩, ⟨S256, extractStridedSlice S256 ![256] W slices_S2748_S256_256⟩, ⟨S256, extractStridedSlice S256 ![528] W slices_S2748_S256_528⟩, ⟨S16, extractStridedSlice S16 ![512] W slices_S2748_S16_512⟩, ⟨S112, broadcastInDim S112 ![] bcast_S_S112 (constant (F := Ideal) S_ .f32 0x00000000#32)⟩, ⟨S512, extractStridedSlice S512 ![784] W slices_S2748_S512_784⟩, ⟨S256, extractStridedSlice S256 ![1296] W slices_S2748_S256_1296⟩, ⟨S256, extractStridedSlice S256 ![1560] W slices_S2748_S256_1560⟩, ⟨S4, extractStridedSlice S4 ![1552] W slices_S2748_S4_1552⟩, ⟨S4, extractStridedSlice S4 ![1556] W slices_S2748_S4_1556⟩, ⟨S120, broadcastInDim S120 ![] bcast_S_S120 (constant (F := Ideal) S_ .f32 0x00000000#32)⟩, ⟨S512, extractStridedSlice S512 ![1816] W slices_S2748_S512_1816⟩, ⟨S128, extractStridedSlice S128 ![2328] W slices_S2748_S128_2328⟩, ⟨S128, extractStridedSlice S128 ![2456] W slices_S2748_S128_2456⟩, ⟨S128, extractStridedSlice S128 ![2584] W slices_S2748_S128_2584⟩] concatenates_S128_S128_S256_S256_S16_S112_S512_S256_S256_S4_S4_S120_S512_S128_S128_S128_S2944_d0

def pb1 (W : Vec Ideal S2748 .f32) : Vec Ideal S128 .f32 :=
  concatenate S128 0 [⟨S32, extractStridedSlice S32 ![2716] W slices_S2748_S32_2716⟩, ⟨S4, extractStridedSlice S4 ![2712] W slices_S2748_S4_2712⟩, ⟨S92, broadcastInDim S92 ![] bcast_S_S92 (constant (F := Ideal) S_ .f32 0x00000000#32)⟩] concatenates_S32_S4_S92_S128_d0

/-- Column `j` of the packed weights: the named columns group by group, each group filled up with zeros. -/
def pk (f : Fin 2748 → EReal) (j : Fin 3072) : EReal :=
  if h : j.val < 128 then f ⟨j.val, by omega⟩ else if h : j.val < 256 then f ⟨128 + (j.val - 128), by omega⟩ else if h : j.val < 512 then f ⟨256 + (j.val - 256), by omega⟩ else if h : j.val < 768 then f ⟨528 + (j.val - 512), by omega⟩ else if h : j.val < 784 then f ⟨512 + (j.val - 768), by omega⟩ else if j.val < 896 then 0 else if h : j.val < 1408 then f ⟨784 + (j.val - 896), by omega⟩ else if h : j.val < 1664 then f ⟨1296 + (j.val - 1408), by omega⟩ else if h : j.val < 1920 then f ⟨1560 + (j.val - 1664), by omega⟩ else if h : j.val < 1924 then f ⟨1552 + (j.val - 1920), by omega⟩ else if h : j.val < 1928 then f ⟨1556 + (j.val - 1924), by omega⟩ else if j.val < 2048 then 0 else if h : j.val < 2560 then f ⟨1816 + (j.val - 2048), by omega⟩ else if h : j.val < 2688 then f ⟨2328 + (j.val - 2560), by omega⟩ else if h : j.val < 2816 then f ⟨2456 + (j.val - 2688), by omega⟩ else if h : j.val < 2944 then f ⟨2584 + (j.val - 2816), by omega⟩ else if h : j.val < 2976 then f ⟨2716 + (j.val - 2944), by omega⟩ else if h : j.val < 2980 then f ⟨2712 + (j.val - 2944 - 32), by omega⟩ else 0

theorem V_v45 : (V m c main_v45 : Vec Ideal S1024x3072 .bf16) = truncf (F := Ideal) .bf16 (concatenate S1024x3072 1 [⟨S1024x2944, pw0 (KW m c)⟩, ⟨S1024x128, pw1 (KW m c)⟩] concatenates_S1024x2944_S1024x128_S1024x3072_d1 : FVec Ideal S1024x3072 .f32) bitsLt_bf16_f32 := by
  dsimp only [V]
  simp only [hostOps0, List.flatten_cons, List.flatten_nil, List.append_nil, List.cons_append, List.nil_append]
  after_results_simp
  rfl

theorem V_v44 : (V m c main_v44 : Vec Ideal S1x3072 .f32) = shapeCast S1x3072 (concatenate S3072 0 [⟨S2944, pb0 (KC m c)⟩, ⟨S128, pb1 (KC m c)⟩] concatenates_S2944_S128_S3072_d0 : FVec Ideal S3072 .f32) shapeCasts_S3072_S1x3072 := by
  dsimp only [V]
  simp only [hostOps0, List.flatten_cons, List.flatten_nil, List.append_nil, List.cons_append, List.nil_append]
  after_results_simp
  rfl

end Cert.Inp

end
-- ==== Proof.Pack.lean ====
/- The packed weights and bias at a column: the column of the arguments that was put there, or zero. -/
module

public import proofs.«01_k».proof.Proof.Inp

@[expose] public section

noncomputable section

namespace Cert.Inp

open Cert.Kernel3Ideal Cert.Kernel3Ideal.Gen Cert.Kernel3Ideal.Value Cert.Moe Idealize.ShloMosaic

theorem w0_0 (W : Vec Ideal S1024x2748 .f32) (k : Fin 1024) (j : Fin 2944) (h : 0 ≤ j.val) (h' : j.val < 128) : pw0 W (ix2 k j) = W (ix2 k ⟨j.val, by omega⟩) := by
  unfold pw0
  refine (concatenate_apply_piece (t := S1024x2944) 1 _ _ (ix2 k j) 0 ?hk S1024x128 (extractStridedSlice S1024x128 ![0, 0] W slices_S1024x2748_S1024x128_0_0) ?hx rfl 0 ?hp (ix2 k ⟨j.val - 0, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 0 + (j.val - 0) = j.val
    omega
  case he => pointwise []
theorem b0_0 (W : Vec Ideal S2748 .f32) (j : Fin 2944) (h : 0 ≤ j.val) (h' : j.val < 128) : pb0 W (ix1 j) = W (ix1 ⟨j.val, by omega⟩) := by
  unfold pb0
  refine (concatenate_apply_piece (t := S2944) 0 _ _ (ix1 j) 0 ?hk S128 (extractStridedSlice S128 ![0] W slices_S2748_S128_0) ?hx rfl 0 ?hp (ix1 ⟨j.val - 0, by omega⟩) ?hi ?ha).trans ?he
  case hk => exact Nat.le_of_ble_eq_true rfl
  case hx => rfl
  case hp => rfl
  case hi =>
    intro b hb
    match b with
    | ⟨0, _⟩ => exact absurd rfl hb
  case ha =>
    show 0 + (j.val - 0) = j.val
    omega
  case he => pointwise []

theorem w0_1 (W : Vec Ideal S1024x2748 .f32) (k : Fin 1024) (j : Fin 2944) (h : 128 ≤ j.val) (h' : j.val < 256) : pw0 W (ix2 k j) = W (ix2 k ⟨128 + (j.val - 128), by omega⟩) := by
  unfold pw0
  refine (concatenate_apply_piece (t := S1024x2944) 1 _ _ (ix2 k j) 1 ?hk S1024x128 (extractStridedSlice S1024x128 ![0, 128] W slices_S1024x2748_S1024x128_0_128) ?hx rfl 128 ?hp (ix2 k ⟨j.val - 128, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 128 + (j.val - 128) = j.val
    omega
  case he => pointwise []
theorem b0_1 (W : Vec Ideal S2748 .f32) (j : Fin 2944) (h : 128 ≤ j.val) (h' : j.val < 256) : pb0 W (ix1 j) = W (ix1 ⟨128 + (j.val - 128), by omega⟩) := by
  unfold pb0
  refine (concatenate_apply_piece (t := S2944) 0 _ _ (ix1 j) 1 ?hk S128 (extractStridedSlice S128 ![128] W slices_S2748_S128_128) ?hx rfl 128 ?hp (ix1 ⟨j.val - 128, by omega⟩) ?hi ?ha).trans ?he
  case hk => exact Nat.le_of_ble_eq_true rfl
  case hx => rfl
  case hp => rfl
  case hi =>
    intro b hb
    match b with
    | ⟨0, _⟩ => exact absurd rfl hb
  case ha =>
    show 128 + (j.val - 128) = j.val
    omega
  case he => pointwise []

theorem w0_2 (W : Vec Ideal S1024x2748 .f32) (k : Fin 1024) (j : Fin 2944) (h : 256 ≤ j.val) (h' : j.val < 512) : pw0 W (ix2 k j) = W (ix2 k ⟨256 + (j.val - 256), by omega⟩) := by
  unfold pw0
  refine (concatenate_apply_piece (t := S1024x2944) 1 _ _ (ix2 k j) 2 ?hk S1024x256 (extractStridedSlice S1024x256 ![0, 256] W slices_S1024x2748_S1024x256_0_256) ?hx rfl 256 ?hp (ix2 k ⟨j.val - 256, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 256 + (j.val - 256) = j.val
    omega
  case he => pointwise []
theorem b0_2 (W : Vec Ideal S2748 .f32) (j : Fin 2944) (h : 256 ≤ j.val) (h' : j.val < 512) : pb0 W (ix1 j) = W (ix1 ⟨256 + (j.val - 256), by omega⟩) := by
  unfold pb0
  refine (concatenate_apply_piece (t := S2944) 0 _ _ (ix1 j) 2 ?hk S256 (extractStridedSlice S256 ![256] W slices_S2748_S256_256) ?hx rfl 256 ?hp (ix1 ⟨j.val - 256, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 256 + (j.val - 256) = j.val
    omega
  case he => pointwise []

theorem w0_3 (W : Vec Ideal S1024x2748 .f32) (k : Fin 1024) (j : Fin 2944) (h : 512 ≤ j.val) (h' : j.val < 768) : pw0 W (ix2 k j) = W (ix2 k ⟨528 + (j.val - 512), by omega⟩) := by
  unfold pw0
  refine (concatenate_apply_piece (t := S1024x2944) 1 _ _ (ix2 k j) 3 ?hk S1024x256 (extractStridedSlice S1024x256 ![0, 528] W slices_S1024x2748_S1024x256_0_528) ?hx rfl 512 ?hp (ix2 k ⟨j.val - 512, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 512 + (j.val - 512) = j.val
    omega
  case he => pointwise []
theorem b0_3 (W : Vec Ideal S2748 .f32) (j : Fin 2944) (h : 512 ≤ j.val) (h' : j.val < 768) : pb0 W (ix1 j) = W (ix1 ⟨528 + (j.val - 512), by omega⟩) := by
  unfold pb0
  refine (concatenate_apply_piece (t := S2944) 0 _ _ (ix1 j) 3 ?hk S256 (extractStridedSlice S256 ![528] W slices_S2748_S256_528) ?hx rfl 512 ?hp (ix1 ⟨j.val - 512, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 512 + (j.val - 512) = j.val
    omega
  case he => pointwise []

theorem w0_4 (W : Vec Ideal S1024x2748 .f32) (k : Fin 1024) (j : Fin 2944) (h : 768 ≤ j.val) (h' : j.val < 784) : pw0 W (ix2 k j) = W (ix2 k ⟨512 + (j.val - 768), by omega⟩) := by
  unfold pw0
  refine (concatenate_apply_piece (t := S1024x2944) 1 _ _ (ix2 k j) 4 ?hk S1024x16 (extractStridedSlice S1024x16 ![0, 512] W slices_S1024x2748_S1024x16_0_512) ?hx rfl 768 ?hp (ix2 k ⟨j.val - 768, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 768 + (j.val - 768) = j.val
    omega
  case he => pointwise []
theorem b0_4 (W : Vec Ideal S2748 .f32) (j : Fin 2944) (h : 768 ≤ j.val) (h' : j.val < 784) : pb0 W (ix1 j) = W (ix1 ⟨512 + (j.val - 768), by omega⟩) := by
  unfold pb0
  refine (concatenate_apply_piece (t := S2944) 0 _ _ (ix1 j) 4 ?hk S16 (extractStridedSlice S16 ![512] W slices_S2748_S16_512) ?hx rfl 768 ?hp (ix1 ⟨j.val - 768, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 768 + (j.val - 768) = j.val
    omega
  case he => pointwise []

theorem w0_5 (W : Vec Ideal S1024x2748 .f32) (k : Fin 1024) (j : Fin 2944) (h : 784 ≤ j.val) (h' : j.val < 896) : pw0 W (ix2 k j) = 0 := by
  unfold pw0
  refine (concatenate_apply_piece (t := S1024x2944) 1 _ _ (ix2 k j) 5 ?hk S1024x112 (broadcastInDim S1024x112 ![] bcast_S_S1024x112 (constant (F := Ideal) S_ .f32 0x00000000#32)) ?hx rfl 784 ?hp (ix2 k ⟨j.val - 784, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 784 + (j.val - 784) = j.val
    omega
  case he => pointwise []
theorem b0_5 (W : Vec Ideal S2748 .f32) (j : Fin 2944) (h : 784 ≤ j.val) (h' : j.val < 896) : pb0 W (ix1 j) = 0 := by
  unfold pb0
  refine (concatenate_apply_piece (t := S2944) 0 _ _ (ix1 j) 5 ?hk S112 (broadcastInDim S112 ![] bcast_S_S112 (constant (F := Ideal) S_ .f32 0x00000000#32)) ?hx rfl 784 ?hp (ix1 ⟨j.val - 784, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 784 + (j.val - 784) = j.val
    omega
  case he => pointwise []

theorem w0_6 (W : Vec Ideal S1024x2748 .f32) (k : Fin 1024) (j : Fin 2944) (h : 896 ≤ j.val) (h' : j.val < 1408) : pw0 W (ix2 k j) = W (ix2 k ⟨784 + (j.val - 896), by omega⟩) := by
  unfold pw0
  refine (concatenate_apply_piece (t := S1024x2944) 1 _ _ (ix2 k j) 6 ?hk S1024x512 (extractStridedSlice S1024x512 ![0, 784] W slices_S1024x2748_S1024x512_0_784) ?hx rfl 896 ?hp (ix2 k ⟨j.val - 896, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 896 + (j.val - 896) = j.val
    omega
  case he => pointwise []
theorem b0_6 (W : Vec Ideal S2748 .f32) (j : Fin 2944) (h : 896 ≤ j.val) (h' : j.val < 1408) : pb0 W (ix1 j) = W (ix1 ⟨784 + (j.val - 896), by omega⟩) := by
  unfold pb0
  refine (concatenate_apply_piece (t := S2944) 0 _ _ (ix1 j) 6 ?hk S512 (extractStridedSlice S512 ![784] W slices_S2748_S512_784) ?hx rfl 896 ?hp (ix1 ⟨j.val - 896, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 896 + (j.val - 896) = j.val
    omega
  case he => pointwise []

theorem w0_7 (W : Vec Ideal S1024x2748 .f32) (k : Fin 1024) (j : Fin 2944) (h : 1408 ≤ j.val) (h' : j.val < 1664) : pw0 W (ix2 k j) = W (ix2 k ⟨1296 + (j.val - 1408), by omega⟩) := by
  unfold pw0
  refine (concatenate_apply_piece (t := S1024x2944) 1 _ _ (ix2 k j) 7 ?hk S1024x256 (extractStridedSlice S1024x256 ![0, 1296] W slices_S1024x2748_S1024x256_0_1296) ?hx rfl 1408 ?hp (ix2 k ⟨j.val - 1408, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1408 + (j.val - 1408) = j.val
    omega
  case he => pointwise []
theorem b0_7 (W : Vec Ideal S2748 .f32) (j : Fin 2944) (h : 1408 ≤ j.val) (h' : j.val < 1664) : pb0 W (ix1 j) = W (ix1 ⟨1296 + (j.val - 1408), by omega⟩) := by
  unfold pb0
  refine (concatenate_apply_piece (t := S2944) 0 _ _ (ix1 j) 7 ?hk S256 (extractStridedSlice S256 ![1296] W slices_S2748_S256_1296) ?hx rfl 1408 ?hp (ix1 ⟨j.val - 1408, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 1408 + (j.val - 1408) = j.val
    omega
  case he => pointwise []

theorem w0_8 (W : Vec Ideal S1024x2748 .f32) (k : Fin 1024) (j : Fin 2944) (h : 1664 ≤ j.val) (h' : j.val < 1920) : pw0 W (ix2 k j) = W (ix2 k ⟨1560 + (j.val - 1664), by omega⟩) := by
  unfold pw0
  refine (concatenate_apply_piece (t := S1024x2944) 1 _ _ (ix2 k j) 8 ?hk S1024x256 (extractStridedSlice S1024x256 ![0, 1560] W slices_S1024x2748_S1024x256_0_1560) ?hx rfl 1664 ?hp (ix2 k ⟨j.val - 1664, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1664 + (j.val - 1664) = j.val
    omega
  case he => pointwise []
theorem b0_8 (W : Vec Ideal S2748 .f32) (j : Fin 2944) (h : 1664 ≤ j.val) (h' : j.val < 1920) : pb0 W (ix1 j) = W (ix1 ⟨1560 + (j.val - 1664), by omega⟩) := by
  unfold pb0
  refine (concatenate_apply_piece (t := S2944) 0 _ _ (ix1 j) 8 ?hk S256 (extractStridedSlice S256 ![1560] W slices_S2748_S256_1560) ?hx rfl 1664 ?hp (ix1 ⟨j.val - 1664, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 1664 + (j.val - 1664) = j.val
    omega
  case he => pointwise []

theorem w0_9 (W : Vec Ideal S1024x2748 .f32) (k : Fin 1024) (j : Fin 2944) (h : 1920 ≤ j.val) (h' : j.val < 1924) : pw0 W (ix2 k j) = W (ix2 k ⟨1552 + (j.val - 1920), by omega⟩) := by
  unfold pw0
  refine (concatenate_apply_piece (t := S1024x2944) 1 _ _ (ix2 k j) 9 ?hk S1024x4 (extractStridedSlice S1024x4 ![0, 1552] W slices_S1024x2748_S1024x4_0_1552) ?hx rfl 1920 ?hp (ix2 k ⟨j.val - 1920, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1920 + (j.val - 1920) = j.val
    omega
  case he => pointwise []
theorem b0_9 (W : Vec Ideal S2748 .f32) (j : Fin 2944) (h : 1920 ≤ j.val) (h' : j.val < 1924) : pb0 W (ix1 j) = W (ix1 ⟨1552 + (j.val - 1920), by omega⟩) := by
  unfold pb0
  refine (concatenate_apply_piece (t := S2944) 0 _ _ (ix1 j) 9 ?hk S4 (extractStridedSlice S4 ![1552] W slices_S2748_S4_1552) ?hx rfl 1920 ?hp (ix1 ⟨j.val - 1920, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 1920 + (j.val - 1920) = j.val
    omega
  case he => pointwise []

theorem w0_10 (W : Vec Ideal S1024x2748 .f32) (k : Fin 1024) (j : Fin 2944) (h : 1924 ≤ j.val) (h' : j.val < 1928) : pw0 W (ix2 k j) = W (ix2 k ⟨1556 + (j.val - 1924), by omega⟩) := by
  unfold pw0
  refine (concatenate_apply_piece (t := S1024x2944) 1 _ _ (ix2 k j) 10 ?hk S1024x4 (extractStridedSlice S1024x4 ![0, 1556] W slices_S1024x2748_S1024x4_0_1556) ?hx rfl 1924 ?hp (ix2 k ⟨j.val - 1924, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1924 + (j.val - 1924) = j.val
    omega
  case he => pointwise []
theorem b0_10 (W : Vec Ideal S2748 .f32) (j : Fin 2944) (h : 1924 ≤ j.val) (h' : j.val < 1928) : pb0 W (ix1 j) = W (ix1 ⟨1556 + (j.val - 1924), by omega⟩) := by
  unfold pb0
  refine (concatenate_apply_piece (t := S2944) 0 _ _ (ix1 j) 10 ?hk S4 (extractStridedSlice S4 ![1556] W slices_S2748_S4_1556) ?hx rfl 1924 ?hp (ix1 ⟨j.val - 1924, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 1924 + (j.val - 1924) = j.val
    omega
  case he => pointwise []

theorem w0_11 (W : Vec Ideal S1024x2748 .f32) (k : Fin 1024) (j : Fin 2944) (h : 1928 ≤ j.val) (h' : j.val < 2048) : pw0 W (ix2 k j) = 0 := by
  unfold pw0
  refine (concatenate_apply_piece (t := S1024x2944) 1 _ _ (ix2 k j) 11 ?hk S1024x120 (broadcastInDim S1024x120 ![] bcast_S_S1024x120 (constant (F := Ideal) S_ .f32 0x00000000#32)) ?hx rfl 1928 ?hp (ix2 k ⟨j.val - 1928, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1928 + (j.val - 1928) = j.val
    omega
  case he => pointwise []
theorem b0_11 (W : Vec Ideal S2748 .f32) (j : Fin 2944) (h : 1928 ≤ j.val) (h' : j.val < 2048) : pb0 W (ix1 j) = 0 := by
  unfold pb0
  refine (concatenate_apply_piece (t := S2944) 0 _ _ (ix1 j) 11 ?hk S120 (broadcastInDim S120 ![] bcast_S_S120 (constant (F := Ideal) S_ .f32 0x00000000#32)) ?hx rfl 1928 ?hp (ix1 ⟨j.val - 1928, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 1928 + (j.val - 1928) = j.val
    omega
  case he => pointwise []

theorem w0_12 (W : Vec Ideal S1024x2748 .f32) (k : Fin 1024) (j : Fin 2944) (h : 2048 ≤ j.val) (h' : j.val < 2560) : pw0 W (ix2 k j) = W (ix2 k ⟨1816 + (j.val - 2048), by omega⟩) := by
  unfold pw0
  refine (concatenate_apply_piece (t := S1024x2944) 1 _ _ (ix2 k j) 12 ?hk S1024x512 (extractStridedSlice S1024x512 ![0, 1816] W slices_S1024x2748_S1024x512_0_1816) ?hx rfl 2048 ?hp (ix2 k ⟨j.val - 2048, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 2048 + (j.val - 2048) = j.val
    omega
  case he => pointwise []
theorem b0_12 (W : Vec Ideal S2748 .f32) (j : Fin 2944) (h : 2048 ≤ j.val) (h' : j.val < 2560) : pb0 W (ix1 j) = W (ix1 ⟨1816 + (j.val - 2048), by omega⟩) := by
  unfold pb0
  refine (concatenate_apply_piece (t := S2944) 0 _ _ (ix1 j) 12 ?hk S512 (extractStridedSlice S512 ![1816] W slices_S2748_S512_1816) ?hx rfl 2048 ?hp (ix1 ⟨j.val - 2048, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 2048 + (j.val - 2048) = j.val
    omega
  case he => pointwise []

theorem w0_13 (W : Vec Ideal S1024x2748 .f32) (k : Fin 1024) (j : Fin 2944) (h : 2560 ≤ j.val) (h' : j.val < 2688) : pw0 W (ix2 k j) = W (ix2 k ⟨2328 + (j.val - 2560), by omega⟩) := by
  unfold pw0
  refine (concatenate_apply_piece (t := S1024x2944) 1 _ _ (ix2 k j) 13 ?hk S1024x128 (extractStridedSlice S1024x128 ![0, 2328] W slices_S1024x2748_S1024x128_0_2328) ?hx rfl 2560 ?hp (ix2 k ⟨j.val - 2560, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 2560 + (j.val - 2560) = j.val
    omega
  case he => pointwise []
theorem b0_13 (W : Vec Ideal S2748 .f32) (j : Fin 2944) (h : 2560 ≤ j.val) (h' : j.val < 2688) : pb0 W (ix1 j) = W (ix1 ⟨2328 + (j.val - 2560), by omega⟩) := by
  unfold pb0
  refine (concatenate_apply_piece (t := S2944) 0 _ _ (ix1 j) 13 ?hk S128 (extractStridedSlice S128 ![2328] W slices_S2748_S128_2328) ?hx rfl 2560 ?hp (ix1 ⟨j.val - 2560, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 2560 + (j.val - 2560) = j.val
    omega
  case he => pointwise []

theorem w0_14 (W : Vec Ideal S1024x2748 .f32) (k : Fin 1024) (j : Fin 2944) (h : 2688 ≤ j.val) (h' : j.val < 2816) : pw0 W (ix2 k j) = W (ix2 k ⟨2456 + (j.val - 2688), by omega⟩) := by
  unfold pw0
  refine (concatenate_apply_piece (t := S1024x2944) 1 _ _ (ix2 k j) 14 ?hk S1024x128 (extractStridedSlice S1024x128 ![0, 2456] W slices_S1024x2748_S1024x128_0_2456) ?hx rfl 2688 ?hp (ix2 k ⟨j.val - 2688, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 2688 + (j.val - 2688) = j.val
    omega
  case he => pointwise []
theorem b0_14 (W : Vec Ideal S2748 .f32) (j : Fin 2944) (h : 2688 ≤ j.val) (h' : j.val < 2816) : pb0 W (ix1 j) = W (ix1 ⟨2456 + (j.val - 2688), by omega⟩) := by
  unfold pb0
  refine (concatenate_apply_piece (t := S2944) 0 _ _ (ix1 j) 14 ?hk S128 (extractStridedSlice S128 ![2456] W slices_S2748_S128_2456) ?hx rfl 2688 ?hp (ix1 ⟨j.val - 2688, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 2688 + (j.val - 2688) = j.val
    omega
  case he => pointwise []

theorem w0_15 (W : Vec Ideal S1024x2748 .f32) (k : Fin 1024) (j : Fin 2944) (h : 2816 ≤ j.val) (h' : j.val < 2944) : pw0 W (ix2 k j) = W (ix2 k ⟨2584 + (j.val - 2816), by omega⟩) := by
  unfold pw0
  refine (concatenate_apply_piece (t := S1024x2944) 1 _ _ (ix2 k j) 15 ?hk S1024x128 (extractStridedSlice S1024x128 ![0, 2584] W slices_S1024x2748_S1024x128_0_2584) ?hx rfl 2816 ?hp (ix2 k ⟨j.val - 2816, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 2816 + (j.val - 2816) = j.val
    omega
  case he => pointwise []
theorem b0_15 (W : Vec Ideal S2748 .f32) (j : Fin 2944) (h : 2816 ≤ j.val) (h' : j.val < 2944) : pb0 W (ix1 j) = W (ix1 ⟨2584 + (j.val - 2816), by omega⟩) := by
  unfold pb0
  refine (concatenate_apply_piece (t := S2944) 0 _ _ (ix1 j) 15 ?hk S128 (extractStridedSlice S128 ![2584] W slices_S2748_S128_2584) ?hx rfl 2816 ?hp (ix1 ⟨j.val - 2816, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 2816 + (j.val - 2816) = j.val
    omega
  case he => pointwise []

theorem w1_0 (W : Vec Ideal S1024x2748 .f32) (k : Fin 1024) (j : Fin 128) (h : 0 ≤ j.val) (h' : j.val < 32) : pw1 W (ix2 k j) = W (ix2 k ⟨2716 + j.val, by omega⟩) := by
  unfold pw1
  refine (concatenate_apply_piece (t := S1024x128) 1 _ _ (ix2 k j) 0 ?hk S1024x32 (extractStridedSlice S1024x32 ![0, 2716] W slices_S1024x2748_S1024x32_0_2716) ?hx rfl 0 ?hp (ix2 k ⟨j.val - 0, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 0 + (j.val - 0) = j.val
    omega
  case he => pointwise []
theorem b1_0 (W : Vec Ideal S2748 .f32) (j : Fin 128) (h : 0 ≤ j.val) (h' : j.val < 32) : pb1 W (ix1 j) = W (ix1 ⟨2716 + j.val, by omega⟩) := by
  unfold pb1
  refine (concatenate_apply_piece (t := S128) 0 _ _ (ix1 j) 0 ?hk S32 (extractStridedSlice S32 ![2716] W slices_S2748_S32_2716) ?hx rfl 0 ?hp (ix1 ⟨j.val - 0, by omega⟩) ?hi ?ha).trans ?he
  case hk => exact Nat.le_of_ble_eq_true rfl
  case hx => rfl
  case hp => rfl
  case hi =>
    intro b hb
    match b with
    | ⟨0, _⟩ => exact absurd rfl hb
  case ha =>
    show 0 + (j.val - 0) = j.val
    omega
  case he => pointwise []

theorem w1_1 (W : Vec Ideal S1024x2748 .f32) (k : Fin 1024) (j : Fin 128) (h : 32 ≤ j.val) (h' : j.val < 36) : pw1 W (ix2 k j) = W (ix2 k ⟨2712 + (j.val - 32), by omega⟩) := by
  unfold pw1
  refine (concatenate_apply_piece (t := S1024x128) 1 _ _ (ix2 k j) 1 ?hk S1024x4 (extractStridedSlice S1024x4 ![0, 2712] W slices_S1024x2748_S1024x4_0_2712) ?hx rfl 32 ?hp (ix2 k ⟨j.val - 32, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 32 + (j.val - 32) = j.val
    omega
  case he => pointwise []
theorem b1_1 (W : Vec Ideal S2748 .f32) (j : Fin 128) (h : 32 ≤ j.val) (h' : j.val < 36) : pb1 W (ix1 j) = W (ix1 ⟨2712 + (j.val - 32), by omega⟩) := by
  unfold pb1
  refine (concatenate_apply_piece (t := S128) 0 _ _ (ix1 j) 1 ?hk S4 (extractStridedSlice S4 ![2712] W slices_S2748_S4_2712) ?hx rfl 32 ?hp (ix1 ⟨j.val - 32, by omega⟩) ?hi ?ha).trans ?he
  case hk => exact Nat.le_of_ble_eq_true rfl
  case hx => rfl
  case hp => rfl
  case hi =>
    intro b hb
    match b with
    | ⟨0, _⟩ => exact absurd rfl hb
  case ha =>
    show 32 + (j.val - 32) = j.val
    omega
  case he => pointwise []

theorem w1_2 (W : Vec Ideal S1024x2748 .f32) (k : Fin 1024) (j : Fin 128) (h : 36 ≤ j.val) (h' : j.val < 128) : pw1 W (ix2 k j) = 0 := by
  unfold pw1
  refine (concatenate_apply_piece (t := S1024x128) 1 _ _ (ix2 k j) 2 ?hk S1024x92 (broadcastInDim S1024x92 ![] bcast_S_S1024x92 (constant (F := Ideal) S_ .f32 0x00000000#32)) ?hx rfl 36 ?hp (ix2 k ⟨j.val - 36, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 36 + (j.val - 36) = j.val
    omega
  case he => pointwise []
theorem b1_2 (W : Vec Ideal S2748 .f32) (j : Fin 128) (h : 36 ≤ j.val) (h' : j.val < 128) : pb1 W (ix1 j) = 0 := by
  unfold pb1
  refine (concatenate_apply_piece (t := S128) 0 _ _ (ix1 j) 2 ?hk S92 (broadcastInDim S92 ![] bcast_S_S92 (constant (F := Ideal) S_ .f32 0x00000000#32)) ?hx rfl 36 ?hp (ix1 ⟨j.val - 36, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => exact absurd rfl hb
  case ha =>
    show 36 + (j.val - 36) = j.val
    omega
  case he => pointwise []

theorem pw_at (W : Vec Ideal S1024x2748 .f32) (k : Fin 1024) (j : Fin 3072) :
    truncf (F := Ideal) .bf16 (concatenate S1024x3072 1 [⟨S1024x2944, pw0 W⟩, ⟨S1024x128, pw1 W⟩] concatenates_S1024x2944_S1024x128_S1024x3072_d1 : FVec Ideal S1024x3072 .f32) bitsLt_bf16_f32 (ix2 k j) = pk (fun x => W (ix2 k x)) j := by
  pointwise []
  unfold pk
  by_cases c0 : j.val < 128
  · rw [dif_pos c0, dif_pos (by omega : j.val < 2944)]
    exact w0_0 W k _ (by dsimp only; omega) (by dsimp only; omega)
  rw [dif_neg c0]
  by_cases c1 : j.val < 256
  · rw [dif_pos c1, dif_pos (by omega : j.val < 2944)]
    exact w0_1 W k _ (by dsimp only; omega) (by dsimp only; omega)
  rw [dif_neg c1]
  by_cases c2 : j.val < 512
  · rw [dif_pos c2, dif_pos (by omega : j.val < 2944)]
    exact w0_2 W k _ (by dsimp only; omega) (by dsimp only; omega)
  rw [dif_neg c2]
  by_cases c3 : j.val < 768
  · rw [dif_pos c3, dif_pos (by omega : j.val < 2944)]
    exact w0_3 W k _ (by dsimp only; omega) (by dsimp only; omega)
  rw [dif_neg c3]
  by_cases c4 : j.val < 784
  · rw [dif_pos c4, dif_pos (by omega : j.val < 2944)]
    exact w0_4 W k _ (by dsimp only; omega) (by dsimp only; omega)
  rw [dif_neg c4]
  by_cases c5 : j.val < 896
  · rw [if_pos c5, dif_pos (by omega : j.val < 2944)]
    exact w0_5 W k _ (by dsimp only; omega) (by dsimp only; omega)
  rw [if_neg c5]
  by_cases c6 : j.val < 1408
  · rw [dif_pos c6, dif_pos (by omega : j.val < 2944)]
    exact w0_6 W k _ (by dsimp only; omega) (by dsimp only; omega)
  rw [dif_neg c6]
  by_cases c7 : j.val < 1664
  · rw [dif_pos c7, dif_pos (by omega : j.val < 2944)]
    exact w0_7 W k _ (by dsimp only; omega) (by dsimp only; omega)
  rw [dif_neg c7]
  by_cases c8 : j.val < 1920
  · rw [dif_pos c8, dif_pos (by omega : j.val < 2944)]
    exact w0_8 W k _ (by dsimp only; omega) (by dsimp only; omega)
  rw [dif_neg c8]
  by_cases c9 : j.val < 1924
  · rw [dif_pos c9, dif_pos (by omega : j.val < 2944)]
    exact w0_9 W k _ (by dsimp only; omega) (by dsimp only; omega)
  rw [dif_neg c9]
  by_cases c10 : j.val < 1928
  · rw [dif_pos c10, dif_pos (by omega : j.val < 2944)]
    exact w0_10 W k _ (by dsimp only; omega) (by dsimp only; omega)
  rw [dif_neg c10]
  by_cases c11 : j.val < 2048
  · rw [if_pos c11, dif_pos (by omega : j.val < 2944)]
    exact w0_11 W k _ (by dsimp only; omega) (by dsimp only; omega)
  rw [if_neg c11]
  by_cases c12 : j.val < 2560
  · rw [dif_pos c12, dif_pos (by omega : j.val < 2944)]
    exact w0_12 W k _ (by dsimp only; omega) (by dsimp only; omega)
  rw [dif_neg c12]
  by_cases c13 : j.val < 2688
  · rw [dif_pos c13, dif_pos (by omega : j.val < 2944)]
    exact w0_13 W k _ (by dsimp only; omega) (by dsimp only; omega)
  rw [dif_neg c13]
  by_cases c14 : j.val < 2816
  · rw [dif_pos c14, dif_pos (by omega : j.val < 2944)]
    exact w0_14 W k _ (by dsimp only; omega) (by dsimp only; omega)
  rw [dif_neg c14]
  by_cases c15 : j.val < 2944
  · rw [dif_pos c15, dif_pos (by omega : j.val < 2944)]
    exact w0_15 W k _ (by dsimp only; omega) (by dsimp only; omega)
  rw [dif_neg c15, dif_neg c15]
  by_cases c16 : j.val < 2976
  · rw [dif_pos c16]
    exact w1_0 W k _ (by dsimp only; omega) (by dsimp only; omega)
  rw [dif_neg c16]
  by_cases c17 : j.val < 2980
  · rw [dif_pos c17]
    exact w1_1 W k _ (by dsimp only; omega) (by dsimp only; omega)
  rw [dif_neg c17]
  exact w1_2 W k _ (by dsimp only; omega) (by dsimp only; omega)

theorem pb_at (W : Vec Ideal S2748 .f32) (j : Fin 3072) :
    shapeCast S1x3072 (concatenate S3072 0 [⟨S2944, pb0 W⟩, ⟨S128, pb1 W⟩] concatenates_S2944_S128_S3072_d0 : FVec Ideal S3072 .f32) shapeCasts_S3072_S1x3072 (ix2 0 j) = pk (fun x => W (ix1 x)) j := by
  pointwise []
  unfold pk
  by_cases c0 : j.val < 128
  · rw [dif_pos c0, dif_pos (by omega : j.val < 2944)]
    exact b0_0 W _ (by dsimp only; omega) (by dsimp only; omega)
  rw [dif_neg c0]
  by_cases c1 : j.val < 256
  · rw [dif_pos c1, dif_pos (by omega : j.val < 2944)]
    exact b0_1 W _ (by dsimp only; omega) (by dsimp only; omega)
  rw [dif_neg c1]
  by_cases c2 : j.val < 512
  · rw [dif_pos c2, dif_pos (by omega : j.val < 2944)]
    exact b0_2 W _ (by dsimp only; omega) (by dsimp only; omega)
  rw [dif_neg c2]
  by_cases c3 : j.val < 768
  · rw [dif_pos c3, dif_pos (by omega : j.val < 2944)]
    exact b0_3 W _ (by dsimp only; omega) (by dsimp only; omega)
  rw [dif_neg c3]
  by_cases c4 : j.val < 784
  · rw [dif_pos c4, dif_pos (by omega : j.val < 2944)]
    exact b0_4 W _ (by dsimp only; omega) (by dsimp only; omega)
  rw [dif_neg c4]
  by_cases c5 : j.val < 896
  · rw [if_pos c5, dif_pos (by omega : j.val < 2944)]
    exact b0_5 W _ (by dsimp only; omega) (by dsimp only; omega)
  rw [if_neg c5]
  by_cases c6 : j.val < 1408
  · rw [dif_pos c6, dif_pos (by omega : j.val < 2944)]
    exact b0_6 W _ (by dsimp only; omega) (by dsimp only; omega)
  rw [dif_neg c6]
  by_cases c7 : j.val < 1664
  · rw [dif_pos c7, dif_pos (by omega : j.val < 2944)]
    exact b0_7 W _ (by dsimp only; omega) (by dsimp only; omega)
  rw [dif_neg c7]
  by_cases c8 : j.val < 1920
  · rw [dif_pos c8, dif_pos (by omega : j.val < 2944)]
    exact b0_8 W _ (by dsimp only; omega) (by dsimp only; omega)
  rw [dif_neg c8]
  by_cases c9 : j.val < 1924
  · rw [dif_pos c9, dif_pos (by omega : j.val < 2944)]
    exact b0_9 W _ (by dsimp only; omega) (by dsimp only; omega)
  rw [dif_neg c9]
  by_cases c10 : j.val < 1928
  · rw [dif_pos c10, dif_pos (by omega : j.val < 2944)]
    exact b0_10 W _ (by dsimp only; omega) (by dsimp only; omega)
  rw [dif_neg c10]
  by_cases c11 : j.val < 2048
  · rw [if_pos c11, dif_pos (by omega : j.val < 2944)]
    exact b0_11 W _ (by dsimp only; omega) (by dsimp only; omega)
  rw [if_neg c11]
  by_cases c12 : j.val < 2560
  · rw [dif_pos c12, dif_pos (by omega : j.val < 2944)]
    exact b0_12 W _ (by dsimp only; omega) (by dsimp only; omega)
  rw [dif_neg c12]
  by_cases c13 : j.val < 2688
  · rw [dif_pos c13, dif_pos (by omega : j.val < 2944)]
    exact b0_13 W _ (by dsimp only; omega) (by dsimp only; omega)
  rw [dif_neg c13]
  by_cases c14 : j.val < 2816
  · rw [dif_pos c14, dif_pos (by omega : j.val < 2944)]
    exact b0_14 W _ (by dsimp only; omega) (by dsimp only; omega)
  rw [dif_neg c14]
  by_cases c15 : j.val < 2944
  · rw [dif_pos c15, dif_pos (by omega : j.val < 2944)]
    exact b0_15 W _ (by dsimp only; omega) (by dsimp only; omega)
  rw [dif_neg c15, dif_neg c15]
  by_cases c16 : j.val < 2976
  · rw [dif_pos c16]
    exact b1_0 W _ (by dsimp only; omega) (by dsimp only; omega)
  rw [dif_neg c16]
  by_cases c17 : j.val < 2980
  · rw [dif_pos c17]
    exact b1_1 W _ (by dsimp only; omega) (by dsimp only; omega)
  rw [dif_neg c17]
  exact b1_2 W _ (by dsimp only; omega) (by dsimp only; omega)

end Cert.Inp

end
-- ==== Proof.InpOut.lean ====
/- The input projection's four results at an index of the arguments. -/
module

public import proofs.«01_k».proof.Proof.Pack

@[expose] public section

noncomputable section

namespace Cert.Inp

open Cert.Kernel3Ideal Cert.Kernel3Ideal.Gen Cert.Kernel3Ideal.Value Cert.Moe Idealize.ShloMosaic Idealize.ShloMosaic.TcCoe Idealize.SL.Sem Idealize.ShloMosaic.Tactic

variable (m : (ℓ : Loc nD τ sig) → Buf (Elt Ideal) ℓ) (c : Dev nD)

theorem V_w (k : Fin 1024) (j : Fin 3072) : (V m c main_v45 : Vec Ideal S1024x3072 .bf16) (ix2 k j) = pk (fun x => KW m c (ix2 k x)) j :=
  (congrFun (V_v45 m c) (ix2 k j)).trans (pw_at (KW m c) k j)

theorem V_b (j : Fin 3072) : (V m c main_v44 : Vec Ideal S1x3072 .f32) (ix2 0 j) = pk (fun x => KC m c (ix1 x)) j :=
  (congrFun (V_v44 m c) (ix2 0 j)).trans (pb_at (KC m c) j)

theorem V_g (d : Fin 1024) : (V m c main_v46 : Vec Ideal S1x1024 .f32) (ix2 0 d) = KA m c (ix1 d) := by
  dsimp only [V]
  simp only [hostOps0, List.flatten_cons, List.flatten_nil, List.append_nil, List.cons_append, List.nil_append]
  after_results_simp
  show shapeCast S1x1024 (KA m c) shapeCasts_S1024_S1x1024 (ix2 0 d) = _
  pointwise []

theorem V_e (d : Fin 1024) : (V m c main_v47 : Vec Ideal S1x1024 .f32) (ix2 0 d) = KB m c (ix1 d) := by
  dsimp only [V]
  simp only [hostOps0, List.flatten_cons, List.flatten_nil, List.append_nil, List.cons_append, List.nil_append]
  after_results_simp
  show shapeCast S1x1024 (KB m c) shapeCasts_S1024_S1x1024 (ix2 0 d) = _
  pointwise []

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![t.val, 0] := (by decide +kernel : ∀ t : Fin grid0.N, win0_5.index t = ![t.val, 0])
theorem e6 : ∀ t : Fin cfg0.N, win0_6.index t = ![t.val, 0] := (by decide +kernel : ∀ t : Fin grid0.N, win0_6.index t = ![t.val, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0] := (by decide +kernel : ∀ t : Fin grid0.N, win0_8.index t = ![t.val, 0])
theorem fl5 : ∀ t : Fin cfg0.N, (cfg0.win 5).flush t = true := (by decide +kernel : ∀ t : Fin grid0.N, win0_5.flush t = true)
theorem fl6 : ∀ t : Fin cfg0.N, (cfg0.win 6).flush t = true := (by decide +kernel : ∀ t : Fin grid0.N, win0_6.flush t = true)
theorem fl7 : ∀ t : Fin cfg0.N, (cfg0.win 7).flush t = true := (by decide +kernel : ∀ t : Fin grid0.N, win0_7.flush t = true)
theorem fl8 : ∀ t : Fin cfg0.N, (cfg0.win 8).flush t = true := (by decide +kernel : ∀ t : Fin grid0.N, win0_8.flush t = true)

/-- The row under point `q`'s block row `r`. -/
def row (q : Fin cfg0.N) (r : Fin 384) : Fin 16896 := ⟨384 * q.val + r.val, by have := lt_of_lt_of_eq q.isLt N_0; omega⟩

theorem row_of (t : Fin 16896) : ∃ (q : Fin cfg0.N) (r : Fin 384), t = row q r :=
  ⟨⟨t.val / 384, lt_of_lt_of_eq (by omega) N_0.symm⟩, ⟨t.val % 384, by omega⟩, Fin.ext (by show t.val = 384 * (t.val / 384) + t.val % 384; omega)⟩

theorem b0 (t : Fin cfg0.N) (r : Fin 384) (k : Fin 1024) : (iblk m c 0 t : Vec Ideal S384x1024 .f32) (ix2 r k) = KX m c (ix2 (row t r) k) := by
  blk_simp [iblk]
  rw [V_main_arg0]
  unfold KX row
  congr 1
  blk_ext [e0]

theorem b1 (t : Fin cfg0.N) (d : Fin 1024) : (iblk m c 1 t : Vec Ideal S1x1024 .f32) (ix2 0 d) = KA m c (ix1 d) := by
  blk_simp [iblk]
  rw [← V_g]
  congr 1
  blk_ext [e1]

theorem b2 (t : Fin cfg0.N) (d : Fin 1024) : (iblk m c 2 t : Vec Ideal S1x1024 .f32) (ix2 0 d) = KB m c (ix1 d) := by
  blk_simp [iblk]
  rw [← V_e]
  congr 1
  blk_ext [e2]

theorem b3 (t : Fin cfg0.N) (k : Fin 1024) (j : Fin 3072) : (iblk m c 3 t : Vec Ideal S1024x3072 .bf16) (ix2 k j) = pk (fun x => KW m c (ix2 k x)) j := by
  blk_simp [iblk]
  rw [← V_w]
  congr 1
  blk_ext [e3]

theorem b4 (t : Fin cfg0.N) (j : Fin 3072) : (iblk m c 4 t : Vec Ideal S1x3072 .f32) (ix2 0 j) = pk (fun x => KC m c (ix1 x)) j := by
  blk_simp [iblk]
  rw [← V_b]
  congr 1
  blk_ext [e4]

/-- The norm of a block's rows. -/
theorem ln_blk (x0 : Vec Ideal S384x1024 .f32) (x1 x2 : Vec Ideal S1x1024 .f32) (r : Fin 384) (d : Fin 1024) :
    k0_pay3 (F := Ideal) (View.ld x0 r0_0) (View.ld x1 r0_1) (View.ld x2 r0_1) (ix2 r d) = ln (fun x => x0 (ix2 r x)) (x1 (ix2 0 d)) (x2 (ix2 0 d)) d := by
  unfold ln mean
  pointwise [k0_pay3]

theorem ln_blk' (x0 : Vec Ideal S384x1024 .f32) (x1 x2 : Vec Ideal S1x1024 .f32) (r : Fin 384) (d : Fin 1024) :
    k0_pay4 (F := Ideal) (View.ld x0 r0_0) (View.ld x1 r0_1) (View.ld x2 r0_1) (ix2 r d) = ln (fun x => x0 (ix2 r x)) (x1 (ix2 0 d)) (x2 (ix2 0 d)) d := by
  rw [← ln_blk]
  pointwise [k0_pay4]

variable (x0 : Vec Ideal S384x1024 .f32) (x1 x2 : Vec Ideal S1x1024 .f32) (x3 : Vec Ideal S1024x3072 .bf16) (x4 : Vec Ideal S1x3072 .f32)

theorem out5_at (r : Fin 384) (d : Fin 1024) : out0_5 (F := Ideal) x0 x1 x2 x3 x4 (ix2 r d) = ln (fun x => x0 (ix2 r x)) (x1 (ix2 0 d)) (x2 (ix2 0 d)) d := by
  unfold out0_5
  rw [View.canon_unit_zero (by decide)]
  exact ln_blk x0 x1 x2 r d

theorem out6_at (r : Fin 384) (j : Fin 896) : out0_6 (F := Ideal) x0 x1 x2 x3 x4 (ix2 r j)
    = (∑ k, ln (fun x => x0 (ix2 r x)) (x1 (ix2 0 k)) (x2 (ix2 0 k)) k * x3 (ix2 k ⟨j.val, by omega⟩)) + x4 (ix2 0 ⟨j.val, by omega⟩) := by
  unfold out0_6
  rw [View.canon_unit_zero (by decide)]
  simp only [← ln_blk']
  pointwise [k0_pay5]

theorem out7_at (r : Fin 384) (j : Fin 1152) : out0_7 (F := Ideal) x0 x1 x2 x3 x4 (ix2 r j)
    = (∑ k, ln (fun x => x0 (ix2 r x)) (x1 (ix2 0 k)) (x2 (ix2 0 k)) k * x3 (ix2 k ⟨896 + j.val, by omega⟩)) + x4 (ix2 0 ⟨896 + j.val, by omega⟩) := by
  unfold out0_7
  rw [View.canon_unit_zero (by decide)]
  simp only [← ln_blk']
  pointwise [k0_pay1, k0_pay6]

theorem out8_at (r : Fin 384) (j : Fin 1024) : out0_8 (F := Ideal) x0 x1 x2 x3 x4 (ix2 r j)
    = (∑ k, ln (fun x => x0 (ix2 r x)) (x1 (ix2 0 k)) (x2 (ix2 0 k)) k * x3 (ix2 k ⟨2048 + j.val, by omega⟩)) + x4 (ix2 0 ⟨2048 + j.val, by omega⟩) := by
  unfold out0_8
  rw [View.canon_unit_zero (by decide)]
  simp only [← ln_blk']
  pointwise [k0_pay2, k0_pay6]

/-- A cell of each array under a block is the block's. -/
theorem cell5 (q : Fin cfg0.N) (r : Fin 384) (d : Fin 1024) : ((dats m 0 c).arrAt 5 cfg0.N : Vec Ideal S16896x1024 .f32) (ix2 (row q r) d) = out0_5 (iblk m c 0 q) (iblk m c 1 q) (iblk m c 2 q) (iblk m c 3 q) (iblk m c 4 q) (ix2 r d) := by
  have b := congrFun (blocks5 m c q (fl5 q)) (ix2 r d)
  rw [flushed5] at b
  generalize out0_5 (iblk m c 0 q) (iblk m c 1 q) (iblk m c 2 q) (iblk m c 3 q) (iblk m c 4 q) = u at b ⊢
  generalize (dats m 0 c).arrAt 5 cfg0.N = a at b ⊢
  have b' : a (((cfg0.win 5).blk q).view.emb (ix2 r d)) = u (ix2 r d) := b
  rw [← b']
  unfold row
  congr 1
  blk_ext [e5]

theorem cell6 (q : Fin cfg0.N) (r : Fin 384) (d : Fin 896) : ((dats m 0 c).arrAt 6 cfg0.N : Vec Ideal S16896x896 .f32) (ix2 (row q r) d) = out0_6 (iblk m c 0 q) (iblk m c 1 q) (iblk m c 2 q) (iblk m c 3 q) (iblk m c 4 q) (ix2 r d) := by
  have b := congrFun (blocks6 m c q (fl6 q)) (ix2 r d)
  rw [flushed6] at b
  generalize out0_6 (iblk m c 0 q) (iblk m c 1 q) (iblk m c 2 q) (iblk m c 3 q) (iblk m c 4 q) = u at b ⊢
  generalize (dats m 0 c).arrAt 6 cfg0.N = a at b ⊢
  have b' : a (((cfg0.win 6).blk q).view.emb (ix2 r d)) = u (ix2 r d) := b
  rw [← b']
  unfold row
  congr 1
  blk_ext [e6]

theorem cell7 (q : Fin cfg0.N) (r : Fin 384) (d : Fin 1152) : ((dats m 0 c).arrAt 7 cfg0.N : Vec Ideal S16896x1152 .f32) (ix2 (row q r) d) = out0_7 (iblk m c 0 q) (iblk m c 1 q) (iblk m c 2 q) (iblk m c 3 q) (iblk m c 4 q) (ix2 r d) := by
  have b := congrFun (blocks7 m c q (fl7 q)) (ix2 r d)
  rw [flushed7] at b
  generalize out0_7 (iblk m c 0 q) (iblk m c 1 q) (iblk m c 2 q) (iblk m c 3 q) (iblk m c 4 q) = u at b ⊢
  generalize (dats m 0 c).arrAt 7 cfg0.N = a at b ⊢
  have b' : a (((cfg0.win 7).blk q).view.emb (ix2 r d)) = u (ix2 r d) := b
  rw [← b']
  unfold row
  congr 1
  blk_ext [e7]

theorem cell8 (q : Fin cfg0.N) (r : Fin 384) (d : Fin 1024) : ((dats m 0 c).arrAt 8 cfg0.N : Vec Ideal S16896x1024 .f32) (ix2 (row q r) d) = out0_8 (iblk m c 0 q) (iblk m c 1 q) (iblk m c 2 q) (iblk m c 3 q) (iblk m c 4 q) (ix2 r d) := by
  have b := congrFun (blocks8 m c q (fl8 q)) (ix2 r d)
  rw [flushed8] at b
  generalize out0_8 (iblk m c 0 q) (iblk m c 1 q) (iblk m c 2 q) (iblk m c 3 q) (iblk m c 4 q) = u at b ⊢
  generalize (dats m 0 c).arrAt 8 cfg0.N = a at b ⊢
  have b' : a (((cfg0.win 8).blk q).view.emb (ix2 r d)) = u (ix2 r d) := b
  rw [← b']
  unfold row
  congr 1
  blk_ext [e8]

/-- The normed row. -/
def KN (t : Fin 16896) (d : Fin 1024) : EReal := ln (fun x => KX m c (ix2 t x)) (KA m c (ix1 d)) (KB m c (ix1 d)) d

/-- A column of the projection. -/
def KU (t : Fin 16896) (j : Fin 2748) : EReal := (∑ k, KN m c t k * KW m c (ix2 k j)) + KC m c (ix1 j)

/-- A reading of a row that is one of its entries, or zero. -/
def Sel (g : (Fin 2748 → EReal) → EReal) : Prop := (∃ o : Fin 2748, ∀ f, g f = f o) ∨ ∀ f, g f = 0

theorem sel_dite {P : Prop} {dec : Decidable P} (a : P → Fin 2748) (g : ¬P → (Fin 2748 → EReal) → EReal) (hg : ∀ h, Sel (g h)) :
    Sel fun f => if h : P then f (a h) else g h f := by
  by_cases h : P
  · exact Or.inl ⟨a h, fun f => dif_pos h⟩
  · rcases hg h with ⟨o, e⟩ | e
    · exact Or.inl ⟨o, fun f => (dif_neg h).trans (e f)⟩
    · exact Or.inr fun f => (dif_neg h).trans (e f)

theorem sel_ite {P : Prop} {dec : Decidable P} (g : (Fin 2748 → EReal) → EReal) (hg : Sel g) : Sel fun f => if P then 0 else g f := by
  by_cases h : P
  · exact Or.inr fun f => if_pos h
  · rcases hg with ⟨o, e⟩ | e
    · exact Or.inl ⟨o, fun f => (if_neg h).trans (e f)⟩
    · exact Or.inr fun f => (if_neg h).trans (e f)

theorem sel_pk (j : Fin 3072) : Sel fun f => pk f j := by
  unfold pk
  iterate 5 refine sel_dite _ _ fun _ => ?_
  refine sel_ite _ ?_
  iterate 5 refine sel_dite _ _ fun _ => ?_
  refine sel_ite _ ?_
  iterate 6 refine sel_dite _ _ fun _ => ?_
  exact Or.inr fun _ => rfl

/-- Packing the columns packs their contraction. -/
theorem pk_lin (n : Fin 1024 → EReal) (w : Fin 1024 → Fin 2748 → EReal) (b : Fin 2748 → EReal) (j : Fin 3072) :
    (∑ k, n k * pk (w k) j) + pk b j = pk (fun x => (∑ k, n k * w k x) + b x) j := by
  have hz : (∑ k : Fin 1024, n k * (0 : EReal)) + 0 = 0 := by simp
  rcases sel_pk j with ⟨o, h⟩ | h
  · simp only [h]
  · simp only [h, hz]

theorem arr5 (t : Fin 16896) (d : Fin 1024) : ((dats m 0 c).arrAt 5 cfg0.N : Vec Ideal S16896x1024 .f32) (ix2 t d) = KN m c t d := by
  obtain ⟨q, r, rfl⟩ := row_of t
  rw [cell5 m c q r d, out5_at]
  unfold KN
  simp only [b0, b1, b2]

theorem arr6 (t : Fin 16896) (j : Fin 896) : ((dats m 0 c).arrAt 6 cfg0.N : Vec Ideal S16896x896 .f32) (ix2 t j) = pk (KU m c t) ⟨j.val, by omega⟩ := by
  obtain ⟨q, r, rfl⟩ := row_of t
  refine (cell6 m c q r j).trans ((out6_at _ _ _ _ _ r j).trans ?_)
  simp only [b0, b1, b2, b3, b4]
  exact pk_lin _ _ _ _

theorem arr7 (t : Fin 16896) (j : Fin 1152) : ((dats m 0 c).arrAt 7 cfg0.N : Vec Ideal S16896x1152 .f32) (ix2 t j) = pk (KU m c t) ⟨896 + j.val, by omega⟩ := by
  obtain ⟨q, r, rfl⟩ := row_of t
  refine (cell7 m c q r j).trans ((out7_at _ _ _ _ _ r j).trans ?_)
  simp only [b0, b1, b2, b3, b4]
  exact pk_lin _ _ _ _

theorem arr8 (t : Fin 16896) (j : Fin 1024) : ((dats m 0 c).arrAt 8 cfg0.N : Vec Ideal S16896x1024 .f32) (ix2 t j) = pk (KU m c t) ⟨2048 + j.val, by omega⟩ := by
  obtain ⟨q, r, rfl⟩ := row_of t
  refine (cell8 m c q r j).trans ((out8_at _ _ _ _ _ r j).trans ?_)
  simp only [b0, b1, b2, b3, b4]
  exact pk_lin _ _ _ _

end Cert.Inp

end
-- ==== Proof.RefInp.lean ====
/- The plain input projection at an index: the normed row, and its columns group by group. -/
module

public import proofs.«01_k».proof.Proof.Gen.Reference3Ideal.Run
public import proofs.«01_k».proof.Proof.InpOut

@[expose] public section

noncomputable section

namespace Cert.Inp

open Cert.Reference3Ideal Cert.Reference3Ideal.Gen Cert.Reference3Ideal.Value Cert.Moe Idealize.ShloMosaic Idealize.ShloMosaic.TcCoe Idealize.SL.Sem

/-- The norm of every row. -/
def nrm (x : FVec Ideal S16896x1024 .f32) (g b : FVec Ideal S1024 .f32) : FVec Ideal S16896x1024 .f32 :=
  addf (mulf (mulf (subf x (broadcastInDim S16896x1024 ![0, 1] bcast_S16896x1_S16896x1024_0_1 (Host.divf (broadcastInDim S16896x1 ![0] bcast_S16896_S16896x1_0 (Host.reduceAdd x (constant (F := Ideal) S_ .f32 0x00000000#32) reducesTo_S16896x1024_S16896_d1 h_S_)) (broadcastInDim S16896x1 ![] bcast_S_S16896x1 (constant (F := Ideal) S_ .f32 0x44800000#32))))) (broadcastInDim S16896x1024 ![0, 1] bcast_S16896x1_S16896x1024_0_1 (Host.rsqrt (addf (Host.divf (broadcastInDim S16896x1 ![0] bcast_S16896_S16896x1_0 (Host.reduceAdd (mulf (subf x (broadcastInDim S16896x1024 ![0, 1] bcast_S16896x1_S16896x1024_0_1 (Host.divf (broadcastInDim S16896x1 ![0] bcast_S16896_S16896x1_0 (Host.reduceAdd x (constant (F := Ideal) S_ .f32 0x00000000#32) reducesTo_S16896x1024_S16896_d1 h_S_)) (broadcastInDim S16896x1 ![] bcast_S_S16896x1 (constant (F := Ideal) S_ .f32 0x44800000#32))))) (subf x (broadcastInDim S16896x1024 ![0, 1] bcast_S16896x1_S16896x1024_0_1 (Host.divf (broadcastInDim S16896x1 ![0] bcast_S16896_S16896x1_0 (Host.reduceAdd x (constant (F := Ideal) S_ .f32 0x00000000#32) reducesTo_S16896x1024_S16896_d1 h_S_)) (broadcastInDim S16896x1 ![] bcast_S_S16896x1 (constant (F := Ideal) S_ .f32 0x44800000#32)))))) (constant (F := Ideal) S_ .f32 0x00000000#32) reducesTo_S16896x1024_S16896_d1 h_S_)) (broadcastInDim S16896x1 ![] bcast_S_S16896x1 (constant (F := Ideal) S_ .f32 0x44800000#32))) (broadcastInDim S16896x1 ![] bcast_S_S16896x1 (constant (F := Ideal) S_ .f32 0x3727C5AC#32)))))) (broadcastInDim S16896x1024 ![0, 1] bcast_S1x1024_S16896x1024_0_1 (broadcastInDim S1x1024 ![1] bcast_S1024_S1x1024_1 g))) (broadcastInDim S16896x1024 ![0, 1] bcast_S1x1024_S16896x1024_0_1 (broadcastInDim S1x1024 ![1] bcast_S1024_S1x1024_1 b))

/-- Every row through the projection. -/
def prj (h : FVec Ideal S16896x1024 .f32) (w : FVec Ideal S1024x2748 .f32) (b : FVec Ideal S2748 .f32) : FVec Ideal S16896x2748 .f32 :=
  (addf (Host.dotGeneral dot_S16896x1024_S1024x2748_S16896x2748_1_0_0_1_n_n none h w) (broadcastInDim S16896x2748 ![0, 1] bcast_S1x2748_S16896x2748_0_1 (broadcastInDim S1x2748 ![1] bcast_S2748_S1x2748_1 b)))

/-- Group a's columns, filled up with zeros. -/
def grp_a (U : FVec Ideal S16896x2748 .f32) : FVec Ideal S16896x896 .f32 :=
  concatenate S16896x896 1 [⟨S16896x128, extractStridedSlice S16896x128 ![0, 0] U slices_S16896x2748_S16896x128_0_0⟩, ⟨S16896x128, extractStridedSlice S16896x128 ![0, 128] U slices_S16896x2748_S16896x128_0_128⟩, ⟨S16896x256, extractStridedSlice S16896x256 ![0, 256] U slices_S16896x2748_S16896x256_0_256⟩, ⟨S16896x256, extractStridedSlice S16896x256 ![0, 528] U slices_S16896x2748_S16896x256_0_528⟩, ⟨S16896x16, extractStridedSlice S16896x16 ![0, 512] U slices_S16896x2748_S16896x16_0_512⟩, ⟨S16896x112, broadcastInDim S16896x112 ![] bcast_S_S16896x112 (constant (F := Ideal) S_ .f32 0x00000000#32)⟩] concatenates_S16896x128_S16896x128_S16896x256_S16896x256_S16896x16_S16896x112_S16896x896_d1

/-- Group b's columns, filled up with zeros. -/
def grp_b (U : FVec Ideal S16896x2748 .f32) : FVec Ideal S16896x1152 .f32 :=
  concatenate S16896x1152 1 [⟨S16896x512, extractStridedSlice S16896x512 ![0, 784] U slices_S16896x2748_S16896x512_0_784⟩, ⟨S16896x256, extractStridedSlice S16896x256 ![0, 1296] U slices_S16896x2748_S16896x256_0_1296⟩, ⟨S16896x256, extractStridedSlice S16896x256 ![0, 1560] U slices_S16896x2748_S16896x256_0_1560⟩, ⟨S16896x4, extractStridedSlice S16896x4 ![0, 1552] U slices_S16896x2748_S16896x4_0_1552⟩, ⟨S16896x4, extractStridedSlice S16896x4 ![0, 1556] U slices_S16896x2748_S16896x4_0_1556⟩, ⟨S16896x120, broadcastInDim S16896x120 ![] bcast_S_S16896x120 (constant (F := Ideal) S_ .f32 0x00000000#32)⟩] concatenates_S16896x512_S16896x256_S16896x256_S16896x4_S16896x4_S16896x120_S16896x1152_d1

/-- Group c's columns, filled up with zeros. -/
def grp_c (U : FVec Ideal S16896x2748 .f32) : FVec Ideal S16896x1024 .f32 :=
  concatenate S16896x1024 1 [⟨S16896x512, extractStridedSlice S16896x512 ![0, 1816] U slices_S16896x2748_S16896x512_0_1816⟩, ⟨S16896x128, extractStridedSlice S16896x128 ![0, 2328] U slices_S16896x2748_S16896x128_0_2328⟩, ⟨S16896x128, extractStridedSlice S16896x128 ![0, 2456] U slices_S16896x2748_S16896x128_0_2456⟩, ⟨S16896x128, extractStridedSlice S16896x128 ![0, 2584] U slices_S16896x2748_S16896x128_0_2584⟩, ⟨S16896x32, extractStridedSlice S16896x32 ![0, 2716] U slices_S16896x2748_S16896x32_0_2716⟩, ⟨S16896x4, extractStridedSlice S16896x4 ![0, 2712] U slices_S16896x2748_S16896x4_0_2712⟩, ⟨S16896x92, broadcastInDim S16896x92 ![] bcast_S_S16896x92 (constant (F := Ideal) S_ .f32 0x00000000#32)⟩] concatenates_S16896x512_S16896x128_S16896x128_S16896x128_S16896x32_S16896x4_S16896x92_S16896x1024_d1

theorem ga_0 (U : FVec Ideal S16896x2748 .f32) (t : Fin 16896) (j : Fin 896) (h : 0 ≤ j.val) (h' : j.val < 128) : grp_a U (ix2 t j) = U (ix2 t ⟨j.val, by omega⟩) := by
  unfold grp_a
  refine (concatenate_apply_piece (t := S16896x896) 1 _ _ (ix2 t j) 0 ?hk S16896x128 (extractStridedSlice S16896x128 ![0, 0] U slices_S16896x2748_S16896x128_0_0) ?hx rfl 0 ?hp (ix2 t ⟨j.val - 0, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 0 + (j.val - 0) = j.val
    omega
  case he => pointwise []

theorem ga_1 (U : FVec Ideal S16896x2748 .f32) (t : Fin 16896) (j : Fin 896) (h : 128 ≤ j.val) (h' : j.val < 256) : grp_a U (ix2 t j) = U (ix2 t ⟨128 + (j.val - 128), by omega⟩) := by
  unfold grp_a
  refine (concatenate_apply_piece (t := S16896x896) 1 _ _ (ix2 t j) 1 ?hk S16896x128 (extractStridedSlice S16896x128 ![0, 128] U slices_S16896x2748_S16896x128_0_128) ?hx rfl 128 ?hp (ix2 t ⟨j.val - 128, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 128 + (j.val - 128) = j.val
    omega
  case he => pointwise []

theorem ga_2 (U : FVec Ideal S16896x2748 .f32) (t : Fin 16896) (j : Fin 896) (h : 256 ≤ j.val) (h' : j.val < 512) : grp_a U (ix2 t j) = U (ix2 t ⟨256 + (j.val - 256), by omega⟩) := by
  unfold grp_a
  refine (concatenate_apply_piece (t := S16896x896) 1 _ _ (ix2 t j) 2 ?hk S16896x256 (extractStridedSlice S16896x256 ![0, 256] U slices_S16896x2748_S16896x256_0_256) ?hx rfl 256 ?hp (ix2 t ⟨j.val - 256, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 256 + (j.val - 256) = j.val
    omega
  case he => pointwise []

theorem ga_3 (U : FVec Ideal S16896x2748 .f32) (t : Fin 16896) (j : Fin 896) (h : 512 ≤ j.val) (h' : j.val < 768) : grp_a U (ix2 t j) = U (ix2 t ⟨528 + (j.val - 512), by omega⟩) := by
  unfold grp_a
  refine (concatenate_apply_piece (t := S16896x896) 1 _ _ (ix2 t j) 3 ?hk S16896x256 (extractStridedSlice S16896x256 ![0, 528] U slices_S16896x2748_S16896x256_0_528) ?hx rfl 512 ?hp (ix2 t ⟨j.val - 512, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 512 + (j.val - 512) = j.val
    omega
  case he => pointwise []

theorem ga_4 (U : FVec Ideal S16896x2748 .f32) (t : Fin 16896) (j : Fin 896) (h : 768 ≤ j.val) (h' : j.val < 784) : grp_a U (ix2 t j) = U (ix2 t ⟨512 + (j.val - 768), by omega⟩) := by
  unfold grp_a
  refine (concatenate_apply_piece (t := S16896x896) 1 _ _ (ix2 t j) 4 ?hk S16896x16 (extractStridedSlice S16896x16 ![0, 512] U slices_S16896x2748_S16896x16_0_512) ?hx rfl 768 ?hp (ix2 t ⟨j.val - 768, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 768 + (j.val - 768) = j.val
    omega
  case he => pointwise []

theorem ga_5 (U : FVec Ideal S16896x2748 .f32) (t : Fin 16896) (j : Fin 896) (h : 784 ≤ j.val) (h' : j.val < 896) : grp_a U (ix2 t j) = 0 := by
  unfold grp_a
  refine (concatenate_apply_piece (t := S16896x896) 1 _ _ (ix2 t j) 5 ?hk S16896x112 (broadcastInDim S16896x112 ![] bcast_S_S16896x112 (constant (F := Ideal) S_ .f32 0x00000000#32)) ?hx rfl 784 ?hp (ix2 t ⟨j.val - 784, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 784 + (j.val - 784) = j.val
    omega
  case he => pointwise []

/-- Group a at a column. -/
theorem grp_a_at (U : FVec Ideal S16896x2748 .f32) (t : Fin 16896) (j : Fin 896) : grp_a U (ix2 t j) = pk (fun x => U (ix2 t x)) ⟨j.val, by omega⟩ := by
  unfold pk
  dsimp only
  by_cases c0 : j.val < 128
  · rw [dif_pos c0]
    refine (ga_0 U t j (by omega) (by omega)).trans ?_
    rfl
  rw [dif_neg c0]
  by_cases c1 : j.val < 256
  · rw [dif_pos c1]
    refine (ga_1 U t j (by omega) (by omega)).trans ?_
    rfl
  rw [dif_neg c1]
  by_cases c2 : j.val < 512
  · rw [dif_pos c2]
    refine (ga_2 U t j (by omega) (by omega)).trans ?_
    rfl
  rw [dif_neg c2]
  by_cases c3 : j.val < 768
  · rw [dif_pos c3]
    refine (ga_3 U t j (by omega) (by omega)).trans ?_
    rfl
  rw [dif_neg c3]
  by_cases c4 : j.val < 784
  · rw [dif_pos c4]
    refine (ga_4 U t j (by omega) (by omega)).trans ?_
    rfl
  rw [dif_neg c4]
  rw [if_pos (by omega : j.val < 896)]
  refine (ga_5 U t j (by omega) (by omega)).trans ?_
  rfl

theorem gb_0 (U : FVec Ideal S16896x2748 .f32) (t : Fin 16896) (j : Fin 1152) (h : 0 ≤ j.val) (h' : j.val < 512) : grp_b U (ix2 t j) = U (ix2 t ⟨784 + j.val, by omega⟩) := by
  unfold grp_b
  refine (concatenate_apply_piece (t := S16896x1152) 1 _ _ (ix2 t j) 0 ?hk S16896x512 (extractStridedSlice S16896x512 ![0, 784] U slices_S16896x2748_S16896x512_0_784) ?hx rfl 0 ?hp (ix2 t ⟨j.val - 0, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 0 + (j.val - 0) = j.val
    omega
  case he => pointwise []

theorem gb_1 (U : FVec Ideal S16896x2748 .f32) (t : Fin 16896) (j : Fin 1152) (h : 512 ≤ j.val) (h' : j.val < 768) : grp_b U (ix2 t j) = U (ix2 t ⟨1296 + (j.val - 512), by omega⟩) := by
  unfold grp_b
  refine (concatenate_apply_piece (t := S16896x1152) 1 _ _ (ix2 t j) 1 ?hk S16896x256 (extractStridedSlice S16896x256 ![0, 1296] U slices_S16896x2748_S16896x256_0_1296) ?hx rfl 512 ?hp (ix2 t ⟨j.val - 512, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 512 + (j.val - 512) = j.val
    omega
  case he => pointwise []

theorem gb_2 (U : FVec Ideal S16896x2748 .f32) (t : Fin 16896) (j : Fin 1152) (h : 768 ≤ j.val) (h' : j.val < 1024) : grp_b U (ix2 t j) = U (ix2 t ⟨1560 + (j.val - 768), by omega⟩) := by
  unfold grp_b
  refine (concatenate_apply_piece (t := S16896x1152) 1 _ _ (ix2 t j) 2 ?hk S16896x256 (extractStridedSlice S16896x256 ![0, 1560] U slices_S16896x2748_S16896x256_0_1560) ?hx rfl 768 ?hp (ix2 t ⟨j.val - 768, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 768 + (j.val - 768) = j.val
    omega
  case he => pointwise []

theorem gb_3 (U : FVec Ideal S16896x2748 .f32) (t : Fin 16896) (j : Fin 1152) (h : 1024 ≤ j.val) (h' : j.val < 1028) : grp_b U (ix2 t j) = U (ix2 t ⟨1552 + (j.val - 1024), by omega⟩) := by
  unfold grp_b
  refine (concatenate_apply_piece (t := S16896x1152) 1 _ _ (ix2 t j) 3 ?hk S16896x4 (extractStridedSlice S16896x4 ![0, 1552] U slices_S16896x2748_S16896x4_0_1552) ?hx rfl 1024 ?hp (ix2 t ⟨j.val - 1024, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1024 + (j.val - 1024) = j.val
    omega
  case he => pointwise []

theorem gb_4 (U : FVec Ideal S16896x2748 .f32) (t : Fin 16896) (j : Fin 1152) (h : 1028 ≤ j.val) (h' : j.val < 1032) : grp_b U (ix2 t j) = U (ix2 t ⟨1556 + (j.val - 1028), by omega⟩) := by
  unfold grp_b
  refine (concatenate_apply_piece (t := S16896x1152) 1 _ _ (ix2 t j) 4 ?hk S16896x4 (extractStridedSlice S16896x4 ![0, 1556] U slices_S16896x2748_S16896x4_0_1556) ?hx rfl 1028 ?hp (ix2 t ⟨j.val - 1028, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1028 + (j.val - 1028) = j.val
    omega
  case he => pointwise []

theorem gb_5 (U : FVec Ideal S16896x2748 .f32) (t : Fin 16896) (j : Fin 1152) (h : 1032 ≤ j.val) (h' : j.val < 1152) : grp_b U (ix2 t j) = 0 := by
  unfold grp_b
  refine (concatenate_apply_piece (t := S16896x1152) 1 _ _ (ix2 t j) 5 ?hk S16896x120 (broadcastInDim S16896x120 ![] bcast_S_S16896x120 (constant (F := Ideal) S_ .f32 0x00000000#32)) ?hx rfl 1032 ?hp (ix2 t ⟨j.val - 1032, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 1032 + (j.val - 1032) = j.val
    omega
  case he => pointwise []

/-- Group b at a column. -/
theorem grp_b_at (U : FVec Ideal S16896x2748 .f32) (t : Fin 16896) (j : Fin 1152) : grp_b U (ix2 t j) = pk (fun x => U (ix2 t x)) ⟨896 + j.val, by omega⟩ := by
  unfold pk
  dsimp only
  rw [dif_neg (by omega : ¬ 896 + j.val < 128)]
  rw [dif_neg (by omega : ¬ 896 + j.val < 256)]
  rw [dif_neg (by omega : ¬ 896 + j.val < 512)]
  rw [dif_neg (by omega : ¬ 896 + j.val < 768)]
  rw [dif_neg (by omega : ¬ 896 + j.val < 784)]
  rw [if_neg (by omega : ¬ 896 + j.val < 896)]
  by_cases c0 : 896 + j.val < 1408
  · rw [dif_pos c0]
    refine (gb_0 U t j (by omega) (by omega)).trans ?_
    exact congrArg (fun y => U (ix2 t y)) (Fin.ext (by dsimp only; omega))
  rw [dif_neg c0]
  by_cases c1 : 896 + j.val < 1664
  · rw [dif_pos c1]
    refine (gb_1 U t j (by omega) (by omega)).trans ?_
    exact congrArg (fun y => U (ix2 t y)) (Fin.ext (by dsimp only; omega))
  rw [dif_neg c1]
  by_cases c2 : 896 + j.val < 1920
  · rw [dif_pos c2]
    refine (gb_2 U t j (by omega) (by omega)).trans ?_
    exact congrArg (fun y => U (ix2 t y)) (Fin.ext (by dsimp only; omega))
  rw [dif_neg c2]
  by_cases c3 : 896 + j.val < 1924
  · rw [dif_pos c3]
    refine (gb_3 U t j (by omega) (by omega)).trans ?_
    exact congrArg (fun y => U (ix2 t y)) (Fin.ext (by dsimp only; omega))
  rw [dif_neg c3]
  by_cases c4 : 896 + j.val < 1928
  · rw [dif_pos c4]
    refine (gb_4 U t j (by omega) (by omega)).trans ?_
    exact congrArg (fun y => U (ix2 t y)) (Fin.ext (by dsimp only; omega))
  rw [dif_neg c4]
  rw [if_pos (by omega : 896 + j.val < 2048)]
  refine (gb_5 U t j (by omega) (by omega)).trans ?_
  rfl

theorem gc_0 (U : FVec Ideal S16896x2748 .f32) (t : Fin 16896) (j : Fin 1024) (h : 0 ≤ j.val) (h' : j.val < 512) : grp_c U (ix2 t j) = U (ix2 t ⟨1816 + j.val, by omega⟩) := by
  unfold grp_c
  refine (concatenate_apply_piece (t := S16896x1024) 1 _ _ (ix2 t j) 0 ?hk S16896x512 (extractStridedSlice S16896x512 ![0, 1816] U slices_S16896x2748_S16896x512_0_1816) ?hx rfl 0 ?hp (ix2 t ⟨j.val - 0, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 0 + (j.val - 0) = j.val
    omega
  case he => pointwise []

theorem gc_1 (U : FVec Ideal S16896x2748 .f32) (t : Fin 16896) (j : Fin 1024) (h : 512 ≤ j.val) (h' : j.val < 640) : grp_c U (ix2 t j) = U (ix2 t ⟨2328 + (j.val - 512), by omega⟩) := by
  unfold grp_c
  refine (concatenate_apply_piece (t := S16896x1024) 1 _ _ (ix2 t j) 1 ?hk S16896x128 (extractStridedSlice S16896x128 ![0, 2328] U slices_S16896x2748_S16896x128_0_2328) ?hx rfl 512 ?hp (ix2 t ⟨j.val - 512, by omega⟩) ?hi ?ha).trans ?he
  case hk => exact Nat.le_of_ble_eq_true rfl
  case hx => rfl
  case hp => rfl
  case hi =>
    intro b hb
    match b with
    | ⟨0, _⟩ => rfl
    | ⟨1, _⟩ => exact absurd rfl hb
  case ha =>
    show 512 + (j.val - 512) = j.val
    omega
  case he => pointwise []

theorem gc_2 (U : FVec Ideal S16896x2748 .f32) (t : Fin 16896) (j : Fin 1024) (h : 640 ≤ j.val) (h' : j.val < 768) : grp_c U (ix2 t j) = U (ix2 t ⟨2456 + (j.val - 640), by omega⟩) := by
  unfold grp_c
  refine (concatenate_apply_piece (t := S16896x1024) 1 _ _ (ix2 t j) 2 ?hk S16896x128 (extractStridedSlice S16896x128 ![0, 2456] U slices_S16896x2748_S16896x128_0_2456) ?hx rfl 640 ?hp (ix2 t ⟨j.val - 640, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 640 + (j.val - 640) = j.val
    omega
  case he => pointwise []

theorem gc_3 (U : FVec Ideal S16896x2748 .f32) (t : Fin 16896) (j : Fin 1024) (h : 768 ≤ j.val) (h' : j.val < 896) : grp_c U (ix2 t j) = U (ix2 t ⟨2584 + (j.val - 768), by omega⟩) := by
  unfold grp_c
  refine (concatenate_apply_piece (t := S16896x1024) 1 _ _ (ix2 t j) 3 ?hk S16896x128 (extractStridedSlice S16896x128 ![0, 2584] U slices_S16896x2748_S16896x128_0_2584) ?hx rfl 768 ?hp (ix2 t ⟨j.val - 768, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 768 + (j.val - 768) = j.val
    omega
  case he => pointwise []

theorem gc_4 (U : FVec Ideal S16896x2748 .f32) (t : Fin 16896) (j : Fin 1024) (h : 896 ≤ j.val) (h' : j.val < 928) : grp_c U (ix2 t j) = U (ix2 t ⟨2716 + (j.val - 896), by omega⟩) := by
  unfold grp_c
  refine (concatenate_apply_piece (t := S16896x1024) 1 _ _ (ix2 t j) 4 ?hk S16896x32 (extractStridedSlice S16896x32 ![0, 2716] U slices_S16896x2748_S16896x32_0_2716) ?hx rfl 896 ?hp (ix2 t ⟨j.val - 896, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 896 + (j.val - 896) = j.val
    omega
  case he => pointwise []

theorem gc_5 (U : FVec Ideal S16896x2748 .f32) (t : Fin 16896) (j : Fin 1024) (h : 928 ≤ j.val) (h' : j.val < 932) : grp_c U (ix2 t j) = U (ix2 t ⟨2712 + (j.val - 928), by omega⟩) := by
  unfold grp_c
  refine (concatenate_apply_piece (t := S16896x1024) 1 _ _ (ix2 t j) 5 ?hk S16896x4 (extractStridedSlice S16896x4 ![0, 2712] U slices_S16896x2748_S16896x4_0_2712) ?hx rfl 928 ?hp (ix2 t ⟨j.val - 928, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 928 + (j.val - 928) = j.val
    omega
  case he => pointwise []

theorem gc_6 (U : FVec Ideal S16896x2748 .f32) (t : Fin 16896) (j : Fin 1024) (h : 932 ≤ j.val) (h' : j.val < 1024) : grp_c U (ix2 t j) = 0 := by
  unfold grp_c
  refine (concatenate_apply_piece (t := S16896x1024) 1 _ _ (ix2 t j) 6 ?hk S16896x92 (broadcastInDim S16896x92 ![] bcast_S_S16896x92 (constant (F := Ideal) S_ .f32 0x00000000#32)) ?hx rfl 932 ?hp (ix2 t ⟨j.val - 932, by omega⟩) ?hi ?ha).trans ?he
  case hk => exact Nat.le_of_ble_eq_true rfl
  case hx => rfl
  case hp =>
    simp only [List.take_succ_cons, List.take_zero, List.map_cons, List.map_nil, List.sum_cons, List.sum_nil]
    rfl
  case hi =>
    intro b hb
    match b with
    | ⟨0, _⟩ => rfl
    | ⟨1, _⟩ => exact absurd rfl hb
  case ha =>
    show 932 + (j.val - 932) = j.val
    omega
  case he => pointwise []

/-- Group c at a column. -/
theorem grp_c_at (U : FVec Ideal S16896x2748 .f32) (t : Fin 16896) (j : Fin 1024) : grp_c U (ix2 t j) = pk (fun x => U (ix2 t x)) ⟨2048 + j.val, by omega⟩ := by
  unfold pk
  dsimp only
  rw [dif_neg (by omega : ¬ 2048 + j.val < 128)]
  rw [dif_neg (by omega : ¬ 2048 + j.val < 256)]
  rw [dif_neg (by omega : ¬ 2048 + j.val < 512)]
  rw [dif_neg (by omega : ¬ 2048 + j.val < 768)]
  rw [dif_neg (by omega : ¬ 2048 + j.val < 784)]
  rw [if_neg (by omega : ¬ 2048 + j.val < 896)]
  rw [dif_neg (by omega : ¬ 2048 + j.val < 1408)]
  rw [dif_neg (by omega : ¬ 2048 + j.val < 1664)]
  rw [dif_neg (by omega : ¬ 2048 + j.val < 1920)]
  rw [dif_neg (by omega : ¬ 2048 + j.val < 1924)]
  rw [dif_neg (by omega : ¬ 2048 + j.val < 1928)]
  rw [if_neg (by omega : ¬ 2048 + j.val < 2048)]
  by_cases c0 : 2048 + j.val < 2560
  · rw [dif_pos c0]
    refine (gc_0 U t j (by omega) (by omega)).trans ?_
    exact congrArg (fun y => U (ix2 t y)) (Fin.ext (by dsimp only; omega))
  rw [dif_neg c0]
  by_cases c1 : 2048 + j.val < 2688
  · rw [dif_pos c1]
    refine (gc_1 U t j (by omega) (by omega)).trans ?_
    exact congrArg (fun y => U (ix2 t y)) (Fin.ext (by dsimp only; omega))
  rw [dif_neg c1]
  by_cases c2 : 2048 + j.val < 2816
  · rw [dif_pos c2]
    refine (gc_2 U t j (by omega) (by omega)).trans ?_
    exact congrArg (fun y => U (ix2 t y)) (Fin.ext (by dsimp only; omega))
  rw [dif_neg c2]
  by_cases c3 : 2048 + j.val < 2944
  · rw [dif_pos c3]
    refine (gc_3 U t j (by omega) (by omega)).trans ?_
    exact congrArg (fun y => U (ix2 t y)) (Fin.ext (by dsimp only; omega))
  rw [dif_neg c3]
  by_cases c4 : 2048 + j.val < 2976
  · rw [dif_pos c4]
    refine (gc_4 U t j (by omega) (by omega)).trans ?_
    exact congrArg (fun y => U (ix2 t y)) (Fin.ext (by dsimp only; omega))
  rw [dif_neg c4]
  by_cases c5 : 2048 + j.val < 2980
  · rw [dif_pos c5]
    refine (gc_5 U t j (by omega) (by omega)).trans ?_
    exact congrArg (fun y => U (ix2 t y)) (Fin.ext (by dsimp only; omega))
  rw [dif_neg c5]
  refine (gc_6 U t j (by omega) (by omega)).trans ?_
  rfl

theorem nrm_at (x : FVec Ideal S16896x1024 .f32) (g b : FVec Ideal S1024 .f32) (t : Fin 16896) (d : Fin 1024) :
    nrm x g b (ix2 t d) = ln (fun k => x (ix2 t k)) (g (ix1 d)) (b (ix1 d)) d := by
  unfold ln mean
  pointwise [nrm]

theorem prj_at (h : FVec Ideal S16896x1024 .f32) (w : FVec Ideal S1024x2748 .f32) (b : FVec Ideal S2748 .f32) (t : Fin 16896) (j : Fin 2748) :
    prj h w b (ix2 t j) = (∑ k, h (ix2 t k) * w (ix2 k j)) + b (ix1 j) := by
  pointwise [prj]

variable (m : (ℓ : Loc nD τ sig) → Buf (Elt Ideal) ℓ) (c : Dev nD)

theorem res_a : res_main_v45 m c = grp_a (prj (nrm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := rfl
theorem res_b : res_main_v47 m c = grp_b (prj (nrm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := rfl
theorem res_c : res_main_v49 m c = grp_c (prj (nrm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := rfl

variable (m₁ : (ℓ : Loc Cert.Kernel3Ideal.nD Cert.Kernel3Ideal.τ Cert.Kernel3Ideal.sig) → Buf (Elt Ideal) ℓ) (c₁ : Dev Cert.Kernel3Ideal.nD)

/-- On arguments that agree, the first result is the normed row. -/
theorem normed (a0 : m ((c.tc : Thread nD τ).loc main_arg0) = KX m₁ c₁) (a1 : m ((c.tc : Thread nD τ).loc main_arg1) = KA m₁ c₁) (a2 : m ((c.tc : Thread nD τ).loc main_arg2) = KB m₁ c₁) (t : Fin 16896) (d : Fin 1024) :
    ((addf (mulf (mulf (subf (m ((c.tc : Thread nD τ).loc main_arg0)) (broadcastInDim S16896x1024 ![0, 1] bcast_S16896x1_S16896x1024_0_1 (Host.divf (broadcastInDim S16896x1 ![0] bcast_S16896_S16896x1_0 (Host.reduceAdd (m ((c.tc : Thread nD τ).loc main_arg0)) (constant S_ .f32 0x00000000#32) reducesTo_S16896x1024_S16896_d1 h_S_)) (broadcastInDim S16896x1 ![] bcast_S_S16896x1 (constant S_ .f32 0x44800000#32))))) (broadcastInDim S16896x1024 ![0, 1] bcast_S16896x1_S16896x1024_0_1 (Host.rsqrt (addf (Host.divf (broadcastInDim S16896x1 ![0] bcast_S16896_S16896x1_0 (Host.reduceAdd (mulf (subf (m ((c.tc : Thread nD τ).loc main_arg0)) (broadcastInDim S16896x1024 ![0, 1] bcast_S16896x1_S16896x1024_0_1 (Host.divf (broadcastInDim S16896x1 ![0] bcast_S16896_S16896x1_0 (Host.reduceAdd (m ((c.tc : Thread nD τ).loc main_arg0)) (constant S_ .f32 0x00000000#32) reducesTo_S16896x1024_S16896_d1 h_S_)) (broadcastInDim S16896x1 ![] bcast_S_S16896x1 (constant S_ .f32 0x44800000#32))))) (subf (m ((c.tc : Thread nD τ).loc main_arg0)) (broadcastInDim S16896x1024 ![0, 1] bcast_S16896x1_S16896x1024_0_1 (Host.divf (broadcastInDim S16896x1 ![0] bcast_S16896_S16896x1_0 (Host.reduceAdd (m ((c.tc : Thread nD τ).loc main_arg0)) (constant S_ .f32 0x00000000#32) reducesTo_S16896x1024_S16896_d1 h_S_)) (broadcastInDim S16896x1 ![] bcast_S_S16896x1 (constant S_ .f32 0x44800000#32)))))) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x3727C5AC#32)))))) (broadcastInDim S16896x1024 ![0, 1] bcast_S1x1024_S16896x1024_0_1 (broadcastInDim S1x1024 ![1] bcast_S1024_S1x1024_1 (m ((c.tc : Thread nD τ).loc main_arg1))))) (broadcastInDim S16896x1024 ![0, 1] bcast_S1x1024_S16896x1024_0_1 (broadcastInDim S1x1024 ![1] bcast_S1024_S1x1024_1 (m ((c.tc : Thread nD τ).loc main_arg2))))) : FVec Ideal S16896x1024 .f32) (ix2 t d) = KN m₁ c₁ t d := by
  rw [a0, a1, a2]
  exact nrm_at (KX m₁ c₁) (KA m₁ c₁) (KB m₁ c₁) t d

theorem prj_row (t : Fin 16896) : (fun x => prj (nrm (KX m₁ c₁) (KA m₁ c₁) (KB m₁ c₁)) (KW m₁ c₁) (KC m₁ c₁) (ix2 t x)) = KU m₁ c₁ t := by
  funext x
  rw [prj_at]
  unfold KU KN
  simp only [nrm_at]

/-- On arguments that agree, group a is the packed columns of the projection. -/
theorem group_a (h : m ((c.tc : Thread nD τ).loc main_arg0) = m₁ ((c₁.tc : Thread Cert.Kernel3Ideal.nD Cert.Kernel3Ideal.τ).loc Cert.Kernel3Ideal.main_arg0) ∧ m ((c.tc : Thread nD τ).loc main_arg1) = m₁ ((c₁.tc : Thread Cert.Kernel3Ideal.nD Cert.Kernel3Ideal.τ).loc Cert.Kernel3Ideal.main_arg1) ∧ m ((c.tc : Thread nD τ).loc main_arg2) = m₁ ((c₁.tc : Thread Cert.Kernel3Ideal.nD Cert.Kernel3Ideal.τ).loc Cert.Kernel3Ideal.main_arg2) ∧ m ((c.tc : Thread nD τ).loc main_arg3) = m₁ ((c₁.tc : Thread Cert.Kernel3Ideal.nD Cert.Kernel3Ideal.τ).loc Cert.Kernel3Ideal.main_arg3) ∧ m ((c.tc : Thread nD τ).loc main_arg4) = m₁ ((c₁.tc : Thread Cert.Kernel3Ideal.nD Cert.Kernel3Ideal.τ).loc Cert.Kernel3Ideal.main_arg4)) (t : Fin 16896) (j : Fin 896) :
    (res_main_v45 m c : FVec Ideal S16896x896 .f32) (ix2 t j) = pk (KU m₁ c₁ t) ⟨j.val, by omega⟩ := by
  obtain ⟨a0, a1, a2, a3, a4⟩ := h
  rw [res_a, a0, a1, a2, a3, a4]
  refine (grp_a_at _ t j).trans ?_
  exact congrArg (fun f => pk f ⟨j.val, by omega⟩) (prj_row m₁ c₁ t)

/-- On arguments that agree, group b is the packed columns of the projection. -/
theorem group_b (h : m ((c.tc : Thread nD τ).loc main_arg0) = m₁ ((c₁.tc : Thread Cert.Kernel3Ideal.nD Cert.Kernel3Ideal.τ).loc Cert.Kernel3Ideal.main_arg0) ∧ m ((c.tc : Thread nD τ).loc main_arg1) = m₁ ((c₁.tc : Thread Cert.Kernel3Ideal.nD Cert.Kernel3Ideal.τ).loc Cert.Kernel3Ideal.main_arg1) ∧ m ((c.tc : Thread nD τ).loc main_arg2) = m₁ ((c₁.tc : Thread Cert.Kernel3Ideal.nD Cert.Kernel3Ideal.τ).loc Cert.Kernel3Ideal.main_arg2) ∧ m ((c.tc : Thread nD τ).loc main_arg3) = m₁ ((c₁.tc : Thread Cert.Kernel3Ideal.nD Cert.Kernel3Ideal.τ).loc Cert.Kernel3Ideal.main_arg3) ∧ m ((c.tc : Thread nD τ).loc main_arg4) = m₁ ((c₁.tc : Thread Cert.Kernel3Ideal.nD Cert.Kernel3Ideal.τ).loc Cert.Kernel3Ideal.main_arg4)) (t : Fin 16896) (j : Fin 1152) :
    (res_main_v47 m c : FVec Ideal S16896x1152 .f32) (ix2 t j) = pk (KU m₁ c₁ t) ⟨896 + j.val, by omega⟩ := by
  obtain ⟨a0, a1, a2, a3, a4⟩ := h
  rw [res_b, a0, a1, a2, a3, a4]
  refine (grp_b_at _ t j).trans ?_
  exact congrArg (fun f => pk f ⟨896 + j.val, by omega⟩) (prj_row m₁ c₁ t)

/-- On arguments that agree, group c is the packed columns of the projection. -/
theorem group_c (h : m ((c.tc : Thread nD τ).loc main_arg0) = m₁ ((c₁.tc : Thread Cert.Kernel3Ideal.nD Cert.Kernel3Ideal.τ).loc Cert.Kernel3Ideal.main_arg0) ∧ m ((c.tc : Thread nD τ).loc main_arg1) = m₁ ((c₁.tc : Thread Cert.Kernel3Ideal.nD Cert.Kernel3Ideal.τ).loc Cert.Kernel3Ideal.main_arg1) ∧ m ((c.tc : Thread nD τ).loc main_arg2) = m₁ ((c₁.tc : Thread Cert.Kernel3Ideal.nD Cert.Kernel3Ideal.τ).loc Cert.Kernel3Ideal.main_arg2) ∧ m ((c.tc : Thread nD τ).loc main_arg3) = m₁ ((c₁.tc : Thread Cert.Kernel3Ideal.nD Cert.Kernel3Ideal.τ).loc Cert.Kernel3Ideal.main_arg3) ∧ m ((c.tc : Thread nD τ).loc main_arg4) = m₁ ((c₁.tc : Thread Cert.Kernel3Ideal.nD Cert.Kernel3Ideal.τ).loc Cert.Kernel3Ideal.main_arg4)) (t : Fin 16896) (j : Fin 1024) :
    (res_main_v49 m c : FVec Ideal S16896x1024 .f32) (ix2 t j) = pk (KU m₁ c₁ t) ⟨2048 + j.val, by omega⟩ := by
  obtain ⟨a0, a1, a2, a3, a4⟩ := h
  rw [res_c, a0, a1, a2, a3, a4]
  refine (grp_c_at _ t j).trans ?_
  exact congrArg (fun f => pk f ⟨2048 + j.val, by omega⟩) (prj_row m₁ c₁ t)

end Cert.Inp

end
-- ==== Proof.ScanOpen.lean ====
/- The scan's body for the gated linear attention's state: what one grid point leaves for its two streams, as terms of what it read. -/
module

public import proofs.«01_k».proof.Proof.Gen.Kernel4Ideal.Value
public import Idealize.ShloMosaic.Lib.Pointwise
public import Idealize.ShloMosaic.Lib.Pipeline.ReadBack
public import Idealize.ShloMosaic.Lib.Pipeline.ValueKit.Geometry

@[expose] public section

noncomputable section

namespace Cert.Scan

open Cert.Kernel4Ideal Cert.Kernel4Ideal.Gen Cert.Kernel4Ideal.Value Idealize.ShloMosaic Idealize.ShloMosaic.TcCoe Idealize.SL.Sem

variable {F : FTy → Type} [FloatOps F]

theorem hz3 : (![0, 0, 0] : Fin 3 → Nat) = fun _ => 0 := by decide
theorem hz2 : (![0, 0] : Fin 2 → Nat) = fun _ => 0 := by decide

/-- The state of the first of a point's two streams. -/
def stA (i : grid0.Coords) (u : Vec F S1x16x896 .f32) (x2 : Vec F S128x128 .f32) (x3 : Vec F S1x128 .f32) (st : Vec F S1x256x128 .f32) : Vec F S1x256x128 .f32 :=
  k0_pay47 (k0_pay14 st) (k0_pay17 u) (k0_pay24 (k0_pay19 u x2 x3) (Scalar.muli (BitVec.ofNat 32 ↑(i 1)) 16#32))
    (k0_pay34 (k0_pay21 (k0_pay16 u) (Scalar.muli (BitVec.ofNat 32 ↑(i 1)) 16#32)) (k0_pay22 (k0_pay19 u x2 x3) (Scalar.muli (BitVec.ofNat 32 ↑(i 1)) 16#32))
      (k0_pay24 (k0_pay19 u x2 x3) (Scalar.muli (BitVec.ofNat 32 ↑(i 1)) 16#32)))
    k0_pay42 (iota Kind.tc S256x128 32 [1] iota_S256x128_d1_w32) (32#32) k0_pay43

/-- The state of the second. -/
def stB (i : grid0.Coords) (u : Vec F S1x16x896 .f32) (x2 : Vec F S128x128 .f32) (x3 : Vec F S1x128 .f32) (st : Vec F S1x256x128 .f32) : Vec F S1x256x128 .f32 :=
  k0_pay91 (k0_pay50 st) (k0_pay53 u) (k0_pay63 (k0_pay55 u x2 x3) (k0_pay57 (BitVec.ofNat 32 ↑(i 1))) (k0_pay58 (BitVec.ofNat 32 ↑(i 1))))
    (k0_pay72 (k0_pay60 (k0_pay52 u) (k0_pay57 (BitVec.ofNat 32 ↑(i 1))) (k0_pay58 (BitVec.ofNat 32 ↑(i 1))))
      (k0_pay61 (k0_pay55 u x2 x3) (k0_pay57 (BitVec.ofNat 32 ↑(i 1))) (k0_pay58 (BitVec.ofNat 32 ↑(i 1))))
      (k0_pay63 (k0_pay55 u x2 x3) (k0_pay57 (BitVec.ofNat 32 ↑(i 1))) (k0_pay58 (BitVec.ofNat 32 ↑(i 1)))))
    k0_pay85 (iota Kind.tc S256x128 32 [1] iota_S256x128_d1_w32) (32#32) k0_pay86 k0_pay87

/-- Two slabs, the second stored last, read back. -/
theorem two {R C : Nat} (inb1 : ∀ a, (![1, 0, 0] : Fin 3 → Nat) a + (![1, R, C] : Fin 3 → Nat) a ≤ (⟨3, ![2, R, C]⟩ : Shape).size a)
    (inb0 : ∀ a, (![0, 0, 0] : Fin 3 → Nat) a + (![1, R, C] : Fin 3 → Nat) a ≤ (⟨3, ![2, R, C]⟩ : Shape).size a)
    (p q : Vec F ⟨3, ![1, R, C]⟩ .f32) (b : Fin 2) (r : Fin R) (l : Fin C) :
    View.canon (Val := Elt F) (s := ⟨3, ![2, R, C]⟩) (e := .f32) [⟨Rect.unit ![1, 0, 0] ![1, R, C] inb1, p⟩, ⟨Rect.unit ![0, 0, 0] ![1, R, C] inb0, q⟩] (ix3 b r l) = if b = 0 then q (ix3 0 r l) else p (ix3 0 r l) := by
  have e1 : (Rect.unit ![1, 0, 0] ![1, R, C] inb1 : Rect ⟨3, ![2, R, C]⟩).emb (ix3 0 r l) = ix3 1 r l := by
    funext a; apply Fin.ext
    match a with
    | 0 => rfl
    | 1 => show 0 + 1 * r.val = r.val; omega
    | 2 => show 0 + 1 * l.val = l.val; omega
  have e0 : (Rect.unit ![0, 0, 0] ![1, R, C] inb0 : Rect ⟨3, ![2, R, C]⟩).emb (ix3 0 r l) = ix3 0 r l := by
    funext a; apply Fin.ext
    match a with
    | 0 => rfl
    | 1 => show 0 + 1 * r.val = r.val; omega
    | 2 => show 0 + 1 * l.val = l.val; omega
  match b with
  | 0 =>
    have hn : ix3 0 r l ∉ (Rect.unit ![1, 0, 0] ![1, R, C] inb1 : Rect ⟨3, ![2, R, C]⟩).set := by
      intro h
      have h1 := ((Rect.mem_set_unit (s := ⟨3, ![2, R, C]⟩)).mp h 0).1
      exact absurd (show (1 : Nat) ≤ 0 from h1) (by decide)
    rw [if_pos rfl]
    have h := View.canon_cons_of_not_mem (Val := Elt F) (s := ⟨3, ![2, R, C]⟩) (e := .f32) ⟨Rect.unit ![1, 0, 0] ![1, R, C] inb1, p⟩ [⟨Rect.unit ![0, 0, 0] ![1, R, C] inb0, q⟩] hn
    refine h.trans ?_
    have h' := View.canon_cons_emb (Val := Elt F) (s := ⟨3, ![2, R, C]⟩) (e := .f32) (Rect.unit ![0, 0, 0] ![1, R, C] inb0) q [] (ix3 0 r l)
    rw [e0] at h'
    exact h'
  | 1 =>
    rw [if_neg (by decide)]
    have h' := View.canon_cons_emb (Val := Elt F) (s := ⟨3, ![2, R, C]⟩) (e := .f32) (Rect.unit ![1, 0, 0] ![1, R, C] inb1) p [⟨Rect.unit ![0, 0, 0] ![1, R, C] inb0, q⟩] (ix3 0 r l)
    rw [e1] at h'
    exact h'

/-- A slab read after the whole was stored. -/
theorem fill {S : Shape} (v : View sig .tc .vmem S .f32) {off : Fin S.rank → Nat} (inb2 : ∀ a, off a + S.size a ≤ S.size a) (hz : ∀ a, off a = 0) (Z : Vec F S .f32) (r : Rect S) :
    v.readCov [⟨Rect.unit off S.size inb2, Z⟩] r.toLoadRect = View.ld Z r :=
  View.readCov_fill v inb2 Z [] r hz

/-- The second slab read after the first was stored. -/
theorem skip {R C : Nat} (v : View sig .tc .vmem ⟨3, ![2, R, C]⟩ .f32) (inb0 : ∀ a, (![0, 0, 0] : Fin 3 → Nat) a + (![1, R, C] : Fin 3 → Nat) a ≤ (⟨3, ![2, R, C]⟩ : Shape).size a)
    (inb1 : ∀ a, (![1, 0, 0] : Fin 3 → Nat) a + (![1, R, C] : Fin 3 → Nat) a ≤ (⟨3, ![2, R, C]⟩ : Shape).size a) (p : Vec F ⟨3, ![1, R, C]⟩ .f32) (L : List (View.Piece (Elt F) ⟨3, ![2, R, C]⟩ .f32)) :
    v.readCov (⟨Rect.unit ![0, 0, 0] ![1, R, C] inb0, p⟩ :: L) (Rect.unit ![1, 0, 0] ![1, R, C] inb1).toLoadRect = v.readCov L (Rect.unit ![1, 0, 0] ![1, R, C] inb1).toLoadRect :=
  by
  refine View.readCov_skip v (Rect.unit ![0, 0, 0] ![1, R, C] inb0) p L (Rect.unit ![1, 0, 0] ![1, R, C] inb1).toLoadRect ?_
  rw [LoadRect.disj, decide_eq_true_iff]
  exact ⟨0, Or.inr (Or.inr (Or.inl (show (0 : Nat) + 1 * (1 - 1) < 1 by decide)))⟩

theorem st_A (c : Dev nD) (i : grid0.Coords) (arg2 : Memref sig .tc .vmem S2x16x896 .f32) (harg2 : arg2.IsWhole) (arg3 : Memref sig .tc .vmem S2x16x1152 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S2x256x128 .f32) (harg11 : arg11.IsWhole) (arg12 : Memref sig .tc .vmem S2x256x256 .f32) (harg12 : arg12.IsWhole) (arg13 : Memref sig .tc .vmem S2x1x256 .f32) (harg13 : arg13.IsWhole) (arg14 : Memref sig .tc .vmem S2x1x128 .f32) (harg14 : arg14.IsWhole) (arg15 : Memref sig .tc .vmem S2x8x512 .f32) (harg15 : arg15.IsWhole) (arg16 : Memref sig .tc .vmem S2x16x256 .f32) (harg16 : arg16.IsWhole) (arg17 : Memref sig .tc .vmem S2x16x256 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x1x256 .f32) (harg20 : arg20.IsWhole) (arg21 : Memref sig .tc .vmem S2x1x128 .f32) (harg21 : arg21.IsWhole) (arg22 : Memref sig .tc .vmem S2x256x128 .f32) (harg22 : arg22.IsWhole) (arg23 : Memref sig .tc .vmem S2x256x256 .f32) (harg23 : arg23.IsWhole) (arg24 : Memref sig .tc .vmem S2x1x256 .f32) (harg24 : arg24.IsWhole) (arg25 : Memref sig .tc .vmem S2x1x128 .f32) (harg25 : arg25.IsWhole) (arg26 : Memref sig .tc .vmem S2x24x512 .f32) (harg26 : arg26.IsWhole) (hc0 : cond0_0 i) (x0 : Vec F S2x16x896 .f32) (x1 : Vec F S2x16x1152 .f32) (x2 : Vec F S128x128 .f32) (x3 : Vec F S1x128 .f32) (x4 : Vec F S1x256 .f32) (x5 : Vec F S4x512 .f32) (x6 : Vec F S1x512 .f32) (x7 : Vec F S1x128 .f32) (x8 : Vec F S1x256 .f32) (x9 : Vec F S2x256x128 .f32) (x10 : Vec F S2x256x256 .f32) (x11 : Vec F S2x1x256 .f32) (x12 : Vec F S2x1x128 .f32) (x13 : Vec F S2x8x512 .f32) (b : Fin 2) (r : Fin 256) (l : Fin 128) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 (ix3 b r l) = if b = 0 then stA i (View.ld x0 (Rect.unit ![0, 0, 0] ![1, 16, 896] inb_S2x16x896_S1x16x896_0_0_0)) x2 x3 (View.ld x9 (Rect.unit ![0, 0, 0] ![1, 256, 128] inb_S2x256x128_S1x256x128_0_0_0)) (ix3 0 r l)
      else stB i (View.ld x0 (Rect.unit ![1, 0, 0] ![1, 16, 896] inb_S2x16x896_S1x16x896_1_0_0)) x2 x3 (View.ld x9 (Rect.unit ![1, 0, 0] ![1, 256, 128] inb_S2x256x128_S1x256x128_1_0_0)) (ix3 0 r l) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)]
  unfold kernelRun0_A
  dsimp only
  sl_unfold_words
  rw [two (R := 256) (C := 128), skip (R := 256) (C := 128), fill (S := S2x256x128) _ _ (by decide), fill (S := S2x256x128) _ _ (by decide)]
  simp only [shapeCast_self, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2, View.ld_unit_zero (S := S1x128) hz2]
  rw [View.ld_unit_zero (S := S2x256x128) hz3]
  rfl

end Cert.Scan

end
-- ==== Proof.ScanGla.lean ====
/- The gated linear attention's state after a stream's sixteen tokens, read at an index of the scan's body. -/
module

public import proofs.«01_k».proof.Proof.ScanOpen

@[expose] public section

noncomputable section

namespace Cert.Scan

open Cert.Kernel4Ideal Cert.Kernel4Ideal.Gen Cert.Kernel4Ideal.Value Idealize.ShloMosaic Idealize.ShloMosaic.TcCoe Idealize.SL.Sem

/-- The logarithm of the logistic function. -/
def ls (x : EReal) : EReal := min x 0 - Ideal.log (1 + Ideal.exp (0 - FloatOps.absf (F := Ideal) (φ := .f32) x))

/-- Running sums over the sixteen tokens. -/
def cum (f : Fin 16 → EReal) (t : Fin 16) : EReal := ∑ x, if x ≤ t then f x else 0

/-- One entry of the state: what was there, decayed over the block, plus the keys times the values, each decayed from its token on. -/
def glaS (s : EReal) (la k v : Fin 16 → EReal) : EReal := Ideal.exp (cum la 15) * s + ∑ x, k x * Ideal.exp (cum la 15 - cum la x) * v x

theorem real_bit : ∀ x : Fin 16, IntOp.andi (IntOp.cmpi CmpIPredicate.sge (IntOp.addi (Scalar.muli 0#32 16#32) (BitVec.ofNat 32 x.val)) 0#32)
    (IntOp.cmpi CmpIPredicate.slt (IntOp.addi (Scalar.muli 0#32 16#32) (BitVec.ofNat 32 x.val)) 16#32) = 1#1 := by decide

theorem tri_bit : ∀ t x : Fin 16, IntOp.cmpi CmpIPredicate.sge (BitVec.ofNat 32 t.val) (BitVec.ofNat 32 x.val) = if x ≤ t then 1#1 else 0#1 := by decide

theorem tri (t x : Fin 16) : (FloatOps.sitofp (F := Ideal) FTy.f32 (BitVec.setWidth 32 (IntOp.cmpi CmpIPredicate.sge (BitVec.ofNat 32 t.val) (BitVec.ofNat 32 x.val))) : EReal) = if x ≤ t then 1 else 0 := by
  rw [tri_bit]
  by_cases h : x ≤ t
  · rw [if_pos h, if_pos h]
    show (((BitVec.setWidth 32 1#1).toInt : ℝ) : EReal) = 1
    norm_num
  · rw [if_neg h, if_neg h]
    show (((BitVec.setWidth 32 0#1).toInt : ℝ) : EReal) = 0
    norm_num

theorem tri15 (x : Fin 16) : (FloatOps.sitofp (F := Ideal) FTy.f32 (BitVec.setWidth 32 (IntOp.cmpi CmpIPredicate.sge (15#32) (BitVec.ofNat 32 x.val))) : EReal) = if x ≤ 15 then 1 else 0 :=
  tri 15 x

theorem cum_eq (f : Fin 16 → EReal) (t : Fin 16) : (∑ x : Fin 16, (if x ≤ t then (1 : EReal) else 0) * f x) = cum f t := by
  unfold cum
  refine Finset.sum_congr rfl fun x _ => ?_
  by_cases h : x ≤ t
  · rw [if_pos h, if_pos h, one_mul]
  · rw [if_neg h, if_neg h, zero_mul]

theorem row_head : ∀ r : Fin 256, Scalar.select
            (IntOp.andi
              (IntOp.cmpi CmpIPredicate.ne
                (IntOp.subi (BitVec.setWidth 32 (IntOp.cmpi CmpIPredicate.sgt (BitVec.ofNat 32 ↑r) 0#32))
                  (BitVec.setWidth 32 (IntOp.cmpi CmpIPredicate.slt (BitVec.ofNat 32 ↑r) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑r) 64#32) 0#32))
            (IntOp.subi (IntOp.divsi ArithUnit.vector (BitVec.ofNat 32 ↑r) 64#32) 1#32)
            (IntOp.divsi ArithUnit.vector (BitVec.ofNat 32 ↑r) 64#32) = BitVec.ofNat 32 (r.val / 64) := by decide +kernel

theorem lane_head : ∀ l : Fin 128, Scalar.select
            (IntOp.andi
              (IntOp.cmpi CmpIPredicate.ne
                (IntOp.subi (BitVec.setWidth 32 (IntOp.cmpi CmpIPredicate.sgt (BitVec.ofNat 32 ↑l) 0#32))
                  (BitVec.setWidth 32 (IntOp.cmpi CmpIPredicate.slt (BitVec.ofNat 32 ↑l) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 ↑l) 32#32) 0#32))
            (IntOp.subi (IntOp.divsi ArithUnit.vector (BitVec.ofNat 32 ↑l) 32#32) 1#32)
            (IntOp.divsi ArithUnit.vector (BitVec.ofNat 32 ↑l) 32#32) = BitVec.ofNat 32 (l.val / 32) := by decide +kernel

theorem same_head : ∀ a b : Fin 4, IntOp.cmpi CmpIPredicate.eq (BitVec.ofNat 32 a.val) (BitVec.ofNat 32 b.val) = if a = b then 1#1 else 0#1 := by decide

theorem own_bit (r : Fin 256) (l : Fin 128) : IntOp.cmpi CmpIPredicate.eq (BitVec.ofNat 32 (r.val / 64)) (BitVec.ofNat 32 (l.val / 32)) = if r.val / 64 = l.val / 32 then 1#1 else 0#1 := by
  have h := same_head ⟨r.val / 64, by omega⟩ ⟨l.val / 32, by omega⟩
  simp only [Fin.mk.injEq] at h
  exact h

theorem sel1 (a b : EReal) : Scalar.select (1#1) a b = a := rfl

theorem sel_own (r : Fin 256) (l : Fin 128) (a b : EReal) : Scalar.select (if r.val / 64 = l.val / 32 then 1#1 else 0#1) a b = if r.val / 64 = l.val / 32 then a else b := by
  by_cases h : r.val / 64 = l.val / 32
  · rw [if_pos h, if_pos h]; rfl
  · rw [if_neg h, if_neg h]; rfl

theorem c16 : Ideal.ofBits FTy.f32 1031798784#32 = ((1 / 16 : ℝ) : EReal) := by
  simp [Ideal.ofBits, Ideal.ieee]
  rw [← EReal.coe_mul]; congr 1; norm_num

/-- The gate's logarithm at a token. -/
def laK (u : Vec Ideal S1x16x896 .f32) (x2 : Vec Ideal S128x128 .f32) (x3 : Vec Ideal S1x128 .f32) (l : Fin 128) (x : Fin 16) : EReal :=
  ls (∑ k : Fin 128, u (ix3 0 x ⟨768 + k.val, by omega⟩) * x2 (ix2 k l) + x3 (ix2 0 l)) * Ideal.ofBits FTy.f32 1031798784#32

variable (i : grid0.Coords) (u : Vec Ideal S1x16x896 .f32) (x2 : Vec Ideal S128x128 .f32) (x3 : Vec Ideal S1x128 .f32) (st : Vec Ideal S1x256x128 .f32) (r : Fin 256) (l : Fin 128)

/-- An entry of the state, on the diagonal blocks and off them. -/
def stS : EReal := st (ix3 0 r l) * Ideal.exp (cum (laK u x2 x3 l) 15)
  + if r.val / 64 = l.val / 32 then ∑ x : Fin 16, u (ix3 0 x ⟨256 + r.val, by omega⟩) * (u (ix3 0 x ⟨128 + l.val, by omega⟩) * Ideal.exp (cum (laK u x2 x3 l) 15 - cum (laK u x2 x3 l) x)) else 0

theorem stA_at : stA i u x2 x3 st (ix3 0 r l) = stS u x2 x3 st r l := by
  pointwise [stA, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  simp only [real_bit, row_head, lane_head, own_bit, sel_own, tri, tri15, sel1]
  unfold stS
  simp only [← cum_eq, laK, ls]

theorem stB_at : stB i u x2 x3 st (ix3 0 r l) = stS u x2 x3 st r l := by
  pointwise [stB, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  simp only [real_bit, row_head, lane_head, own_bit, sel_own, tri, tri15, sel1]
  unfold stS
  simp only [← cum_eq, laK, ls]

end Cert.Scan

end
-- ==== Proof.ScanIn.lean ====
/- What the scan's body finds in its windows, as entries of the arguments: the columns by stream and token, the gate's weights padded, and each head's state on its diagonal block. -/
module

public import proofs.«01_k».proof.Proof.ScanGla

@[expose] public section

noncomputable section

namespace Cert.Scan

open Cert.Kernel4Ideal Cert.Kernel4Ideal.Gen Cert.Kernel4Ideal.Value Idealize.ShloMosaic Idealize.ShloMosaic.TcCoe Idealize.SL.Sem Idealize.ShloMosaic.Tactic

variable (m : (ℓ : Loc nD τ sig) → Buf (Elt Ideal) ℓ) (c : Dev nD)

/-- The first head group's columns. -/
def SU : S128x896.Idx → EReal := m ((c : Thread nD τ).loc main_arg0)
/-- The gate's weights. -/
def SW : S16x128.Idx → EReal := m ((c : Thread nD τ).loc main_arg2)
/-- The gate's biases. -/
def SB : S128.Idx → EReal := m ((c : Thread nD τ).loc main_arg3)
/-- The states. -/
def SS : S8x4x32x64.Idx → EReal := m ((c : Thread nD τ).loc main_arg9)

theorem zero_bit : (FloatOps.sitofp (F := Ideal) FTy.f32 (0#32) : EReal) = 0 := by
  show (((0#32 : BitVec 32).toInt : ℝ) : EReal) = 0
  simp

theorem one_bit : (FloatOps.uitofp (F := Ideal) FTy.f32 (1#1) : EReal) = 1 := by
  show (((1#1 : BitVec 1).toNat : ℝ) : EReal) = 1
  simp

theorem none_bit : (FloatOps.uitofp (F := Ideal) FTy.f32 (0#1) : EReal) = 0 := by
  show (((0#1 : BitVec 1).toNat : ℝ) : EReal) = 0
  simp

theorem plus_none (x : BitVec 32) : IntOp.addi x 0#32 = x := BitVec.add_zero x

theorem V_u (b : Fin 8) (t : Fin 16) (j : Fin 896) : (V m c main_v37 : Vec Ideal S8x16x896 .f32) (ix3 b t j) = SU m c (ix2 ⟨16 * b.val + t.val, by omega⟩ j) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S8x16x896 (SU m c) shapeCasts_S128x896_S8x16x896 (ix3 b t j) = _
  pointwise []
  congr 2
  exact Fin.ext (by show b.val * 16 + t.val = 16 * b.val + t.val; omega)

theorem V_b (l : Fin 128) : (V m c main_v33 : Vec Ideal S1x128 .f32) (ix2 0 l) = SB m c (ix1 l) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S1x128 (SB m c) shapeCasts_S128_S1x128 (ix2 0 l) = _
  pointwise []

theorem V_w (k l : Fin 128) : (V m c main_v0 : Vec Ideal S128x128 .f32) (ix2 k l) = if h : k.val < 16 then SW m c (ix2 ⟨k.val, h⟩ l) else 0 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show pad S128x128 ![0, 0] ![112, 0] ![0, 0] (SW m c) (sitofp (F := Ideal) .f32 (constantI S_ 32 0#32)) pads_S16x128_S128x128_01120_000 h_S_ (ix2 k l) = _
  pointwise []
  by_cases h : k.val < 16
  · rw [dif_pos h, dif_pos h]
  · rw [dif_neg h, dif_neg h]
    exact zero_bit

theorem V_s (b : Fin 8) (r : Fin 256) (l : Fin 128) : (V m c main_v15 : Vec Ideal S8x256x128 .f32) (ix3 b r l)
    = if r.val / 64 = l.val / 32 then SS m c (ix4 b ⟨r.val / 64, by omega⟩ ⟨l.val % 32, by omega⟩ ⟨r.val % 64, by omega⟩) else 0 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S8x256x128 (mulf (F := Ideal) (broadcastInDim S8x4x64x4x32 ![0, 1, 2, 3, 4] bcast_S8x4x64x1x32_S8x4x64x4x32_0_1_2_3_4 (broadcastInDim S8x4x64x1x32 ![0, 1, 2, 4] bcast_S8x4x64x32_S8x4x64x1x32_0_1_2_4 (transpose S8x4x64x32 [0, 1, 3, 2] (SS m c) transposes_S8x4x32x64_S8x4x64x32_0_1_3_2)))
    (broadcastInDim S8x4x64x4x32 ![0, 1, 2, 3, 4] bcast_S1x4x1x4x1_S8x4x64x4x32_0_1_2_3_4 (broadcastInDim S1x4x1x4x1 ![1, 3] bcast_S4x4_S1x4x1x4x1_1_3 (uitofp (F := Ideal) .f32 (cmpi .eq (addi (iotaInDim S4x4 32 0) (broadcastInDim S4x4 ![] bcast_S_S4x4 (constantI S_ 32 0#32))) (iotaInDim S4x4 32 1))))))
    shapeCasts_S8x4x64x4x32_S8x256x128 (ix3 b r l) = _
  pointwise []
  have e := own_bit r l
  generalize SS m c (ix4 b ⟨r.val / 64, by omega⟩ ⟨l.val % 32, by omega⟩ ⟨r.val % 64, by omega⟩) = z
  rw [plus_none, e]
  by_cases h : r.val / 64 = l.val / 32
  · rw [if_pos h, if_pos h]
    exact (congrArg (_ * ·) one_bit).trans (mul_one _)
  · rw [if_neg h, if_neg h]
    exact (congrArg (_ * ·) none_bit).trans (mul_zero _)

theorem e0 : ∀ t : Fin cfg0.N, win0_0.index t = ![t.val, 0, 0] := (by decide +kernel : ∀ t : Fin grid0.N, win0_0.index t = ![t.val, 0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e9 : ∀ t : Fin cfg0.N, win0_9.index t = ![t.val, 0, 0] := (by decide +kernel : ∀ t : Fin grid0.N, win0_9.index t = ![t.val, 0, 0])
theorem e16 : ∀ t : Fin cfg0.N, win0_16.index t = ![t.val, 0, 0] := (by decide +kernel : ∀ t : Fin grid0.N, win0_16.index t = ![t.val, 0, 0])
theorem fl16 : ∀ t : Fin cfg0.N, (cfg0.win 16).flush t = true := (by decide +kernel : ∀ t : Fin grid0.N, win0_16.flush t = true)

/-- The stream that is the point's `b`-th. -/
def str (q : Fin cfg0.N) (b : Fin 2) : Fin 8 := ⟨2 * q.val + b.val, by have := lt_of_lt_of_eq q.isLt N_0; omega⟩

theorem str_of (t : Fin 8) : ∃ (q : Fin cfg0.N) (b : Fin 2), t = str q b :=
  ⟨⟨t.val / 2, lt_of_lt_of_eq (by omega) N_0.symm⟩, ⟨t.val % 2, by omega⟩, Fin.ext (by show t.val = 2 * (t.val / 2) + t.val % 2; omega)⟩

theorem b0 (q : Fin cfg0.N) (b : Fin 2) (t : Fin 16) (j : Fin 896) : (iblk m c 0 q : Vec Ideal S2x16x896 .f32) (ix3 b t j) = SU m c (ix2 ⟨16 * (str q b).val + t.val, by omega⟩ j) := by
  blk_simp [iblk]
  rw [← V_u]
  congr 1
  blk_ext [e0, str]

theorem b2 (q : Fin cfg0.N) (k l : Fin 128) : (iblk m c 2 q : Vec Ideal S128x128 .f32) (ix2 k l) = if h : k.val < 16 then SW m c (ix2 ⟨k.val, h⟩ l) else 0 := by
  blk_simp [iblk]
  rw [← V_w]
  congr 1
  blk_ext [e2]

theorem b3 (q : Fin cfg0.N) (l : Fin 128) : (iblk m c 3 q : Vec Ideal S1x128 .f32) (ix2 0 l) = SB m c (ix1 l) := by
  blk_simp [iblk]
  rw [← V_b]
  congr 1
  blk_ext [e3]

theorem b9 (q : Fin cfg0.N) (b : Fin 2) (r : Fin 256) (l : Fin 128) : (iblk m c 9 q : Vec Ideal S2x256x128 .f32) (ix3 b r l)
    = if r.val / 64 = l.val / 32 then SS m c (ix4 (str q b) ⟨r.val / 64, by omega⟩ ⟨l.val % 32, by omega⟩ ⟨r.val % 64, by omega⟩) else 0 := by
  blk_simp [iblk]
  rw [← V_s]
  congr 1
  blk_ext [e9, str]

/-- A cell of the array of states is the body's. -/
theorem cell16 (q : Fin cfg0.N) (b : Fin 2) (r : Fin 256) (l : Fin 128) : ((dats m 0 c).arrAt 16 cfg0.N : Vec Ideal S8x256x128 .f32) (ix3 (str q b) r l)
    = if b = 0 then stS (View.ld (iblk m c 0 q) (Rect.unit ![0, 0, 0] ![1, 16, 896] inb_S2x16x896_S1x16x896_0_0_0)) (iblk m c 2 q) (iblk m c 3 q) (View.ld (iblk m c 9 q) (Rect.unit ![0, 0, 0] ![1, 256, 128] inb_S2x256x128_S1x256x128_0_0_0)) r l
      else stS (View.ld (iblk m c 0 q) (Rect.unit ![1, 0, 0] ![1, 16, 896] inb_S2x16x896_S1x16x896_1_0_0)) (iblk m c 2 q) (iblk m c 3 q) (View.ld (iblk m c 9 q) (Rect.unit ![1, 0, 0] ![1, 256, 128] inb_S2x256x128_S1x256x128_1_0_0)) r l := by
  have b' := congrFun (blocks16 m c q (fl16 q)) (ix3 b r l)
  rw [flushed16_A] at b'
  have h := st_A c (grid0.coords q) (ms0_0 q) (hs0_0 q) (ms0_1 q) (hs0_1 q) (ms0_2 q) (hs0_2 q) (ms0_3 q) (hs0_3 q) (ms0_4 q) (hs0_4 q) (ms0_5 q) (hs0_5 q) (ms0_6 q) (hs0_6 q) (ms0_7 q) (hs0_7 q) (ms0_8 q) (hs0_8 q) (ms0_9 q) (hs0_9 q) (ms0_10 q) (hs0_10 q) (ms0_11 q) (hs0_11 q) (ms0_12 q) (hs0_12 q) (ms0_13 q) (hs0_13 q) (ms0_14 q) (hs0_14 q) (ms0_15 q) (hs0_15 q) (ms0_16 q) (hs0_16 q) (ms0_17 q) (hs0_17 q) (ms0_18 q) (hs0_18 q) (ms0_19 q) (hs0_19 q) scM0_0 (Memref.isWhole_whole _) scM0_1 (Memref.isWhole_whole _) scM0_2 (Memref.isWhole_whole _) scM0_3 (Memref.isWhole_whole _) scM0_4 (Memref.isWhole_whole _) (hcond0_0 q) (iblk m c 0 q) (iblk m c 1 q) (iblk m c 2 q) (iblk m c 3 q) (iblk m c 4 q) (iblk m c 5 q) (iblk m c 6 q) (iblk m c 7 q) (iblk m c 8 q) (iblk m c 9 q) (iblk m c 10 q) (iblk m c 11 q) (iblk m c 12 q) (iblk m c 13 q) b r l
  rw [stA_at, stB_at] at h
  refine Eq.trans ?_ h
  generalize out0_A_16 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = u at b' ⊢
  generalize (dats m 0 c).arrAt 16 cfg0.N = a at b' ⊢
  have b'' : a (((cfg0.win 16).blk q).view.emb (ix3 b r l)) = u (ix3 b r l) := b'
  rw [← b'']
  unfold str
  congr 1
  blk_ext [e16]

/-- Stream `n`'s columns at a token. -/
def su (n : Fin 8) (t : Fin 16) (j : Fin 896) : EReal := SU m c (ix2 ⟨16 * n.val + t.val, by omega⟩ j)

/-- The gate's logarithm at a stream's token, for a key's column. -/
def lag (n : Fin 8) (l : Fin 128) (t : Fin 16) : EReal :=
  ls (∑ k : Fin 16, su m c n t ⟨768 + k.val, by omega⟩ * SW m c (ix2 k l) + SB m c (ix1 l)) * Ideal.ofBits FTy.f32 1031798784#32

/-- The state that a stream returns, at a cell. -/
def stG (n : Fin 8) (r : Fin 256) (l : Fin 128) : EReal :=
  if r.val / 64 = l.val / 32 then
    SS m c (ix4 n ⟨r.val / 64, by omega⟩ ⟨l.val % 32, by omega⟩ ⟨r.val % 64, by omega⟩) * Ideal.exp (cum (lag m c n l) 15)
      + ∑ x : Fin 16, su m c n x ⟨256 + r.val, by omega⟩ * (su m c n x ⟨128 + l.val, by omega⟩ * Ideal.exp (cum (lag m c n l) 15 - cum (lag m c n l) x))
  else 0

theorem pad_sum (f : Fin 128 → EReal) (g : Fin 16 → EReal) : ∑ k : Fin 128, f k * (if h : k.val < 16 then g ⟨k.val, h⟩ else 0) = ∑ k : Fin 16, f ⟨k.val, by omega⟩ * g k := by
  have e : ∀ k : Fin (16 + 112), f k * (if h : k.val < 16 then g ⟨k.val, h⟩ else 0) = f k * (if h : k.val < 16 then g ⟨k.val, h⟩ else 0) := fun _ => rfl
  refine (Fin.sum_univ_add (a := 16) (b := 112) (fun k : Fin (16 + 112) => f k * (if h : k.val < 16 then g ⟨k.val, h⟩ else 0))).trans ?_
  rw [Finset.sum_eq_zero (s := (Finset.univ : Finset (Fin 112))), add_zero]
  · refine Finset.sum_congr rfl fun k _ => ?_
    rw [dif_pos (show (Fin.castAdd 112 k).val < 16 from k.isLt)]
    rfl
  · intro k _
    rw [dif_neg (show ¬ (Fin.natAdd 16 k).val < 16 by simp), mul_zero]

theorem stS_eq (n : Fin 8) (u : Vec Ideal S1x16x896 .f32) (x2 : Vec Ideal S128x128 .f32) (x3 : Vec Ideal S1x128 .f32) (st : Vec Ideal S1x256x128 .f32)
    (hu : ∀ (t : Fin 16) (j : Fin 896), u (ix3 0 t j) = su m c n t j) (h2 : ∀ k l : Fin 128, x2 (ix2 k l) = if h : k.val < 16 then SW m c (ix2 ⟨k.val, h⟩ l) else 0)
    (h3 : ∀ l : Fin 128, x3 (ix2 0 l) = SB m c (ix1 l))
    (hs : ∀ (r : Fin 256) (l : Fin 128), st (ix3 0 r l) = if r.val / 64 = l.val / 32 then SS m c (ix4 n ⟨r.val / 64, by omega⟩ ⟨l.val % 32, by omega⟩ ⟨r.val % 64, by omega⟩) else 0)
    (r : Fin 256) (l : Fin 128) : stS u x2 x3 st r l = stG m c n r l := by
  have hl : laK u x2 x3 l = lag m c n l := by
    funext t
    unfold laK lag
    simp only [hu, h2, h3]
    rw [pad_sum (fun k => su m c n t ⟨768 + k.val, by omega⟩) (fun k => SW m c (ix2 k l))]
  unfold stS stG
  rw [hl, hs]
  simp only [hu]
  by_cases h : r.val / 64 = l.val / 32
  · rw [if_pos h, if_pos h, if_pos h]
  · rw [if_neg h, if_neg h, if_neg h, zero_mul, add_zero]

/-- Every cell of the array of states. -/
theorem arr16 (n : Fin 8) (r : Fin 256) (l : Fin 128) : ((dats m 0 c).arrAt 16 cfg0.N : Vec Ideal S8x256x128 .f32) (ix3 n r l) = stG m c n r l := by
  obtain ⟨q, b, rfl⟩ := str_of n
  rw [cell16]
  by_cases hb : b = 0
  · subst hb
    rw [if_pos rfl]
    refine stS_eq m c _ _ _ _ _ (fun t j => ?_) (b2 m c q) (b3 m c q) (fun r l => ?_) r l
    · refine Eq.trans (congrArg (iblk m c 0 q : Vec Ideal S2x16x896 .f32) ?_) (b0 m c q 0 t j)
      funext a; apply Fin.ext
      match a with
      | 0 => rfl
      | 1 => show 0 + 1 * t.val = t.val; omega
      | 2 => show 0 + 1 * j.val = j.val; omega
    · refine Eq.trans (congrArg (iblk m c 9 q : Vec Ideal S2x256x128 .f32) ?_) (b9 m c q 0 r l)
      funext a; apply Fin.ext
      match a with
      | 0 => rfl
      | 1 => show 0 + 1 * r.val = r.val; omega
      | 2 => show 0 + 1 * l.val = l.val; omega
  · obtain rfl : b = 1 := by omega
    rw [if_neg hb]
    refine stS_eq m c _ _ _ _ _ (fun t j => ?_) (b2 m c q) (b3 m c q) (fun r l => ?_) r l
    · refine Eq.trans (congrArg (iblk m c 0 q : Vec Ideal S2x16x896 .f32) ?_) (b0 m c q 1 t j)
      funext a; apply Fin.ext
      match a with
      | 0 => rfl
      | 1 => show 0 + 1 * t.val = t.val; omega
      | 2 => show 0 + 1 * j.val = j.val; omega
    · refine Eq.trans (congrArg (iblk m c 9 q : Vec Ideal S2x256x128 .f32) ?_) (b9 m c q 1 r l)
      funext a; apply Fin.ext
      match a with
      | 0 => rfl
      | 1 => show 0 + 1 * r.val = r.val; omega
      | 2 => show 0 + 1 * l.val = l.val; omega

end Cert.Scan

end
-- ==== Proof.RefScan.lean ====
/- The plain gated linear attention at an index: the gate's logarithm, its running sums, and the state after the sixteen tokens. -/
module

public import proofs.«01_k».proof.Proof.Gen.Reference4Ideal.Run
public import proofs.«01_k».proof.Proof.ScanIn

@[expose] public section

noncomputable section

namespace Cert.Scan

open Cert.Reference4Ideal Cert.Reference4Ideal.Gen Cert.Reference4Ideal.Value Idealize.ShloMosaic Idealize.ShloMosaic.TcCoe Idealize.SL.Sem

/-- The gate before its logistic function. -/
def pre (u : FVec Ideal S128x896 .f32) (w : FVec Ideal S16x128 .f32) (g : FVec Ideal S128 .f32) : FVec Ideal S128x128 .f32 :=
  (addf (Host.dotGeneral dot_S128x16_S16x128_S128x128_1_0_0_1_n_n none (extractStridedSlice S128x16 ![0, 768] u slices_S128x896_S128x16_0_768) w) (broadcastInDim S128x128 ![0, 1] bcast_S1x128_S128x128_0_1 (broadcastInDim S1x128 ![1] bcast_S128_S1x128_1 g)))

/-- The gate's logarithm, by stream, token, head and key column. -/
def lar (x : FVec Ideal S128x128 .f32) : FVec Ideal S8x16x4x32 .f32 :=
  (Host.divf (shapeCast _ (Host.negf (select (cmpf .une (subf (Host.negf x) (broadcastInDim S128x128 ![] bcast_S_S128x128 (constant (F := Ideal) S_ .f32 0x00000000#32))) (subf (Host.negf x) (broadcastInDim S128x128 ![] bcast_S_S128x128 (constant (F := Ideal) S_ .f32 0x00000000#32)))) (addf (Host.negf x) (broadcastInDim S128x128 ![] bcast_S_S128x128 (constant (F := Ideal) S_ .f32 0x00000000#32))) (addf (maximumf (Host.negf x) (broadcastInDim S128x128 ![] bcast_S_S128x128 (constant (F := Ideal) S_ .f32 0x00000000#32))) (Host.log1p (Host.exp (Host.negf (Host.absf (subf (Host.negf x) (broadcastInDim S128x128 ![] bcast_S_S128x128 (constant (F := Ideal) S_ .f32 0x00000000#32)))))))))) shapeCasts_S128x128_S8x16x4x32) (broadcastInDim S8x16x4x32 ![] bcast_S_S8x16x4x32 (constant (F := Ideal) S_ .f32 0x41800000#32)))

/-- Running sums over a stream's tokens. -/
def csr (x : FVec Ideal S8x16x4x32 .f32) : FVec Ideal S8x16x4x32 .f32 :=
  (Host.reduceWindowAdd ![1, 16, 1, 1] ![1, 1, 1, 1] ![0, 15, 0, 0] ![0, 0, 0, 0] x (broadcastInDim S_ ![] bcast_S_S_ (constant (F := Ideal) S_ .f32 0x00000000#32)) reduceWindows_S8x16x4x32_S8x16x4x32_w1s1p0_0_w16s1p15_0_w1s1p0_0_w1s1p0_0 h_S_)

/-- The states after the tokens, each head's on its diagonal block. -/
def rst (u : FVec Ideal S128x896 .f32) (x : FVec Ideal S8x16x4x32 .f32) (s : FVec Ideal S8x4x32x64 .f32) : FVec Ideal S8x256x128 .f32 :=
  shapeCast _ (select (broadcastInDim S8x4x64x4x32 ![0, 1, 2, 3, 4] bcast_S1x4x1x4x1_S8x4x64x4x32_0_1_2_3_4 (broadcastInDim S1x4x1x4x1 ![1, 3] bcast_S4x4_S1x4x1x4x1_1_3 (cmpi .eq (broadcastInDim S4x4 ![0, 1] bcast_S4x1_S4x4_0_1 (broadcastInDim S4x1 ![0] bcast_S4_S4x1_0 (iotaInDim S4 32 0))) (broadcastInDim S4x4 ![0, 1] bcast_S1x4_S4x4_0_1 (broadcastInDim S1x4 ![1] bcast_S4_S1x4_1 (iotaInDim S4 32 0)))))) (broadcastInDim S8x4x64x4x32 ![0, 1, 2, 3, 4] bcast_S8x4x64x1x32_S8x4x64x4x32_0_1_2_3_4 (broadcastInDim S8x4x64x1x32 ![0, 1, 2, 4] bcast_S8x4x64x32_S8x4x64x1x32_0_1_2_4 (transpose S8x4x64x32 [0, 1, 3, 2] (addf (mulf (broadcastInDim S8x4x32x64 ![0, 1, 2, 3] bcast_S8x4x32x1_S8x4x32x64_0_1_2_3 (broadcastInDim S8x4x32x1 ![0, 1, 2] bcast_S8x4x32_S8x4x32x1_0_1_2 (Host.exp (shapeCast _ (extractStridedSlice S8x1x4x32 ![0, 15, 0, 0] (csr x) slices_S8x16x4x32_S8x1x4x32_0_15_0_0) shapeCasts_S8x1x4x32_S8x4x32)))) s) (Host.dotGeneral dot_S8x16x4x32_S8x16x4x64_S8x4x32x64_1_1_3_3_02_02 none (mulf (shapeCast _ (extractStridedSlice S128x128 ![0, 128] u slices_S128x896_S128x128_0_128) shapeCasts_S128x128_S8x16x4x32) (Host.exp (subf (broadcastInDim S8x16x4x32 ![0, 1, 2, 3] bcast_S8x1x4x32_S8x16x4x32_0_1_2_3 (broadcastInDim S8x1x4x32 ![0, 2, 3] bcast_S8x4x32_S8x1x4x32_0_2_3 (shapeCast _ (extractStridedSlice S8x1x4x32 ![0, 15, 0, 0] (csr x) slices_S8x16x4x32_S8x1x4x32_0_15_0_0) shapeCasts_S8x1x4x32_S8x4x32))) (csr x)))) (shapeCast _ (extractStridedSlice S128x256 ![0, 256] u slices_S128x896_S128x256_0_256) shapeCasts_S128x256_S8x16x4x64))) transposes_S8x4x32x64_S8x4x64x32_0_1_3_2))) (broadcastInDim S8x4x64x4x32 ![] bcast_S_S8x4x64x4x32 (id (constant (F := Ideal) S_ .f32 0x00000000#32)))) shapeCasts_S8x4x64x4x32_S8x256x128

theorem pre_at (u : FVec Ideal S128x896 .f32) (w : FVec Ideal S16x128 .f32) (g : FVec Ideal S128 .f32) (t l : Fin 128) :
    pre u w g (ix2 t l) = ∑ k : Fin 16, u (ix2 t ⟨768 + k.val, by omega⟩) * w (ix2 k l) + g (ix1 l) := by
  unfold pre
  pointwise []

theorem sixteenth (x : EReal) : Ideal.div x (Ideal.ofBits FTy.f32 1098907648#32) = x * Ideal.ofBits FTy.f32 1031798784#32 := by
  have h : Ideal.ofBits FTy.f32 1098907648#32 = ((16 : ℝ) : EReal) := by
    simp [Ideal.ofBits, Ideal.ieee]
    rw [← EReal.coe_mul]; congr 1; norm_num
  rw [c16, h]
  unfold Ideal.div
  rw [if_neg (by norm_num), ← EReal.coe_inv]
  norm_num

theorem soft (x : EReal) : -(max (-x) 0 + Ideal.log1p (Ideal.exp (-FloatOps.absf (F := Ideal) (φ := .f32) (-x)))) = ls x := by
  have ha : FloatOps.absf (F := Ideal) (φ := .f32) (-x) = FloatOps.absf (F := Ideal) (φ := .f32) x := by
    show max (-x) (- -x) = max x (-x)
    rw [neg_neg, max_comm]
  have hm : -max (-x) 0 = min x 0 := by
    rcases le_total x 0 with h | h
    · rw [max_eq_left (by rwa [← EReal.neg_le_neg_iff, neg_neg, neg_zero]), min_eq_left h, neg_neg]
    · rw [max_eq_right (by rwa [← EReal.neg_le_neg_iff, neg_neg, neg_zero]), min_eq_right h, neg_zero]
  have hl : Ideal.log (1 + Ideal.exp (-FloatOps.absf (F := Ideal) (φ := .f32) x)) ≠ ⊥ := by
    have key : ∀ y : ℝ, 0 ≤ y → Ideal.log (1 + (y : EReal)) ≠ ⊥ := by
      intro y hy
      rw [show (1 : EReal) + (y : EReal) = ((1 + y : ℝ) : EReal) by norm_cast, Ideal.log_coe, if_neg (by linarith)]
      exact EReal.coe_ne_bot _
    show Ideal.log (1 + Ideal.exp (-max x (-x))) ≠ ⊥
    induction x with
    | bot => simpa using key 0 le_rfl
    | top => simpa using key 0 le_rfl
    | coe r =>
      rw [← EReal.coe_neg, ← EReal.coe_strictMono.monotone.map_max, ← EReal.coe_neg, Ideal.exp_coe]
      exact key _ (Real.exp_pos _).le
  rw [ha]
  unfold ls Ideal.log1p
  rw [zero_sub, EReal.neg_add (Or.inl ?_) (Or.inr hl), hm]
  exact ne_of_gt (lt_of_lt_of_le EReal.bot_lt_zero (le_max_right _ _))

theorem lar_at (x : FVec Ideal S128x128 .f32) (n : Fin 8) (t : Fin 16) (h : Fin 4) (d : Fin 32) :
    lar x (ix4 n t h d) = ls (x (ix2 ⟨n.val * 16 + t.val, by omega⟩ ⟨h.val * 32 + d.val, by omega⟩)) * Ideal.ofBits FTy.f32 1031798784#32 := by
  unfold lar
  pointwise []
  rw [sixteenth, if_neg (fun h => h rfl), soft]

theorem foldl_sum {n : Nat} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, ← List.sum_ofFn, List.ofFn_eq_map]

theorem shift : ∀ t k : Fin 16, (15 ≤ t.val + k.val ↔ (t + 1) + k ≤ t) ∧ (15 ≤ t.val + k.val → t.val + k.val - 15 = ((t + 1) + k).val) := by decide

theorem window (f : Fin 16 → EReal) (t : Fin 16) : ∑ k : Fin 16, (if h : 15 ≤ t.val + k.val then f ⟨t.val + k.val - 15, by omega⟩ else 0) = cum f t := by
  unfold cum
  rw [← Equiv.sum_comp (Equiv.addLeft (t + 1)) (fun x => if x ≤ t then f x else 0)]
  refine Finset.sum_congr rfl fun k _ => ?_
  obtain ⟨h1, h2⟩ := shift t k
  show _ = if (t + 1) + k ≤ t then f ((t + 1) + k) else 0
  by_cases h : 15 ≤ t.val + k.val
  · rw [dif_pos h, if_pos (h1.1 h)]
    exact congrArg f (Fin.ext (h2 h))
  · rw [dif_neg h, if_neg (fun h' => h (h1.2 h'))]

theorem zero_word : Ideal.ofBits FTy.f32 0#32 = 0 := by simp [Ideal.ofBits, Ideal.ieee]

/-- A window's positions. -/
abbrev Win : Shape := ⟨4, ![1, 16, 1, 1]⟩

/-- A window's positions are the tokens. -/
def winE : Fin 16 ≃ Win.Idx where
  toFun k := ix4 0 k 0 0
  invFun p := p 1
  left_inv _ := rfl
  right_inv p := by
    funext a
    match a with
    | 0 => exact Subsingleton.elim (α := Fin 1) _ _
    | 1 => rfl
    | 2 => exact Subsingleton.elim (α := Fin 1) _ _
    | 3 => exact Subsingleton.elim (α := Fin 1) _ _

theorem fold_at {s t : Shape} (window strides lo hi : Fin s.rank → Nat) (x : s.Idx → EReal) (h : s.ReduceWindows window strides lo hi t) (v : EReal) (j : t.Idx) :
    Ideal.hostReduceWindowAdd window strides lo hi h x v j = v + ∑ p : (⟨s.rank, window⟩ : Shape).Idx,
      if hin : ∀ a, lo a ≤ (j (a.cast h.1.symm)).val * strides a + (p a).val ∧ (j (a.cast h.1.symm)).val * strides a + (p a).val - lo a < s.size a
        then x (fun a => ⟨(j (a.cast h.1.symm)).val * strides a + (p a).val - lo a, (hin a).2⟩) else v := by
  unfold Ideal.hostReduceWindowAdd Host.reduceWindow
  dsimp only
  rw [foldl_sum, ← Equiv.sum_comp (Shape.rowMajor ⟨s.rank, window⟩)]
  simp only [Equiv.symm_apply_apply]

theorem csr_fold (x : FVec Ideal S8x16x4x32 .f32) (j : S8x16x4x32.Idx) : csr x j = Ideal.hostReduceWindowAdd ![1, 16, 1, 1] ![1, 1, 1, 1] ![0, 15, 0, 0] ![0, 0, 0, 0] reduceWindows_S8x16x4x32_S8x16x4x32_w1s1p0_0_w16s1p15_0_w1s1p0_0_w1s1p0_0 x 0 j := by
  rw [← zero_word]
  rfl

theorem csr_at (x : FVec Ideal S8x16x4x32 .f32) (n : Fin 8) (t : Fin 16) (h : Fin 4) (d : Fin 32) :
    csr x (ix4 n t h d) = cum (fun t => x (ix4 n t h d)) t := by
  rw [← window, csr_fold, fold_at, zero_add]
  refine (Equiv.sum_comp winE _).symm.trans ?_
  refine Finset.sum_congr rfl fun k _ => ?_
  by_cases hk : 15 ≤ t.val + k.val
  · rw [dif_pos hk, dif_pos]
    · refine congrArg x ?_
      funext a; apply Fin.ext
      match a with
      | 0 => show n.val * 1 + 0 - 0 = n.val; omega
      | 1 => show t.val * 1 + k.val - 15 = t.val + k.val - 15; omega
      | 2 => show h.val * 1 + 0 - 0 = h.val; omega
      | 3 => show d.val * 1 + 0 - 0 = d.val; omega
    · intro a
      match a with
      | 0 => show 0 ≤ n.val * 1 + 0 ∧ n.val * 1 + 0 - 0 < 8; omega
      | 1 => show 15 ≤ t.val * 1 + k.val ∧ t.val * 1 + k.val - 15 < 16; omega
      | 2 => show 0 ≤ h.val * 1 + 0 ∧ h.val * 1 + 0 - 0 < 4; omega
      | 3 => show 0 ≤ d.val * 1 + 0 ∧ d.val * 1 + 0 - 0 < 32; omega
  · rw [dif_neg hk, dif_neg]
    intro ha
    have : 15 ≤ t.val * 1 + k.val := (ha 1).1
    exact hk (by omega)

theorem sel_bit (r : Fin 256) (l : Fin 128) (x y : EReal) : Scalar.select (IntOp.cmpi CmpIPredicate.eq (BitVec.ofNat 32 (r.val / 64)) (BitVec.ofNat 32 (l.val / 32))) x y = if r.val / 64 = l.val / 32 then x else y := by
  rw [own_bit r l]
  by_cases h : r.val / 64 = l.val / 32
  · rw [if_pos h, if_pos h]; rfl
  · rw [if_neg h, if_neg h]; rfl

theorem rst_at (u : FVec Ideal S128x896 .f32) (x : FVec Ideal S8x16x4x32 .f32) (s : FVec Ideal S8x4x32x64 .f32) (n : Fin 8) (r : Fin 256) (l : Fin 128) :
    rst u x s (ix3 n r l) = if r.val / 64 = l.val / 32 then
        Ideal.exp (cum (fun t => x (ix4 n t ⟨r.val / 64, by omega⟩ ⟨l.val % 32, by omega⟩)) 15) * s (ix4 n ⟨r.val / 64, by omega⟩ ⟨l.val % 32, by omega⟩ ⟨r.val % 64, by omega⟩)
          + ∑ t : Fin 16, u (ix2 ⟨n.val * 16 + t.val, by omega⟩ ⟨128 + (r.val / 64 * 32 + l.val % 32), by omega⟩)
            * Ideal.exp (cum (fun t => x (ix4 n t ⟨r.val / 64, by omega⟩ ⟨l.val % 32, by omega⟩)) 15 - cum (fun t => x (ix4 n t ⟨r.val / 64, by omega⟩ ⟨l.val % 32, by omega⟩)) t)
            * u (ix2 ⟨n.val * 16 + t.val, by omega⟩ ⟨256 + r.val, by omega⟩)
      else 0 := by
  unfold rst
  rw [id_eq]
  pointwise []
  simp only [csr_at]
  exact sel_bit r l _ _

end Cert.Scan

end
-- ==== Proof.TieScan.lean ====
/- Both sides of the scan's states are one array. -/
module

public import proofs.«01_k».proof.Proof.RefScan

@[expose] public section

noncomputable section

namespace Cert.Scan

open Cert.Reference4Ideal Cert.Reference4Ideal.Gen Cert.Reference4Ideal.Value Idealize.ShloMosaic Idealize.ShloMosaic.TcCoe Idealize.SL.Sem

/-- Both sides' states are the same. -/
theorem states (m : (ℓ : Loc Cert.Kernel4Ideal.nD Cert.Kernel4Ideal.τ Cert.Kernel4Ideal.sig) → Buf (Elt Ideal) ℓ) (c : Dev Cert.Kernel4Ideal.nD)
    (u : FVec Ideal S128x896 .f32) (w : FVec Ideal S16x128 .f32) (b : FVec Ideal S128 .f32) (s : FVec Ideal S8x4x32x64 .f32)
    (a0 : u = SU m c) (a2 : w = SW m c) (a3 : b = SB m c) (a9 : s = SS m c)
    (n : Fin 8) (r : Fin 256) (l : Fin 128) : rst u (lar (pre u w b)) s (ix3 n r l) = stG m c n r l := by
  rw [a0, a2, a3, a9, rst_at]
  unfold stG
  by_cases h : r.val / 64 = l.val / 32
  · rw [if_pos h, if_pos h]
    have hl : (fun t => lar (pre (SU m c) (SW m c) (SB m c)) (ix4 n t ⟨r.val / 64, by omega⟩ ⟨l.val % 32, by omega⟩)) = lag m c n l := by
      funext t
      have el : (⟨r.val / 64 * 32 + l.val % 32, by omega⟩ : Fin 128) = l := Fin.ext (by show r.val / 64 * 32 + l.val % 32 = l.val; omega)
      have et : (⟨n.val * 16 + t.val, by omega⟩ : Fin 128) = ⟨16 * n.val + t.val, by omega⟩ := Fin.ext (by show n.val * 16 + t.val = 16 * n.val + t.val; omega)
      rw [lar_at, pre_at, el, et]
      rfl
    rw [hl, mul_comm (Ideal.exp _)]
    refine congrArg (_ + ·) (Finset.sum_congr rfl fun t _ => ?_)
    have ek : (⟨128 + (r.val / 64 * 32 + l.val % 32), by omega⟩ : Fin 896) = ⟨128 + l.val, by omega⟩ := Fin.ext (by show 128 + (r.val / 64 * 32 + l.val % 32) = 128 + l.val; omega)
    have et : (⟨n.val * 16 + t.val, by omega⟩ : Fin 128) = ⟨16 * n.val + t.val, by omega⟩ := Fin.ext (by show n.val * 16 + t.val = 16 * n.val + t.val; omega)
    rw [ek, et, mul_comm]
    rfl
  · rw [if_neg h, if_neg h]

end Cert.Scan

end
-- ==== Proof.ScanOpenM.lean ====
/- The scan's body for the mLSTM's stabiliser: what one grid point leaves for its two streams, as terms of what it read. -/
module

public import proofs.«01_k».proof.Proof.ScanOpen

@[expose] public section

noncomputable section

namespace Cert.Scan

open Cert.Kernel4Ideal Cert.Kernel4Ideal.Gen Cert.Kernel4Ideal.Value Idealize.ShloMosaic Idealize.ShloMosaic.TcCoe Idealize.SL.Sem

variable {F : FTy → Type} [FloatOps F]

/-- The stabilisers of the first stream's tokens, head by head. -/
def msA (i : grid0.Coords) (u : Vec F S1x16x1152 .f32) (x7 : Vec F S1x128 .f32) (m0 : Vec F S1x1x128 .f32) : FVec F S64x1 .f32 :=
  k0_pay121 (k0_pay112 (k0_pay110 (k0_pay92 u) (k0_pay94 x7) (k0_pay99 (BitVec.ofNat 32 ↑(i 1))))) (k0_pay113 (k0_pay98 m0))
    (k0_pay114 (k0_pay111 (k0_pay92 u) (k0_pay94 x7) (k0_pay99 (BitVec.ofNat 32 ↑(i 1))))) (16#32) k0_pay115 k0_pay116 k0_pay117 k0_pay118

/-- The last token's, spread over the lanes. -/
def mlA (s : FVec F S64x1 .f32) : Vec F S1x1x128 .f32 :=
  k0_pay168 (k0_pay155 (iota Kind.tc S1x128 32 [1] iota_S1x128_d1_w32) s
    (k0_pay147 (iota Kind.tc S1x128 32 [1] iota_S1x128_d1_w32) s k0_pay138 (k0_pay139 s) (k0_pay143 (iota Kind.tc S1x128 32 [1] iota_S1x128_d1_w32))) (k0_pay148 s))

/-- The stabilisers of the second stream's tokens. -/
def msB (i : grid0.Coords) (u : Vec F S1x16x1152 .f32) (x7 : Vec F S1x128 .f32) (m0 : Vec F S1x1x128 .f32) : FVec F S64x1 .f32 :=
  k0_pay197 (k0_pay189 (k0_pay187 (k0_pay169 u) (k0_pay171 x7) (k0_pay176 (BitVec.ofNat 32 ↑(i 1))))) (k0_pay190 (k0_pay175 m0))
    (k0_pay191 (k0_pay186 (k0_pay169 u) (k0_pay176 (BitVec.ofNat 32 ↑(i 1)))) (k0_pay187 (k0_pay169 u) (k0_pay171 x7) (k0_pay176 (BitVec.ofNat 32 ↑(i 1)))) k0_pay188)
    (16#32) k0_pay192 k0_pay193 k0_pay194

/-- The last token's, spread over the lanes. -/
def mlB (s : FVec F S64x1 .f32) : Vec F S1x1x128 .f32 :=
  k0_pay6 (k0_pay233 (iota Kind.tc S1x128 32 [1] iota_S1x128_d1_w32) s
    (k0_pay224 (iota Kind.tc S1x128 32 [1] iota_S1x128_d1_w32) s k0_pay215 (k0_pay216 s)) (k0_pay225 s))

theorem m_A (c : Dev nD) (i : grid0.Coords) (arg2 : Memref sig .tc .vmem S2x16x896 .f32) (harg2 : arg2.IsWhole) (arg3 : Memref sig .tc .vmem S2x16x1152 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S2x256x128 .f32) (harg11 : arg11.IsWhole) (arg12 : Memref sig .tc .vmem S2x256x256 .f32) (harg12 : arg12.IsWhole) (arg13 : Memref sig .tc .vmem S2x1x256 .f32) (harg13 : arg13.IsWhole) (arg14 : Memref sig .tc .vmem S2x1x128 .f32) (harg14 : arg14.IsWhole) (arg15 : Memref sig .tc .vmem S2x8x512 .f32) (harg15 : arg15.IsWhole) (arg16 : Memref sig .tc .vmem S2x16x256 .f32) (harg16 : arg16.IsWhole) (arg17 : Memref sig .tc .vmem S2x16x256 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x1x256 .f32) (harg20 : arg20.IsWhole) (arg21 : Memref sig .tc .vmem S2x1x128 .f32) (harg21 : arg21.IsWhole) (arg22 : Memref sig .tc .vmem S2x256x128 .f32) (harg22 : arg22.IsWhole) (arg23 : Memref sig .tc .vmem S2x256x256 .f32) (harg23 : arg23.IsWhole) (arg24 : Memref sig .tc .vmem S2x1x256 .f32) (harg24 : arg24.IsWhole) (arg25 : Memref sig .tc .vmem S2x1x128 .f32) (harg25 : arg25.IsWhole) (arg26 : Memref sig .tc .vmem S2x24x512 .f32) (harg26 : arg26.IsWhole) (hc0 : cond0_0 i) (x0 : Vec F S2x16x896 .f32) (x1 : Vec F S2x16x1152 .f32) (x2 : Vec F S128x128 .f32) (x3 : Vec F S1x128 .f32) (x4 : Vec F S1x256 .f32) (x5 : Vec F S4x512 .f32) (x6 : Vec F S1x512 .f32) (x7 : Vec F S1x128 .f32) (x8 : Vec F S1x256 .f32) (x9 : Vec F S2x256x128 .f32) (x10 : Vec F S2x256x256 .f32) (x11 : Vec F S2x1x256 .f32) (x12 : Vec F S2x1x128 .f32) (x13 : Vec F S2x8x512 .f32) (b : Fin 2) (r : Fin 1) (l : Fin 128) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 (ix3 b r l) = if b = 0 then mlA (msA i (View.ld x1 (Rect.unit ![0, 0, 0] ![1, 16, 1152] inb_S2x16x1152_S1x16x1152_0_0_0)) x7 (View.ld x12 (Rect.unit ![0, 0, 0] ![1, 1, 128] inb_S2x1x128_S1x1x128_0_0_0))) (ix3 0 r l)
      else mlB (msB i (View.ld x1 (Rect.unit ![1, 0, 0] ![1, 16, 1152] inb_S2x16x1152_S1x16x1152_1_0_0)) x7 (View.ld x12 (Rect.unit ![1, 0, 0] ![1, 1, 128] inb_S2x1x128_S1x1x128_1_0_0))) (ix3 0 r l) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)]
  unfold kernelRun0_A
  dsimp only
  sl_unfold_words
  rw [two (R := 1) (C := 128)]
  simp only [shapeCast_self, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2, View.ld_unit_zero (S := S1x128) hz2]
  rw [skip (R := 1) (C := 128), fill (S := S2x1x128) _ _ (by decide), fill (S := S2x1x128) _ _ (by decide), View.ld_unit_zero (S := S2x1x128) hz3]
  rfl

end Cert.Scan

end
-- ==== Proof.ScanM.lean ====
/- The mLSTM's stabiliser after a stream's sixteen tokens, read at an index of the scan's body. -/
module

public import proofs.«01_k».proof.Proof.ScanOpenM
public import proofs.«01_k».proof.Proof.ScanGla

@[expose] public section

noncomputable section

namespace Cert.Scan

open Cert.Kernel4Ideal Cert.Kernel4Ideal.Gen Cert.Kernel4Ideal.Value Idealize.ShloMosaic Idealize.ShloMosaic.TcCoe Idealize.SL.Sem

/-- The forget gate's logarithm at a token. -/
def lfK (u : Vec Ideal S1x16x1152 .f32) (x7 : Vec Ideal S1x128 .f32) (h : Fin 4) (x : Fin 16) : EReal := ls (u (ix3 0 x ⟨1028 + h.val, by omega⟩) + x7 (ix2 0 ⟨4 + h.val, by omega⟩))

/-- The greatest of sixteen, and of the word for −∞. -/
def top (f : Fin 16 → EReal) : EReal := Finset.fold max (Ideal.ofBits FTy.f32 4286578688#32) f Finset.univ

/-- The last token's stabiliser. -/
def msK (u : Vec Ideal S1x16x1152 .f32) (x7 : Vec Ideal S1x128 .f32) (m0 : Vec Ideal S1x1x128 .f32) (h : Fin 4) : EReal :=
  max (cum (lfK u x7 h) 15 + m0 (ix3 0 0 ⟨h.val, by omega⟩)) (top fun x => cum (lfK u x7 h) 15 + (u (ix3 0 x ⟨1024 + h.val, by omega⟩) - cum (lfK u x7 h) x))

theorem sel0 (a b : EReal) : Scalar.select (0#1) a b = b := rfl

theorem last_a0 : ∀ x : Fin 16, IntOp.cmpi CmpIPredicate.sle (BitVec.ofNat 32 x.val)
      (Scalar.select (IntOp.andi (IntOp.xori (IntOp.cmpi CmpIPredicate.slt (IntOp.remsi ArithUnit.vector (15#32) (Scalar.select (Scalar.cmpi CmpIPredicate.eq 16#32 0#32) 1#32 16#32)) 0#32) (Scalar.cmpi CmpIPredicate.slt (Scalar.select (Scalar.cmpi CmpIPredicate.eq 16#32 0#32) 1#32 16#32) 0#32)) (IntOp.cmpi CmpIPredicate.ne (IntOp.remsi ArithUnit.vector (15#32) (Scalar.select (Scalar.cmpi CmpIPredicate.eq 16#32 0#32) 1#32 16#32)) 0#32))
        (IntOp.addi (IntOp.remsi ArithUnit.vector (15#32) (Scalar.select (Scalar.cmpi CmpIPredicate.eq 16#32 0#32) 1#32 16#32)) 16#32) (IntOp.remsi ArithUnit.vector (15#32) (Scalar.select (Scalar.cmpi CmpIPredicate.eq 16#32 0#32) 1#32 16#32))) = 1#1 := by decide

theorem last_b0 : ∀ x : Fin 16, IntOp.cmpi CmpIPredicate.sle (BitVec.ofNat 32 x.val)
      (Scalar.select (IntOp.andi (IntOp.xori (IntOp.cmpi CmpIPredicate.slt (IntOp.remsi ArithUnit.vector (15#32) (Scalar.select (Scalar.cmpi CmpIPredicate.eq 16#32 0#32) 1#32 16#32)) 0#32) (Scalar.cmpi CmpIPredicate.slt 16#32 0#32)) (IntOp.cmpi CmpIPredicate.ne (IntOp.remsi ArithUnit.vector (15#32) (Scalar.select (Scalar.cmpi CmpIPredicate.eq 16#32 0#32) 1#32 16#32)) 0#32))
        (IntOp.addi (IntOp.remsi ArithUnit.vector (15#32) (Scalar.select (Scalar.cmpi CmpIPredicate.eq 16#32 0#32) 1#32 16#32)) 16#32) (IntOp.remsi ArithUnit.vector (15#32) (Scalar.select (Scalar.cmpi CmpIPredicate.eq 16#32 0#32) 1#32 16#32))) = 1#1 := by decide

theorem lane_i0 : IntOp.cmpi CmpIPredicate.slt 0#32 4#32 = 1#1 := by decide

theorem lane_f0 : IntOp.cmpi CmpIPredicate.slt 4#32 4#32 = 0#1 := by decide

theorem last_a1 : ∀ x : Fin 16, IntOp.cmpi CmpIPredicate.sle (BitVec.ofNat 32 x.val)
      (Scalar.select (IntOp.andi (IntOp.xori (IntOp.cmpi CmpIPredicate.slt (IntOp.remsi ArithUnit.vector (31#32) (Scalar.select (Scalar.cmpi CmpIPredicate.eq 16#32 0#32) 1#32 16#32)) 0#32) (Scalar.cmpi CmpIPredicate.slt (Scalar.select (Scalar.cmpi CmpIPredicate.eq 16#32 0#32) 1#32 16#32) 0#32)) (IntOp.cmpi CmpIPredicate.ne (IntOp.remsi ArithUnit.vector (31#32) (Scalar.select (Scalar.cmpi CmpIPredicate.eq 16#32 0#32) 1#32 16#32)) 0#32))
        (IntOp.addi (IntOp.remsi ArithUnit.vector (31#32) (Scalar.select (Scalar.cmpi CmpIPredicate.eq 16#32 0#32) 1#32 16#32)) 16#32) (IntOp.remsi ArithUnit.vector (31#32) (Scalar.select (Scalar.cmpi CmpIPredicate.eq 16#32 0#32) 1#32 16#32))) = 1#1 := by decide

theorem last_b1 : ∀ x : Fin 16, IntOp.cmpi CmpIPredicate.sle (BitVec.ofNat 32 x.val)
      (Scalar.select (IntOp.andi (IntOp.xori (IntOp.cmpi CmpIPredicate.slt (IntOp.remsi ArithUnit.vector (31#32) (Scalar.select (Scalar.cmpi CmpIPredicate.eq 16#32 0#32) 1#32 16#32)) 0#32) (Scalar.cmpi CmpIPredicate.slt 16#32 0#32)) (IntOp.cmpi CmpIPredicate.ne (IntOp.remsi ArithUnit.vector (31#32) (Scalar.select (Scalar.cmpi CmpIPredicate.eq 16#32 0#32) 1#32 16#32)) 0#32))
        (IntOp.addi (IntOp.remsi ArithUnit.vector (31#32) (Scalar.select (Scalar.cmpi CmpIPredicate.eq 16#32 0#32) 1#32 16#32)) 16#32) (IntOp.remsi ArithUnit.vector (31#32) (Scalar.select (Scalar.cmpi CmpIPredicate.eq 16#32 0#32) 1#32 16#32))) = 1#1 := by decide

theorem lane_i1 : IntOp.cmpi CmpIPredicate.slt 1#32 4#32 = 1#1 := by decide

theorem lane_f1 : IntOp.cmpi CmpIPredicate.slt 5#32 4#32 = 0#1 := by decide

theorem last_a2 : ∀ x : Fin 16, IntOp.cmpi CmpIPredicate.sle (BitVec.ofNat 32 x.val)
      (Scalar.select (IntOp.andi (IntOp.xori (IntOp.cmpi CmpIPredicate.slt (IntOp.remsi ArithUnit.vector (47#32) (Scalar.select (Scalar.cmpi CmpIPredicate.eq 16#32 0#32) 1#32 16#32)) 0#32) (Scalar.cmpi CmpIPredicate.slt (Scalar.select (Scalar.cmpi CmpIPredicate.eq 16#32 0#32) 1#32 16#32) 0#32)) (IntOp.cmpi CmpIPredicate.ne (IntOp.remsi ArithUnit.vector (47#32) (Scalar.select (Scalar.cmpi CmpIPredicate.eq 16#32 0#32) 1#32 16#32)) 0#32))
        (IntOp.addi (IntOp.remsi ArithUnit.vector (47#32) (Scalar.select (Scalar.cmpi CmpIPredicate.eq 16#32 0#32) 1#32 16#32)) 16#32) (IntOp.remsi ArithUnit.vector (47#32) (Scalar.select (Scalar.cmpi CmpIPredicate.eq 16#32 0#32) 1#32 16#32))) = 1#1 := by decide

theorem last_b2 : ∀ x : Fin 16, IntOp.cmpi CmpIPredicate.sle (BitVec.ofNat 32 x.val)
      (Scalar.select (IntOp.andi (IntOp.xori (IntOp.cmpi CmpIPredicate.slt (IntOp.remsi ArithUnit.vector (47#32) (Scalar.select (Scalar.cmpi CmpIPredicate.eq 16#32 0#32) 1#32 16#32)) 0#32) (Scalar.cmpi CmpIPredicate.slt 16#32 0#32)) (IntOp.cmpi CmpIPredicate.ne (IntOp.remsi ArithUnit.vector (47#32) (Scalar.select (Scalar.cmpi CmpIPredicate.eq 16#32 0#32) 1#32 16#32)) 0#32))
        (IntOp.addi (IntOp.remsi ArithUnit.vector (47#32) (Scalar.select (Scalar.cmpi CmpIPredicate.eq 16#32 0#32) 1#32 16#32)) 16#32) (IntOp.remsi ArithUnit.vector (47#32) (Scalar.select (Scalar.cmpi CmpIPredicate.eq 16#32 0#32) 1#32 16#32))) = 1#1 := by decide

theorem lane_i2 : IntOp.cmpi CmpIPredicate.slt 2#32 4#32 = 1#1 := by decide

theorem lane_f2 : IntOp.cmpi CmpIPredicate.slt 6#32 4#32 = 0#1 := by decide

theorem last_a3 : ∀ x : Fin 16, IntOp.cmpi CmpIPredicate.sle (BitVec.ofNat 32 x.val)
      (Scalar.select (IntOp.andi (IntOp.xori (IntOp.cmpi CmpIPredicate.slt (IntOp.remsi ArithUnit.vector (63#32) (Scalar.select (Scalar.cmpi CmpIPredicate.eq 16#32 0#32) 1#32 16#32)) 0#32) (Scalar.cmpi CmpIPredicate.slt (Scalar.select (Scalar.cmpi CmpIPredicate.eq 16#32 0#32) 1#32 16#32) 0#32)) (IntOp.cmpi CmpIPredicate.ne (IntOp.remsi ArithUnit.vector (63#32) (Scalar.select (Scalar.cmpi CmpIPredicate.eq 16#32 0#32) 1#32 16#32)) 0#32))
        (IntOp.addi (IntOp.remsi ArithUnit.vector (63#32) (Scalar.select (Scalar.cmpi CmpIPredicate.eq 16#32 0#32) 1#32 16#32)) 16#32) (IntOp.remsi ArithUnit.vector (63#32) (Scalar.select (Scalar.cmpi CmpIPredicate.eq 16#32 0#32) 1#32 16#32))) = 1#1 := by decide

theorem last_b3 : ∀ x : Fin 16, IntOp.cmpi CmpIPredicate.sle (BitVec.ofNat 32 x.val)
      (Scalar.select (IntOp.andi (IntOp.xori (IntOp.cmpi CmpIPredicate.slt (IntOp.remsi ArithUnit.vector (63#32) (Scalar.select (Scalar.cmpi CmpIPredicate.eq 16#32 0#32) 1#32 16#32)) 0#32) (Scalar.cmpi CmpIPredicate.slt 16#32 0#32)) (IntOp.cmpi CmpIPredicate.ne (IntOp.remsi ArithUnit.vector (63#32) (Scalar.select (Scalar.cmpi CmpIPredicate.eq 16#32 0#32) 1#32 16#32)) 0#32))
        (IntOp.addi (IntOp.remsi ArithUnit.vector (63#32) (Scalar.select (Scalar.cmpi CmpIPredicate.eq 16#32 0#32) 1#32 16#32)) 16#32) (IntOp.remsi ArithUnit.vector (63#32) (Scalar.select (Scalar.cmpi CmpIPredicate.eq 16#32 0#32) 1#32 16#32))) = 1#1 := by decide

theorem lane_i3 : IntOp.cmpi CmpIPredicate.slt 3#32 4#32 = 1#1 := by decide

theorem lane_f3 : IntOp.cmpi CmpIPredicate.slt 7#32 4#32 = 0#1 := by decide

variable (i : grid0.Coords) (u : Vec Ideal S1x16x1152 .f32) (x7 : Vec Ideal S1x128 .f32) (m0 : Vec Ideal S1x1x128 .f32)

theorem msA_0 : msA i u x7 m0 (ix2 15 0) = msK u x7 m0 0 := by
  pointwise [msA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
  simp only [real_bit, tri, tri15, sel1, last_a0, lane_i0, lane_f0, sel0]
  unfold msK top
  simp only [← cum_eq, lfK, ls]
  rfl

theorem msA_1 : msA i u x7 m0 (ix2 31 0) = msK u x7 m0 1 := by
  pointwise [msA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
  simp only [real_bit, tri, tri15, sel1, last_a1, lane_i1, lane_f1, sel0]
  unfold msK top
  simp only [← cum_eq, lfK, ls]
  rfl

theorem msA_2 : msA i u x7 m0 (ix2 47 0) = msK u x7 m0 2 := by
  pointwise [msA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
  simp only [real_bit, tri, tri15, sel1, last_a2, lane_i2, lane_f2, sel0]
  unfold msK top
  simp only [← cum_eq, lfK, ls]
  rfl

theorem msA_3 : msA i u x7 m0 (ix2 63 0) = msK u x7 m0 3 := by
  pointwise [msA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
  simp only [real_bit, tri, tri15, sel1, last_a3, lane_i3, lane_f3, sel0]
  unfold msK top
  simp only [← cum_eq, lfK, ls]
  rfl

theorem msB_0 : msB i u x7 m0 (ix2 15 0) = msK u x7 m0 0 := by
  pointwise [msB, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
  simp only [real_bit, tri, tri15, sel1, last_b0, lane_i0, lane_f0, sel0]
  unfold msK top
  simp only [← cum_eq, lfK, ls]
  rfl

theorem msB_1 : msB i u x7 m0 (ix2 31 0) = msK u x7 m0 1 := by
  pointwise [msB, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
  simp only [real_bit, tri, tri15, sel1, last_b1, lane_i1, lane_f1, sel0]
  unfold msK top
  simp only [← cum_eq, lfK, ls]
  rfl

theorem msB_2 : msB i u x7 m0 (ix2 47 0) = msK u x7 m0 2 := by
  pointwise [msB, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
  simp only [real_bit, tri, tri15, sel1, last_b2, lane_i2, lane_f2, sel0]
  unfold msK top
  simp only [← cum_eq, lfK, ls]
  rfl

theorem msB_3 : msB i u x7 m0 (ix2 63 0) = msK u x7 m0 3 := by
  pointwise [msB, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
  simp only [real_bit, tri, tri15, sel1, last_b3, lane_i3, lane_f3, sel0]
  unfold msK top
  simp only [← cum_eq, lfK, ls]
  rfl

/-- The lanes of the call's result: a head's stabiliser in its lane, zero in the others. -/
def mRow (f : Fin 4 → EReal) (l : Fin 128) : EReal := if h : l.val < 4 then f ⟨l.val, h⟩ else 0

theorem lanes (a0 a1 a2 a3 : EReal) (l : Fin 128) : Scalar.select (IntOp.cmpi CmpIPredicate.eq (BitVec.ofNat 32 l.val) 3#32) a3
      (Scalar.select (IntOp.cmpi CmpIPredicate.eq (BitVec.ofNat 32 l.val) 2#32) a2
        (Scalar.select (IntOp.cmpi CmpIPredicate.eq (BitVec.ofNat 32 l.val) 1#32) a1
          (Scalar.select (IntOp.cmpi CmpIPredicate.eq (BitVec.ofNat 32 l.val) 0#32) a0 0))) = mRow ![a0, a1, a2, a3] l := by
  have key : ∀ (l : Fin 128) (k : Fin 4), IntOp.cmpi CmpIPredicate.eq (BitVec.ofNat 32 l.val) (BitVec.ofNat 32 k.val) = if l.val = k.val then 1#1 else 0#1 := by decide
  have k0 := key l 0
  have k1 := key l 1
  have k2 := key l 2
  have k3 := key l 3
  simp only [Fin.val_zero, Fin.val_one, Fin.val_two, show ((3 : Fin 4).val) = 3 from rfl] at k0 k1 k2 k3
  rw [show (0#32 : BitVec 32) = BitVec.ofNat 32 0 from rfl, k0, show (1#32 : BitVec 32) = BitVec.ofNat 32 1 from rfl, k1, show (2#32 : BitVec 32) = BitVec.ofNat 32 2 from rfl, k2, show (3#32 : BitVec 32) = BitVec.ofNat 32 3 from rfl, k3]
  unfold mRow
  obtain ⟨l, hl⟩ := l
  match l, hl with
  | 0, _ => rfl
  | 1, _ => rfl
  | 2, _ => rfl
  | 3, _ => rfl
  | n + 4, _ =>
    rw [dif_neg (show ¬ n + 4 < 4 by omega), if_neg (show ¬ n + 4 = 3 by omega), if_neg (show ¬ n + 4 = 2 by omega), if_neg (show ¬ n + 4 = 1 by omega), if_neg (show ¬ n + 4 = 0 by omega)]
    rfl

theorem vec4 (f : Fin 4 → EReal) : ![f 0, f 1, f 2, f 3] = f := by
  funext k
  match k with
  | 0 => rfl
  | 1 => rfl
  | 2 => rfl
  | 3 => rfl

theorem mlA_at (l : Fin 128) : mlA (msA i u x7 m0) (ix3 0 0 l) = mRow (msK u x7 m0) l := by
  pointwise [mlA, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  rw [msA_0, msA_1, msA_2, msA_3]
  exact (lanes _ _ _ _ l).trans (by rw [vec4])

theorem mlB_at (l : Fin 128) : mlB (msB i u x7 m0) (ix3 0 0 l) = mRow (msK u x7 m0) l := by
  pointwise [mlB, k0_pay6, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
  rw [msB_0, msB_1, msB_2, msB_3]
  exact (lanes _ _ _ _ l).trans (by rw [vec4])

end Cert.Scan

end
-- ==== Proof.ScanInM.lean ====
/- What the scan's body finds in the windows that its stabiliser takes, as entries of the arguments, and the array of stabilisers. -/
module

public import proofs.«01_k».proof.Proof.ScanIn
public import proofs.«01_k».proof.Proof.ScanM

@[expose] public section

noncomputable section

namespace Cert.Scan

open Cert.Kernel4Ideal Cert.Kernel4Ideal.Gen Cert.Kernel4Ideal.Value Idealize.ShloMosaic Idealize.ShloMosaic.TcCoe Idealize.SL.Sem Idealize.ShloMosaic.Tactic

variable (m : (ℓ : Loc nD τ sig) → Buf (Elt Ideal) ℓ) (c : Dev nD)

/-- The second head group's columns. -/
def SV : S128x1152.Idx → EReal := m ((c : Thread nD τ).loc main_arg1)
/-- The forget gate's biases. -/
def SF : S4.Idx → EReal := m ((c : Thread nD τ).loc main_arg7)
/-- The stabilisers before the tokens. -/
def SM : S8x4.Idx → EReal := m ((c : Thread nD τ).loc main_arg12)

theorem V_v (b : Fin 8) (t : Fin 16) (j : Fin 1152) : (V m c main_v38 : Vec Ideal S8x16x1152 .f32) (ix3 b t j) = SV m c (ix2 ⟨16 * b.val + t.val, by omega⟩ j) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S8x16x1152 (SV m c) shapeCasts_S128x1152_S8x16x1152 (ix3 b t j) = _
  pointwise []
  congr 2
  exact Fin.ext (by show b.val * 16 + t.val = 16 * b.val + t.val; omega)

theorem V_f (h : Fin 4) : (V m c main_v2 : Vec Ideal S1x128 .f32) (ix2 0 ⟨4 + h.val, by omega⟩) = SF m c (ix1 h) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S1x128 (pad S128 ![4] ![120] ![0] (SF m c) (sitofp (F := Ideal) .f32 (constantI S_ 32 0#32)) pads_S4_S128_41200 h_S_) shapeCasts_S128_S1x128 (ix2 0 ⟨4 + h.val, by omega⟩) = _
  pointwise []

theorem V_m (b : Fin 8) (h : Fin 4) : (V m c main_v31 : Vec Ideal S8x1x128 .f32) (ix3 b 0 ⟨h.val, by omega⟩) = SM m c (ix2 b h) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S8x1x128 (pad S8x128 ![0, 0] ![0, 124] ![0, 0] (SM m c) (sitofp (F := Ideal) .f32 (constantI S_ 32 0#32)) pads_S8x4_S8x128_000_01240 h_S_) shapeCasts_S8x128_S8x1x128 (ix3 b 0 ⟨h.val, by omega⟩) = _
  pointwise []

theorem e1 : ∀ t : Fin cfg0.N, win0_1.index t = ![t.val, 0, 0] := (by decide +kernel : ∀ t : Fin grid0.N, win0_1.index t = ![t.val, 0, 0])
theorem e7 : ∀ t : Fin cfg0.N, win0_7.index t = ![0, 0] := (by decide +kernel : ∀ t : Fin grid0.N, win0_7.index t = ![0, 0])
theorem e12 : ∀ t : Fin cfg0.N, win0_12.index t = ![t.val, 0, 0] := (by decide +kernel : ∀ t : Fin grid0.N, win0_12.index t = ![t.val, 0, 0])
theorem e19 : ∀ t : Fin cfg0.N, win0_19.index t = ![t.val, 0, 0] := (by decide +kernel : ∀ t : Fin grid0.N, win0_19.index t = ![t.val, 0, 0])
theorem fl19 : ∀ t : Fin cfg0.N, (cfg0.win 19).flush t = true := (by decide +kernel : ∀ t : Fin grid0.N, win0_19.flush t = true)

theorem b1 (q : Fin cfg0.N) (b : Fin 2) (t : Fin 16) (j : Fin 1152) : (iblk m c 1 q : Vec Ideal S2x16x1152 .f32) (ix3 b t j) = SV m c (ix2 ⟨16 * (str q b).val + t.val, by omega⟩ j) := by
  blk_simp [iblk]
  rw [← V_v]
  congr 1
  blk_ext [e1, str]

theorem b7 (q : Fin cfg0.N) (h : Fin 4) : (iblk m c 7 q : Vec Ideal S1x128 .f32) (ix2 0 ⟨4 + h.val, by omega⟩) = SF m c (ix1 h) := by
  blk_simp [iblk]
  rw [← V_f]
  congr 1
  blk_ext [e7]

theorem b12 (q : Fin cfg0.N) (b : Fin 2) (h : Fin 4) : (iblk m c 12 q : Vec Ideal S2x1x128 .f32) (ix3 b 0 ⟨h.val, by omega⟩) = SM m c (ix2 (str q b) h) := by
  blk_simp [iblk]
  rw [← V_m]
  congr 1
  blk_ext [e12, str]

/-- A cell of the array of stabilisers is the body's. -/
theorem cell19 (q : Fin cfg0.N) (b : Fin 2) (r : Fin 1) (l : Fin 128) : ((dats m 0 c).arrAt 19 cfg0.N : Vec Ideal S8x1x128 .f32) (ix3 (str q b) r l)
    = if b = 0 then mRow (msK (View.ld (iblk m c 1 q) (Rect.unit ![0, 0, 0] ![1, 16, 1152] inb_S2x16x1152_S1x16x1152_0_0_0)) (iblk m c 7 q) (View.ld (iblk m c 12 q) (Rect.unit ![0, 0, 0] ![1, 1, 128] inb_S2x1x128_S1x1x128_0_0_0))) l
      else mRow (msK (View.ld (iblk m c 1 q) (Rect.unit ![1, 0, 0] ![1, 16, 1152] inb_S2x16x1152_S1x16x1152_1_0_0)) (iblk m c 7 q) (View.ld (iblk m c 12 q) (Rect.unit ![1, 0, 0] ![1, 1, 128] inb_S2x1x128_S1x1x128_1_0_0))) l := by
  have b' := congrFun (blocks19 m c q (fl19 q)) (ix3 b r l)
  rw [flushed19_A] at b'
  have h := m_A c (grid0.coords q) (ms0_0 q) (hs0_0 q) (ms0_1 q) (hs0_1 q) (ms0_2 q) (hs0_2 q) (ms0_3 q) (hs0_3 q) (ms0_4 q) (hs0_4 q) (ms0_5 q) (hs0_5 q) (ms0_6 q) (hs0_6 q) (ms0_7 q) (hs0_7 q) (ms0_8 q) (hs0_8 q) (ms0_9 q) (hs0_9 q) (ms0_10 q) (hs0_10 q) (ms0_11 q) (hs0_11 q) (ms0_12 q) (hs0_12 q) (ms0_13 q) (hs0_13 q) (ms0_14 q) (hs0_14 q) (ms0_15 q) (hs0_15 q) (ms0_16 q) (hs0_16 q) (ms0_17 q) (hs0_17 q) (ms0_18 q) (hs0_18 q) (ms0_19 q) (hs0_19 q) scM0_0 (Memref.isWhole_whole _) scM0_1 (Memref.isWhole_whole _) scM0_2 (Memref.isWhole_whole _) scM0_3 (Memref.isWhole_whole _) scM0_4 (Memref.isWhole_whole _) (hcond0_0 q) (iblk m c 0 q) (iblk m c 1 q) (iblk m c 2 q) (iblk m c 3 q) (iblk m c 4 q) (iblk m c 5 q) (iblk m c 6 q) (iblk m c 7 q) (iblk m c 8 q) (iblk m c 9 q) (iblk m c 10 q) (iblk m c 11 q) (iblk m c 12 q) (iblk m c 13 q) b r l
  obtain rfl : r = 0 := Subsingleton.elim _ _
  rw [mlA_at, mlB_at] at h
  refine Eq.trans ?_ h
  generalize out0_A_19 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = u at b' ⊢
  generalize (dats m 0 c).arrAt 19 cfg0.N = a at b' ⊢
  have b'' : a (((cfg0.win 19).blk q).view.emb (ix3 b 0 l)) = u (ix3 b 0 l) := b'
  rw [← b'']
  unfold str
  congr 1
  blk_ext [e19]

/-- Stream `n`'s columns of the second group at a token. -/
def sv (n : Fin 8) (t : Fin 16) (j : Fin 1152) : EReal := SV m c (ix2 ⟨16 * n.val + t.val, by omega⟩ j)

/-- The forget gate's logarithm at a stream's token. -/
def lfg (n : Fin 8) (h : Fin 4) (t : Fin 16) : EReal := ls (sv m c n t ⟨1028 + h.val, by omega⟩ + SF m c (ix1 h))

/-- The stabiliser that a stream returns, for a head. -/
def mG (n : Fin 8) (h : Fin 4) : EReal :=
  max (cum (lfg m c n h) 15 + SM m c (ix2 n h)) (top fun x => cum (lfg m c n h) 15 + (sv m c n x ⟨1024 + h.val, by omega⟩ - cum (lfg m c n h) x))

theorem msK_eq (n : Fin 8) (u : Vec Ideal S1x16x1152 .f32) (x7 : Vec Ideal S1x128 .f32) (m0 : Vec Ideal S1x1x128 .f32)
    (hu : ∀ (t : Fin 16) (j : Fin 1152), u (ix3 0 t j) = sv m c n t j) (h7 : ∀ h : Fin 4, x7 (ix2 0 ⟨4 + h.val, by omega⟩) = SF m c (ix1 h))
    (hm : ∀ h : Fin 4, m0 (ix3 0 0 ⟨h.val, by omega⟩) = SM m c (ix2 n h)) : msK u x7 m0 = mG m c n := by
  funext h
  have hl : lfK u x7 h = lfg m c n h := by
    funext t
    unfold lfK lfg
    rw [hu, h7]
  unfold msK mG
  rw [hl, hm]
  simp only [hu]

/-- Every cell of the array of stabilisers. -/
theorem arr19 (n : Fin 8) (r : Fin 1) (l : Fin 128) : ((dats m 0 c).arrAt 19 cfg0.N : Vec Ideal S8x1x128 .f32) (ix3 n r l) = mRow (mG m c n) l := by
  obtain ⟨q, b, rfl⟩ := str_of n
  rw [cell19]
  by_cases hb : b = 0
  · subst hb
    rw [if_pos rfl, msK_eq m c (str q 0) _ _ _ (fun t j => ?_) (b7 m c q) (fun h => ?_)]
    · refine Eq.trans (congrArg (iblk m c 1 q : Vec Ideal S2x16x1152 .f32) ?_) (b1 m c q 0 t j)
      funext a; apply Fin.ext
      match a with
      | 0 => rfl
      | 1 => show 0 + 1 * t.val = t.val; omega
      | 2 => show 0 + 1 * j.val = j.val; omega
    · refine Eq.trans (congrArg (iblk m c 12 q : Vec Ideal S2x1x128 .f32) ?_) (b12 m c q 0 h)
      funext a; apply Fin.ext
      match a with
      | 0 => rfl
      | 1 => rfl
      | 2 => show 0 + 1 * h.val = h.val; omega
  · obtain rfl : b = 1 := by omega
    rw [if_neg hb, msK_eq m c (str q 1) _ _ _ (fun t j => ?_) (b7 m c q) (fun h => ?_)]
    · refine Eq.trans (congrArg (iblk m c 1 q : Vec Ideal S2x16x1152 .f32) ?_) (b1 m c q 1 t j)
      funext a; apply Fin.ext
      match a with
      | 0 => rfl
      | 1 => show 0 + 1 * t.val = t.val; omega
      | 2 => show 0 + 1 * j.val = j.val; omega
    · refine Eq.trans (congrArg (iblk m c 12 q : Vec Ideal S2x1x128 .f32) ?_) (b12 m c q 1 h)
      funext a; apply Fin.ext
      match a with
      | 0 => rfl
      | 1 => rfl
      | 2 => show 0 + 1 * h.val = h.val; omega

end Cert.Scan

end
-- ==== Proof.RefScanM.lean ====
/- The plain mLSTM's stabiliser at an index: the forget gate's logarithm, its running sums, and the greatest of the log weights at the last token. -/
module

public import proofs.«01_k».proof.Proof.RefScan
public import proofs.«01_k».proof.Proof.ScanInM

@[expose] public section

noncomputable section

namespace Cert.Scan

open Cert.Reference4Ideal Cert.Reference4Ideal.Gen Cert.Reference4Ideal.Value Idealize.ShloMosaic Idealize.ShloMosaic.TcCoe Idealize.SL.Sem

/-- The forget gate before its logistic function. -/
def pref (u : FVec Ideal S128x1152 .f32) (g : FVec Ideal S4 .f32) : FVec Ideal S128x4 .f32 :=
  (addf (extractStridedSlice S128x4 ![0, 1028] u slices_S128x1152_S128x4_0_1028) (broadcastInDim S128x4 ![0, 1] bcast_S1x4_S128x4_0_1 (broadcastInDim S1x4 ![1] bcast_S4_S1x4_1 g)))

/-- Its logarithm, by stream, token and head. -/
def lfr (x : FVec Ideal S128x4 .f32) : FVec Ideal S8x16x4 .f32 :=
  (shapeCast _ (Host.negf (select (cmpf .une (subf (Host.negf x) (broadcastInDim S128x4 ![] bcast_S_S128x4 (constant (F := Ideal) S_ .f32 0x00000000#32))) (subf (Host.negf x) (broadcastInDim S128x4 ![] bcast_S_S128x4 (constant (F := Ideal) S_ .f32 0x00000000#32)))) (addf (Host.negf x) (broadcastInDim S128x4 ![] bcast_S_S128x4 (constant (F := Ideal) S_ .f32 0x00000000#32))) (addf (maximumf (Host.negf x) (broadcastInDim S128x4 ![] bcast_S_S128x4 (constant (F := Ideal) S_ .f32 0x00000000#32))) (Host.log1p (Host.exp (Host.negf (Host.absf (subf (Host.negf x) (broadcastInDim S128x4 ![] bcast_S_S128x4 (constant (F := Ideal) S_ .f32 0x00000000#32)))))))))) shapeCasts_S128x4_S8x16x4)

/-- Running sums over a stream's tokens. -/
def csm (x : FVec Ideal S8x16x4 .f32) : FVec Ideal S8x16x4 .f32 :=
  Host.reduceWindowAdd ![1, 16, 1] ![1, 1, 1] ![0, 15, 0] ![0, 0, 0] x (broadcastInDim S_ ![] bcast_S_S_ (constant (F := Ideal) S_ .f32 0x00000000#32)) reduceWindows_S8x16x4_S8x16x4_w1s1p0_0_w16s1p15_0_w1s1p0_0 h_S_

/-- The input gate, by stream, token and head. -/
def igr (u : FVec Ideal S128x1152 .f32) : FVec Ideal S8x16x4 .f32 :=
  shapeCast _ (extractStridedSlice S128x4 ![0, 1024] u slices_S128x1152_S128x4_0_1024) shapeCasts_S128x4_S8x16x4

/-- The last token's stabiliser, from the running sums, the input gate and the stabiliser before. -/
def mlr (b i : FVec Ideal S8x16x4 .f32) (s : FVec Ideal S8x4 .f32) : FVec Ideal S8x4 .f32 :=
  shapeCast _ (extractStridedSlice S8x1x4 ![0, 15, 0] (maximumf (addf b (broadcastInDim S8x16x4 ![0, 1, 2] bcast_S8x1x4_S8x16x4_0_1_2 (broadcastInDim S8x1x4 ![0, 2] bcast_S8x4_S8x1x4_0_2 s))) (Host.reduce FloatOps.maximumf (select (broadcastInDim S8x16x16x4 ![0, 1, 2, 3] bcast_S1x16x16x1_S8x16x16x4_0_1_2_3 (broadcastInDim S1x16x16x1 ![1, 2] bcast_S16x16_S1x16x16x1_1_2 (select (cmpi .sge (addi (iotaInDim S16x16 32 0) (broadcastInDim S16x16 ![] bcast_S_S16x16 (constantI S_ 32 0#32))) (iotaInDim S16x16 32 1)) (broadcastInDim S16x16 ![] bcast_S_S16x16 (constantI S_ 1 1#1)) (broadcastInDim S16x16 ![] bcast_S_S16x16 (constantI S_ 1 0#1))))) (addf (subf (broadcastInDim S8x16x16x4 ![0, 1, 2, 3] bcast_S8x16x1x4_S8x16x16x4_0_1_2_3 (broadcastInDim S8x16x1x4 ![0, 1, 3] bcast_S8x16x4_S8x16x1x4_0_1_3 b)) (broadcastInDim S8x16x16x4 ![0, 1, 2, 3] bcast_S8x1x16x4_S8x16x16x4_0_1_2_3 (broadcastInDim S8x1x16x4 ![0, 2, 3] bcast_S8x16x4_S8x1x16x4_0_2_3 b))) (broadcastInDim S8x16x16x4 ![0, 1, 2, 3] bcast_S8x1x16x4_S8x16x16x4_0_1_2_3 (broadcastInDim S8x1x16x4 ![0, 2, 3] bcast_S8x16x4_S8x1x16x4_0_2_3 i))) (broadcastInDim S8x16x16x4 ![] bcast_S_S8x16x16x4 (id (constant (F := Ideal) S_ .f32 0xFF800000#32)))) (constant (F := Ideal) S_ .f32 0xFF800000#32) reducesTo_S8x16x16x4_S8x16x4_d2 h_S_)) slices_S8x16x4_S8x1x4_0_15_0) shapeCasts_S8x1x4_S8x4

theorem pref_at (u : FVec Ideal S128x1152 .f32) (g : FVec Ideal S4 .f32) (t : Fin 128) (h : Fin 4) : pref u g (ix2 t h) = u (ix2 t ⟨1028 + h.val, by omega⟩) + g (ix1 h) := by
  unfold pref
  pointwise []

theorem lfr_at (x : FVec Ideal S128x4 .f32) (n : Fin 8) (t : Fin 16) (h : Fin 4) : lfr x (ix3 n t h) = ls (x (ix2 ⟨n.val * 16 + t.val, by omega⟩ h)) := by
  unfold lfr
  pointwise []
  rw [if_neg (fun h => h rfl), soft]

theorem igr_at (u : FVec Ideal S128x1152 .f32) (n : Fin 8) (t : Fin 16) (h : Fin 4) : igr u (ix3 n t h) = u (ix2 ⟨n.val * 16 + t.val, by omega⟩ ⟨1024 + h.val, by omega⟩) := by
  unfold igr
  pointwise []

/-- A window's positions. -/
abbrev Win3 : Shape := ⟨3, ![1, 16, 1]⟩

/-- A window's positions are the tokens. -/
def winE3 : Fin 16 ≃ Win3.Idx where
  toFun k := ix3 0 k 0
  invFun p := p 1
  left_inv _ := rfl
  right_inv p := by
    funext a
    match a with
    | 0 => exact Subsingleton.elim (α := Fin 1) _ _
    | 1 => rfl
    | 2 => exact Subsingleton.elim (α := Fin 1) _ _

theorem csm_fold (x : FVec Ideal S8x16x4 .f32) (j : S8x16x4.Idx) : csm x j = Ideal.hostReduceWindowAdd ![1, 16, 1] ![1, 1, 1] ![0, 15, 0] ![0, 0, 0] reduceWindows_S8x16x4_S8x16x4_w1s1p0_0_w16s1p15_0_w1s1p0_0 x 0 j := by
  rw [← zero_word]
  rfl

theorem csm_at (x : FVec Ideal S8x16x4 .f32) (n : Fin 8) (t : Fin 16) (h : Fin 4) : csm x (ix3 n t h) = cum (fun t => x (ix3 n t h)) t := by
  rw [← window, csm_fold, fold_at, zero_add]
  refine (Equiv.sum_comp winE3 _).symm.trans ?_
  refine Finset.sum_congr rfl fun k _ => ?_
  by_cases hk : 15 ≤ t.val + k.val
  · rw [dif_pos hk, dif_pos]
    · refine congrArg x ?_
      funext a; apply Fin.ext
      match a with
      | 0 => show n.val * 1 + 0 - 0 = n.val; omega
      | 1 => show t.val * 1 + k.val - 15 = t.val + k.val - 15; omega
      | 2 => show h.val * 1 + 0 - 0 = h.val; omega
    · intro a
      match a with
      | 0 => show 0 ≤ n.val * 1 + 0 ∧ n.val * 1 + 0 - 0 < 8; omega
      | 1 => show 15 ≤ t.val * 1 + k.val ∧ t.val * 1 + k.val - 15 < 16; omega
      | 2 => show 0 ≤ h.val * 1 + 0 ∧ h.val * 1 + 0 - 0 < 4; omega
  · rw [dif_neg hk, dif_neg]
    intro ha
    have : 15 ≤ t.val * 1 + k.val := (ha 1).1
    exact hk (by omega)

theorem last_row : ∀ x : Fin 16, Scalar.select (IntOp.cmpi CmpIPredicate.sge (IntOp.addi 15#32 0#32) (BitVec.ofNat 32 x.val)) 1#1 0#1 = 1#1 := by decide

theorem mlr_at (b i : FVec Ideal S8x16x4 .f32) (s : FVec Ideal S8x4 .f32) (n : Fin 8) (h : Fin 4) :
    mlr b i s (ix2 n h) = max (b (ix3 n 15 h) + s (ix2 n h)) (top fun x => b (ix3 n 15 h) + (i (ix3 n x h) - b (ix3 n x h))) := by
  unfold mlr
  rw [id_eq]
  pointwise []
  refine congrArg (max _ ·) (congrArg (fun f => Finset.fold max _ f Finset.univ) (funext fun x => ?_))
  rw [last_row x, sel1, sub_eq_add_neg, sub_eq_add_neg, add_assoc, add_comm (-_)]

end Cert.Scan

end
-- ==== Proof.ScanConv.lean ====
/- The convolution's buffer: sixteen rows read at an offset, after a stream's tokens were stored behind the eight rows it started with. -/
module

public import proofs.«01_k».proof.Proof.ScanOpen

@[expose] public section

noncomputable section

namespace Cert.Scan

open Cert.Kernel4Ideal Cert.Kernel4Ideal.Gen Cert.Kernel4Ideal.Value Idealize.ShloMosaic Idealize.ShloMosaic.TcCoe Idealize.SL.Sem

variable {F : FTy → Type} [FloatOps F]

/-- Sixteen rows from row `a` of a stream's buffer: its last rows before, then its tokens. -/
def rows (X : Vec F S2x8x512 .f32) (b : Fin 2) (p : FVec F S16x512 .f32) (a : Nat) (ha : a ≤ 8) : FVec F S16x512 .f32 := fun j =>
  if h : a + (j 0).val < 8 then X (ix3 b ⟨a + (j 0).val, h⟩ (j 1)) else p (ix2 ⟨a + (j 0).val - 8, by have : (j 0).val < 16 := (j 0).isLt; omega⟩ (j 1))

theorem rows_at (X : Vec F S2x8x512 .f32) (b : Fin 2) (p : FVec F S16x512 .f32) (a : Nat) (ha : a ≤ 8) (t : Fin 16) (l : Fin 512) :
    rows X b p a ha (ix2 t l) = if h : a + t.val < 8 then X (ix3 b ⟨a + t.val, h⟩ l) else p (ix2 ⟨a + t.val - 8, by omega⟩ l) := rfl

section
variable {b : Nat} (i0 : ∀ a, (![b, 0, 0] : Fin 3 → Nat) a + (![1, 24, 512] : Fin 3 → Nat) a ≤ S2x24x512.size a)
  (i8 : ∀ a, (![8, 0] : Fin 2 → Nat) a + (![16, 512] : Fin 2 → Nat) a ≤ S24x512.size a)
  (c0 : (![1, 24, 512] : Fin 3 → Nat) 0 = 1) (cs : ∀ i : Fin 2, (![1, 24, 512] : Fin 3 → Nat) i.succ = S24x512.size i)
  (w0 : ∀ a, (Rect.unit (s := S2x24x512) ![b, 0, 0] ![1, 24, 512] i0).stride a = 1)

/-- Where a stream's tokens are stored. -/
abbrev slot : Rect S2x24x512 := (Rect.unit (s := S2x24x512) ![b, 0, 0] ![1, 24, 512] i0).within ((Rect.unit (s := S24x512) ![8, 0] ![16, 512] i8).consLift ![1, 24, 512] c0 cs) w0

theorem slot_hit (hp) (p : FVec F S16x512 .f32) (M : List (View.Piece (Elt F) S2x24x512 .f32)) (hb : b < 2) (t : Fin 16) (l : Fin 512) :
    View.canon (⟨slot i0 i8 c0 cs w0, Rect.payAlong (r := Rect.unit (s := S24x512) ![8, 0] ![16, 512] i8) hp p⟩ :: M) (ix3 (⟨b, hb⟩ : Fin 2) (⟨8 + t.val, by omega⟩ : Fin 24) l) = p (ix2 t l) := by
  let y : (slot i0 i8 c0 cs w0).shape.Idx := fun a => ⟨(![0, t.val, l.val] : Fin 3 → Nat) a, by
    match a with
    | 0 => show 0 < 1; omega
    | 1 => show t.val < 16; omega
    | 2 => show l.val < 512; omega⟩
  have e : (slot i0 i8 c0 cs w0).emb y = ix3 (⟨b, hb⟩ : Fin 2) (⟨8 + t.val, by omega⟩ : Fin 24) l := by
    funext a; apply Fin.ext
    match a with
    | 0 => show b + 0 + 1 * 0 = b; omega
    | 1 => show 0 + 8 + 1 * t.val = 8 + t.val; omega
    | 2 => show 0 + 0 + 1 * l.val = l.val; omega
  rw [← e, View.canon_cons_emb]
  refine Rect.payAlong_consLift (Rect.unit (s := S24x512) ![8, 0] ![16, 512] i8) ![1, 24, 512] c0 cs p hp y (ix2 t l) fun i => ?_
  match i with
  | 0 => rfl
  | 1 => rfl

theorem slot_miss (w) (M : List (View.Piece (Elt F) S2x24x512 .f32)) (hb : b < 2) (r : Fin 8) (l : Fin 512) :
    View.canon (⟨slot i0 i8 c0 cs w0, w⟩ :: M) (ix3 (⟨b, hb⟩ : Fin 2) (⟨r.val, by omega⟩ : Fin 24) l) = View.canon M (ix3 (⟨b, hb⟩ : Fin 2) (⟨r.val, by omega⟩ : Fin 24) l) := by
  refine View.canon_cons_of_not_mem _ M ?_
  intro hm
  obtain ⟨k, _, e⟩ := (LoadRect.mem_set _).mp hm 1
  have e' : r.val = 0 + 8 + 1 * k := e
  omega

theorem rd (v : View sig .tc .vmem S2x24x512 .f32) (hp) (p : FVec F S16x512 .f32) (M : List (View.Piece (Elt F) S2x24x512 .f32)) (hb : b < 2) (X : Vec F S2x8x512 .f32)
    (hM : ∀ (r : Fin 8) (l : Fin 512), View.canon M (ix3 (⟨b, hb⟩ : Fin 2) (⟨r.val, by omega⟩ : Fin 24) l) = X (ix3 ⟨b, hb⟩ r l))
    (a : Nat) (ha : a ≤ 8) (ia : ∀ x, (![a, 0] : Fin 2 → Nat) x + (![16, 512] : Fin 2 → Nat) x ≤ S24x512.size x) (hR) :
    LoadRect.valAlong (lr := (Rect.unit (s := S24x512) ![a, 0] ![16, 512] ia).toLoadRect) hR (v.readCov (⟨slot i0 i8 c0 cs w0, Rect.payAlong (r := Rect.unit (s := S24x512) ![8, 0] ![16, 512] i8) hp p⟩ :: M) ((Rect.unit (s := S2x24x512) ![b, 0, 0] ![1, 24, 512] i0).withinL ((Rect.unit (s := S24x512) ![a, 0] ![16, 512] ia).toLoadRect.consLift ![1, 24, 512] c0 cs) w0))
      = rows X ⟨b, hb⟩ p a ha := by
  funext j
  obtain ⟨t, l, rfl⟩ : ∃ (t : Fin 16) (l : Fin 512), j = ix2 t l := ⟨j 0, j 1, eq_ix2 j⟩
  rw [rows_at, View.readCov_eq_canon']
  have e : ((Rect.unit (s := S2x24x512) ![b, 0, 0] ![1, 24, 512] i0).withinL ((Rect.unit (s := S24x512) ![a, 0] ![16, 512] ia).toLoadRect.consLift ![1, 24, 512] c0 cs) w0).idx
      (Shape.reshapeEquiv hR (ix2 t l)) = ix3 (⟨b, hb⟩ : Fin 2) (⟨a + t.val, by omega⟩ : Fin 24) l := by
    have hx : Shape.reshapeEquiv hR (ix2 t l) = Fin.cons ⟨0, Nat.one_pos⟩ (ix2 t l) := Shape.reshapeEquiv_cons_one (d := ![16, 512]) _ _
    rw [hx]
    funext x; apply Fin.ext
    match x with
    | 0 => show b + 0 + 1 * 0 = b; omega
    | 1 => show 0 + a + 1 * t.val = a + t.val; omega
    | 2 => show 0 + 0 + 1 * l.val = l.val; omega
  show View.canon _ (((Rect.unit (s := S2x24x512) ![b, 0, 0] ![1, 24, 512] i0).withinL ((Rect.unit (s := S24x512) ![a, 0] ![16, 512] ia).toLoadRect.consLift ![1, 24, 512] c0 cs) w0).idx
      (Shape.reshapeEquiv hR (ix2 t l))) = _
  rw [e]
  by_cases h : a + t.val < 8
  · rw [dif_pos h]
    exact (slot_miss i0 i8 c0 cs w0 _ M hb ⟨a + t.val, h⟩ l).trans (hM _ _)
  · rw [dif_neg h]
    have e8 : (⟨a + t.val, by omega⟩ : Fin 24) = ⟨8 + (⟨a + t.val - 8, by omega⟩ : Fin 16).val, by omega⟩ := Fin.ext (by show a + t.val = 8 + (a + t.val - 8); omega)
    rw [e8]
    exact slot_hit i0 i8 c0 cs w0 hp p M hb _ l

end

theorem base (ix : ∀ a, (![0, 0, 0] : Fin 3 → Nat) a + (![2, 8, 512] : Fin 3 → Nat) a ≤ S2x24x512.size a) (X : Vec F S2x8x512 .f32) (b : Fin 2) (r : Fin 8) (l : Fin 512) :
    View.canon (Val := Elt F) (s := S2x24x512) (e := .f32) [⟨Rect.unit ![0, 0, 0] ![2, 8, 512] ix, X⟩] (ix3 b (⟨r.val, by omega⟩ : Fin 24) l) = X (ix3 b r l) := by
  have e : (Rect.unit ![0, 0, 0] ![2, 8, 512] ix : Rect S2x24x512).emb (ix3 b r l) = ix3 b (⟨r.val, by omega⟩ : Fin 24) l := by
    funext a; apply Fin.ext
    match a with
    | 0 => show 0 + 1 * b.val = b.val; omega
    | 1 => show 0 + 1 * r.val = r.val; omega
    | 2 => show 0 + 1 * l.val = l.val; omega
  rw [← e]
  exact View.canon_cons_emb (Val := Elt F) (s := S2x24x512) (e := .f32) (Rect.unit ![0, 0, 0] ![2, 8, 512] ix) X [] (ix3 b r l)

/-- Rows stored in the first stream's slab are not the second's. -/
theorem other {off : Fin 2 → Nat} {size : Fin 2 → Nat} (i0 : ∀ a, (![0, 0, 0] : Fin 3 → Nat) a + (![1, 24, 512] : Fin 3 → Nat) a ≤ S2x24x512.size a)
    (i8 : ∀ a, off a + size a ≤ S24x512.size a) (c0 : (![1, 24, 512] : Fin 3 → Nat) 0 = 1) (cs : ∀ i : Fin 2, (![1, 24, 512] : Fin 3 → Nat) i.succ = S24x512.size i)
    (w0 : ∀ a, (Rect.unit (s := S2x24x512) ![0, 0, 0] ![1, 24, 512] i0).stride a = 1) (w) (M : List (View.Piece (Elt F) S2x24x512 .f32)) (r : Fin 24) (l : Fin 512) :
    View.canon (⟨(Rect.unit (s := S2x24x512) ![0, 0, 0] ![1, 24, 512] i0).within ((Rect.unit (s := S24x512) off size i8).consLift ![1, 24, 512] c0 cs) w0, w⟩ :: M) (ix3 (1 : Fin 2) r l) = View.canon M (ix3 (1 : Fin 2) r l) := by
  refine View.canon_cons_of_not_mem _ M ?_
  intro hm
  obtain ⟨k, hk, e⟩ := (LoadRect.mem_set _).mp hm 0
  have e' : 1 = 0 + 0 + 1 * k := e
  have hk' : k < 1 := hk
  omega

/-- The first stream's rows. -/
theorem rdA (i0 : ∀ a, (![0, 0, 0] : Fin 3 → Nat) a + (![1, 24, 512] : Fin 3 → Nat) a ≤ S2x24x512.size a)
    (i8 : ∀ a, (![8, 0] : Fin 2 → Nat) a + (![16, 512] : Fin 2 → Nat) a ≤ S24x512.size a)
    (c0 : (![1, 24, 512] : Fin 3 → Nat) 0 = 1) (cs : ∀ i : Fin 2, (![1, 24, 512] : Fin 3 → Nat) i.succ = S24x512.size i)
    (w0 : ∀ a, (Rect.unit (s := S2x24x512) ![0, 0, 0] ![1, 24, 512] i0).stride a = 1) (v : View sig .tc .vmem S2x24x512 .f32) (hp) (p : FVec F S16x512 .f32)
    (ix : ∀ a, (![0, 0, 0] : Fin 3 → Nat) a + (![2, 8, 512] : Fin 3 → Nat) a ≤ S2x24x512.size a) (X : Vec F S2x8x512 .f32)
    (a : Nat) (ia : ∀ x, (![a, 0] : Fin 2 → Nat) x + (![16, 512] : Fin 2 → Nat) x ≤ S24x512.size x) (hR) :
    LoadRect.valAlong (lr := (Rect.unit (s := S24x512) ![a, 0] ![16, 512] ia).toLoadRect) hR (v.readCov [⟨slot i0 i8 c0 cs w0, Rect.payAlong (r := Rect.unit (s := S24x512) ![8, 0] ![16, 512] i8) hp p⟩, ⟨Rect.unit ![0, 0, 0] ![2, 8, 512] ix, X⟩]
        ((Rect.unit (s := S2x24x512) ![0, 0, 0] ![1, 24, 512] i0).withinL ((Rect.unit (s := S24x512) ![a, 0] ![16, 512] ia).toLoadRect.consLift ![1, 24, 512] c0 cs) w0))
      = rows X 0 p a (by have h : a + 16 ≤ 24 := ia 0; omega) :=
  rd i0 i8 c0 cs w0 v hp p _ (by decide) X (fun r l => base ix X 0 r l) a _ ia hR

/-- The second stream's, stored after the first's. -/
theorem rdB (i0 : ∀ a, (![1, 0, 0] : Fin 3 → Nat) a + (![1, 24, 512] : Fin 3 → Nat) a ≤ S2x24x512.size a)
    (j0 : ∀ a, (![0, 0, 0] : Fin 3 → Nat) a + (![1, 24, 512] : Fin 3 → Nat) a ≤ S2x24x512.size a)
    (i8 : ∀ a, (![8, 0] : Fin 2 → Nat) a + (![16, 512] : Fin 2 → Nat) a ≤ S24x512.size a)
    (j8 : ∀ a, (![0, 0] : Fin 2 → Nat) a + (![8, 512] : Fin 2 → Nat) a ≤ S24x512.size a)
    (c0 : (![1, 24, 512] : Fin 3 → Nat) 0 = 1) (cs : ∀ i : Fin 2, (![1, 24, 512] : Fin 3 → Nat) i.succ = S24x512.size i)
    (w0 : ∀ a, (Rect.unit (s := S2x24x512) ![1, 0, 0] ![1, 24, 512] i0).stride a = 1)
    (v0 : ∀ a, (Rect.unit (s := S2x24x512) ![0, 0, 0] ![1, 24, 512] j0).stride a = 1) (v : View sig .tc .vmem S2x24x512 .f32) (hp) (p : FVec F S16x512 .f32) (w1) (w2)
    (ix : ∀ a, (![0, 0, 0] : Fin 3 → Nat) a + (![2, 8, 512] : Fin 3 → Nat) a ≤ S2x24x512.size a) (X : Vec F S2x8x512 .f32)
    (a : Nat) (ia : ∀ x, (![a, 0] : Fin 2 → Nat) x + (![16, 512] : Fin 2 → Nat) x ≤ S24x512.size x) (hR) :
    LoadRect.valAlong (lr := (Rect.unit (s := S24x512) ![a, 0] ![16, 512] ia).toLoadRect) hR (v.readCov [⟨slot i0 i8 c0 cs w0, Rect.payAlong (r := Rect.unit (s := S24x512) ![8, 0] ![16, 512] i8) hp p⟩,
        ⟨(Rect.unit (s := S2x24x512) ![0, 0, 0] ![1, 24, 512] j0).within ((Rect.unit (s := S24x512) ![0, 0] ![8, 512] j8).consLift ![1, 24, 512] c0 cs) v0, w1⟩, ⟨slot j0 i8 c0 cs v0, w2⟩, ⟨Rect.unit ![0, 0, 0] ![2, 8, 512] ix, X⟩]
        ((Rect.unit (s := S2x24x512) ![1, 0, 0] ![1, 24, 512] i0).withinL ((Rect.unit (s := S24x512) ![a, 0] ![16, 512] ia).toLoadRect.consLift ![1, 24, 512] c0 cs) w0))
      = rows X 1 p a (by have h : a + 16 ≤ 24 := ia 0; omega) :=
  rd i0 i8 c0 cs w0 v hp p _ (by decide) X (fun r l => (other j0 j8 c0 cs v0 w1 _ _ l).trans ((other j0 i8 c0 cs v0 w2 _ _ l).trans (base ix X 1 r l))) a _ ia hR

end Cert.Scan

end
-- ==== Proof.ScanOpenN.lean ====
/- The scan's body for the mLSTM's matrix state and normaliser: what one grid point leaves for its two streams, as terms of what it read. -/
module

public import proofs.«01_k».proof.Proof.ScanConv
public import proofs.«01_k».proof.Proof.ScanOpenM

@[expose] public section

noncomputable section

namespace Cert.Scan

open Cert.Kernel4Ideal Cert.Kernel4Ideal.Gen Cert.Kernel4Ideal.Value Idealize.ShloMosaic Idealize.ShloMosaic.TcCoe Idealize.SL.Sem

variable {F : FTy → Type} [FloatOps F]

/-- The first stream's convolution. -/
def cvA (i : grid0.Coords) (u : Vec F S1x16x1152 .f32) (x5 : Vec F S4x512 .f32) (x6 : Vec F S1x512 .f32) (X : Vec F S2x8x512 .f32) : FVec F S16x512 .f32 :=
  k0_pay101 x5 (k0_pay93 x6) (rows X 0 (k0_pay100 (BitVec.ofNat 32 ↑(i 1)) (k0_pay92 u)) 5 (by decide)) (rows X 0 (k0_pay100 (BitVec.ofNat 32 ↑(i 1)) (k0_pay92 u)) 6 (by decide))
    (rows X 0 (k0_pay100 (BitVec.ofNat 32 ↑(i 1)) (k0_pay92 u)) 7 (by decide)) (rows X 0 (k0_pay100 (BitVec.ofNat 32 ↑(i 1)) (k0_pay92 u)) 8 (by decide))

/-- Its keys, each weighted by its token and head. -/
def kwA (i : grid0.Coords) (u : Vec F S1x16x1152 .f32) (x7 : Vec F S1x128 .f32) (cv : FVec F S16x512 .f32) (s : FVec F S64x1 .f32) : FVec F S16x256 .f32 :=
  k0_pay156 (k0_pay105 cv) (k0_pay109 (k0_pay92 u) (k0_pay99 (BitVec.ofNat 32 ↑(i 1)))) (k0_pay110 (k0_pay92 u) (k0_pay94 x7) (k0_pay99 (BitVec.ofNat 32 ↑(i 1)))) (k0_pay112 (k0_pay110 (k0_pay92 u) (k0_pay94 x7) (k0_pay99 (BitVec.ofNat 32 ↑(i 1))))) s (k0_pay137 (iota Kind.tc S1x256 32 [1] iota_S1x256_d1_w32) (64#32) k0_pay135 k0_pay136 0#32)
    (k0_pay151 (k0_pay109 (k0_pay92 u) (k0_pay99 (BitVec.ofNat 32 ↑(i 1)))) (k0_pay110 (k0_pay92 u) (k0_pay94 x7) (k0_pay99 (BitVec.ofNat 32 ↑(i 1)))) (k0_pay112 (k0_pay110 (k0_pay92 u) (k0_pay94 x7) (k0_pay99 (BitVec.ofNat 32 ↑(i 1))))) s (k0_pay137 (iota Kind.tc S1x256 32 [1] iota_S1x256_d1_w32) (64#32) k0_pay135 k0_pay136 0#32)
      (k0_pay141 (k0_pay109 (k0_pay92 u) (k0_pay99 (BitVec.ofNat 32 ↑(i 1)))) (k0_pay110 (k0_pay92 u) (k0_pay94 x7) (k0_pay99 (BitVec.ofNat 32 ↑(i 1)))) (k0_pay112 (k0_pay110 (k0_pay92 u) (k0_pay94 x7) (k0_pay99 (BitVec.ofNat 32 ↑(i 1))))) s (iota Kind.tc S1x256 32 [1] iota_S1x256_d1_w32) (64#32) k0_pay135 k0_pay136 0#32))

/-- The decay of what was there, by head. -/
def slA (i : grid0.Coords) (u : Vec F S1x16x1152 .f32) (x7 : Vec F S1x128 .f32) (m0 : Vec F S1x1x128 .f32) (s : FVec F S64x1 .f32) : FVec F S1x256 .f32 :=
  k0_pay154 (k0_pay98 m0) (k0_pay112 (k0_pay110 (k0_pay92 u) (k0_pay94 x7) (k0_pay99 (BitVec.ofNat 32 ↑(i 1))))) s (k0_pay137 (iota Kind.tc S1x256 32 [1] iota_S1x256_d1_w32) (64#32) k0_pay135 k0_pay136 0#32)
    (k0_pay146 (k0_pay98 m0) (k0_pay112 (k0_pay110 (k0_pay92 u) (k0_pay94 x7) (k0_pay99 (BitVec.ofNat 32 ↑(i 1))))) s (k0_pay137 (iota Kind.tc S1x256 32 [1] iota_S1x256_d1_w32) (64#32) k0_pay135 k0_pay136 0#32) (k0_pay142 (k0_pay98 m0) (k0_pay112 (k0_pay110 (k0_pay92 u) (k0_pay94 x7) (k0_pay99 (BitVec.ofNat 32 ↑(i 1))))) s (iota Kind.tc S1x256 32 [1] iota_S1x256_d1_w32) (64#32) k0_pay135 k0_pay136 0#32))
    (k0_pay150 (k0_pay98 m0) (k0_pay112 (k0_pay110 (k0_pay92 u) (k0_pay94 x7) (k0_pay99 (BitVec.ofNat 32 ↑(i 1))))) s) 2#32

/-- Its normaliser. -/
def nA (n0 : Vec F S1x1x256 .f32) (kw : FVec F S16x256 .f32) (sl : FVec F S1x256 .f32) : Vec F S1x1x256 .f32 := k0_pay167 kw (k0_pay160 (k0_pay97 n0) sl)

/-- Its matrix state. -/
def cA (u : Vec F S1x16x1152 .f32) (c0 : Vec F S1x256x256 .f32) (kw : FVec F S16x256 .f32) (sl : FVec F S1x256 .f32) : Vec F S1x256x256 .f32 :=
  k0_pay166 (k0_pay159 (k0_pay96 c0) (k0_pay106 (k0_pay92 u)) sl kw (iota Kind.tc S256x256 32 [0] iota_S256x256_d0_w32) (64#32) k0_pay157 k0_pay158 0#32)

/-- The second stream's convolution. -/
def cvB (i : grid0.Coords) (u : Vec F S1x16x1152 .f32) (x5 : Vec F S4x512 .f32) (x6 : Vec F S1x512 .f32) (X : Vec F S2x8x512 .f32) : FVec F S16x512 .f32 :=
  k0_pay178 x5 (k0_pay170 x6) (rows X 1 (k0_pay177 (BitVec.ofNat 32 ↑(i 1)) (k0_pay169 u)) 5 (by decide)) (rows X 1 (k0_pay177 (BitVec.ofNat 32 ↑(i 1)) (k0_pay169 u)) 6 (by decide))
    (rows X 1 (k0_pay177 (BitVec.ofNat 32 ↑(i 1)) (k0_pay169 u)) 7 (by decide)) (rows X 1 (k0_pay177 (BitVec.ofNat 32 ↑(i 1)) (k0_pay169 u)) 8 (by decide))

/-- Its keys, each weighted by its token and head. -/
def kwB (i : grid0.Coords) (u : Vec F S1x16x1152 .f32) (x7 : Vec F S1x128 .f32) (cv : FVec F S16x512 .f32) (s : FVec F S64x1 .f32) : FVec F S16x256 .f32 :=
  k0_pay234 (k0_pay182 cv) (k0_pay186 (k0_pay169 u) (k0_pay176 (BitVec.ofNat 32 ↑(i 1)))) (k0_pay187 (k0_pay169 u) (k0_pay171 x7) (k0_pay176 (BitVec.ofNat 32 ↑(i 1)))) (k0_pay189 (k0_pay187 (k0_pay169 u) (k0_pay171 x7) (k0_pay176 (BitVec.ofNat 32 ↑(i 1))))) s (k0_pay214 (iota Kind.tc S1x256 32 [1] iota_S1x256_d1_w32) (64#32) k0_pay212 k0_pay213)
    (k0_pay222 (k0_pay186 (k0_pay169 u) (k0_pay176 (BitVec.ofNat 32 ↑(i 1)))) (k0_pay187 (k0_pay169 u) (k0_pay171 x7) (k0_pay176 (BitVec.ofNat 32 ↑(i 1)))) (k0_pay189 (k0_pay187 (k0_pay169 u) (k0_pay171 x7) (k0_pay176 (BitVec.ofNat 32 ↑(i 1))))) s (k0_pay214 (iota Kind.tc S1x256 32 [1] iota_S1x256_d1_w32) (64#32) k0_pay212 k0_pay213) (k0_pay218 (k0_pay186 (k0_pay169 u) (k0_pay176 (BitVec.ofNat 32 ↑(i 1)))) (k0_pay187 (k0_pay169 u) (k0_pay171 x7) (k0_pay176 (BitVec.ofNat 32 ↑(i 1)))) (k0_pay189 (k0_pay187 (k0_pay169 u) (k0_pay171 x7) (k0_pay176 (BitVec.ofNat 32 ↑(i 1))))) s (iota Kind.tc S1x256 32 [1] iota_S1x256_d1_w32) (64#32) k0_pay212 k0_pay213))
    (k0_pay228 (k0_pay214 (iota Kind.tc S1x256 32 [1] iota_S1x256_d1_w32) (64#32) k0_pay212 k0_pay213)) (k0_pay229 (k0_pay186 (k0_pay169 u) (k0_pay176 (BitVec.ofNat 32 ↑(i 1)))) (k0_pay187 (k0_pay169 u) (k0_pay171 x7) (k0_pay176 (BitVec.ofNat 32 ↑(i 1)))) (k0_pay189 (k0_pay187 (k0_pay169 u) (k0_pay171 x7) (k0_pay176 (BitVec.ofNat 32 ↑(i 1))))) s)

/-- The decay of what was there, by head. -/
def slB (i : grid0.Coords) (u : Vec F S1x16x1152 .f32) (x7 : Vec F S1x128 .f32) (m0 : Vec F S1x1x128 .f32) (s : FVec F S64x1 .f32) : FVec F S1x256 .f32 :=
  k0_pay232 (k0_pay175 m0) (k0_pay189 (k0_pay187 (k0_pay169 u) (k0_pay171 x7) (k0_pay176 (BitVec.ofNat 32 ↑(i 1))))) s (k0_pay214 (iota Kind.tc S1x256 32 [1] iota_S1x256_d1_w32) (64#32) k0_pay212 k0_pay213)
    (k0_pay223 (k0_pay175 m0) (k0_pay189 (k0_pay187 (k0_pay169 u) (k0_pay171 x7) (k0_pay176 (BitVec.ofNat 32 ↑(i 1))))) s (k0_pay214 (iota Kind.tc S1x256 32 [1] iota_S1x256_d1_w32) (64#32) k0_pay212 k0_pay213) (k0_pay219 (k0_pay175 m0) (k0_pay189 (k0_pay187 (k0_pay169 u) (k0_pay171 x7) (k0_pay176 (BitVec.ofNat 32 ↑(i 1))))) s (iota Kind.tc S1x256 32 [1] iota_S1x256_d1_w32) (64#32) k0_pay212 k0_pay213))
    (k0_pay227 (k0_pay175 m0) (k0_pay189 (k0_pay187 (k0_pay169 u) (k0_pay171 x7) (k0_pay176 (BitVec.ofNat 32 ↑(i 1))))) s)

/-- Its normaliser. -/
def nB (n0 : Vec F S1x1x256 .f32) (kw : FVec F S16x256 .f32) (sl : FVec F S1x256 .f32) : Vec F S1x1x256 .f32 := k0_pay5 (k0_pay243 (k0_pay174 n0) sl kw)

/-- Its matrix state. -/
def cB (u : Vec F S1x16x1152 .f32) (c0 : Vec F S1x256x256 .f32) (kw : FVec F S16x256 .f32) (sl : FVec F S1x256 .f32) : Vec F S1x256x256 .f32 :=
  k0_pay4 (k0_pay242 (k0_pay238 (iota Kind.tc S256x256 32 [0] iota_S256x256_d0_w32) (64#32) k0_pay235 k0_pay236 k0_pay237) (k0_pay239 (k0_pay173 c0) sl)
    (k0_pay240 (k0_pay183 (k0_pay169 u)) kw) k0_pay241)

theorem congr4 (cw : Vec F S4x512 .f32) (cb : FVec F S1x512 .f32) {a b c d a' b' c' d' : Vec F S16x512 .f32} (ha : a = a') (hb : b = b') (hc : c = c') (hd : d = d') :
    k0_pay101 cw cb a b c d = k0_pay101 cw cb a' b' c' d' := by rw [ha, hb, hc, hd]

theorem congrB (cw : Vec F S4x512 .f32) (cb : FVec F S1x512 .f32) {a b c d a' b' c' d' : Vec F S16x512 .f32} (ha : a = a') (hb : b = b') (hc : c = c') (hd : d = d') :
    k0_pay178 cw cb a b c d = k0_pay178 cw cb a' b' c' d' := by rw [ha, hb, hc, hd]

theorem n_A (c : Dev nD) (i : grid0.Coords) (arg2 : Memref sig .tc .vmem S2x16x896 .f32) (harg2 : arg2.IsWhole) (arg3 : Memref sig .tc .vmem S2x16x1152 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S2x256x128 .f32) (harg11 : arg11.IsWhole) (arg12 : Memref sig .tc .vmem S2x256x256 .f32) (harg12 : arg12.IsWhole) (arg13 : Memref sig .tc .vmem S2x1x256 .f32) (harg13 : arg13.IsWhole) (arg14 : Memref sig .tc .vmem S2x1x128 .f32) (harg14 : arg14.IsWhole) (arg15 : Memref sig .tc .vmem S2x8x512 .f32) (harg15 : arg15.IsWhole) (arg16 : Memref sig .tc .vmem S2x16x256 .f32) (harg16 : arg16.IsWhole) (arg17 : Memref sig .tc .vmem S2x16x256 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x1x256 .f32) (harg20 : arg20.IsWhole) (arg21 : Memref sig .tc .vmem S2x1x128 .f32) (harg21 : arg21.IsWhole) (arg22 : Memref sig .tc .vmem S2x256x128 .f32) (harg22 : arg22.IsWhole) (arg23 : Memref sig .tc .vmem S2x256x256 .f32) (harg23 : arg23.IsWhole) (arg24 : Memref sig .tc .vmem S2x1x256 .f32) (harg24 : arg24.IsWhole) (arg25 : Memref sig .tc .vmem S2x1x128 .f32) (harg25 : arg25.IsWhole) (arg26 : Memref sig .tc .vmem S2x24x512 .f32) (harg26 : arg26.IsWhole) (hc0 : cond0_0 i) (x0 : Vec F S2x16x896 .f32) (x1 : Vec F S2x16x1152 .f32) (x2 : Vec F S128x128 .f32) (x3 : Vec F S1x128 .f32) (x4 : Vec F S1x256 .f32) (x5 : Vec F S4x512 .f32) (x6 : Vec F S1x512 .f32) (x7 : Vec F S1x128 .f32) (x8 : Vec F S1x256 .f32) (x9 : Vec F S2x256x128 .f32) (x10 : Vec F S2x256x256 .f32) (x11 : Vec F S2x1x256 .f32) (x12 : Vec F S2x1x128 .f32) (x13 : Vec F S2x8x512 .f32) (b : Fin 2) (r : Fin 1) (l : Fin 256) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 (ix3 b r l) = if b = 0 then nA (View.ld x11 (Rect.unit ![0, 0, 0] ![1, 1, 256] inb_S2x1x256_S1x1x256_0_0_0)) (kwA i (View.ld x1 (Rect.unit ![0, 0, 0] ![1, 16, 1152] inb_S2x16x1152_S1x16x1152_0_0_0)) x7 (cvA i (View.ld x1 (Rect.unit ![0, 0, 0] ![1, 16, 1152] inb_S2x16x1152_S1x16x1152_0_0_0)) x5 x6 x13) (msA i (View.ld x1 (Rect.unit ![0, 0, 0] ![1, 16, 1152] inb_S2x16x1152_S1x16x1152_0_0_0)) x7 (View.ld x12 (Rect.unit ![0, 0, 0] ![1, 1, 128] inb_S2x1x128_S1x1x128_0_0_0)))) (slA i (View.ld x1 (Rect.unit ![0, 0, 0] ![1, 16, 1152] inb_S2x16x1152_S1x16x1152_0_0_0)) x7 (View.ld x12 (Rect.unit ![0, 0, 0] ![1, 1, 128] inb_S2x1x128_S1x1x128_0_0_0)) (msA i (View.ld x1 (Rect.unit ![0, 0, 0] ![1, 16, 1152] inb_S2x16x1152_S1x16x1152_0_0_0)) x7 (View.ld x12 (Rect.unit ![0, 0, 0] ![1, 1, 128] inb_S2x1x128_S1x1x128_0_0_0)))) (ix3 0 r l)
      else nB (View.ld x11 (Rect.unit ![1, 0, 0] ![1, 1, 256] inb_S2x1x256_S1x1x256_1_0_0)) (kwB i (View.ld x1 (Rect.unit ![1, 0, 0] ![1, 16, 1152] inb_S2x16x1152_S1x16x1152_1_0_0)) x7 (cvB i (View.ld x1 (Rect.unit ![1, 0, 0] ![1, 16, 1152] inb_S2x16x1152_S1x16x1152_1_0_0)) x5 x6 x13) (msB i (View.ld x1 (Rect.unit ![1, 0, 0] ![1, 16, 1152] inb_S2x16x1152_S1x16x1152_1_0_0)) x7 (View.ld x12 (Rect.unit ![1, 0, 0] ![1, 1, 128] inb_S2x1x128_S1x1x128_1_0_0)))) (slB i (View.ld x1 (Rect.unit ![1, 0, 0] ![1, 16, 1152] inb_S2x16x1152_S1x16x1152_1_0_0)) x7 (View.ld x12 (Rect.unit ![1, 0, 0] ![1, 1, 128] inb_S2x1x128_S1x1x128_1_0_0)) (msB i (View.ld x1 (Rect.unit ![1, 0, 0] ![1, 16, 1152] inb_S2x16x1152_S1x16x1152_1_0_0)) x7 (View.ld x12 (Rect.unit ![1, 0, 0] ![1, 1, 128] inb_S2x1x128_S1x1x128_1_0_0)))) (ix3 0 r l) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)]
  unfold kernelRun0_A
  dsimp only
  sl_unfold_words
  rw [two (R := 1) (C := 256)]
  simp only [shapeCast_self, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2, View.ld_unit_zero (S := S1x128) hz2, View.ld_unit_zero (S := S4x512) hz2, View.ld_unit_zero (S := S1x512) hz2, View.ld_unit_zero (S := S2x8x512) hz3]
  rw [skip (R := 1) (C := 128), skip (R := 1) (C := 256), fill (S := S2x1x256) _ _ (by decide), fill (S := S2x1x256) _ _ (by decide), View.ld_unit_zero (S := S2x1x256) hz3, fill (S := S2x1x128) _ _ (by decide), fill (S := S2x1x128) _ _ (by decide), View.ld_unit_zero (S := S2x1x128) hz3]
  generalize h0 : k0_pay101 (F := F) _ _ _ _ _ _ = qA
  have e := h0.symm.trans (congr4 _ _ (rdA _ _ _ _ _ _ _ _ _ _ _ _ _) (rdA _ _ _ _ _ _ _ _ _ _ _ _ _) (rdA _ _ _ _ _ _ _ _ _ _ _ _ _) (rdA _ _ _ _ _ _ _ _ _ _ _ _ _))
  clear h0
  subst e
  generalize h0 : k0_pay178 (F := F) _ _ _ _ _ _ = qB
  have e := h0.symm.trans (congrB _ _ (rdB _ _ _ _ _ _ _ _ _ _ _ _ _ _ _ _ _ _) (rdB _ _ _ _ _ _ _ _ _ _ _ _ _ _ _ _ _ _) (rdB _ _ _ _ _ _ _ _ _ _ _ _ _ _ _ _ _ _) (rdB _ _ _ _ _ _ _ _ _ _ _ _ _ _ _ _ _ _))
  clear h0
  subst e
  rfl

theorem c_A (c : Dev nD) (i : grid0.Coords) (arg2 : Memref sig .tc .vmem S2x16x896 .f32) (harg2 : arg2.IsWhole) (arg3 : Memref sig .tc .vmem S2x16x1152 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S2x256x128 .f32) (harg11 : arg11.IsWhole) (arg12 : Memref sig .tc .vmem S2x256x256 .f32) (harg12 : arg12.IsWhole) (arg13 : Memref sig .tc .vmem S2x1x256 .f32) (harg13 : arg13.IsWhole) (arg14 : Memref sig .tc .vmem S2x1x128 .f32) (harg14 : arg14.IsWhole) (arg15 : Memref sig .tc .vmem S2x8x512 .f32) (harg15 : arg15.IsWhole) (arg16 : Memref sig .tc .vmem S2x16x256 .f32) (harg16 : arg16.IsWhole) (arg17 : Memref sig .tc .vmem S2x16x256 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x1x256 .f32) (harg20 : arg20.IsWhole) (arg21 : Memref sig .tc .vmem S2x1x128 .f32) (harg21 : arg21.IsWhole) (arg22 : Memref sig .tc .vmem S2x256x128 .f32) (harg22 : arg22.IsWhole) (arg23 : Memref sig .tc .vmem S2x256x256 .f32) (harg23 : arg23.IsWhole) (arg24 : Memref sig .tc .vmem S2x1x256 .f32) (harg24 : arg24.IsWhole) (arg25 : Memref sig .tc .vmem S2x1x128 .f32) (harg25 : arg25.IsWhole) (arg26 : Memref sig .tc .vmem S2x24x512 .f32) (harg26 : arg26.IsWhole) (hc0 : cond0_0 i) (x0 : Vec F S2x16x896 .f32) (x1 : Vec F S2x16x1152 .f32) (x2 : Vec F S128x128 .f32) (x3 : Vec F S1x128 .f32) (x4 : Vec F S1x256 .f32) (x5 : Vec F S4x512 .f32) (x6 : Vec F S1x512 .f32) (x7 : Vec F S1x128 .f32) (x8 : Vec F S1x256 .f32) (x9 : Vec F S2x256x128 .f32) (x10 : Vec F S2x256x256 .f32) (x11 : Vec F S2x1x256 .f32) (x12 : Vec F S2x1x128 .f32) (x13 : Vec F S2x8x512 .f32) (b : Fin 2) (r : Fin 256) (l : Fin 256) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 (ix3 b r l) = if b = 0 then cA (View.ld x1 (Rect.unit ![0, 0, 0] ![1, 16, 1152] inb_S2x16x1152_S1x16x1152_0_0_0)) (View.ld x10 (Rect.unit ![0, 0, 0] ![1, 256, 256] inb_S2x256x256_S1x256x256_0_0_0)) (kwA i (View.ld x1 (Rect.unit ![0, 0, 0] ![1, 16, 1152] inb_S2x16x1152_S1x16x1152_0_0_0)) x7 (cvA i (View.ld x1 (Rect.unit ![0, 0, 0] ![1, 16, 1152] inb_S2x16x1152_S1x16x1152_0_0_0)) x5 x6 x13) (msA i (View.ld x1 (Rect.unit ![0, 0, 0] ![1, 16, 1152] inb_S2x16x1152_S1x16x1152_0_0_0)) x7 (View.ld x12 (Rect.unit ![0, 0, 0] ![1, 1, 128] inb_S2x1x128_S1x1x128_0_0_0)))) (slA i (View.ld x1 (Rect.unit ![0, 0, 0] ![1, 16, 1152] inb_S2x16x1152_S1x16x1152_0_0_0)) x7 (View.ld x12 (Rect.unit ![0, 0, 0] ![1, 1, 128] inb_S2x1x128_S1x1x128_0_0_0)) (msA i (View.ld x1 (Rect.unit ![0, 0, 0] ![1, 16, 1152] inb_S2x16x1152_S1x16x1152_0_0_0)) x7 (View.ld x12 (Rect.unit ![0, 0, 0] ![1, 1, 128] inb_S2x1x128_S1x1x128_0_0_0)))) (ix3 0 r l)
      else cB (View.ld x1 (Rect.unit ![1, 0, 0] ![1, 16, 1152] inb_S2x16x1152_S1x16x1152_1_0_0)) (View.ld x10 (Rect.unit ![1, 0, 0] ![1, 256, 256] inb_S2x256x256_S1x256x256_1_0_0)) (kwB i (View.ld x1 (Rect.unit ![1, 0, 0] ![1, 16, 1152] inb_S2x16x1152_S1x16x1152_1_0_0)) x7 (cvB i (View.ld x1 (Rect.unit ![1, 0, 0] ![1, 16, 1152] inb_S2x16x1152_S1x16x1152_1_0_0)) x5 x6 x13) (msB i (View.ld x1 (Rect.unit ![1, 0, 0] ![1, 16, 1152] inb_S2x16x1152_S1x16x1152_1_0_0)) x7 (View.ld x12 (Rect.unit ![1, 0, 0] ![1, 1, 128] inb_S2x1x128_S1x1x128_1_0_0)))) (slB i (View.ld x1 (Rect.unit ![1, 0, 0] ![1, 16, 1152] inb_S2x16x1152_S1x16x1152_1_0_0)) x7 (View.ld x12 (Rect.unit ![1, 0, 0] ![1, 1, 128] inb_S2x1x128_S1x1x128_1_0_0)) (msB i (View.ld x1 (Rect.unit ![1, 0, 0] ![1, 16, 1152] inb_S2x16x1152_S1x16x1152_1_0_0)) x7 (View.ld x12 (Rect.unit ![1, 0, 0] ![1, 1, 128] inb_S2x1x128_S1x1x128_1_0_0)))) (ix3 0 r l) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)]
  unfold kernelRun0_A
  dsimp only
  sl_unfold_words
  rw [two (R := 256) (C := 256)]
  simp only [shapeCast_self, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2, View.ld_unit_zero (S := S1x128) hz2, View.ld_unit_zero (S := S4x512) hz2, View.ld_unit_zero (S := S1x512) hz2, View.ld_unit_zero (S := S2x8x512) hz3]
  rw [skip (R := 1) (C := 128), skip (R := 256) (C := 256), fill (S := S2x256x256) _ _ (by decide), fill (S := S2x256x256) _ _ (by decide), View.ld_unit_zero (S := S2x256x256) hz3, fill (S := S2x1x128) _ _ (by decide), fill (S := S2x1x128) _ _ (by decide), View.ld_unit_zero (S := S2x1x128) hz3]
  generalize h0 : k0_pay101 (F := F) _ _ _ _ _ _ = qA
  have e := h0.symm.trans (congr4 _ _ (rdA _ _ _ _ _ _ _ _ _ _ _ _ _) (rdA _ _ _ _ _ _ _ _ _ _ _ _ _) (rdA _ _ _ _ _ _ _ _ _ _ _ _ _) (rdA _ _ _ _ _ _ _ _ _ _ _ _ _))
  clear h0
  subst e
  generalize h0 : k0_pay178 (F := F) _ _ _ _ _ _ = qB
  have e := h0.symm.trans (congrB _ _ (rdB _ _ _ _ _ _ _ _ _ _ _ _ _ _ _ _ _ _) (rdB _ _ _ _ _ _ _ _ _ _ _ _ _ _ _ _ _ _) (rdB _ _ _ _ _ _ _ _ _ _ _ _ _ _ _ _ _ _) (rdB _ _ _ _ _ _ _ _ _ _ _ _ _ _ _ _ _ _))
  clear h0
  subst e
  rfl

end Cert.Scan

end
-- ==== Proof.ScanN.lean ====
/- The mLSTM's matrix state and normaliser after a stream's sixteen tokens, read at an index of the scan's body. -/
module

public import proofs.«01_k».proof.Proof.ScanOpenN
public import proofs.«01_k».proof.Proof.ScanM

@[expose] public section

noncomputable section

namespace Cert.Scan

open Cert.Kernel4Ideal Cert.Kernel4Ideal.Gen Cert.Kernel4Ideal.Value Idealize.ShloMosaic Idealize.ShloMosaic.TcCoe Idealize.SL.Sem

/-- A row of the convolution's buffer: three from before, then the tokens. -/
def rowK (u : Vec Ideal S1x16x1152 .f32) (X : Vec Ideal S2x8x512 .f32) (b : Fin 2) (a : Fin 4) (t : Fin 16) (l : Fin 512) : EReal :=
  if h : 5 + a.val + t.val < 8 then X (ix3 b ⟨5 + a.val + t.val, h⟩ l) else u (ix3 0 ⟨5 + a.val + t.val - 8, by omega⟩ ⟨l.val, by omega⟩)

/-- The convolution at a token. -/
def cvK (u : Vec Ideal S1x16x1152 .f32) (x5 : Vec Ideal S4x512 .f32) (x6 : Vec Ideal S1x512 .f32) (X : Vec Ideal S2x8x512 .f32) (b : Fin 2) (t : Fin 16) (l : Fin 512) : EReal :=
  rowK u X b 0 t l * x5 (ix2 0 l) + rowK u X b 1 t l * x5 (ix2 1 l) + rowK u X b 2 t l * x5 (ix2 2 l) + rowK u X b 3 t l * x5 (ix2 3 l) + x6 (ix2 0 l)

/-- The decay of what was there. -/
def slK (u : Vec Ideal S1x16x1152 .f32) (x7 : Vec Ideal S1x128 .f32) (m0 : Vec Ideal S1x1x128 .f32) (h : Fin 4) : EReal :=
  Ideal.exp (cum (lfK u x7 h) 15 + m0 (ix3 0 0 ⟨h.val, by omega⟩) - msK u x7 m0 h)

/-- A token's weight. -/
def wlK (u : Vec Ideal S1x16x1152 .f32) (x7 : Vec Ideal S1x128 .f32) (m0 : Vec Ideal S1x1x128 .f32) (h : Fin 4) (t : Fin 16) : EReal :=
  Ideal.exp (cum (lfK u x7 h) 15 - cum (lfK u x7 h) t + u (ix3 0 t ⟨1024 + h.val, by omega⟩) - msK u x7 m0 h)

/-- A key from its convolution: the product with the logistic function, over eight. -/
def kfn (y : EReal) : EReal := y * Ideal.div 1 (1 + Ideal.exp (-y)) * Ideal.ofBits FTy.f32 1040187392#32

/-- A key, weighted. -/
def kwK (u : Vec Ideal S1x16x1152 .f32) (x7 : Vec Ideal S1x128 .f32) (m0 : Vec Ideal S1x1x128 .f32) (cv : FVec Ideal S16x512 .f32) (t : Fin 16) (l : Fin 256) : EReal :=
  kfn (cv (ix2 t ⟨256 + l.val, by omega⟩)) * wlK u x7 m0 ⟨l.val / 64, by omega⟩ t

theorem heads (f : Fin 4 → EReal) {a0 a1 a2 a3 : EReal} (l : Fin 256) (h0 : a0 = f 0) (h1 : a1 = f 1) (h2 : a2 = f 2) (h3 : a3 = f 3) :
    Scalar.select (IntOp.cmpi CmpIPredicate.eq (BitVec.ofNat 32 (l.val / 64)) 3#32) a3
      (Scalar.select (IntOp.cmpi CmpIPredicate.eq (BitVec.ofNat 32 (l.val / 64)) 2#32) a2
        (Scalar.select (IntOp.cmpi CmpIPredicate.eq (BitVec.ofNat 32 (l.val / 64)) 1#32) a1
          (Scalar.select (IntOp.cmpi CmpIPredicate.eq (BitVec.ofNat 32 (l.val / 64)) 0#32) a0 0))) = f ⟨l.val / 64, by omega⟩ := by
  subst h0 h1 h2 h3
  have key : ∀ k : Fin 4, Scalar.select (IntOp.cmpi CmpIPredicate.eq (BitVec.ofNat 32 k.val) 3#32) (f 3)
      (Scalar.select (IntOp.cmpi CmpIPredicate.eq (BitVec.ofNat 32 k.val) 2#32) (f 2)
        (Scalar.select (IntOp.cmpi CmpIPredicate.eq (BitVec.ofNat 32 k.val) 1#32) (f 1)
          (Scalar.select (IntOp.cmpi CmpIPredicate.eq (BitVec.ofNat 32 k.val) 0#32) (f 0) 0))) = f k := by
    intro k
    match k with
    | 0 => rfl
    | 1 => rfl
    | 2 => rfl
    | 3 => rfl
  exact key ⟨l.val / 64, by omega⟩

theorem own_bit2 (r l : Fin 256) : IntOp.cmpi CmpIPredicate.eq (BitVec.ofNat 32 (r.val / 64)) (BitVec.ofNat 32 (l.val / 64)) = if r.val / 64 = l.val / 64 then 1#1 else 0#1 := by
  have key : ∀ a b : Fin 4, IntOp.cmpi CmpIPredicate.eq (BitVec.ofNat 32 a.val) (BitVec.ofNat 32 b.val) = if a.val = b.val then 1#1 else 0#1 := by decide
  exact key ⟨r.val / 64, by omega⟩ ⟨l.val / 64, by omega⟩

theorem sel_own2 (r l : Fin 256) (a b : EReal) : Scalar.select (if r.val / 64 = l.val / 64 then 1#1 else 0#1) a b = if r.val / 64 = l.val / 64 then a else b := by
  split <;> rfl

variable (i : grid0.Coords) (u : Vec Ideal S1x16x1152 .f32) (x5 : Vec Ideal S4x512 .f32) (x6 : Vec Ideal S1x512 .f32) (x7 : Vec Ideal S1x128 .f32) (m0 : Vec Ideal S1x1x128 .f32) (X : Vec Ideal S2x8x512 .f32)

theorem cvA_at (t : Fin 16) (l : Fin 512) : cvA i u x5 x6 X (ix2 t l) = cvK u x5 x6 X 0 t l := by
  unfold cvA
  have hp : ∀ (a : Fin 16) (j : Fin 512), k0_pay100 (BitVec.ofNat 32 ↑(i 1)) (k0_pay92 u) (ix2 a j) = u (ix3 0 a ⟨j.val, by omega⟩) := by
    intro a j
    pointwise [k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
    simp only [real_bit, sel1]
  generalize k0_pay100 (BitVec.ofNat 32 ↑(i 1)) (k0_pay92 u) = p at hp ⊢
  pointwise [k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  simp only [rows_at, hp]
  rfl

theorem slA_at (l : Fin 256) : slA i u x7 m0 (msA i u x7 m0) (ix2 0 l) = slK u x7 m0 ⟨l.val / 64, by omega⟩ := by
  pointwise [slA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  simp only [real_bit, tri, tri15, sel1, row_head, msA_0, msA_1, msA_2, msA_3]
  refine heads (slK u x7 m0) l ?_ ?_ ?_ ?_
  all_goals unfold slK
  all_goals
    simp only [← cum_eq, lfK, ls]
    rfl

theorem kwA_at (cv : FVec Ideal S16x512 .f32) (t : Fin 16) (l : Fin 256) : kwA i u x7 cv (msA i u x7 m0) (ix2 t l) = kwK u x7 m0 cv t l := by
  pointwise [kwA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  simp only [real_bit, tri, tri15, sel1, row_head, msA_0, msA_1, msA_2, msA_3]
  have e := fun a0 a1 a2 a3 h0 h1 h2 h3 => heads (a0 := a0) (a1 := a1) (a2 := a2) (a3 := a3) (fun h => wlK u x7 m0 h t) l h0 h1 h2 h3
  refine (congrArg _ (e _ _ _ _ ?_ ?_ ?_ ?_)).trans ?_
  rotate_left 4
  · unfold kwK kfn
    rw [zero_sub]
  all_goals
    unfold wlK
    simp only [← cum_eq, lfK, ls]
    rfl

theorem nA_at (n0 : Vec Ideal S1x1x256 .f32) (kw : FVec Ideal S16x256 .f32) (sl : FVec Ideal S1x256 .f32) (l : Fin 256) : nA n0 kw sl (ix3 0 0 l) = sl (ix2 0 l) * n0 (ix3 0 0 l) + ∑ t : Fin 16, kw (ix2 t l) := by
  pointwise [nA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]

theorem cA_at (c0 : Vec Ideal S1x256x256 .f32) (kw : FVec Ideal S16x256 .f32) (sl : FVec Ideal S1x256 .f32) (r l : Fin 256) : cA u c0 kw sl (ix3 0 r l)
    = sl (ix2 0 l) * c0 (ix3 0 r l) + (if r.val / 64 = l.val / 64 then ∑ t : Fin 16, kw (ix2 t r) * u (ix3 0 t ⟨512 + l.val, by omega⟩) else 0) := by
  pointwise [cA, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
  simp only [row_head, own_bit2, sel_own2]

theorem cvB_at (t : Fin 16) (l : Fin 512) : cvB i u x5 x6 X (ix2 t l) = cvK u x5 x6 X 1 t l := by
  unfold cvB
  have hp : ∀ (a : Fin 16) (j : Fin 512), k0_pay177 (BitVec.ofNat 32 ↑(i 1)) (k0_pay169 u) (ix2 a j) = u (ix3 0 a ⟨j.val, by omega⟩) := by
    intro a j
    pointwise [k0_pay4, k0_pay5, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]
    simp only [real_bit, sel1]
  generalize k0_pay177 (BitVec.ofNat 32 ↑(i 1)) (k0_pay169 u) = p at hp ⊢
  pointwise [k0_pay4, k0_pay5, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]
  simp only [rows_at, hp]
  rfl

theorem slB_at (l : Fin 256) : slB i u x7 m0 (msB i u x7 m0) (ix2 0 l) = slK u x7 m0 ⟨l.val / 64, by omega⟩ := by
  pointwise [slB, k0_pay4, k0_pay5, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]
  simp only [real_bit, tri, tri15, sel1, row_head, msB_0, msB_1, msB_2, msB_3]
  refine heads (slK u x7 m0) l ?_ ?_ ?_ ?_
  all_goals unfold slK
  all_goals
    simp only [← cum_eq, lfK, ls]
    rfl

theorem kwB_at (cv : FVec Ideal S16x512 .f32) (t : Fin 16) (l : Fin 256) : kwB i u x7 cv (msB i u x7 m0) (ix2 t l) = kwK u x7 m0 cv t l := by
  pointwise [kwB, k0_pay4, k0_pay5, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]
  simp only [real_bit, tri, tri15, sel1, row_head, msB_0, msB_1, msB_2, msB_3]
  have e := fun a0 a1 a2 a3 h0 h1 h2 h3 => heads (a0 := a0) (a1 := a1) (a2 := a2) (a3 := a3) (fun h => wlK u x7 m0 h t) l h0 h1 h2 h3
  refine (congrArg _ (e _ _ _ _ ?_ ?_ ?_ ?_)).trans ?_
  rotate_left 4
  · unfold kwK kfn
    rw [zero_sub]
  all_goals
    unfold wlK
    simp only [← cum_eq, lfK, ls]
    rfl

theorem nB_at (n0 : Vec Ideal S1x1x256 .f32) (kw : FVec Ideal S16x256 .f32) (sl : FVec Ideal S1x256 .f32) (l : Fin 256) : nB n0 kw sl (ix3 0 0 l) = sl (ix2 0 l) * n0 (ix3 0 0 l) + ∑ t : Fin 16, kw (ix2 t l) := by
  pointwise [nB, k0_pay4, k0_pay5, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]

theorem cB_at (c0 : Vec Ideal S1x256x256 .f32) (kw : FVec Ideal S16x256 .f32) (sl : FVec Ideal S1x256 .f32) (r l : Fin 256) : cB u c0 kw sl (ix3 0 r l)
    = sl (ix2 0 l) * c0 (ix3 0 r l) + (if r.val / 64 = l.val / 64 then ∑ t : Fin 16, kw (ix2 t r) * u (ix3 0 t ⟨512 + l.val, by omega⟩) else 0) := by
  pointwise [cB, k0_pay4, k0_pay5, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]
  simp only [row_head, own_bit2, sel_own2]

/-- The normaliser that a stream returns. -/
def nS (b : Fin 2) (n0 : Vec Ideal S1x1x256 .f32) (l : Fin 256) : EReal :=
  slK u x7 m0 ⟨l.val / 64, by omega⟩ * n0 (ix3 0 0 l) + ∑ t : Fin 16, kfn (cvK u x5 x6 X b t ⟨256 + l.val, by omega⟩) * wlK u x7 m0 ⟨l.val / 64, by omega⟩ t

/-- The matrix state that a stream returns. -/
def cS (b : Fin 2) (c0 : Vec Ideal S1x256x256 .f32) (r l : Fin 256) : EReal :=
  slK u x7 m0 ⟨l.val / 64, by omega⟩ * c0 (ix3 0 r l)
    + (if r.val / 64 = l.val / 64 then ∑ t : Fin 16, kfn (cvK u x5 x6 X b t ⟨256 + r.val, by omega⟩) * wlK u x7 m0 ⟨r.val / 64, by omega⟩ t * u (ix3 0 t ⟨512 + l.val, by omega⟩) else 0)

theorem nA_all (n0 : Vec Ideal S1x1x256 .f32) (l : Fin 256) : nA n0 (kwA i u x7 (cvA i u x5 x6 X) (msA i u x7 m0)) (slA i u x7 m0 (msA i u x7 m0)) (ix3 0 0 l) = nS u x5 x6 x7 m0 X 0 n0 l := by
  rw [nA_at, slA_at]
  simp only [kwA_at, kwK, cvA_at]
  rfl

theorem cA_all (c0 : Vec Ideal S1x256x256 .f32) (r l : Fin 256) : cA u c0 (kwA i u x7 (cvA i u x5 x6 X) (msA i u x7 m0)) (slA i u x7 m0 (msA i u x7 m0)) (ix3 0 r l) = cS u x5 x6 x7 m0 X 0 c0 r l := by
  rw [cA_at, slA_at]
  simp only [kwA_at, kwK, cvA_at]
  rfl

theorem nB_all (n0 : Vec Ideal S1x1x256 .f32) (l : Fin 256) : nB n0 (kwB i u x7 (cvB i u x5 x6 X) (msB i u x7 m0)) (slB i u x7 m0 (msB i u x7 m0)) (ix3 0 0 l) = nS u x5 x6 x7 m0 X 1 n0 l := by
  rw [nB_at, slB_at]
  simp only [kwB_at, kwK, cvB_at]
  rfl

theorem cB_all (c0 : Vec Ideal S1x256x256 .f32) (r l : Fin 256) : cB u c0 (kwB i u x7 (cvB i u x5 x6 X) (msB i u x7 m0)) (slB i u x7 m0 (msB i u x7 m0)) (ix3 0 r l) = cS u x5 x6 x7 m0 X 1 c0 r l := by
  rw [cB_at, slB_at]
  simp only [kwB_at, kwK, cvB_at]
  rfl

end Cert.Scan

end
-- ==== Proof.ScanInN.lean ====
/- The scan's arrays of matrix states and of normalisers, as entries of the arguments: the convolution over the buffer and the tokens, the keys, and each head's decay. -/
module

public import proofs.«01_k».proof.Proof.ScanN
public import proofs.«01_k».proof.Proof.ScanInM

@[expose] public section

noncomputable section

namespace Cert.Scan

open Cert.Kernel4Ideal Cert.Kernel4Ideal.Gen Cert.Kernel4Ideal.Value Idealize.ShloMosaic Idealize.ShloMosaic.TcCoe Idealize.SL.Sem Idealize.ShloMosaic.Tactic

variable (m : (ℓ : Loc nD τ sig) → Buf (Elt Ideal) ℓ) (c : Dev nD)

/-- The convolution's weights. -/
def SCW : S4x512.Idx → EReal := m ((c : Thread nD τ).loc main_arg5)
/-- The convolution's biases. -/
def SCB : S512.Idx → EReal := m ((c : Thread nD τ).loc main_arg6)
/-- The matrix states. -/
def SC : S8x4x64x64.Idx → EReal := m ((c : Thread nD τ).loc main_arg10)
/-- The normalisers. -/
def SN : S8x4x64.Idx → EReal := m ((c : Thread nD τ).loc main_arg11)
/-- The convolution's buffer: a stream's three rows before its tokens. -/
def S13 : S8x3x512.Idx → EReal := m ((c : Thread nD τ).loc main_arg13)

theorem V_5 (a : Fin 4) (l : Fin 512) : (V m c main_arg5 : Vec Ideal S4x512 .f32) (ix2 a l) = SCW m c (ix2 a l) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_6 (l : Fin 512) : (V m c main_v35 : Vec Ideal S1x512 .f32) (ix2 0 l) = SCB m c (ix1 l) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S1x512 (SCB m c) shapeCasts_S512_S1x512 (ix2 0 l) = _
  pointwise []

theorem V_11 (b : Fin 8) (l : Fin 256) : (V m c main_v29 : Vec Ideal S8x1x256 .f32) (ix3 b 0 l) = SN m c (ix3 b ⟨l.val / 64, by omega⟩ ⟨l.val % 64, by omega⟩) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S8x1x256 (SN m c) shapeCasts_S8x4x64_S8x1x256 (ix3 b 0 l) = _
  pointwise []

theorem V_13 (b : Fin 8) (k : Fin 3) (l : Fin 512) : (V m c main_v32 : Vec Ideal S8x8x512 .f32) (ix3 b ⟨5 + k.val, by omega⟩ l) = S13 m c (ix3 b k l) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show pad S8x8x512 ![0, 5, 0] ![0, 0, 0] ![0, 0, 0] (S13 m c) (sitofp (F := Ideal) .f32 (constantI S_ 32 0#32)) pads_S8x3x512_S8x8x512_000_500_000 h_S_ (ix3 b ⟨5 + k.val, by omega⟩ l) = _
  pointwise []

theorem V_10 (b : Fin 8) (r l : Fin 256) : (V m c main_v28 : Vec Ideal S8x256x256 .f32) (ix3 b r l)
    = if r.val / 64 = l.val / 64 then SC m c (ix4 b ⟨r.val / 64, by omega⟩ ⟨l.val % 64, by omega⟩ ⟨r.val % 64, by omega⟩) else 0 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  show shapeCast S8x256x256 (mulf (F := Ideal) (broadcastInDim S8x4x64x4x64 ![0, 1, 2, 3, 4] bcast_S8x4x64x1x64_S8x4x64x4x64_0_1_2_3_4 (broadcastInDim S8x4x64x1x64 ![0, 1, 2, 4] bcast_S8x4x64x64_S8x4x64x1x64_0_1_2_4 (transpose S8x4x64x64 [0, 1, 3, 2] (SC m c) transposes_S8x4x64x64_S8x4x64x64_0_1_3_2)))
    (broadcastInDim S8x4x64x4x64 ![0, 1, 2, 3, 4] bcast_S1x4x1x4x1_S8x4x64x4x64_0_1_2_3_4 (broadcastInDim S1x4x1x4x1 ![1, 3] bcast_S4x4_S1x4x1x4x1_1_3 (uitofp (F := Ideal) .f32 (cmpi .eq (addi (iotaInDim S4x4 32 0) (broadcastInDim S4x4 ![] bcast_S_S4x4 (constantI S_ 32 0#32))) (iotaInDim S4x4 32 1))))))
    shapeCasts_S8x4x64x4x64_S8x256x256 (ix3 b r l) = _
  pointwise []
  have e := own_bit2 r l
  generalize SC m c (ix4 b ⟨r.val / 64, by omega⟩ ⟨l.val % 64, by omega⟩ ⟨r.val % 64, by omega⟩) = z
  rw [plus_none, e]
  by_cases h : r.val / 64 = l.val / 64
  · rw [if_pos h, if_pos h]
    exact (congrArg (_ * ·) one_bit).trans (mul_one _)
  · rw [if_neg h, if_neg h]
    exact (congrArg (_ * ·) none_bit).trans (mul_zero _)

theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e10 : ∀ t : Fin cfg0.N, win0_10.index t = ![t.val, 0, 0] := (by decide +kernel : ∀ t : Fin grid0.N, win0_10.index t = ![t.val, 0, 0])
theorem e11 : ∀ t : Fin cfg0.N, win0_11.index t = ![t.val, 0, 0] := (by decide +kernel : ∀ t : Fin grid0.N, win0_11.index t = ![t.val, 0, 0])
theorem e13 : ∀ t : Fin cfg0.N, win0_13.index t = ![t.val, 0, 0] := (by decide +kernel : ∀ t : Fin grid0.N, win0_13.index t = ![t.val, 0, 0])
theorem e17 : ∀ t : Fin cfg0.N, win0_17.index t = ![t.val, 0, 0] := (by decide +kernel : ∀ t : Fin grid0.N, win0_17.index t = ![t.val, 0, 0])
theorem e18 : ∀ t : Fin cfg0.N, win0_18.index t = ![t.val, 0, 0] := (by decide +kernel : ∀ t : Fin grid0.N, win0_18.index t = ![t.val, 0, 0])
theorem fl17 : ∀ t : Fin cfg0.N, (cfg0.win 17).flush t = true := (by decide +kernel : ∀ t : Fin grid0.N, win0_17.flush t = true)
theorem fl18 : ∀ t : Fin cfg0.N, (cfg0.win 18).flush t = true := (by decide +kernel : ∀ t : Fin grid0.N, win0_18.flush t = true)

theorem b5 (q : Fin cfg0.N) (a : Fin 4) (l : Fin 512) : (iblk m c 5 q : Vec Ideal S4x512 .f32) (ix2 a l) = SCW m c (ix2 a l) := by
  blk_simp [iblk]
  rw [← V_5]
  congr 1
  blk_ext [e5]

theorem b6 (q : Fin cfg0.N) (l : Fin 512) : (iblk m c 6 q : Vec Ideal S1x512 .f32) (ix2 0 l) = SCB m c (ix1 l) := by
  blk_simp [iblk]
  rw [← V_6]
  congr 1
  blk_ext [e6]

theorem b10 (q : Fin cfg0.N) (b : Fin 2) (r l : Fin 256) : (iblk m c 10 q : Vec Ideal S2x256x256 .f32) (ix3 b r l)
    = if r.val / 64 = l.val / 64 then SC m c (ix4 (str q b) ⟨r.val / 64, by omega⟩ ⟨l.val % 64, by omega⟩ ⟨r.val % 64, by omega⟩) else 0 := by
  blk_simp [iblk]
  rw [← V_10]
  congr 1
  blk_ext [e10, str]

theorem b11 (q : Fin cfg0.N) (b : Fin 2) (l : Fin 256) : (iblk m c 11 q : Vec Ideal S2x1x256 .f32) (ix3 b 0 l) = SN m c (ix3 (str q b) ⟨l.val / 64, by omega⟩ ⟨l.val % 64, by omega⟩) := by
  blk_simp [iblk]
  rw [← V_11]
  congr 1
  blk_ext [e11, str]

theorem b13 (q : Fin cfg0.N) (b : Fin 2) (k : Fin 3) (l : Fin 512) : (iblk m c 13 q : Vec Ideal S2x8x512 .f32) (ix3 b ⟨5 + k.val, by omega⟩ l) = S13 m c (ix3 (str q b) k l) := by
  blk_simp [iblk]
  rw [← V_13]
  congr 1
  blk_ext [e13, str]

/-- A row of a stream's convolution buffer: three from before, then the tokens. -/
def rowG (n : Fin 8) (a : Fin 4) (t : Fin 16) (l : Fin 512) : EReal :=
  if h : a.val + t.val < 3 then S13 m c (ix3 n ⟨a.val + t.val, h⟩ l) else sv m c n ⟨a.val + t.val - 3, by omega⟩ ⟨l.val, by omega⟩

/-- The convolution at a stream's token. -/
def cG (n : Fin 8) (t : Fin 16) (l : Fin 512) : EReal :=
  rowG m c n 0 t l * SCW m c (ix2 0 l) + rowG m c n 1 t l * SCW m c (ix2 1 l) + rowG m c n 2 t l * SCW m c (ix2 2 l) + rowG m c n 3 t l * SCW m c (ix2 3 l) + SCB m c (ix1 l)

/-- The decay of what a head held. -/
def dG (n : Fin 8) (h : Fin 4) : EReal := Ideal.exp (cum (lfg m c n h) 15 + SM m c (ix2 n h) - mG m c n h)

/-- A token's weight for a head. -/
def wG (n : Fin 8) (h : Fin 4) (t : Fin 16) : EReal :=
  Ideal.exp (cum (lfg m c n h) 15 - cum (lfg m c n h) t + sv m c n t ⟨1024 + h.val, by omega⟩ - mG m c n h)

/-- The normaliser that a stream returns. -/
def nG (n : Fin 8) (l : Fin 256) : EReal :=
  dG m c n ⟨l.val / 64, by omega⟩ * SN m c (ix3 n ⟨l.val / 64, by omega⟩ ⟨l.val % 64, by omega⟩) + ∑ t : Fin 16, kfn (cG m c n t ⟨256 + l.val, by omega⟩) * wG m c n ⟨l.val / 64, by omega⟩ t

/-- The matrix state that a stream returns. -/
def CG (n : Fin 8) (r l : Fin 256) : EReal :=
  dG m c n ⟨l.val / 64, by omega⟩ * (if r.val / 64 = l.val / 64 then SC m c (ix4 n ⟨r.val / 64, by omega⟩ ⟨l.val % 64, by omega⟩ ⟨r.val % 64, by omega⟩) else 0)
    + (if r.val / 64 = l.val / 64 then ∑ t : Fin 16, kfn (cG m c n t ⟨256 + r.val, by omega⟩) * wG m c n ⟨r.val / 64, by omega⟩ t * sv m c n t ⟨512 + l.val, by omega⟩ else 0)

theorem nS_eq (n : Fin 8) (u : Vec Ideal S1x16x1152 .f32) (x5 : Vec Ideal S4x512 .f32) (x6 : Vec Ideal S1x512 .f32) (x7 : Vec Ideal S1x128 .f32) (m0 : Vec Ideal S1x1x128 .f32) (X : Vec Ideal S2x8x512 .f32) (b : Fin 2)
    (n0 : Vec Ideal S1x1x256 .f32)
    (hu : ∀ (t : Fin 16) (j : Fin 1152), u (ix3 0 t j) = sv m c n t j) (h7 : ∀ h : Fin 4, x7 (ix2 0 ⟨4 + h.val, by omega⟩) = SF m c (ix1 h))
    (hm : ∀ h : Fin 4, m0 (ix3 0 0 ⟨h.val, by omega⟩) = SM m c (ix2 n h)) (h5 : ∀ (a : Fin 4) (l : Fin 512), x5 (ix2 a l) = SCW m c (ix2 a l))
    (h6 : ∀ l : Fin 512, x6 (ix2 0 l) = SCB m c (ix1 l)) (hX : ∀ (k : Fin 3) (l : Fin 512), X (ix3 b ⟨5 + k.val, by omega⟩ l) = S13 m c (ix3 n k l))
    (h11 : ∀ l : Fin 256, n0 (ix3 0 0 l) = SN m c (ix3 n ⟨l.val / 64, by omega⟩ ⟨l.val % 64, by omega⟩)) (l : Fin 256) :
    nS u x5 x6 x7 m0 X b n0 l = nG m c n l := by
  have hl : ∀ h, lfK u x7 h = lfg m c n h := by
    intro h
    funext t
    unfold lfK lfg
    rw [hu, h7]
  have hs : ∀ h, slK u x7 m0 h = dG m c n h := by
    intro h
    unfold slK dG
    rw [hl, msK_eq m c n u x7 m0 hu h7 hm, hm]
  have hw : ∀ h t, wlK u x7 m0 h t = wG m c n h t := by
    intro h t
    unfold wlK wG
    rw [hl, msK_eq m c n u x7 m0 hu h7 hm, hu]
  have hr : ∀ a t l, rowK u X b a t l = rowG m c n a t l := by
    intro a t l
    unfold rowK rowG
    by_cases h : a.val + t.val < 3
    · rw [dif_pos h, dif_pos (by omega), ← hX]
      refine congrArg X (congrArg (fun z => ix3 b z l) (Fin.ext ?_))
      show 5 + a.val + t.val = 5 + (a.val + t.val)
      omega
    · rw [dif_neg h, dif_neg (by omega), hu]
      refine congrArg (fun z => sv m c n z _) (Fin.ext ?_)
      show 5 + a.val + t.val - 8 = a.val + t.val - 3
      omega
  have hc : ∀ t l, cvK u x5 x6 X b t l = cG m c n t l := by
    intro t l
    unfold cvK cG
    simp only [hr, h5, h6]
  unfold nS nG
  simp only [hs, hw, hc, h11]

theorem cS_eq (n : Fin 8) (u : Vec Ideal S1x16x1152 .f32) (x5 : Vec Ideal S4x512 .f32) (x6 : Vec Ideal S1x512 .f32) (x7 : Vec Ideal S1x128 .f32) (m0 : Vec Ideal S1x1x128 .f32) (X : Vec Ideal S2x8x512 .f32) (b : Fin 2)
    (c0 : Vec Ideal S1x256x256 .f32)
    (hu : ∀ (t : Fin 16) (j : Fin 1152), u (ix3 0 t j) = sv m c n t j) (h7 : ∀ h : Fin 4, x7 (ix2 0 ⟨4 + h.val, by omega⟩) = SF m c (ix1 h))
    (hm : ∀ h : Fin 4, m0 (ix3 0 0 ⟨h.val, by omega⟩) = SM m c (ix2 n h)) (h5 : ∀ (a : Fin 4) (l : Fin 512), x5 (ix2 a l) = SCW m c (ix2 a l))
    (h6 : ∀ l : Fin 512, x6 (ix2 0 l) = SCB m c (ix1 l)) (hX : ∀ (k : Fin 3) (l : Fin 512), X (ix3 b ⟨5 + k.val, by omega⟩ l) = S13 m c (ix3 n k l))
    (h10 : ∀ r l : Fin 256, c0 (ix3 0 r l) = if r.val / 64 = l.val / 64 then SC m c (ix4 n ⟨r.val / 64, by omega⟩ ⟨l.val % 64, by omega⟩ ⟨r.val % 64, by omega⟩) else 0) (r l : Fin 256) :
    cS u x5 x6 x7 m0 X b c0 r l = CG m c n r l := by
  have hl : ∀ h, lfK u x7 h = lfg m c n h := by
    intro h
    funext t
    unfold lfK lfg
    rw [hu, h7]
  have hs : ∀ h, slK u x7 m0 h = dG m c n h := by
    intro h
    unfold slK dG
    rw [hl, msK_eq m c n u x7 m0 hu h7 hm, hm]
  have hw : ∀ h t, wlK u x7 m0 h t = wG m c n h t := by
    intro h t
    unfold wlK wG
    rw [hl, msK_eq m c n u x7 m0 hu h7 hm, hu]
  have hr : ∀ a t l, rowK u X b a t l = rowG m c n a t l := by
    intro a t l
    unfold rowK rowG
    by_cases h : a.val + t.val < 3
    · rw [dif_pos h, dif_pos (by omega), ← hX]
      refine congrArg X (congrArg (fun z => ix3 b z l) (Fin.ext ?_))
      show 5 + a.val + t.val = 5 + (a.val + t.val)
      omega
    · rw [dif_neg h, dif_neg (by omega), hu]
      refine congrArg (fun z => sv m c n z _) (Fin.ext ?_)
      show 5 + a.val + t.val - 8 = a.val + t.val - 3
      omega
  have hc : ∀ t l, cvK u x5 x6 X b t l = cG m c n t l := by
    intro t l
    unfold cvK cG
    simp only [hr, h5, h6]
  unfold cS CG
  simp only [hs, hw, hc, h10, hu]

/-- A cell of the array of normalisers is the body's. -/
theorem cell18 (q : Fin cfg0.N) (b : Fin 2) (r : Fin 1) (l : Fin 256) : ((dats m 0 c).arrAt 18 cfg0.N : Vec Ideal S8x1x256 .f32) (ix3 (str q b) r l)
    = if b = 0 then nS (View.ld (iblk m c 1 q) (Rect.unit ![0, 0, 0] ![1, 16, 1152] inb_S2x16x1152_S1x16x1152_0_0_0)) (iblk m c 5 q) (iblk m c 6 q) (iblk m c 7 q) (View.ld (iblk m c 12 q) (Rect.unit ![0, 0, 0] ![1, 1, 128] inb_S2x1x128_S1x1x128_0_0_0)) (iblk m c 13 q) 0 (View.ld (iblk m c 11 q) (Rect.unit ![0, 0, 0] ![1, 1, 256] inb_S2x1x256_S1x1x256_0_0_0)) l else nS (View.ld (iblk m c 1 q) (Rect.unit ![1, 0, 0] ![1, 16, 1152] inb_S2x16x1152_S1x16x1152_1_0_0)) (iblk m c 5 q) (iblk m c 6 q) (iblk m c 7 q) (View.ld (iblk m c 12 q) (Rect.unit ![1, 0, 0] ![1, 1, 128] inb_S2x1x128_S1x1x128_1_0_0)) (iblk m c 13 q) 1 (View.ld (iblk m c 11 q) (Rect.unit ![1, 0, 0] ![1, 1, 256] inb_S2x1x256_S1x1x256_1_0_0)) l := by
  have b' := congrFun (blocks18 m c q (fl18 q)) (ix3 b r l)
  rw [flushed18_A] at b'
  have h := n_A c (grid0.coords q) (ms0_0 q) (hs0_0 q) (ms0_1 q) (hs0_1 q) (ms0_2 q) (hs0_2 q) (ms0_3 q) (hs0_3 q) (ms0_4 q) (hs0_4 q) (ms0_5 q) (hs0_5 q) (ms0_6 q) (hs0_6 q) (ms0_7 q) (hs0_7 q) (ms0_8 q) (hs0_8 q) (ms0_9 q) (hs0_9 q) (ms0_10 q) (hs0_10 q) (ms0_11 q) (hs0_11 q) (ms0_12 q) (hs0_12 q) (ms0_13 q) (hs0_13 q) (ms0_14 q) (hs0_14 q) (ms0_15 q) (hs0_15 q) (ms0_16 q) (hs0_16 q) (ms0_17 q) (hs0_17 q) (ms0_18 q) (hs0_18 q) (ms0_19 q) (hs0_19 q) scM0_0 (Memref.isWhole_whole _) scM0_1 (Memref.isWhole_whole _) scM0_2 (Memref.isWhole_whole _) scM0_3 (Memref.isWhole_whole _) scM0_4 (Memref.isWhole_whole _) (hcond0_0 q) (iblk m c 0 q) (iblk m c 1 q) (iblk m c 2 q) (iblk m c 3 q) (iblk m c 4 q) (iblk m c 5 q) (iblk m c 6 q) (iblk m c 7 q) (iblk m c 8 q) (iblk m c 9 q) (iblk m c 10 q) (iblk m c 11 q) (iblk m c 12 q) (iblk m c 13 q) b r l
  obtain rfl : r = 0 := Subsingleton.elim _ _
  rw [nA_all, nB_all] at h
  refine Eq.trans ?_ h
  generalize out0_A_18 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = u at b' ⊢
  generalize (dats m 0 c).arrAt 18 cfg0.N = a at b' ⊢
  have b'' : a (((cfg0.win 18).blk q).view.emb (ix3 b 0 l)) = u (ix3 b 0 l) := b'
  rw [← b'']
  unfold str
  congr 1
  blk_ext [e18]

/-- A cell of the array of matrix states is the body's. -/
theorem cell17 (q : Fin cfg0.N) (b : Fin 2) (r : Fin 256) (l : Fin 256) : ((dats m 0 c).arrAt 17 cfg0.N : Vec Ideal S8x256x256 .f32) (ix3 (str q b) r l)
    = if b = 0 then cS (View.ld (iblk m c 1 q) (Rect.unit ![0, 0, 0] ![1, 16, 1152] inb_S2x16x1152_S1x16x1152_0_0_0)) (iblk m c 5 q) (iblk m c 6 q) (iblk m c 7 q) (View.ld (iblk m c 12 q) (Rect.unit ![0, 0, 0] ![1, 1, 128] inb_S2x1x128_S1x1x128_0_0_0)) (iblk m c 13 q) 0 (View.ld (iblk m c 10 q) (Rect.unit ![0, 0, 0] ![1, 256, 256] inb_S2x256x256_S1x256x256_0_0_0)) r l else cS (View.ld (iblk m c 1 q) (Rect.unit ![1, 0, 0] ![1, 16, 1152] inb_S2x16x1152_S1x16x1152_1_0_0)) (iblk m c 5 q) (iblk m c 6 q) (iblk m c 7 q) (View.ld (iblk m c 12 q) (Rect.unit ![1, 0, 0] ![1, 1, 128] inb_S2x1x128_S1x1x128_1_0_0)) (iblk m c 13 q) 1 (View.ld (iblk m c 10 q) (Rect.unit ![1, 0, 0] ![1, 256, 256] inb_S2x256x256_S1x256x256_1_0_0)) r l := by
  have b' := congrFun (blocks17 m c q (fl17 q)) (ix3 b r l)
  rw [flushed17_A] at b'
  have h := c_A c (grid0.coords q) (ms0_0 q) (hs0_0 q) (ms0_1 q) (hs0_1 q) (ms0_2 q) (hs0_2 q) (ms0_3 q) (hs0_3 q) (ms0_4 q) (hs0_4 q) (ms0_5 q) (hs0_5 q) (ms0_6 q) (hs0_6 q) (ms0_7 q) (hs0_7 q) (ms0_8 q) (hs0_8 q) (ms0_9 q) (hs0_9 q) (ms0_10 q) (hs0_10 q) (ms0_11 q) (hs0_11 q) (ms0_12 q) (hs0_12 q) (ms0_13 q) (hs0_13 q) (ms0_14 q) (hs0_14 q) (ms0_15 q) (hs0_15 q) (ms0_16 q) (hs0_16 q) (ms0_17 q) (hs0_17 q) (ms0_18 q) (hs0_18 q) (ms0_19 q) (hs0_19 q) scM0_0 (Memref.isWhole_whole _) scM0_1 (Memref.isWhole_whole _) scM0_2 (Memref.isWhole_whole _) scM0_3 (Memref.isWhole_whole _) scM0_4 (Memref.isWhole_whole _) (hcond0_0 q) (iblk m c 0 q) (iblk m c 1 q) (iblk m c 2 q) (iblk m c 3 q) (iblk m c 4 q) (iblk m c 5 q) (iblk m c 6 q) (iblk m c 7 q) (iblk m c 8 q) (iblk m c 9 q) (iblk m c 10 q) (iblk m c 11 q) (iblk m c 12 q) (iblk m c 13 q) b r l
  rw [cA_all, cB_all] at h
  refine Eq.trans ?_ h
  generalize out0_A_17 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = u at b' ⊢
  generalize (dats m 0 c).arrAt 17 cfg0.N = a at b' ⊢
  have b'' : a (((cfg0.win 17).blk q).view.emb (ix3 b r l)) = u (ix3 b r l) := b'
  rw [← b'']
  unfold str
  congr 1
  blk_ext [e17]

/-- Every cell of the array of normalisers. -/
theorem arr18 (n : Fin 8) (r : Fin 1) (l : Fin 256) : ((dats m 0 c).arrAt 18 cfg0.N : Vec Ideal S8x1x256 .f32) (ix3 n r l) = nG m c n l := by
  obtain ⟨q, b, rfl⟩ := str_of n
  rw [cell18]
  by_cases hb : b = 0
  · subst hb
    rw [if_pos rfl, nS_eq m c (str q 0) _ _ _ _ _ _ 0 _ (fun t j => ?_) (b7 m c q) (fun h => ?_) (b5 m c q) (b6 m c q) (b13 m c q 0) (fun l => ?_)]
    · refine Eq.trans (congrArg (iblk m c 1 q : Vec Ideal S2x16x1152 .f32) ?_) (b1 m c q 0 t j)
      funext a; apply Fin.ext
      match a with
      | 0 => rfl
      | 1 => show 0 + 1 * t.val = t.val; omega
      | 2 => show 0 + 1 * j.val = j.val; omega
    · refine Eq.trans (congrArg (iblk m c 12 q : Vec Ideal S2x1x128 .f32) ?_) (b12 m c q 0 h)
      funext a; apply Fin.ext
      match a with
      | 0 => rfl
      | 1 => rfl
      | 2 => show 0 + 1 * h.val = h.val; omega
    · refine Eq.trans (congrArg (iblk m c 11 q : Vec Ideal S2x1x256 .f32) ?_) (b11 m c q 0 l)
      funext a; apply Fin.ext
      match a with
      | 0 => rfl
      | 1 => rfl
      | 2 => show 0 + 1 * l.val = l.val; omega
  · obtain rfl : b = 1 := by omega
    rw [if_neg hb, nS_eq m c (str q 1) _ _ _ _ _ _ 1 _ (fun t j => ?_) (b7 m c q) (fun h => ?_) (b5 m c q) (b6 m c q) (b13 m c q 1) (fun l => ?_)]
    · refine Eq.trans (congrArg (iblk m c 1 q : Vec Ideal S2x16x1152 .f32) ?_) (b1 m c q 1 t j)
      funext a; apply Fin.ext
      match a with
      | 0 => rfl
      | 1 => show 0 + 1 * t.val = t.val; omega
      | 2 => show 0 + 1 * j.val = j.val; omega
    · refine Eq.trans (congrArg (iblk m c 12 q : Vec Ideal S2x1x128 .f32) ?_) (b12 m c q 1 h)
      funext a; apply Fin.ext
      match a with
      | 0 => rfl
      | 1 => rfl
      | 2 => show 0 + 1 * h.val = h.val; omega
    · refine Eq.trans (congrArg (iblk m c 11 q : Vec Ideal S2x1x256 .f32) ?_) (b11 m c q 1 l)
      funext a; apply Fin.ext
      match a with
      | 0 => rfl
      | 1 => rfl
      | 2 => show 0 + 1 * l.val = l.val; omega

/-- Every cell of the array of matrix states. -/
theorem arr17 (n : Fin 8) (r : Fin 256) (l : Fin 256) : ((dats m 0 c).arrAt 17 cfg0.N : Vec Ideal S8x256x256 .f32) (ix3 n r l) = CG m c n r l := by
  obtain ⟨q, b, rfl⟩ := str_of n
  rw [cell17]
  by_cases hb : b = 0
  · subst hb
    rw [if_pos rfl, cS_eq m c (str q 0) _ _ _ _ _ _ 0 _ (fun t j => ?_) (b7 m c q) (fun h => ?_) (b5 m c q) (b6 m c q) (b13 m c q 0) (fun r l => ?_)]
    · refine Eq.trans (congrArg (iblk m c 1 q : Vec Ideal S2x16x1152 .f32) ?_) (b1 m c q 0 t j)
      funext a; apply Fin.ext
      match a with
      | 0 => rfl
      | 1 => show 0 + 1 * t.val = t.val; omega
      | 2 => show 0 + 1 * j.val = j.val; omega
    · refine Eq.trans (congrArg (iblk m c 12 q : Vec Ideal S2x1x128 .f32) ?_) (b12 m c q 0 h)
      funext a; apply Fin.ext
      match a with
      | 0 => rfl
      | 1 => rfl
      | 2 => show 0 + 1 * h.val = h.val; omega
    · refine Eq.trans (congrArg (iblk m c 10 q : Vec Ideal S2x256x256 .f32) ?_) (b10 m c q 0 r l)
      funext a; apply Fin.ext
      match a with
      | 0 => rfl
      | 1 => show 0 + 1 * r.val = r.val; omega
      | 2 => show 0 + 1 * l.val = l.val; omega
  · obtain rfl : b = 1 := by omega
    rw [if_neg hb, cS_eq m c (str q 1) _ _ _ _ _ _ 1 _ (fun t j => ?_) (b7 m c q) (fun h => ?_) (b5 m c q) (b6 m c q) (b13 m c q 1) (fun r l => ?_)]
    · refine Eq.trans (congrArg (iblk m c 1 q : Vec Ideal S2x16x1152 .f32) ?_) (b1 m c q 1 t j)
      funext a; apply Fin.ext
      match a with
      | 0 => rfl
      | 1 => show 0 + 1 * t.val = t.val; omega
      | 2 => show 0 + 1 * j.val = j.val; omega
    · refine Eq.trans (congrArg (iblk m c 12 q : Vec Ideal S2x1x128 .f32) ?_) (b12 m c q 1 h)
      funext a; apply Fin.ext
      match a with
      | 0 => rfl
      | 1 => rfl
      | 2 => show 0 + 1 * h.val = h.val; omega
    · refine Eq.trans (congrArg (iblk m c 10 q : Vec Ideal S2x256x256 .f32) ?_) (b10 m c q 1 r l)
      funext a; apply Fin.ext
      match a with
      | 0 => rfl
      | 1 => show 0 + 1 * r.val = r.val; omega
      | 2 => show 0 + 1 * l.val = l.val; omega

end Cert.Scan

end
-- ==== Proof.RefScanN.lean ====
/- The plain mLSTM's matrix state and normaliser at an index: the convolution over the buffer and the tokens, the keys, the tokens' weights and each head's decay. -/
module

public import proofs.«01_k».proof.Proof.RefScanM
public import proofs.«01_k».proof.Proof.ScanInN

@[expose] public section

noncomputable section

namespace Cert.Scan

open Cert.Reference4Ideal Cert.Reference4Ideal.Gen Cert.Reference4Ideal.Value Idealize.ShloMosaic Idealize.ShloMosaic.TcCoe Idealize.SL.Sem

/-- The convolution's rows: the buffer's three, then the tokens'. -/
def bufr (s : FVec Ideal S8x3x512 .f32) (u : FVec Ideal S128x1152 .f32) : FVec Ideal S8x19x512 .f32 :=
  concatenate S8x19x512 1 [⟨S8x3x512, s⟩, ⟨S8x16x512, (shapeCast _ (extractStridedSlice S128x512 ![0, 0] u slices_S128x1152_S128x512_0_0) shapeCasts_S128x512_S8x16x512)⟩] concatenates_S8x3x512_S8x16x512_S8x19x512_d1

/-- The convolution. -/
def cvr (b : FVec Ideal S8x19x512 .f32) (w : FVec Ideal S4x512 .f32) (cb : FVec Ideal S512 .f32) : FVec Ideal S8x16x512 .f32 :=
  addf (addf (addf (addf (addf (broadcastInDim S8x16x512 ![] bcast_S_S8x16x512 (constant (F := Ideal) S_ .f32 0x00000000#32)) (mulf (extractStridedSlice S8x16x512 ![0, 0, 0] b slices_S8x19x512_S8x16x512_0_0_0) (broadcastInDim S8x16x512 ![0, 1, 2] bcast_S1x1x512_S8x16x512_0_1_2 (broadcastInDim S1x1x512 ![2] bcast_S512_S1x1x512_2 (shapeCast _ (extractStridedSlice S1x512 ![0, 0] w slices_S4x512_S1x512_0_0) shapeCasts_S1x512_S512))))) (mulf (extractStridedSlice S8x16x512 ![0, 1, 0] b slices_S8x19x512_S8x16x512_0_1_0) (broadcastInDim S8x16x512 ![0, 1, 2] bcast_S1x1x512_S8x16x512_0_1_2 (broadcastInDim S1x1x512 ![2] bcast_S512_S1x1x512_2 (shapeCast _ (extractStridedSlice S1x512 ![1, 0] w slices_S4x512_S1x512_1_0) shapeCasts_S1x512_S512))))) (mulf (extractStridedSlice S8x16x512 ![0, 2, 0] b slices_S8x19x512_S8x16x512_0_2_0) (broadcastInDim S8x16x512 ![0, 1, 2] bcast_S1x1x512_S8x16x512_0_1_2 (broadcastInDim S1x1x512 ![2] bcast_S512_S1x1x512_2 (shapeCast _ (extractStridedSlice S1x512 ![2, 0] w slices_S4x512_S1x512_2_0) shapeCasts_S1x512_S512))))) (mulf (extractStridedSlice S8x16x512 ![0, 3, 0] b slices_S8x19x512_S8x16x512_0_3_0) (broadcastInDim S8x16x512 ![0, 1, 2] bcast_S1x1x512_S8x16x512_0_1_2 (broadcastInDim S1x1x512 ![2] bcast_S512_S1x1x512_2 (shapeCast _ (extractStridedSlice S1x512 ![3, 0] w slices_S4x512_S1x512_3_0) shapeCasts_S1x512_S512))))) (broadcastInDim S8x16x512 ![0, 1, 2] bcast_S1x1x512_S8x16x512_0_1_2 (broadcastInDim S1x1x512 ![2] bcast_S512_S1x1x512_2 cb))

/-- The keys. -/
def keyr (y : FVec Ideal S8x16x512 .f32) : FVec Ideal S8x16x4x64 .f32 :=
  mulf (shapeCast _ (extractStridedSlice S8x16x256 ![0, 0, 256] (mulf y (Host.divf (broadcastInDim S8x16x512 ![] bcast_S_S8x16x512 (constant (F := Ideal) S_ .f32 0x3F800000#32)) (addf (broadcastInDim S8x16x512 ![] bcast_S_S8x16x512 (constant (F := Ideal) S_ .f32 0x3F800000#32)) (Host.exp (Host.negf y))))) slices_S8x16x512_S8x16x256_0_0_256) shapeCasts_S8x16x256_S8x16x4x64) (broadcastInDim S8x16x4x64 ![] bcast_S_S8x16x4x64 (constant (F := Ideal) S_ .f32 0x3E000000#32))

/-- A token's weight. -/
def wgtr (b i : FVec Ideal S8x16x4 .f32) (s : FVec Ideal S8x4 .f32) : FVec Ideal S8x16x4 .f32 :=
  Host.exp (subf (addf (subf (broadcastInDim S8x16x4 ![0, 1, 2] bcast_S8x1x4_S8x16x4_0_1_2 (extractStridedSlice S8x1x4 ![0, 15, 0] b slices_S8x16x4_S8x1x4_0_15_0)) b) i) (broadcastInDim S8x16x4 ![0, 1, 2] bcast_S8x1x4_S8x16x4_0_1_2 (broadcastInDim S8x1x4 ![0, 2] bcast_S8x4_S8x1x4_0_2 s)))

/-- A head's decay. -/
def decr (b : FVec Ideal S8x16x4 .f32) (s0 s : FVec Ideal S8x4 .f32) : FVec Ideal S8x4 .f32 :=
  Host.exp (subf (addf (shapeCast _ (extractStridedSlice S8x1x4 ![0, 15, 0] b slices_S8x16x4_S8x1x4_0_15_0) shapeCasts_S8x1x4_S8x4) s0) s)

/-- The matrix states, each head's on its diagonal block. -/
def matr (d : FVec Ideal S8x4 .f32) (C0 : FVec Ideal S8x4x64x64 .f32) (w : FVec Ideal S8x16x4 .f32) (u : FVec Ideal S128x1152 .f32) (k : FVec Ideal S8x16x4x64 .f32) : FVec Ideal S8x256x256 .f32 :=
  shapeCast _ (select (broadcastInDim S8x4x64x4x64 ![0, 1, 2, 3, 4] bcast_S1x4x1x4x1_S8x4x64x4x64_0_1_2_3_4 (broadcastInDim S1x4x1x4x1 ![1, 3] bcast_S4x4_S1x4x1x4x1_1_3 (cmpi .eq (broadcastInDim S4x4 ![0, 1] bcast_S4x1_S4x4_0_1 (broadcastInDim S4x1 ![0] bcast_S4_S4x1_0 (iotaInDim S4 32 0))) (broadcastInDim S4x4 ![0, 1] bcast_S1x4_S4x4_0_1 (broadcastInDim S1x4 ![1] bcast_S4_S1x4_1 (iotaInDim S4 32 0)))))) (broadcastInDim S8x4x64x4x64 ![0, 1, 2, 3, 4] bcast_S8x4x64x1x64_S8x4x64x4x64_0_1_2_3_4 (broadcastInDim S8x4x64x1x64 ![0, 1, 2, 4] bcast_S8x4x64x64_S8x4x64x1x64_0_1_2_4 (transpose S8x4x64x64 [0, 1, 3, 2] (addf (mulf (broadcastInDim S8x4x64x64 ![0, 1, 2, 3] bcast_S8x4x1x1_S8x4x64x64_0_1_2_3 (broadcastInDim S8x4x1x1 ![0, 1] bcast_S8x4_S8x4x1x1_0_1 d)) C0) (Host.dotGeneral dot_S8x16x4x64_S8x16x4x64_S8x4x64x64_1_1_3_3_02_02 none (mulf (broadcastInDim S8x16x4x64 ![0, 1, 2, 3] bcast_S8x16x4x1_S8x16x4x64_0_1_2_3 (broadcastInDim S8x16x4x1 ![0, 1, 2] bcast_S8x16x4_S8x16x4x1_0_1_2 w)) (shapeCast _ (extractStridedSlice S128x256 ![0, 512] u slices_S128x1152_S128x256_0_512) shapeCasts_S128x256_S8x16x4x64)) k)) transposes_S8x4x64x64_S8x4x64x64_0_1_3_2))) (broadcastInDim S8x4x64x4x64 ![] bcast_S_S8x4x64x4x64 (id (constant (F := Ideal) S_ .f32 0x00000000#32)))) shapeCasts_S8x4x64x4x64_S8x256x256

/-- The normalisers. -/
def nrmr (d : FVec Ideal S8x4 .f32) (n0 : FVec Ideal S8x4x64 .f32) (w : FVec Ideal S8x16x4 .f32) (k : FVec Ideal S8x16x4x64 .f32) : FVec Ideal S8x1x256 .f32 :=
  shapeCast _ (addf (mulf (broadcastInDim S8x4x64 ![0, 1, 2] bcast_S8x4x1_S8x4x64_0_1_2 (broadcastInDim S8x4x1 ![0, 1] bcast_S8x4_S8x4x1_0_1 d)) n0) (Host.reduceAdd (mulf (broadcastInDim S8x16x4x64 ![0, 1, 2, 3] bcast_S8x16x4x1_S8x16x4x64_0_1_2_3 (broadcastInDim S8x16x4x1 ![0, 1, 2] bcast_S8x16x4_S8x16x4x1_0_1_2 w)) k) (constant (F := Ideal) S_ .f32 0x00000000#32) reducesTo_S8x16x4x64_S8x4x64_d1 h_S_)) shapeCasts_S8x4x64_S8x1x256

/-- The stabilisers in their lanes. -/
def lanr (s : FVec Ideal S8x4 .f32) : FVec Ideal S8x1x128 .f32 :=
  broadcastInDim S8x1x128 ![0, 2] bcast_S8x128_S8x1x128_0_2 (pad S8x128 ![0, 0] ![0, 124] ![0, 0] s (sitofp .f32 (constantI S_ 32 0#32)) pads_S8x4_S8x128_000_01240 h_S_)

theorem bufr_at (s : FVec Ideal S8x3x512 .f32) (u : FVec Ideal S128x1152 .f32) (n : Fin 8) (p : Fin 19) (l : Fin 512) : bufr s u (ix3 n p l)
    = if h : p.val < 3 then s (ix3 n ⟨p.val, h⟩ l) else u (ix2 ⟨n.val * 16 + (p.val - 3), by omega⟩ ⟨l.val, by omega⟩) := by
  unfold bufr
  pointwise []

theorem cvr_at (b : FVec Ideal S8x19x512 .f32) (w : FVec Ideal S4x512 .f32) (cb : FVec Ideal S512 .f32) (n : Fin 8) (t : Fin 16) (l : Fin 512) : cvr b w cb (ix3 n t l)
    = b (ix3 n ⟨t.val, by omega⟩ l) * w (ix2 0 l) + b (ix3 n ⟨1 + t.val, by omega⟩ l) * w (ix2 1 l) + b (ix3 n ⟨2 + t.val, by omega⟩ l) * w (ix2 2 l) + b (ix3 n ⟨3 + t.val, by omega⟩ l) * w (ix2 3 l) + cb (ix1 l) := by
  unfold cvr
  pointwise []

theorem keyr_at (y : FVec Ideal S8x16x512 .f32) (n : Fin 8) (t : Fin 16) (h : Fin 4) (d : Fin 64) : keyr y (ix4 n t h d) = kfn (y (ix3 n t ⟨256 + (h.val * 64 + d.val), by omega⟩)) := by
  unfold keyr kfn
  pointwise []

theorem wgtr_at (b i : FVec Ideal S8x16x4 .f32) (s : FVec Ideal S8x4 .f32) (n : Fin 8) (t : Fin 16) (h : Fin 4) : wgtr b i s (ix3 n t h) = Ideal.exp (b (ix3 n 15 h) - b (ix3 n t h) + i (ix3 n t h) - s (ix2 n h)) := by
  unfold wgtr
  pointwise []

theorem decr_at (b : FVec Ideal S8x16x4 .f32) (s0 s : FVec Ideal S8x4 .f32) (n : Fin 8) (h : Fin 4) : decr b s0 s (ix2 n h) = Ideal.exp (b (ix3 n 15 h) + s0 (ix2 n h) - s (ix2 n h)) := by
  unfold decr
  pointwise []

theorem nrmr_at (d : FVec Ideal S8x4 .f32) (n0 : FVec Ideal S8x4x64 .f32) (w : FVec Ideal S8x16x4 .f32) (k : FVec Ideal S8x16x4x64 .f32) (n : Fin 8) (l : Fin 256) : nrmr d n0 w k (ix3 n 0 l)
    = d (ix2 n ⟨l.val / 64, by omega⟩) * n0 (ix3 n ⟨l.val / 64, by omega⟩ ⟨l.val % 64, by omega⟩)
      + ∑ t : Fin 16, w (ix3 n t ⟨l.val / 64, by omega⟩) * k (ix4 n t ⟨l.val / 64, by omega⟩ ⟨l.val % 64, by omega⟩) := by
  unfold nrmr
  pointwise []

theorem matr_at (d : FVec Ideal S8x4 .f32) (C0 : FVec Ideal S8x4x64x64 .f32) (w : FVec Ideal S8x16x4 .f32) (u : FVec Ideal S128x1152 .f32) (k : FVec Ideal S8x16x4x64 .f32) (n : Fin 8) (r l : Fin 256) : matr d C0 w u k (ix3 n r l)
    = if r.val / 64 = l.val / 64 then d (ix2 n ⟨r.val / 64, by omega⟩) * C0 (ix4 n ⟨r.val / 64, by omega⟩ ⟨l.val % 64, by omega⟩ ⟨r.val % 64, by omega⟩)
      + ∑ t : Fin 16, w (ix3 n t ⟨r.val / 64, by omega⟩) * u (ix2 ⟨n.val * 16 + t.val, by omega⟩ ⟨512 + (r.val / 64 * 64 + l.val % 64), by omega⟩) * k (ix4 n t ⟨r.val / 64, by omega⟩ ⟨r.val % 64, by omega⟩) else 0 := by
  unfold matr
  rw [id_eq]
  pointwise []
  exact (congrArg (fun z => Scalar.select z _ _) (own_bit2 r l)).trans (sel_own2 r l _ _)

theorem lanr_at (s : FVec Ideal S8x4 .f32) (n : Fin 8) (l : Fin 128) : lanr s (ix3 n 0 l) = mRow (fun h => s (ix2 n h)) l := by
  unfold lanr mRow
  pointwise []
  split
  · rfl
  · exact zero_bit

end Cert.Scan

end
-- ==== Proof.TieScanN.lean ====
/- Both sides of the scan's matrix states, normalisers and stabilisers are the same arrays. -/
module

public import proofs.«01_k».proof.Proof.RefScanN

@[expose] public section

noncomputable section

namespace Cert.Scan

open Cert.Reference4Ideal Cert.Reference4Ideal.Gen Cert.Reference4Ideal.Value Idealize.ShloMosaic Idealize.ShloMosaic.TcCoe Idealize.SL.Sem

/-- The plain running sums of the forget gate's logarithms. -/
def sumr (u : FVec Ideal S128x1152 .f32) (g : FVec Ideal S4 .f32) : FVec Ideal S8x16x4 .f32 := csm (lfr (pref u g))

/-- The plain stabilisers. -/
def stabr (u : FVec Ideal S128x1152 .f32) (g : FVec Ideal S4 .f32) (s : FVec Ideal S8x4 .f32) : FVec Ideal S8x4 .f32 := mlr (sumr u g) (igr u) s

/-- The plain normalisers. -/
def normr (u : FVec Ideal S128x1152 .f32) (w : FVec Ideal S4x512 .f32) (cb : FVec Ideal S512 .f32) (g : FVec Ideal S4 .f32) (n0 : FVec Ideal S8x4x64 .f32) (s : FVec Ideal S8x4 .f32)
    (x : FVec Ideal S8x3x512 .f32) : FVec Ideal S8x1x256 .f32 :=
  nrmr (decr (sumr u g) s (stabr u g s)) n0 (wgtr (sumr u g) (igr u) (stabr u g s)) (keyr (cvr (bufr x u) w cb))

/-- The plain matrix states. -/
def matsr (u : FVec Ideal S128x1152 .f32) (w : FVec Ideal S4x512 .f32) (cb : FVec Ideal S512 .f32) (g : FVec Ideal S4 .f32) (C0 : FVec Ideal S8x4x64x64 .f32) (s : FVec Ideal S8x4 .f32)
    (x : FVec Ideal S8x3x512 .f32) : FVec Ideal S8x256x256 .f32 :=
  matr (decr (sumr u g) s (stabr u g s)) C0 (wgtr (sumr u g) (igr u) (stabr u g s)) u (keyr (cvr (bufr x u) w cb))

variable (m : (ℓ : Loc Cert.Kernel4Ideal.nD Cert.Kernel4Ideal.τ Cert.Kernel4Ideal.sig) → Buf (Elt Ideal) ℓ) (c : Dev Cert.Kernel4Ideal.nD)

theorem row_eq (n : Fin 8) (t : Fin 16) (j : Fin 1152) : SV m c (ix2 ⟨n.val * 16 + t.val, by omega⟩ j) = sv m c n t j := by
  unfold sv
  refine congrArg (fun z => SV m c (ix2 z j)) (Fin.ext ?_)
  show n.val * 16 + t.val = 16 * n.val + t.val
  omega

theorem sumr_eq (n : Fin 8) (t : Fin 16) (h : Fin 4) : sumr (SV m c) (SF m c) (ix3 n t h) = cum (lfg m c n h) t := by
  unfold sumr
  rw [csm_at]
  refine congrArg (fun f => cum f t) (funext fun t => ?_)
  rw [lfr_at, pref_at, row_eq]
  rfl

theorem igr_eq (n : Fin 8) (t : Fin 16) (h : Fin 4) : igr (SV m c) (ix3 n t h) = sv m c n t ⟨1024 + h.val, by omega⟩ := by
  rw [igr_at, row_eq]

theorem stabr_eq (n : Fin 8) (h : Fin 4) : stabr (SV m c) (SF m c) (SM m c) (ix2 n h) = mG m c n h := by
  unfold stabr mG
  rw [mlr_at]
  simp only [sumr_eq, igr_eq]

theorem cvr_eq (n : Fin 8) (t : Fin 16) (l : Fin 512) : cvr (bufr (S13 m c) (SV m c)) (SCW m c) (SCB m c) (ix3 n t l) = cG m c n t l := by
  have hr : ∀ (a : Fin 4) (p : Fin 19), p.val = a.val + t.val → bufr (S13 m c) (SV m c) (ix3 n p l) = rowG m c n a t l := by
    intro a p hp
    rw [bufr_at]
    unfold rowG
    by_cases h : a.val + t.val < 3
    · rw [dif_pos h, dif_pos (by omega)]
      exact congrArg (fun z => S13 m c (ix3 n z l)) (Fin.ext hp)
    · rw [dif_neg h, dif_neg (by omega)]
      unfold sv
      refine congrArg (fun z => SV m c (ix2 z _)) (Fin.ext ?_)
      show n.val * 16 + (p.val - 3) = 16 * n.val + (a.val + t.val - 3)
      omega
  rw [cvr_at, hr 0 _ (Nat.zero_add _).symm, hr 1 _ rfl, hr 2 _ rfl, hr 3 _ rfl]
  rfl

theorem decr_eq (n : Fin 8) (h : Fin 4) : decr (sumr (SV m c) (SF m c)) (SM m c) (stabr (SV m c) (SF m c) (SM m c)) (ix2 n h) = dG m c n h := by
  rw [decr_at, sumr_eq, stabr_eq]
  rfl

theorem wgtr_eq (n : Fin 8) (t : Fin 16) (h : Fin 4) :
    wgtr (sumr (SV m c) (SF m c)) (igr (SV m c)) (stabr (SV m c) (SF m c) (SM m c)) (ix3 n t h) = wG m c n h t := by
  rw [wgtr_at, sumr_eq, sumr_eq, stabr_eq, igr_eq]
  rfl

theorem keyr_eq (n : Fin 8) (t : Fin 16) (r : Fin 256) :
    keyr (cvr (bufr (S13 m c) (SV m c)) (SCW m c) (SCB m c)) (ix4 n t ⟨r.val / 64, by omega⟩ ⟨r.val % 64, by omega⟩) = kfn (cG m c n t ⟨256 + r.val, by omega⟩) := by
  have e : (⟨256 + (r.val / 64 * 64 + r.val % 64), by omega⟩ : Fin 512) = ⟨256 + r.val, by omega⟩ := Fin.ext (by show 256 + (r.val / 64 * 64 + r.val % 64) = 256 + r.val; omega)
  rw [keyr_at, cvr_eq]
  exact congrArg (fun z => kfn (cG m c n t z)) e

/-- The normalisers are the same. -/
theorem norms (u : FVec Ideal S128x1152 .f32) (w : FVec Ideal S4x512 .f32) (cb : FVec Ideal S512 .f32) (g : FVec Ideal S4 .f32) (n0 : FVec Ideal S8x4x64 .f32) (s : FVec Ideal S8x4 .f32)
    (x : FVec Ideal S8x3x512 .f32) (a1 : u = SV m c) (a5 : w = SCW m c) (a6 : cb = SCB m c) (a7 : g = SF m c) (a11 : n0 = SN m c) (a12 : s = SM m c) (a13 : x = S13 m c)
    (n : Fin 8) (r : Fin 1) (l : Fin 256) : normr u w cb g n0 s x (ix3 n r l) = nG m c n l := by
  obtain rfl : r = 0 := Subsingleton.elim _ _
  rw [a1, a5, a6, a7, a11, a12, a13]
  unfold normr nG
  rw [nrmr_at, decr_eq]
  refine congrArg (_ + ·) (Finset.sum_congr rfl fun t _ => ?_)
  rw [wgtr_eq, keyr_eq, mul_comm]

/-- The matrix states are the same. -/
theorem mats (u : FVec Ideal S128x1152 .f32) (w : FVec Ideal S4x512 .f32) (cb : FVec Ideal S512 .f32) (g : FVec Ideal S4 .f32) (C0 : FVec Ideal S8x4x64x64 .f32) (s : FVec Ideal S8x4 .f32)
    (x : FVec Ideal S8x3x512 .f32) (a1 : u = SV m c) (a5 : w = SCW m c) (a6 : cb = SCB m c) (a7 : g = SF m c) (a10 : C0 = SC m c) (a12 : s = SM m c) (a13 : x = S13 m c)
    (n : Fin 8) (r l : Fin 256) : matsr u w cb g C0 s x (ix3 n r l) = CG m c n r l := by
  rw [a1, a5, a6, a7, a10, a12, a13]
  unfold matsr CG
  rw [matr_at]
  by_cases h : r.val / 64 = l.val / 64
  · rw [if_pos h, if_pos h, if_pos h, decr_eq]
    have eh : (⟨r.val / 64, by omega⟩ : Fin 4) = ⟨l.val / 64, by omega⟩ := Fin.ext h
    refine congr (congrArg _ (congrArg (fun z => dG m c n z * _) eh)) (Finset.sum_congr rfl fun t _ => ?_)
    have e : (⟨512 + (r.val / 64 * 64 + l.val % 64), by omega⟩ : Fin 1152) = ⟨512 + l.val, by omega⟩ := Fin.ext (by show 512 + (r.val / 64 * 64 + l.val % 64) = 512 + l.val; omega)
    rw [wgtr_eq, keyr_eq, row_eq, e, mul_comm, mul_assoc]
  · rw [if_neg h, if_neg h, if_neg h, mul_zero, add_zero]

/-- The stabilisers are the same. -/
theorem stabs (u : FVec Ideal S128x1152 .f32) (g : FVec Ideal S4 .f32) (s : FVec Ideal S8x4 .f32) (a1 : u = SV m c) (a7 : g = SF m c) (a12 : s = SM m c)
    (n : Fin 8) (r : Fin 1) (l : Fin 128) : lanr (stabr u g s) (ix3 n r l) = mRow (mG m c n) l := by
  obtain rfl : r = 0 := Subsingleton.elim _ _
  rw [a1, a7, a12, lanr_at]
  exact congrArg (fun f => mRow f l) (funext fun h => stabr_eq m c n h)

end Cert.Scan

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Tie
public import proofs.«01_k».proof.Proof.RefMix
public import proofs.«01_k».proof.Proof.RefInp
public import proofs.«01_k».proof.Proof.TieScan
public import proofs.«01_k».proof.Proof.TieScanN
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.StableHlo Idealize.SL.Sem

theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal_pre_finite : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6, a7⟩ := hagree c
  funext i
  obtain ⟨t, d, rfl⟩ : ∃ (t : Fin 16896) (d : Fin 1024), i = ix2 t d := ⟨i 0, i 1, eq_ix2 i⟩
  exact (Cert.Moe.ref_at (launchContents m' c) t d).trans (Cert.Moe.tie m c hpre (launchContents m' c) a0 a1 a2 a3 a4 a5 a6 a7 t d)

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem quiescent_Reference4Ideal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem algebraic_Kernel2Ideal_Reference2Ideal : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨a0, a1, a2, a3, a4, a5, a6⟩ := hagree c
  funext i
  obtain ⟨t, d, rfl⟩ : ∃ (t : Fin 16896) (d : Fin 1024), i = ix2 t d := ⟨i 0, i 1, eq_ix2 i⟩
  refine Eq.trans ?_ (Cert.Mix.arr_at m c t d).symm
  refine (Cert.Mix.ref_gen (Cert.Mix.KH m c) (Cert.Mix.beside3 (Cert.Mix.KYa m c) (Cert.Mix.KYb m c) (Cert.Mix.KYc m c)) (Cert.Mix.KW m c) (Cert.Mix.KA m c) (Cert.Mix.KB m c) m' c a3 a4 a5 a6 ?_ t d).trans ?_
  · rw [a0, a1, a2]
    rfl
  · rw [Cert.Mix.contract (fun d => Cert.Mix.KH m c (ix2 t d)) (Cert.Mix.KYa m c) (Cert.Mix.KYb m c) (Cert.Mix.KYc m c) (fun k d => Cert.Mix.KW m c (ix2 k d)) t]

theorem algebraic_Kernel3Ideal_Reference3Ideal : Cert.algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ⟨?_, ?_, ?_, ?_, (h c).2.2.2.2⟩) (Cert.Reference3Ideal.Value.run (F := Ideal) m' ρ')
  · obtain ⟨a0, a1, a2, a3, a4⟩ := hagree c
    refine (h c).1.trans ?_
    funext i
    obtain ⟨t, d, rfl⟩ : ∃ (t : Fin 16896) (d : Fin 1024), i = ix2 t d := ⟨i 0, i 1, eq_ix2 i⟩
    exact (Cert.Inp.normed m' c m c a0 a1 a2 t d).trans (Cert.Inp.arr5 m c t d).symm
  · refine (h c).2.1.trans ?_
    funext i
    obtain ⟨t, j, rfl⟩ : ∃ (t : Fin 16896) (j : Fin 896), i = ix2 t j := ⟨i 0, i 1, eq_ix2 i⟩
    exact (Cert.Inp.group_a m' c m c (hagree c) t j).trans (Cert.Inp.arr6 m c t j).symm
  · refine (h c).2.2.1.trans ?_
    funext i
    obtain ⟨t, j, rfl⟩ : ∃ (t : Fin 16896) (j : Fin 1152), i = ix2 t j := ⟨i 0, i 1, eq_ix2 i⟩
    exact (Cert.Inp.group_b m' c m c (hagree c) t j).trans (Cert.Inp.arr7 m c t j).symm
  · refine (h c).2.2.2.1.trans ?_
    funext i
    obtain ⟨t, j, rfl⟩ : ∃ (t : Fin 16896) (j : Fin 1024), i = ix2 t j := ⟨i 0, i 1, eq_ix2 i⟩
    exact (Cert.Inp.group_c m' c m c (hagree c) t j).trans (Cert.Inp.arr8 m c t j).symm

theorem algebraic_Kernel4Ideal_Reference4Ideal : Cert.algebraic_Kernel4Ideal_Reference4Ideal := by
  intro m ρ m' ρ' _ hagree
  refine ⟨_, _, _, _, (θ_run Cert.Kernel4Ideal.defs _ _).mono (fun _ h c => ⟨(h c).2.2.1, (h c).2.2.2.1, (h c).2.2.2.2.1, (h c).2.2.2.2.2.1, (h c).2.2.2.2.2.2⟩) (Cert.Kernel4Ideal.Value.run_blocks (F := Ideal) m ρ), ?_⟩
  refine (θ_run Cert.Reference4Ideal.defs _ _).mono (fun _ h c => ?_) (Cert.Reference4Ideal.Value.run (F := Ideal) m' ρ')
  obtain ⟨a0, a1, a2, a3, a4, a5, a6, a7, a8, a9, a10, a11, a12, a13⟩ := hagree c
  refine ⟨?_, ?_, ?_, ?_, (h c).2.2.2.2⟩
  · refine (h c).1.trans ?_
    funext i
    obtain ⟨n, r, l, rfl⟩ : ∃ (n : Fin 8) (r : Fin 256) (l : Fin 128), i = ix3 n r l := ⟨i 0, i 1, i 2, eq_ix3 i⟩
    exact (Cert.Scan.states m c _ _ _ _ a0 a2 a3 a9 n r l).trans (Cert.Scan.arr16 m c n r l).symm
  · refine (h c).2.1.trans ?_
    funext i
    obtain ⟨n, r, l, rfl⟩ : ∃ (n : Fin 8) (r : Fin 256) (l : Fin 256), i = ix3 n r l := ⟨i 0, i 1, i 2, eq_ix3 i⟩
    exact (Cert.Scan.mats m c _ _ _ _ _ _ _ a1 a5 a6 a7 a10 a12 a13 n r l).trans (Cert.Scan.arr17 m c n r l).symm
  · refine (h c).2.2.1.trans ?_
    funext i
    obtain ⟨n, r, l, rfl⟩ : ∃ (n : Fin 8) (r : Fin 1) (l : Fin 256), i = ix3 n r l := ⟨i 0, i 1, i 2, eq_ix3 i⟩
    exact (Cert.Scan.norms m c _ _ _ _ _ _ _ a1 a5 a6 a7 a11 a12 a13 n r l).trans (Cert.Scan.arr18 m c n r l).symm
  · refine (h c).2.2.2.1.trans ?_
    funext i
    obtain ⟨n, r, l, rfl⟩ : ∃ (n : Fin 8) (r : Fin 1) (l : Fin 128), i = ix3 n r l := ⟨i 0, i 1, i 2, eq_ix3 i⟩
    exact (Cert.Scan.stabs m c _ _ _ a1 a7 a12 n r l).trans (Cert.Scan.arr19 m c n r l).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_finite,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  (trivial : preserves_Kernel_KernelIdeal), algebraic_KernelIdeal_ReferenceIdeal_pre_finite,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
